-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2.1 = (fun _ => 1#1)
    ∧ (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2.1 = (fun _ => 1#1)
    ∧ (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjGroup (m : (ℓ : Loc Cert.InProjGroup.nD Cert.InProjGroup.τ Cert.InProjGroup.sig) → Buf (Elt Bits) ℓ) : Prop :=
  True

def Pre_InProjGroupIdeal (m : (ℓ : Loc Cert.InProjGroupIdeal.nD Cert.InProjGroupIdeal.τ Cert.InProjGroupIdeal.sig) → Buf (Elt Ideal) ℓ) : Prop :=
  True

def Pre_InProjGroupRefIdeal (m : (ℓ : Loc Cert.InProjGroupRefIdeal.nD Cert.InProjGroupRefIdeal.τ Cert.InProjGroupRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4)
      ∧ r.2.mem ((c.tc : Thread Cert.Gated.nD Cert.Gated.τ).loc Cert.Gated.main_arg5) = m ((c.tc : Thread Cert.Gated.nD Cert.Gated.τ).loc Cert.Gated.main_arg5)
      ∧ r.2.mem ((c.tc : Thread Cert.Gated.nD Cert.Gated.τ).loc Cert.Gated.main_arg6) = m ((c.tc : Thread Cert.Gated.nD Cert.Gated.τ).loc Cert.Gated.main_arg6)
      ∧ r.2.mem ((c.tc : Thread Cert.Gated.nD Cert.Gated.τ).loc Cert.Gated.main_arg7) = m ((c.tc : Thread Cert.Gated.nD Cert.Gated.τ).loc Cert.Gated.main_arg7)
      ∧ r.2.mem ((c.tc : Thread Cert.Gated.nD Cert.Gated.τ).loc Cert.Gated.main_arg8) = m ((c.tc : Thread Cert.Gated.nD Cert.Gated.τ).loc Cert.Gated.main_arg8))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
      ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5)
      ∧ r.2.mem ((c.tc : Thread Cert.GatedIdeal.nD Cert.GatedIdeal.τ).loc Cert.GatedIdeal.main_arg6) = m ((c.tc : Thread Cert.GatedIdeal.nD Cert.GatedIdeal.τ).loc Cert.GatedIdeal.main_arg6)
      ∧ r.2.mem ((c.tc : Thread Cert.GatedIdeal.nD Cert.GatedIdeal.τ).loc Cert.GatedIdeal.main_arg7) = m ((c.tc : Thread Cert.GatedIdeal.nD Cert.GatedIdeal.τ).loc Cert.GatedIdeal.main_arg7)
      ∧ r.2.mem ((c.tc : Thread Cert.GatedIdeal.nD Cert.GatedIdeal.τ).loc Cert.GatedIdeal.main_arg8) = m ((c.tc : Thread Cert.GatedIdeal.nD Cert.GatedIdeal.τ).loc Cert.GatedIdeal.main_arg8))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4)
      ∧ r.2.mem ((c.tc : Thread Cert.GatedRefIdeal.nD Cert.GatedRefIdeal.τ).loc Cert.GatedRefIdeal.main_arg5) = m ((c.tc : Thread Cert.GatedRefIdeal.nD Cert.GatedRefIdeal.τ).loc Cert.GatedRefIdeal.main_arg5)
      ∧ r.2.mem ((c.tc : Thread Cert.GatedRefIdeal.nD Cert.GatedRefIdeal.τ).loc Cert.GatedRefIdeal.main_arg6) = m ((c.tc : Thread Cert.GatedRefIdeal.nD Cert.GatedRefIdeal.τ).loc Cert.GatedRefIdeal.main_arg6)
      ∧ r.2.mem ((c.tc : Thread Cert.GatedRefIdeal.nD Cert.GatedRefIdeal.τ).loc Cert.GatedRefIdeal.main_arg7) = m ((c.tc : Thread Cert.GatedRefIdeal.nD Cert.GatedRefIdeal.τ).loc Cert.GatedRefIdeal.main_arg7)
      ∧ r.2.mem ((c.tc : Thread Cert.GatedRefIdeal.nD Cert.GatedRefIdeal.τ).loc Cert.GatedRefIdeal.main_arg8) = m ((c.tc : Thread Cert.GatedRefIdeal.nD Cert.GatedRefIdeal.τ).loc Cert.GatedRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjGroup [hInProjGroup : Cert.InProjGroup.Facts] : Prop :=
  ∀ (m : (ℓ : Loc Cert.InProjGroup.nD Cert.InProjGroup.τ Cert.InProjGroup.sig) → Buf (Elt Bits) ℓ) (g : Dev Cert.InProjGroup.nD → PrngReg), Pre_InProjGroup m →
    θ_run (Cert.InProjGroup.defs (F := Bits)) (onTc (τ := Cert.InProjGroup.τ) (Cert.InProjGroup.main (F := Bits))) ⟨m, fun _ => 0, g⟩ (fun r => (∀ c : Dev Cert.InProjGroup.nD,
      r.2.mem ((c.tc : Thread Cert.InProjGroup.nD Cert.InProjGroup.τ).loc Cert.InProjGroup.main_arg0) = m ((c.tc : Thread Cert.InProjGroup.nD Cert.InProjGroup.τ).loc Cert.InProjGroup.main_arg0)
      ∧ r.2.mem ((c.tc : Thread Cert.InProjGroup.nD Cert.InProjGroup.τ).loc Cert.InProjGroup.main_arg1) = m ((c.tc : Thread Cert.InProjGroup.nD Cert.InProjGroup.τ).loc Cert.InProjGroup.main_arg1))
      ∧ r.2.sem = fun _ => 0)

def quiescent_InProjGroupIdeal [hInProjGroupIdeal : Cert.InProjGroupIdeal.Facts] : Prop :=
  ∀ (m : (ℓ : Loc Cert.InProjGroupIdeal.nD Cert.InProjGroupIdeal.τ Cert.InProjGroupIdeal.sig) → Buf (Elt Ideal) ℓ) (g : Dev Cert.InProjGroupIdeal.nD → PrngReg), Pre_InProjGroupIdeal m →
    θ_run (Cert.InProjGroupIdeal.defs (F := Ideal)) (onTc (τ := Cert.InProjGroupIdeal.τ) (Cert.InProjGroupIdeal.main (F := Ideal))) ⟨m, fun _ => 0, g⟩ (fun r => (∀ c : Dev Cert.InProjGroupIdeal.nD,
      r.2.mem ((c.tc : Thread Cert.InProjGroupIdeal.nD Cert.InProjGroupIdeal.τ).loc Cert.InProjGroupIdeal.main_arg0) = m ((c.tc : Thread Cert.InProjGroupIdeal.nD Cert.InProjGroupIdeal.τ).loc Cert.InProjGroupIdeal.main_arg0)
      ∧ r.2.mem ((c.tc : Thread Cert.InProjGroupIdeal.nD Cert.InProjGroupIdeal.τ).loc Cert.InProjGroupIdeal.main_arg1) = m ((c.tc : Thread Cert.InProjGroupIdeal.nD Cert.InProjGroupIdeal.τ).loc Cert.InProjGroupIdeal.main_arg1))
      ∧ r.2.sem = fun _ => 0)

def quiescent_InProjGroupRefIdeal [hInProjGroupRefIdeal : Cert.InProjGroupRefIdeal.Facts] : Prop :=
  ∀ (m : (ℓ : Loc Cert.InProjGroupRefIdeal.nD Cert.InProjGroupRefIdeal.τ Cert.InProjGroupRefIdeal.sig) → Buf (Elt Ideal) ℓ) (g : Dev Cert.InProjGroupRefIdeal.nD → PrngReg), Pre_InProjGroupRefIdeal m →
    θ_run (Cert.InProjGroupRefIdeal.defs (F := Ideal)) (onTc (τ := Cert.InProjGroupRefIdeal.τ) (Cert.InProjGroupRefIdeal.main (F := Ideal))) ⟨m, fun _ => 0, g⟩ (fun r => (∀ c : Dev Cert.InProjGroupRefIdeal.nD,
      r.2.mem ((c.tc : Thread Cert.InProjGroupRefIdeal.nD Cert.InProjGroupRefIdeal.τ).loc Cert.InProjGroupRefIdeal.main_arg0) = m ((c.tc : Thread Cert.InProjGroupRefIdeal.nD Cert.InProjGroupRefIdeal.τ).loc Cert.InProjGroupRefIdeal.main_arg0)
      ∧ r.2.mem ((c.tc : Thread Cert.InProjGroupRefIdeal.nD Cert.InProjGroupRefIdeal.τ).loc Cert.InProjGroupRefIdeal.main_arg1) = m ((c.tc : Thread Cert.InProjGroupRefIdeal.nD Cert.InProjGroupRefIdeal.τ).loc Cert.InProjGroupRefIdeal.main_arg1))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v9_0)) (v1 : (c : Dev Cert.AttnIdeal.nD) → Buf (Elt Ideal) ((c.tc : Thread Cert.AttnIdeal.nD Cert.AttnIdeal.τ).loc Cert.AttnIdeal.main_v9_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9_0) = v0 c
          ∧ r.2.mem ((c.tc : Thread Cert.AttnIdeal.nD Cert.AttnIdeal.τ).loc Cert.AttnIdeal.main_v9_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v129) = v0 c
          ∧ r.2.mem ((c.tc : Thread Cert.AttnRefIdeal.nD Cert.AttnRefIdeal.τ).loc Cert.AttnRefIdeal.main_v128) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)
      ∧ m' ((c.tc : Thread Cert.GatedRefIdeal.nD Cert.GatedRefIdeal.τ).loc Cert.GatedRefIdeal.main_arg5) = m ((c.tc : Thread Cert.GatedIdeal.nD Cert.GatedIdeal.τ).loc Cert.GatedIdeal.main_arg5)
      ∧ m' ((c.tc : Thread Cert.GatedRefIdeal.nD Cert.GatedRefIdeal.τ).loc Cert.GatedRefIdeal.main_arg6) = m ((c.tc : Thread Cert.GatedIdeal.nD Cert.GatedIdeal.τ).loc Cert.GatedIdeal.main_arg6)
      ∧ m' ((c.tc : Thread Cert.GatedRefIdeal.nD Cert.GatedRefIdeal.τ).loc Cert.GatedRefIdeal.main_arg7) = m ((c.tc : Thread Cert.GatedIdeal.nD Cert.GatedIdeal.τ).loc Cert.GatedIdeal.main_arg7)
      ∧ m' ((c.tc : Thread Cert.GatedRefIdeal.nD Cert.GatedRefIdeal.τ).loc Cert.GatedRefIdeal.main_arg8) = m ((c.tc : Thread Cert.GatedIdeal.nD Cert.GatedIdeal.τ).loc Cert.GatedIdeal.main_arg8)) →
    ∃ (v0 : (c : Dev Cert.GatedIdeal.nD) → Buf (Elt Ideal) ((c.tc : Thread Cert.GatedIdeal.nD Cert.GatedIdeal.τ).loc Cert.GatedIdeal.main_v21)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v21) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4)
          ∧ r.2.mem ((c.tc : Thread Cert.GatedIdeal.nD Cert.GatedIdeal.τ).loc Cert.GatedIdeal.main_arg5) = m ((c.tc : Thread Cert.GatedIdeal.nD Cert.GatedIdeal.τ).loc Cert.GatedIdeal.main_arg5)
          ∧ r.2.mem ((c.tc : Thread Cert.GatedIdeal.nD Cert.GatedIdeal.τ).loc Cert.GatedIdeal.main_arg6) = m ((c.tc : Thread Cert.GatedIdeal.nD Cert.GatedIdeal.τ).loc Cert.GatedIdeal.main_arg6)
          ∧ r.2.mem ((c.tc : Thread Cert.GatedIdeal.nD Cert.GatedIdeal.τ).loc Cert.GatedIdeal.main_arg7) = m ((c.tc : Thread Cert.GatedIdeal.nD Cert.GatedIdeal.τ).loc Cert.GatedIdeal.main_arg7)
          ∧ r.2.mem ((c.tc : Thread Cert.GatedIdeal.nD Cert.GatedIdeal.τ).loc Cert.GatedIdeal.main_arg8) = m ((c.tc : Thread Cert.GatedIdeal.nD Cert.GatedIdeal.τ).loc Cert.GatedIdeal.main_arg8))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v31) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4)
          ∧ r.2.mem ((c.tc : Thread Cert.GatedRefIdeal.nD Cert.GatedRefIdeal.τ).loc Cert.GatedRefIdeal.main_arg5) = m' ((c.tc : Thread Cert.GatedRefIdeal.nD Cert.GatedRefIdeal.τ).loc Cert.GatedRefIdeal.main_arg5)
          ∧ r.2.mem ((c.tc : Thread Cert.GatedRefIdeal.nD Cert.GatedRefIdeal.τ).loc Cert.GatedRefIdeal.main_arg6) = m' ((c.tc : Thread Cert.GatedRefIdeal.nD Cert.GatedRefIdeal.τ).loc Cert.GatedRefIdeal.main_arg6)
          ∧ r.2.mem ((c.tc : Thread Cert.GatedRefIdeal.nD Cert.GatedRefIdeal.τ).loc Cert.GatedRefIdeal.main_arg7) = m' ((c.tc : Thread Cert.GatedRefIdeal.nD Cert.GatedRefIdeal.τ).loc Cert.GatedRefIdeal.main_arg7)
          ∧ r.2.mem ((c.tc : Thread Cert.GatedRefIdeal.nD Cert.GatedRefIdeal.τ).loc Cert.GatedRefIdeal.main_arg8) = m' ((c.tc : Thread Cert.GatedRefIdeal.nD Cert.GatedRefIdeal.τ).loc Cert.GatedRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v7)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v17) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v8) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjGroup_InProjGroupIdeal : Prop :=
  True

def algebraic_InProjGroupIdeal_InProjGroupRefIdeal [hInProjGroupIdeal : Cert.InProjGroupIdeal.Facts] [hInProjGroupRefIdeal : Cert.InProjGroupRefIdeal.Facts] : Prop :=
  ∀ (m : (ℓ : Loc Cert.InProjGroupIdeal.nD Cert.InProjGroupIdeal.τ Cert.InProjGroupIdeal.sig) → Buf (Elt Ideal) ℓ) (g : Dev Cert.InProjGroupIdeal.nD → PrngReg)
    (m' : (ℓ : Loc Cert.InProjGroupRefIdeal.nD Cert.InProjGroupRefIdeal.τ Cert.InProjGroupRefIdeal.sig) → Buf (Elt Ideal) ℓ) (g' : Dev Cert.InProjGroupRefIdeal.nD → PrngReg), Pre_InProjGroupIdeal m →
    (∀ c : Dev Cert.InProjGroupIdeal.nD,
      m' ((c.tc : Thread Cert.InProjGroupRefIdeal.nD Cert.InProjGroupRefIdeal.τ).loc Cert.InProjGroupRefIdeal.main_arg0) = m ((c.tc : Thread Cert.InProjGroupIdeal.nD Cert.InProjGroupIdeal.τ).loc Cert.InProjGroupIdeal.main_arg0)
      ∧ m' ((c.tc : Thread Cert.InProjGroupRefIdeal.nD Cert.InProjGroupRefIdeal.τ).loc Cert.InProjGroupRefIdeal.main_arg1) = m ((c.tc : Thread Cert.InProjGroupIdeal.nD Cert.InProjGroupIdeal.τ).loc Cert.InProjGroupIdeal.main_arg1)) →
    ∃ (v0 : (c : Dev Cert.InProjGroupIdeal.nD) → Buf (Elt Ideal) ((c.tc : Thread Cert.InProjGroupIdeal.nD Cert.InProjGroupIdeal.τ).loc Cert.InProjGroupIdeal.main_v10)),
      θ_run (Cert.InProjGroupIdeal.defs (F := Ideal)) (onTc (τ := Cert.InProjGroupIdeal.τ) (Cert.InProjGroupIdeal.main (F := Ideal))) ⟨m, fun _ => 0, g⟩ (fun r => ∀ c : Dev Cert.InProjGroupIdeal.nD,
          r.2.mem ((c.tc : Thread Cert.InProjGroupIdeal.nD Cert.InProjGroupIdeal.τ).loc Cert.InProjGroupIdeal.main_v10) = v0 c
          ∧ r.2.mem ((c.tc : Thread Cert.InProjGroupIdeal.nD Cert.InProjGroupIdeal.τ).loc Cert.InProjGroupIdeal.main_arg0) = m ((c.tc : Thread Cert.InProjGroupIdeal.nD Cert.InProjGroupIdeal.τ).loc Cert.InProjGroupIdeal.main_arg0)
          ∧ r.2.mem ((c.tc : Thread Cert.InProjGroupIdeal.nD Cert.InProjGroupIdeal.τ).loc Cert.InProjGroupIdeal.main_arg1) = m ((c.tc : Thread Cert.InProjGroupIdeal.nD Cert.InProjGroupIdeal.τ).loc Cert.InProjGroupIdeal.main_arg1))
      ∧ θ_run (Cert.InProjGroupRefIdeal.defs (F := Ideal)) (onTc (τ := Cert.InProjGroupRefIdeal.τ) (Cert.InProjGroupRefIdeal.main (F := Ideal))) ⟨m', fun _ => 0, g'⟩ (fun r => ∀ c : Dev Cert.InProjGroupRefIdeal.nD,
          r.2.mem ((c.tc : Thread Cert.InProjGroupRefIdeal.nD Cert.InProjGroupRefIdeal.τ).loc Cert.InProjGroupRefIdeal.main_v9) = v0 c
          ∧ r.2.mem ((c.tc : Thread Cert.InProjGroupRefIdeal.nD Cert.InProjGroupRefIdeal.τ).loc Cert.InProjGroupRefIdeal.main_arg0) = m' ((c.tc : Thread Cert.InProjGroupRefIdeal.nD Cert.InProjGroupRefIdeal.τ).loc Cert.InProjGroupRefIdeal.main_arg0)
          ∧ r.2.mem ((c.tc : Thread Cert.InProjGroupRefIdeal.nD Cert.InProjGroupRefIdeal.τ).loc Cert.InProjGroupRefIdeal.main_arg1) = m' ((c.tc : Thread Cert.InProjGroupRefIdeal.nD Cert.InProjGroupRefIdeal.τ).loc Cert.InProjGroupRefIdeal.main_arg1))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)) →
    ∃ (v0 : (c : Dev Cert.FfnSampleIdeal.nD) → Buf (Elt Ideal) ((c.tc : Thread Cert.FfnSampleIdeal.nD Cert.FfnSampleIdeal.τ).loc Cert.FfnSampleIdeal.main_v9)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v9) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v39) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hGated : Cert.Gated.Facts) (hGatedIdeal : Cert.GatedIdeal.Facts) (hGatedRefIdeal : Cert.GatedRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hInProjGroup : Cert.InProjGroup.Facts) (hInProjGroupIdeal : Cert.InProjGroupIdeal.Facts) (hInProjGroupRefIdeal : Cert.InProjGroupRefIdeal.Facts) (hFfnSample : Cert.FfnSample.Facts) (hFfnSampleIdeal : Cert.FfnSampleIdeal.Facts) (hFfnSampleRefIdeal : Cert.FfnSampleRefIdeal.Facts) (hPre_finite_logits : Cert.Pre_finite_logits.Facts),
    quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_Ffn (hFfn := hFfn)
    ∧ quiescent_FfnIdeal (hFfnIdeal := hFfnIdeal)
    ∧ quiescent_FfnRefIdeal (hFfnRefIdeal := hFfnRefIdeal)
    ∧ quiescent_Gated (hGated := hGated)
    ∧ quiescent_GatedIdeal (hGatedIdeal := hGatedIdeal)
    ∧ quiescent_GatedRefIdeal (hGatedRefIdeal := hGatedRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjGroup (hInProjGroup := hInProjGroup)
    ∧ quiescent_InProjGroupIdeal (hInProjGroupIdeal := hInProjGroupIdeal)
    ∧ quiescent_InProjGroupRefIdeal (hInProjGroupRefIdeal := hInProjGroupRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_Ffn_FfnIdeal
    ∧ algebraic_FfnIdeal_FfnRefIdeal (hFfnIdeal := hFfnIdeal) (hFfnRefIdeal := hFfnRefIdeal)
    ∧ preserves_Gated_GatedIdeal
    ∧ algebraic_GatedIdeal_GatedRefIdeal (hGatedIdeal := hGatedIdeal) (hGatedRefIdeal := hGatedRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_InProjGroup_InProjGroupIdeal
    ∧ algebraic_InProjGroupIdeal_InProjGroupRefIdeal (hInProjGroupIdeal := hInProjGroupIdeal) (hInProjGroupRefIdeal := hInProjGroupRefIdeal)
    ∧ preserves_FfnSample_FfnSampleIdeal
    ∧ algebraic_FfnSampleIdeal_FfnSampleRefIdeal (hFfnSampleIdeal := hFfnSampleIdeal) (hFfnSampleRefIdeal := hFfnSampleRefIdeal)
-- ==== Pre_finite_logits.lean ====
abbrev S16x2048x6656 : Shape := ⟨3, ![16, 2048, 6656]⟩
abbrev S32x12 : Shape := ⟨2, ![32, 12]⟩
abbrev S16x2048x512 : Shape := ⟨3, ![16, 2048, 512]⟩
abbrev S_ : Shape := ⟨0, ![]⟩
abbrev S32x4 : Shape := ⟨2, ![32, 4]⟩

class Facts : Prop where
  slices_S16x2048x6656_S16x2048x512_0_0_512 : S16x2048x6656.Slices ![0, 0, 512] S16x2048x512
  bcast_S_S16x2048x512 : S_.BroadcastsInDim S16x2048x512 (![] : Fin 0 → Fin S16x2048x512.rank)
  slices_S16x2048x6656_S16x2048x512_0_0_2048 : S16x2048x6656.Slices ![0, 0, 2048] S16x2048x512
  slices_S32x12_S32x4_0_4 : S32x12.Slices ![0, 4] S32x4
  bcast_S_S32x4 : S_.BroadcastsInDim S32x4 (![] : Fin 0 → Fin S32x4.rank)

variable [Facts]

def fn {F : FTy → Type} [FloatOps F] (main_arg0 : FVec F S16x2048x6656 .f32) (main_arg1 : FVec F S32x12 .f32) : IVec S16x2048x512 1 × IVec S16x2048x512 1 × IVec S32x4 1 :=
  let main_v0 : FVec F S16x2048x512 .f32 := (extractStridedSlice S16x2048x512 ![0, 0, 512] · slices_S16x2048x6656_S16x2048x512_0_0_512) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_v4 : FVec F S16x2048x512 .f32 := (extractStridedSlice S16x2048x512 ![0, 0, 2048] · slices_S16x2048x6656_S16x2048x512_0_0_2048) main_arg0
  let main_v5 : FVec F S16x2048x512 .f32 := Host.absf main_v4
  let main_cst_0 : FVec F S_ .f32 := constant S_ .f32 0x7F800000#32
  let main_v6 : FVec F S16x2048x512 .f32 := broadcastInDim S16x2048x512 ![] bcast_S_S16x2048x512 main_cst_0
  let main_v7 : IVec S16x2048x512 1 := cmpf .olt main_v5 main_v6
  let main_v8 : FVec F S32x4 .f32 := (extractStridedSlice S32x4 ![0, 4] · slices_S32x12_S32x4_0_4) main_arg1
  let main_v9 : FVec F S32x4 .f32 := Host.absf main_v8
  let main_cst_1 : FVec F S_ .f32 := constant S_ .f32 0x7F800000#32
  let main_v10 : FVec F S32x4 .f32 := broadcastInDim S32x4 ![] bcast_S_S32x4 main_cst_1
  let main_v11 : IVec S32x4 1 := cmpf .olt main_v9 main_v10
  (main_v3, main_v7, main_v11)
-- ==== Attn.lean ====
abbrev S16x2048x6656 : Shape := ⟨3, ![16, 2048, 6656]⟩
abbrev S32x12 : Shape := ⟨2, ![32, 12]⟩
abbrev S16x2048x512 : Shape := ⟨3, ![16, 2048, 512]⟩
abbrev S16x2048x1536 : Shape := ⟨3, ![16, 2048, 1536]⟩
abbrev S16x512x4x1536 : Shape := ⟨4, ![16, 512, 4, 1536]⟩
abbrev S16x4x512x1536 : Shape := ⟨4, ![16, 4, 512, 1536]⟩
abbrev S3x3x4x128x256 : Shape := ⟨5, ![3, 3, 4, 128, 256]⟩
abbrev S1x1x4x128x256 : Shape := ⟨5, ![1, 1, 4, 128, 256]⟩
abbrev S128x256 : Shape := ⟨2, ![128, 256]⟩
abbrev S1x1 : Shape := ⟨2, ![1, 1]⟩
abbrev S1x1x1x128x256 : Shape := ⟨5, ![1, 1, 1, 128, 256]⟩
abbrev S1x1024x512 : Shape := ⟨3, ![1, 1024, 512]⟩
abbrev S1x3x4x128x256 : Shape := ⟨5, ![1, 3, 4, 128, 256]⟩
abbrev S256x128 : Shape := ⟨2, ![256, 128]⟩
abbrev S1x128x128 : Shape := ⟨3, ![1, 128, 128]⟩
abbrev S128x128 : Shape := ⟨2, ![128, 128]⟩
abbrev S1x256x128 : Shape := ⟨3, ![1, 256, 128]⟩
abbrev S128 : Shape := ⟨1, ![128]⟩
abbrev S128x1 : Shape := ⟨2, ![128, 1]⟩
abbrev S256x256 : Shape := ⟨2, ![256, 256]⟩

abbrev nBuf : Space → Nat
  | .hbm => 13
  | .vmem => 13
  | .smem => 1
  | _ => 0

abbrev bufTy : (tb : Table) → Fin (tcTables nBuf tb) → BufTy
  | .hbm, ⟨0, _⟩ => ⟨S16x2048x6656, .f32⟩
  | .hbm, ⟨1, _⟩ => ⟨S32x12, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x1536, .f32⟩
  | .hbm, ⟨6, _⟩ => ⟨S16x2048x1536, .bf16⟩
  | .hbm, ⟨7, _⟩ => ⟨S16x512x4x1536, .bf16⟩
  | .hbm, ⟨8, _⟩ => ⟨S16x4x512x1536, .bf16⟩
  | .hbm, ⟨9, _⟩ => ⟨S16x2048x1536, .bf16⟩
  | .hbm, ⟨10, _⟩ => ⟨S3x3x4x128x256, .f32⟩
  | .hbm, ⟨11, _⟩ => ⟨S16x2048x512, .bf16⟩
  | .hbm, ⟨12, _⟩ => ⟨S16x2048x512, .f32⟩
  | .local _ .vmem, ⟨0, _⟩ => ⟨S1x1x4x128x256, .f32⟩
  | .local _ .vmem, ⟨1, _⟩ => ⟨S1x1x4x128x256, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x3x4x128x256, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .f32⟩
  | .local _ .vmem, ⟨12, _⟩ => ⟨S1x1024x512, .f32⟩
  | .local _ .smem, ⟨0, _⟩ => ⟨S32x12, .f32⟩
  | _, _ => ⟨S16x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![3, 3], ![false, false]⟩

@[reducible] def k0_t1_loop : Scf.Loop 32 :=
  let c0_i32_14 : BitVec 32 := 0#32
  let c32_i32 : BitVec 32 := 32#32
  let v46 : BitVec 32 := Scalar.addi c0_i32_14 c32_i32
  let c1_i32_15 : BitVec 32 := 1#32
  ⟨c0_i32_14, v46, c1_i32_15⟩
def k0_off1 (i : grid0.Coords) (k0_t1 : Fin k0_t1_loop.trips) : Fin 2 → Nat :=
  let c0_i32_14 : BitVec 32 := 0#32
  let c1_i32_15 : BitVec 32 := 1#32
  let arg4 : BitVec 32 := Scf.iv c0_i32_14 c1_i32_15 k0_t1
  let v85 : Index := Scalar.indexCast arg4
  let arg0 : BitVec 32 := BitVec.ofNat 32 (i 0).val
  let c4_i32_11 : BitVec 32 := 4#32
  let v43 : BitVec 32 := Scalar.muli arg0 c4_i32_11
  let c0_i32_12 : BitVec 32 := 0#32
  let v44 : BitVec 32 := Scalar.addi v43 c0_i32_12
  let v86 : Index := Scalar.indexCast v44
  ![v85.toNat, v86.toNat]
@[reducible] def k0_t2_loop : Scf.Loop 32 :=
  let c0_i32_25 : BitVec 32 := 0#32
  let c32_i32_26 : BitVec 32 := 32#32
  let v56 : BitVec 32 := Scalar.addi c0_i32_25 c32_i32_26
  let c1_i32_27 : BitVec 32 := 1#32
  ⟨c0_i32_25, v56, c1_i32_27⟩
def k0_off2 (i : grid0.Coords) (k0_t2 : Fin k0_t2_loop.trips) : Fin 2 → Nat :=
  let c0_i32_25 : BitVec 32 := 0#32
  let c1_i32_27 : BitVec 32 := 1#32
  let arg4 : BitVec 32 := Scf.iv c0_i32_25 c1_i32_27 k0_t2
  let v85 : Index := Scalar.indexCast arg4
  let arg0 : BitVec 32 := BitVec.ofNat 32 (i 0).val
  let c4_i32_22 : BitVec 32 := 4#32
  let v53 : BitVec 32 := Scalar.muli arg0 c4_i32_22
  let c1_i32_23 : BitVec 32 := 1#32
  let v54 : BitVec 32 := Scalar.addi v53 c1_i32_23
  let v86 : Index := Scalar.indexCast v54
  ![v85.toNat, v86.toNat]
@[reducible] def k0_t3_loop : Scf.Loop 32 :=
  let c0_i32_36 : BitVec 32 := 0#32
  let c32_i32_37 : BitVec 32 := 32#32
  let v66 : BitVec 32 := Scalar.addi c0_i32_36 c32_i32_37
  let c1_i32_38 : BitVec 32 := 1#32
  ⟨c0_i32_36, v66, c1_i32_38⟩
def k0_off3 (i : grid0.Coords) (k0_t3 : Fin k0_t3_loop.trips) : Fin 2 → Nat :=
  let c0_i32_36 : BitVec 32 := 0#32
  let c1_i32_38 : BitVec 32 := 1#32
  let arg4 : BitVec 32 := Scf.iv c0_i32_36 c1_i32_38 k0_t3
  let v85 : Index := Scalar.indexCast arg4
  let arg0 : BitVec 32 := BitVec.ofNat 32 (i 0).val
  let c4_i32_34 : BitVec 32 := 4#32
  let v63 : BitVec 32 := Scalar.muli arg0 c4_i32_34
  let c2_i32 : BitVec 32 := 2#32
  let v64 : BitVec 32 := Scalar.addi v63 c2_i32
  let v86 : Index := Scalar.indexCast v64
  ![v85.toNat, v86.toNat]
@[reducible] def k0_t4_loop : Scf.Loop 32 :=
  let c0_i32_47 : BitVec 32 := 0#32
  let c32_i32_48 : BitVec 32 := 32#32
  let v76 : BitVec 32 := Scalar.addi c0_i32_47 c32_i32_48
  let c1_i32_49 : BitVec 32 := 1#32
  ⟨c0_i32_47, v76, c1_i32_49⟩
def k0_off4 (i : grid0.Coords) (k0_t4 : Fin k0_t4_loop.trips) : Fin 2 → Nat :=
  let c0_i32_47 : BitVec 32 := 0#32
  let c1_i32_49 : BitVec 32 := 1#32
  let arg4 : BitVec 32 := Scf.iv c0_i32_47 c1_i32_49 k0_t4
  let v85 : Index := Scalar.indexCast arg4
  let arg0 : BitVec 32 := BitVec.ofNat 32 (i 0).val
  let c4_i32_45 : BitVec 32 := 4#32
  let v73 : BitVec 32 := Scalar.muli arg0 c4_i32_45
  let c3_i32 : BitVec 32 := 3#32
  let v74 : BitVec 32 := Scalar.addi v73 c3_i32
  let v86 : Index := Scalar.indexCast v74
  ![v85.toNat, v86.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![16, 2, 1], ![false, false, false]⟩

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c128_i32 : BitVec 32 := 128#32
  let v31 : BitVec 32 := Scalar.muli arg9 c128_i32
  v31
def k1_mult2 (i : grid1.Coords) (k1_t1 : Fin k1_t1_loop.trips) : BitVec 32 :=
  let c0_i32 : BitVec 32 := 0#32
  let c1_i32 : BitVec 32 := 1#32
  let arg9 : BitVec 32 := Scf.iv c0_i32 c1_i32 k1_t1
  let c0_i32_2 : BitVec 32 := 0#32
  let v4 : BitVec 1 := Scalar.cmpi .sgt arg9 c0_i32_2
  let v5 : BitVec 32 := Scalar.extui v4
  let c0_i32_3 : BitVec 32 := 0#32
  let v6 : BitVec 1 := Scalar.cmpi .slt arg9 c0_i32_3
  let v7 : BitVec 32 := Scalar.extui v6
  let v8 : BitVec 32 := Scalar.subi v5 v7
  let c4_i32_1 : BitVec 32 := 4#32
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi arg9 c4_i32_1
  let c0_i32_6 : BitVec 32 := 0#32
  let v16 : BitVec 1 := Scalar.cmpi .ne v15 c0_i32_6
  let v17 : BitVec 1 := Scalar.andi v14 v16
  let v3 : BitVec 32 := Scalar.divsi arg9 c4_i32_1
  let c1_i32_7 : BitVec 32 := 1#32
  let v18 : BitVec 32 := Scalar.subi v3 c1_i32_7
  let v19 : BitVec 32 := Scalar.select v17 v18 v3
  let c512_i32 : BitVec 32 := 512#32
  let v33 : BitVec 32 := Scalar.muli v19 c512_i32
  let c256_i32 : BitVec 32 := 256#32
  let c0_i32_15 : BitVec 32 := 0#32
  let arg2 : BitVec 32 := BitVec.ofNat 32 (i 2).val
  let c4_i32 : BitVec 32 := 4#32
  let v0 : BitVec 32 := Scalar.muli arg2 c4_i32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c128_i32_14 : BitVec 32 := 128#32
  let v34 : BitVec 32 := Scalar.muli v30 c128_i32_14
  let c64_i32 : BitVec 32 := 64#32
  let v35 : BitVec 32 := Scalar.subi v34 c64_i32
  let v36 : BitVec 32 := Scalar.maxsi c0_i32_15 v35
  let v37 : BitVec 32 := Scalar.minsi c256_i32 v36
  let v38 : BitVec 32 := Scalar.addi v33 v37
  v38
def k1_off1 (k1_t1 : Fin k1_t1_loop.trips) : Fin 3 → Nat :=
  let c0 : Index := 0#32
  let c0_i32 : BitVec 32 := 0#32
  let c1_i32 : BitVec 32 := 1#32
  let arg9 : BitVec 32 := Scf.iv c0_i32 c1_i32 k1_t1
  let c128_i32 : BitVec 32 := 128#32
  let v31 : BitVec 32 := Scalar.muli arg9 c128_i32
  let v32 : BitVec 32 := v31
  let v44 : Index := Scalar.indexCast v32
  let c0_19 : Index := 0#32
  ![0, v44.toNat, 0]
def k1_off2 (i : grid1.Coords) (k1_t1 : Fin k1_t1_loop.trips) : Fin 3 → Nat :=
  let c0_20 : Index := 0#32
  let c0_i32 : BitVec 32 := 0#32
  let c1_i32 : BitVec 32 := 1#32
  let arg9 : BitVec 32 := Scf.iv c0_i32 c1_i32 k1_t1
  let c0_i32_2 : BitVec 32 := 0#32
  let v4 : BitVec 1 := Scalar.cmpi .sgt arg9 c0_i32_2
  let v5 : BitVec 32 := Scalar.extui v4
  let c0_i32_3 : BitVec 32 := 0#32
  let v6 : BitVec 1 := Scalar.cmpi .slt arg9 c0_i32_3
  let v7 : BitVec 32 := Scalar.extui v6
  let v8 : BitVec 32 := Scalar.subi v5 v7
  let c4_i32_1 : BitVec 32 := 4#32
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi arg9 c4_i32_1
  let c0_i32_6 : BitVec 32 := 0#32
  let v16 : BitVec 1 := Scalar.cmpi .ne v15 c0_i32_6
  let v17 : BitVec 1 := Scalar.andi v14 v16
  let v3 : BitVec 32 := Scalar.divsi arg9 c4_i32_1
  let c1_i32_7 : BitVec 32 := 1#32
  let v18 : BitVec 32 := Scalar.subi v3 c1_i32_7
  let v19 : BitVec 32 := Scalar.select v17 v18 v3
  let c512_i32 : BitVec 32 := 512#32
  let v33 : BitVec 32 := Scalar.muli v19 c512_i32
  let c256_i32 : BitVec 32 := 256#32
  let c0_i32_15 : BitVec 32 := 0#32
  let arg2 : BitVec 32 := BitVec.ofNat 32 (i 2).val
  let c4_i32 : BitVec 32 := 4#32
  let v0 : BitVec 32 := Scalar.muli arg2 c4_i32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c128_i32_14 : BitVec 32 := 128#32
  let v34 : BitVec 32 := Scalar.muli v30 c128_i32_14
  let c64_i32 : BitVec 32 := 64#32
  let v35 : BitVec 32 := Scalar.subi v34 c64_i32
  let v36 : BitVec 32 := Scalar.maxsi c0_i32_15 v35
  let v37 : BitVec 32 := Scalar.minsi c256_i32 v36
  let v38 : BitVec 32 := Scalar.addi v33 v37
  let v43 : BitVec 32 := v38
  let v47 : Index := Scalar.indexCast v43
  let c0_21 : Index := 0#32
  ![0, v47.toNat, 0]
def k1_off3 (i : grid1.Coords) (k1_t1 : Fin k1_t1_loop.trips) : Fin 5 → Nat :=
  let c0_26 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg9 : BitVec 32 := Scf.iv c0_i32 c1_i32 k1_t1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c0_i32_16 : BitVec 32 := 0#32
  let v39 : BitVec 1 := Scalar.cmpi .eq v30 c0_i32_16
  let c1_i32_18 : BitVec 32 := 1#32
  let c3_i32 : BitVec 32 := 3#32
  let v40 : BitVec 1 := Scalar.cmpi .eq v30 c3_i32
  let c2_i32 : BitVec 32 := 2#32
  let c0_i32_17 : BitVec 32 := 0#32
  let v41 : BitVec 32 := Scalar.select v40 c2_i32 c0_i32_17
  let v42 : BitVec 32 := Scalar.select v39 c1_i32_18 v41
  let v56 : Index := Scalar.indexCast v42
  let c0_27 : Index := 0#32
  let c0_28 : Index := 0#32
  let c0_29 : Index := 0#32
  ![0, v56.toNat, 0, 0, 0]
def k1_off4 (k1_t1 : Fin k1_t1_loop.trips) : Fin 3 → Nat :=
  let c0_36 : Index := 0#32
  let c0_i32 : BitVec 32 := 0#32
  let c1_i32 : BitVec 32 := 1#32
  let arg9 : BitVec 32 := Scf.iv c0_i32 c1_i32 k1_t1
  let c128_i32 : BitVec 32 := 128#32
  let v31 : BitVec 32 := Scalar.muli arg9 c128_i32
  let v32 : BitVec 32 := v31
  let v83 : Index := Scalar.indexCast v32
  let c128 : Index := 128#32
  ![0, v83.toNat, 128]
def k1_off5 (i : grid1.Coords) (k1_t1 : Fin k1_t1_loop.trips) : Fin 3 → Nat :=
  let c0_37 : Index := 0#32
  let c0_i32 : BitVec 32 := 0#32
  let c1_i32 : BitVec 32 := 1#32
  let arg9 : BitVec 32 := Scf.iv c0_i32 c1_i32 k1_t1
  let c0_i32_2 : BitVec 32 := 0#32
  let v4 : BitVec 1 := Scalar.cmpi .sgt arg9 c0_i32_2
  let v5 : BitVec 32 := Scalar.extui v4
  let c0_i32_3 : BitVec 32 := 0#32
  let v6 : BitVec 1 := Scalar.cmpi .slt arg9 c0_i32_3
  let v7 : BitVec 32 := Scalar.extui v6
  let v8 : BitVec 32 := Scalar.subi v5 v7
  let c4_i32_1 : BitVec 32 := 4#32
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi arg9 c4_i32_1
  let c0_i32_6 : BitVec 32 := 0#32
  let v16 : BitVec 1 := Scalar.cmpi .ne v15 c0_i32_6
  let v17 : BitVec 1 := Scalar.andi v14 v16
  let v3 : BitVec 32 := Scalar.divsi arg9 c4_i32_1
  let c1_i32_7 : BitVec 32 := 1#32
  let v18 : BitVec 32 := Scalar.subi v3 c1_i32_7
  let v19 : BitVec 32 := Scalar.select v17 v18 v3
  let c512_i32 : BitVec 32 := 512#32
  let v33 : BitVec 32 := Scalar.muli v19 c512_i32
  let c256_i32 : BitVec 32 := 256#32
  let c0_i32_15 : BitVec 32 := 0#32
  let arg2 : BitVec 32 := BitVec.ofNat 32 (i 2).val
  let c4_i32 : BitVec 32 := 4#32
  let v0 : BitVec 32 := Scalar.muli arg2 c4_i32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c128_i32_14 : BitVec 32 := 128#32
  let v34 : BitVec 32 := Scalar.muli v30 c128_i32_14
  let c64_i32 : BitVec 32 := 64#32
  let v35 : BitVec 32 := Scalar.subi v34 c64_i32
  let v36 : BitVec 32 := Scalar.maxsi c0_i32_15 v35
  let v37 : BitVec 32 := Scalar.minsi c256_i32 v36
  let v38 : BitVec 32 := Scalar.addi v33 v37
  let v43 : BitVec 32 := v38
  let v86 : Index := Scalar.indexCast v43
  let c128_38 : Index := 128#32
  ![0, v86.toNat, 128]
def k1_off6 (i : grid1.Coords) (k1_t1 : Fin k1_t1_loop.trips) : Fin 5 → Nat :=
  let c0_43 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg9 : BitVec 32 := Scf.iv c0_i32 c1_i32 k1_t1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c0_i32_16 : BitVec 32 := 0#32
  let v39 : BitVec 1 := Scalar.cmpi .eq v30 c0_i32_16
  let c1_i32_18 : BitVec 32 := 1#32
  let c3_i32 : BitVec 32 := 3#32
  let v40 : BitVec 1 := Scalar.cmpi .eq v30 c3_i32
  let c2_i32 : BitVec 32 := 2#32
  let c0_i32_17 : BitVec 32 := 0#32
  let v41 : BitVec 32 := Scalar.select v40 c2_i32 c0_i32_17
  let v42 : BitVec 32 := Scalar.select v39 c1_i32_18 v41
  let v95 : Index := Scalar.indexCast v42
  let c1 : Index := 1#32
  let c0_44 : Index := 0#32
  let c0_45 : Index := 0#32
  ![0, v95.toNat, 1, 0, 0]
def k1_off7 (k1_t1 : Fin k1_t1_loop.trips) : Fin 3 → Nat :=
  let c0_52 : Index := 0#32
  let c0_i32 : BitVec 32 := 0#32
  let c1_i32 : BitVec 32 := 1#32
  let arg9 : BitVec 32 := Scf.iv c0_i32 c1_i32 k1_t1
  let c128_i32 : BitVec 32 := 128#32
  let v31 : BitVec 32 := Scalar.muli arg9 c128_i32
  let v32 : BitVec 32 := v31
  let v122 : Index := Scalar.indexCast v32
  let c256 : Index := 256#32
  ![0, v122.toNat, 256]
def k1_off8 (i : grid1.Coords) (k1_t1 : Fin k1_t1_loop.trips) : Fin 3 → Nat :=
  let c0_53 : Index := 0#32
  let c0_i32 : BitVec 32 := 0#32
  let c1_i32 : BitVec 32 := 1#32
  let arg9 : BitVec 32 := Scf.iv c0_i32 c1_i32 k1_t1
  let c0_i32_2 : BitVec 32 := 0#32
  let v4 : BitVec 1 := Scalar.cmpi .sgt arg9 c0_i32_2
  let v5 : BitVec 32 := Scalar.extui v4
  let c0_i32_3 : BitVec 32 := 0#32
  let v6 : BitVec 1 := Scalar.cmpi .slt arg9 c0_i32_3
  let v7 : BitVec 32 := Scalar.extui v6
  let v8 : BitVec 32 := Scalar.subi v5 v7
  let c4_i32_1 : BitVec 32 := 4#32
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi arg9 c4_i32_1
  let c0_i32_6 : BitVec 32 := 0#32
  let v16 : BitVec 1 := Scalar.cmpi .ne v15 c0_i32_6
  let v17 : BitVec 1 := Scalar.andi v14 v16
  let v3 : BitVec 32 := Scalar.divsi arg9 c4_i32_1
  let c1_i32_7 : BitVec 32 := 1#32
  let v18 : BitVec 32 := Scalar.subi v3 c1_i32_7
  let v19 : BitVec 32 := Scalar.select v17 v18 v3
  let c512_i32 : BitVec 32 := 512#32
  let v33 : BitVec 32 := Scalar.muli v19 c512_i32
  let c256_i32 : BitVec 32 := 256#32
  let c0_i32_15 : BitVec 32 := 0#32
  let arg2 : BitVec 32 := BitVec.ofNat 32 (i 2).val
  let c4_i32 : BitVec 32 := 4#32
  let v0 : BitVec 32 := Scalar.muli arg2 c4_i32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c128_i32_14 : BitVec 32 := 128#32
  let v34 : BitVec 32 := Scalar.muli v30 c128_i32_14
  let c64_i32 : BitVec 32 := 64#32
  let v35 : BitVec 32 := Scalar.subi v34 c64_i32
  let v36 : BitVec 32 := Scalar.maxsi c0_i32_15 v35
  let v37 : BitVec 32 := Scalar.minsi c256_i32 v36
  let v38 : BitVec 32 := Scalar.addi v33 v37
  let v43 : BitVec 32 := v38
  let v125 : Index := Scalar.indexCast v43
  let c256_54 : Index := 256#32
  ![0, v125.toNat, 256]
def k1_off9 (i : grid1.Coords) (k1_t1 : Fin k1_t1_loop.trips) : Fin 5 → Nat :=
  let c0_59 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg9 : BitVec 32 := Scf.iv c0_i32 c1_i32 k1_t1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c0_i32_16 : BitVec 32 := 0#32
  let v39 : BitVec 1 := Scalar.cmpi .eq v30 c0_i32_16
  let c1_i32_18 : BitVec 32 := 1#32
  let c3_i32 : BitVec 32 := 3#32
  let v40 : BitVec 1 := Scalar.cmpi .eq v30 c3_i32
  let c2_i32 : BitVec 32 := 2#32
  let c0_i32_17 : BitVec 32 := 0#32
  let v41 : BitVec 32 := Scalar.select v40 c2_i32 c0_i32_17
  let v42 : BitVec 32 := Scalar.select v39 c1_i32_18 v41
  let v134 : Index := Scalar.indexCast v42
  let c2 : Index := 2#32
  let c0_60 : Index := 0#32
  let c0_61 : Index := 0#32
  ![0, v134.toNat, 2, 0, 0]
def k1_off10 (k1_t1 : Fin k1_t1_loop.trips) : Fin 3 → Nat :=
  let c0_68 : Index := 0#32
  let c0_i32 : BitVec 32 := 0#32
  let c1_i32 : BitVec 32 := 1#32
  let arg9 : BitVec 32 := Scf.iv c0_i32 c1_i32 k1_t1
  let c128_i32 : BitVec 32 := 128#32
  let v31 : BitVec 32 := Scalar.muli arg9 c128_i32
  let v32 : BitVec 32 := v31
  let v161 : Index := Scalar.indexCast v32
  let c384 : Index := 384#32
  ![0, v161.toNat, 384]
def k1_off11 (i : grid1.Coords) (k1_t1 : Fin k1_t1_loop.trips) : Fin 3 → Nat :=
  let c0_69 : Index := 0#32
  let c0_i32 : BitVec 32 := 0#32
  let c1_i32 : BitVec 32 := 1#32
  let arg9 : BitVec 32 := Scf.iv c0_i32 c1_i32 k1_t1
  let c0_i32_2 : BitVec 32 := 0#32
  let v4 : BitVec 1 := Scalar.cmpi .sgt arg9 c0_i32_2
  let v5 : BitVec 32 := Scalar.extui v4
  let c0_i32_3 : BitVec 32 := 0#32
  let v6 : BitVec 1 := Scalar.cmpi .slt arg9 c0_i32_3
  let v7 : BitVec 32 := Scalar.extui v6
  let v8 : BitVec 32 := Scalar.subi v5 v7
  let c4_i32_1 : BitVec 32 := 4#32
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi arg9 c4_i32_1
  let c0_i32_6 : BitVec 32 := 0#32
  let v16 : BitVec 1 := Scalar.cmpi .ne v15 c0_i32_6
  let v17 : BitVec 1 := Scalar.andi v14 v16
  let v3 : BitVec 32 := Scalar.divsi arg9 c4_i32_1
  let c1_i32_7 : BitVec 32 := 1#32
  let v18 : BitVec 32 := Scalar.subi v3 c1_i32_7
  let v19 : BitVec 32 := Scalar.select v17 v18 v3
  let c512_i32 : BitVec 32 := 512#32
  let v33 : BitVec 32 := Scalar.muli v19 c512_i32
  let c256_i32 : BitVec 32 := 256#32
  let c0_i32_15 : BitVec 32 := 0#32
  let arg2 : BitVec 32 := BitVec.ofNat 32 (i 2).val
  let c4_i32 : BitVec 32 := 4#32
  let v0 : BitVec 32 := Scalar.muli arg2 c4_i32
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c128_i32_14 : BitVec 32 := 128#32
  let v34 : BitVec 32 := Scalar.muli v30 c128_i32_14
  let c64_i32 : BitVec 32 := 64#32
  let v35 : BitVec 32 := Scalar.subi v34 c64_i32
  let v36 : BitVec 32 := Scalar.maxsi c0_i32_15 v35
  let v37 : BitVec 32 := Scalar.minsi c256_i32 v36
  let v38 : BitVec 32 := Scalar.addi v33 v37
  let v43 : BitVec 32 := v38
  let v164 : Index := Scalar.indexCast v43
  let c384_70 : Index := 384#32
  ![0, v164.toNat, 384]
def k1_off12 (i : grid1.Coords) (k1_t1 : Fin k1_t1_loop.trips) : Fin 5 → Nat :=
  let c0_75 : Index := 0#32
  let arg2 : BitVec 32 := BitVec.ofNat 32 (i 2).val
  let c4_i32 : BitVec 32 := 4#32
  let v0 : BitVec 32 := Scalar.muli arg2 c4_i32
  let c0_i32 : BitVec 32 := 0#32
  let c1_i32 : BitVec 32 := 1#32
  let arg9 : BitVec 32 := Scf.iv c0_i32 c1_i32 k1_t1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi arg9 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : BitVec 32 := Scalar.addi v0 v29
  let c0_i32_16 : BitVec 32 := 0#32
  let v39 : BitVec 1 := Scalar.cmpi .eq v30 c0_i32_16
  let c1_i32_18 : BitVec 32 := 1#32
  let c3_i32 : BitVec 32 := 3#32
  let v40 : BitVec 1 := Scalar.cmpi .eq v30 c3_i32
  let c2_i32 : BitVec 32 := 2#32
  let c0_i32_17 : BitVec 32 := 0#32
  let v41 : BitVec 32 := Scalar.select v40 c2_i32 c0_i32_17
  let v42 : BitVec 32 := Scalar.select v39 c1_i32_18 v41
  let v173 : Index := Scalar.indexCast v42
  let c3 : Index := 3#32
  let c0_76 : Index := 0#32
  let c0_77 : Index := 0#32
  ![0, v173.toNat, 3, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, c2_i32.toNat]

def cc1_transform_3 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x3x4x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== AttnIdeal.lean ====
variable {F : FTy → Type} [FloatOps F] [Named F]
def κ : String → Option EReal := fun
  | "mask" => some ⊥
  | _ => none
-- ==== AttnRefIdeal.lean ====
abbrev S16x2048x6656 : Shape := ⟨3, ![16, 2048, 6656]⟩
abbrev S32x12 : Shape := ⟨2, ![32, 12]⟩
abbrev S16x2048x4608 : Shape := ⟨3, ![16, 2048, 4608]⟩
abbrev S16x2048x3x3x4x128 : Shape := ⟨6, ![16, 2048, 3, 3, 4, 128]⟩
abbrev S16x2048x1x3x4x128 : Shape := ⟨6, ![16, 2048, 1, 3, 4, 128]⟩
abbrev S16x2048x3x4x128 : Shape := ⟨5, ![16, 2048, 3, 4, 128]⟩
abbrev S16x2048x1x4x128 : Shape := ⟨5, ![16, 2048, 1, 4, 128]⟩
abbrev S16x2048x4x128 : Shape := ⟨4, ![16, 2048, 4, 128]⟩
abbrev S32x4 : Shape := ⟨2, ![32, 4]⟩
abbrev S16x512x4x4x128 : Shape := ⟨5, ![16, 512, 4, 4, 128]⟩
abbrev S16x4x512x4x128 : Shape := ⟨5, ![16, 4, 512, 4, 128]⟩
abbrev S_ : Shape := ⟨0, ![]⟩
abbrev S16x4x8x64x4x128 : Shape := ⟨6, ![16, 4, 8, 64, 4, 128]⟩
abbrev S16x4x640x4x128 : Shape := ⟨5, ![16, 4, 640, 4, 128]⟩
abbrev S16x4x10x64x4x128 : Shape := ⟨6, ![16, 4, 10, 64, 4, 128]⟩
abbrev S16x4x8x192x4x128 : Shape := ⟨6, ![16, 4, 8, 192, 4, 128]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S64x192x1 : Shape := ⟨3, ![64, 192, 1]⟩
abbrev S64x192x4 : Shape := ⟨3, ![64, 192, 4]⟩
abbrev S4x64x192 : Shape := ⟨3, ![4, 64, 192]⟩
abbrev S8 : Shape := ⟨1, ![8]⟩
abbrev S8x1x1 : Shape := ⟨3, ![8, 1, 1]⟩
abbrev S1x1x192 : Shape := ⟨3, ![1, 1, 192]⟩
abbrev S8x1x192 : Shape := ⟨3, ![8, 1, 192]⟩
abbrev S1x64x192 : Shape := ⟨3, ![1, 64, 192]⟩
abbrev S8x64x192 : Shape := ⟨3, ![8, 64, 192]⟩
abbrev S16x4x8x4x64x192 : Shape := ⟨6, ![16, 4, 8, 4, 64, 192]⟩
abbrev S1x1x1x4x64x192 : Shape := ⟨6, ![1, 1, 1, 4, 64, 192]⟩
abbrev S8x1x64x192 : Shape := ⟨4, ![8, 1, 64, 192]⟩
abbrev S16x4x8x4x64 : Shape := ⟨5, ![16, 4, 8, 4, 64]⟩
abbrev S16x4x8x4x64x1 : Shape := ⟨6, ![16, 4, 8, 4, 64, 1]⟩
abbrev S16x4x8x4x128x64 : Shape := ⟨6, ![16, 4, 8, 4, 128, 64]⟩
abbrev S16x2048x512 : Shape := ⟨3, ![16, 2048, 512]⟩
abbrev S16x4x8x64x4 : Shape := ⟨5, ![16, 4, 8, 64, 4]⟩
abbrev S16x2048x4 : Shape := ⟨3, ![16, 2048, 4]⟩
abbrev S16x2048x4x1 : Shape := ⟨4, ![16, 2048, 4, 1]⟩

abbrev nBuf : Space → Nat
  | .hbm => 166
  | .vmem => 0
  | .smem => 0
  | _ => 0

abbrev hbmTy0_0 (i : Nat) : BufTy := match i % 128 with
  | 0 => ⟨S16x2048x6656, .f32⟩
  | 1 => ⟨S32x12, .f32⟩
  | 2 => ⟨S16x2048x4608, .f32⟩
  | 3 => ⟨S16x2048x3x3x4x128, .f32⟩
  | 4 => ⟨S16x2048x1x3x4x128, .f32⟩
  | 5 => ⟨S16x2048x3x4x128, .f32⟩
  | 6 => ⟨S16x2048x1x3x4x128, .f32⟩
  | 7 => ⟨S16x2048x3x4x128, .f32⟩
  | 8 => ⟨S16x2048x1x3x4x128, .f32⟩
  | 9 => ⟨S16x2048x3x4x128, .f32⟩
  | 10 => ⟨S16x2048x1x4x128, .f32⟩
  | 11 => ⟨S16x2048x4x128, .f32⟩
  | 12 => ⟨S16x2048x1x4x128, .f32⟩
  | 13 => ⟨S16x2048x4x128, .f32⟩
  | 14 => ⟨S16x2048x1x4x128, .f32⟩
  | 15 => ⟨S16x2048x4x128, .f32⟩
  | 16 => ⟨S32x4, .f32⟩
  | 17 => ⟨S16x512x4x4x128, .f32⟩
  | 18 => ⟨S16x4x512x4x128, .f32⟩
  | 19 => ⟨S_, .i32⟩
  | 20 => ⟨S_, .f32⟩
  | 21 => ⟨S16x4x512x4x128, .f32⟩
  | 22 => ⟨S16x4x8x64x4x128, .f32⟩
  | 23 => ⟨S16x512x4x4x128, .f32⟩
  | 24 => ⟨S16x4x512x4x128, .f32⟩
  | 25 => ⟨S_, .i32⟩
  | 26 => ⟨S_, .f32⟩
  | 27 => ⟨S16x4x640x4x128, .f32⟩
  | 28 => ⟨S16x4x10x64x4x128, .f32⟩
  | 29 => ⟨S16x4x8x64x4x128, .f32⟩
  | 30 => ⟨S16x4x8x64x4x128, .f32⟩
  | 31 => ⟨S16x4x8x64x4x128, .f32⟩
  | 32 => ⟨S16x4x8x192x4x128, .f32⟩
  | 33 => ⟨S16x512x4x4x128, .f32⟩
  | 34 => ⟨S16x4x512x4x128, .f32⟩
  | 35 => ⟨S_, .i32⟩
  | 36 => ⟨S_, .f32⟩
  | 37 => ⟨S16x4x640x4x128, .f32⟩
  | 38 => ⟨S16x4x10x64x4x128, .f32⟩
  | 39 => ⟨S16x4x8x64x4x128, .f32⟩
  | 40 => ⟨S16x4x8x64x4x128, .f32⟩
  | 41 => ⟨S16x4x8x64x4x128, .f32⟩
  | 42 => ⟨S16x4x8x192x4x128, .f32⟩
  | 43 => ⟨S64, .i32⟩
  | 44 => ⟨S64x1, .i32⟩
  | 45 => ⟨S192, .i32⟩
  | 46 => ⟨S1x192, .i32⟩
  | 47 => ⟨S_, .i32⟩
  | 48 => ⟨S1x192, .i32⟩
  | 49 => ⟨S1x192, .i32⟩
  | 50 => ⟨S64x192, .i32⟩
  | 51 => ⟨S64x192, .i32⟩
  | 52 => ⟨S64x192, .i32⟩
  | 53 => ⟨S_, .i32⟩
  | 54 => ⟨S64x192, .i32⟩
  | 55 => ⟨S64x192, .i32⟩
  | 56 => ⟨S64x192, .i32⟩
  | 57 => ⟨S_, .i32⟩
  | 58 => ⟨S64x192, .i32⟩
  | 59 => ⟨S64x192, .i32⟩
  | 60 => ⟨S64x192, .f32⟩
  | 61 => ⟨S_, .f32⟩
  | 62 => ⟨S64x192, .f32⟩
  | 63 => ⟨S64x192, .f32⟩
  | 64 => ⟨S64x192, .f32⟩
  | 65 => ⟨S_, .f32⟩
  | 66 => ⟨S64x192, .f32⟩
  | 67 => ⟨S64x192, .f32⟩
  | 68 => ⟨S_, .f32⟩
  | 69 => ⟨S64x192, .f32⟩
  | 70 => ⟨S64x192, .f32⟩
  | 71 => ⟨S64x192, .i32⟩
  | 72 => ⟨S_, .i32⟩
  | 73 => ⟨S64x192, .i32⟩
  | 74 => ⟨S64x192, .i32⟩
  | 75 => ⟨S_, .i32⟩
  | 76 => ⟨S64x192, .i32⟩
  | 77 => ⟨S64x192, .i32⟩
  | 78 => ⟨S_, .i32⟩
  | 79 => ⟨S64x192, .i32⟩
  | 80 => ⟨S64x192, .i1⟩
  | 81 => ⟨S_, .i32⟩
  | 82 => ⟨S_, .i32⟩
  | 83 => ⟨S64x192, .i32⟩
  | 84 => ⟨S64x192, .i32⟩
  | 85 => ⟨S64x192, .i32⟩
  | 86 => ⟨S_, .i32⟩
  | 87 => ⟨S64x192, .i32⟩
  | 88 => ⟨S64x192, .i1⟩
  | 89 => ⟨S64x192, .i32⟩
  | 90 => ⟨S64x192, .i32⟩
  | 91 => ⟨S64x192, .i32⟩
  | 92 => ⟨S_, .i32⟩
  | 93 => ⟨S64x192, .i32⟩
  | 94 => ⟨S64x192, .i1⟩
  | 95 => ⟨S_, .i32⟩
  | 96 => ⟨S64x192, .i32⟩
  | 97 => ⟨S64x192, .i32⟩
  | 98 => ⟨S64x192, .i32⟩
  | 99 => ⟨S64x192x1, .i32⟩
  | 100 => ⟨S64x192x4, .f32⟩
  | 101 => ⟨S4x64x192, .f32⟩
  | 102 => ⟨S8, .i32⟩
  | 103 => ⟨S8x1x1, .i32⟩
  | 104 => ⟨S_, .i32⟩
  | 105 => ⟨S8x1x1, .i32⟩
  | 106 => ⟨S8x1x1, .i32⟩
  | 107 => ⟨S_, .i32⟩
  | 108 => ⟨S8x1x1, .i32⟩
  | 109 => ⟨S8x1x1, .i32⟩
  | 110 => ⟨S1x1x192, .i32⟩
  | 111 => ⟨S8x1x192, .i32⟩
  | 112 => ⟨S8x1x192, .i32⟩
  | 113 => ⟨S8x1x192, .i32⟩
  | 114 => ⟨S64x192, .i32⟩
  | 115 => ⟨S_, .i32⟩
  | 116 => ⟨S64x192, .i32⟩
  | 117 => ⟨S64x192, .i1⟩
  | 118 => ⟨S1x64x192, .i1⟩
  | 119 => ⟨S_, .i32⟩
  | 120 => ⟨S8x1x192, .i32⟩
  | 121 => ⟨S8x1x192, .i1⟩
  | 122 => ⟨S8x64x192, .i1⟩
  | 123 => ⟨S8x64x192, .i1⟩
  | 124 => ⟨S8x64x192, .i1⟩
  | 125 => ⟨S_, .i32⟩
  | 126 => ⟨S8x1x192, .i32⟩
  | 127 => ⟨S8x1x192, .i1⟩
  | _ => ⟨S16x2048x6656, .f32⟩

abbrev hbmTy0_1 (i : Nat) : BufTy := match i % 128 with
  | 0 => ⟨S8x64x192, .i1⟩
  | 1 => ⟨S8x64x192, .i1⟩
  | 2 => ⟨S16x4x8x4x64x192, .f32⟩
  | 3 => ⟨S_, .f32⟩
  | 4 => ⟨S16x4x8x4x64x192, .f32⟩
  | 5 => ⟨S16x4x8x4x64x192, .f32⟩
  | 6 => ⟨S1x1x1x4x64x192, .f32⟩
  | 7 => ⟨S16x4x8x4x64x192, .f32⟩
  | 8 => ⟨S16x4x8x4x64x192, .f32⟩
  | 9 => ⟨S8x1x64x192, .i1⟩
  | 10 => ⟨S_, .f32⟩
  | 11 => ⟨S_, .f32⟩
  | 12 => ⟨S16x4x8x4x64x192, .i1⟩
  | 13 => ⟨S16x4x8x4x64x192, .f32⟩
  | 14 => ⟨S16x4x8x4x64x192, .f32⟩
  | 15 => ⟨S_, .f32⟩
  | 16 => ⟨S16x4x8x4x64, .f32⟩
  | 17 => ⟨S16x4x8x4x64x1, .f32⟩
  | 18 => ⟨S16x4x8x4x64x192, .f32⟩
  | 19 => ⟨S16x4x8x4x64x192, .f32⟩
  | 20 => ⟨S16x4x8x4x64x192, .f32⟩
  | 21 => ⟨S_, .f32⟩
  | 22 => ⟨S16x4x8x4x64, .f32⟩
  | 23 => ⟨S16x4x8x4x64x1, .f32⟩
  | 24 => ⟨S16x4x8x4x64x192, .f32⟩
  | 25 => ⟨S16x4x8x4x64x192, .f32⟩
  | 26 => ⟨S16x4x8x4x128x64, .f32⟩
  | 27 => ⟨S16x4x8x64x4x128, .f32⟩
  | 28 => ⟨S16x4x8x4x64x1, .f32⟩
  | 29 => ⟨S16x4x8x4x64x1, .f32⟩
  | 30 => ⟨S16x4x8x4x64, .f32⟩
  | 31 => ⟨S16x2048x512, .f32⟩
  | 32 => ⟨S16x4x8x64x4, .f32⟩
  | 33 => ⟨S16x2048x4, .f32⟩
  | 34 => ⟨S16x2048x4x1, .f32⟩
  | 35 => ⟨S16x2048x4x128, .f32⟩
  | 36 => ⟨S16x2048x512, .f32⟩
  | 37 => ⟨S16x2048x512, .bf16⟩
  | _ => ⟨S16x2048x6656, .f32⟩

abbrev hbmTy (i : Nat) : BufTy := match i / 128 with
  | 0 => hbmTy0_0 i
  | 1 => hbmTy0_1 i
  | _ => ⟨S16x2048x6656, .f32⟩

abbrev bufTy : (tb : Table) → Fin (tcTables nBuf tb) → BufTy
  | .hbm, ⟨i, _⟩ => hbmTy i
  | _, _ => ⟨S16x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_call2_v0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_7 : Ref sig .tc := ⟨.hbm, 72, rfl⟩
abbrev main_v58 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_c_9 : Ref sig .tc := ⟨.hbm, 78, rfl⟩
abbrev main_v62 : Ref sig .tc := ⟨.hbm, 79, rfl⟩
abbrev main_v63 : Ref sig .tc := ⟨.hbm, 80, rfl⟩
abbrev main_c_10 : Ref sig .tc := ⟨.hbm, 81, rfl⟩
abbrev main_c_11 : Ref sig .tc := ⟨.hbm, 82, rfl⟩
abbrev main_call3_v0 : Ref sig .tc := ⟨.hbm, 83, rfl⟩
abbrev main_call3_v1 : Ref sig .tc := ⟨.hbm, 84, rfl⟩
abbrev main_v64 : Ref sig .tc := ⟨.hbm, 85, rfl⟩
abbrev main_c_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_c_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_15 : Ref sig .tc := ⟨.hbm, 104, rfl⟩
abbrev main_v80 : Ref sig .tc := ⟨.hbm, 105, rfl⟩
abbrev main_v81 : Ref sig .tc := ⟨.hbm, 106, rfl⟩
abbrev main_c_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_17 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_18 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_19 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_20 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_21 : Ref sig .tc := ⟨.hbm, 138, rfl⟩
abbrev main_call5_v0 : Ref sig .tc := ⟨.hbm, 139, rfl⟩
abbrev main_call5_v1 : Ref sig .tc := ⟨.hbm, 140, rfl⟩
abbrev main_call5_v2 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩

abbrev nD : Nat := 1
abbrev τ : Topo := Topo.v7x

variable {F : FTy → Type} [FloatOps F]
-- ==== Ffn.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S32768x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S32768x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16x2048x2048 : Shape := ⟨3, ![16, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x11264 : Shape := ⟨2, ![2048, 11264]⟩
abbrev S5632x2048 : Shape := ⟨2, ![5632, 2048]⟩
abbrev S16x2048x11264 : Shape := ⟨3, ![16, 2048, 11264]⟩
abbrev S16x2048x5632 : Shape := ⟨3, ![16, 2048, 5632]⟩
abbrev S32768x2048 : Shape := ⟨2, ![32768, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S2048x11264, .f32⟩
  | .hbm, ⟨23, _⟩ => ⟨S5632x2048, .f32⟩
  | .hbm, ⟨24, _⟩ => ⟨S16x2048x11264, .f32⟩
  | .hbm, ⟨25, _⟩ => ⟨S16x2048x5632, .f32⟩
  | .hbm, ⟨26, _⟩ => ⟨S16x2048x5632, .f32⟩
  | .hbm, ⟨27, _⟩ => ⟨S16x2048x5632, .f32⟩
  | .hbm, ⟨28, _⟩ => ⟨S16x2048x5632, .f32⟩
  | .hbm, ⟨29, _⟩ => ⟨S_, .f32⟩
  | .hbm, ⟨30, _⟩ => ⟨S16x2048x5632, .f32⟩
  | .hbm, ⟨31, _⟩ => ⟨S16x2048x5632, .f32⟩
  | .hbm, ⟨32, _⟩ => ⟨S_, .f32⟩
  | .hbm, ⟨33, _⟩ => ⟨S16x2048x5632, .f32⟩
  | .hbm, ⟨34, _⟩ => ⟨S16x2048x5632, .f32⟩
  | .hbm, ⟨35, _⟩ => ⟨S16x2048x5632, .f32⟩
  | .hbm, ⟨36, _⟩ => ⟨S16x2048x5632, .f32⟩
  | .hbm, ⟨37, _⟩ => ⟨S16x2048x2048, .f32⟩
  | .hbm, ⟨38, _⟩ => ⟨S2048, .f32⟩
  | .hbm, ⟨39, _⟩ => ⟨S16x2048x2048, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x2048, .f32⟩
  | .hbm, ⟨51, _⟩ => ⟨S16x2048x2048, .f32⟩
  | .hbm, ⟨52, _⟩ => ⟨S1x1x2048, .f32⟩
  | .hbm, ⟨53, _⟩ => ⟨S16x2048x2048, .f32⟩
  | .hbm, ⟨54, _⟩ => ⟨S16x2048x2048, .f32⟩
  | .hbm, ⟨55, _⟩ => ⟨S_, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Gated.lean ====
abbrev S16x2048x2048 : Shape := ⟨3, ![16, 2048, 2048]⟩
abbrev S16x2048x512 : Shape := ⟨3, ![16, 2048, 512]⟩
abbrev S16x2048x1024 : Shape := ⟨3, ![16, 2048, 1024]⟩
abbrev S1x2048x6144 : Shape := ⟨3, ![1, 2048, 6144]⟩
abbrev S1x6144 : Shape := ⟨2, ![1, 6144]⟩
abbrev S1x512x2048 : Shape := ⟨3, ![1, 512, 2048]⟩
abbrev S1x1024x2048 : Shape := ⟨3, ![1, 1024, 2048]⟩
abbrev S16x1024x1024 : Shape := ⟨3, ![16, 1024, 1024]⟩
abbrev S32768x2048 : Shape := ⟨2, ![32768, 2048]⟩
abbrev S32768x512 : Shape := ⟨2, ![32768, 512]⟩
abbrev S32768x1024 : Shape := ⟨2, ![32768, 1024]⟩
abbrev S2048x6144 : Shape := ⟨2, ![2048, 6144]⟩
abbrev S6144 : Shape := ⟨1, ![6144]⟩
abbrev S512x2048 : Shape := ⟨2, ![512, 2048]⟩
abbrev S1024x2048 : Shape := ⟨2, ![1024, 2048]⟩
abbrev S16384x1024 : Shape := ⟨2, ![16384, 1024]⟩
abbrev S1024x512 : Shape := ⟨2, ![1024, 512]⟩
abbrev S1024x1024 : Shape := ⟨2, ![1024, 1024]⟩
abbrev S2048x512 : Shape := ⟨2, ![2048, 512]⟩
abbrev S1x512 : Shape := ⟨2, ![1, 512]⟩
abbrev S512x512 : Shape := ⟨2, ![512, 512]⟩

abbrev nBuf : Space → Nat
  | .hbm => 31
  | .vmem => 30
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .f32⟩
  | .hbm, ⟨2, _⟩ => ⟨S16x2048x1024, .f32⟩
  | .hbm, ⟨3, _⟩ => ⟨S16x2048x1024, .f32⟩
  | .hbm, ⟨4, _⟩ => ⟨S1x2048x6144, .f32⟩
  | .hbm, ⟨5, _⟩ => ⟨S1x6144, .f32⟩
  | .hbm, ⟨6, _⟩ => ⟨S1x512x2048, .f32⟩
  | .hbm, ⟨7, _⟩ => ⟨S1x1024x2048, .f32⟩
  | .hbm, ⟨8, _⟩ => ⟨S1x1024x2048, .f32⟩
  | .hbm, ⟨9, _⟩ => ⟨S16x2048x1024, .bf16⟩
  | .hbm, ⟨10, _⟩ => ⟨S16x1024x1024, .bf16⟩
  | .hbm, ⟨11, _⟩ => ⟨S16x1024x1024, .bf16⟩
  | .hbm, ⟨12, _⟩ => ⟨S32768x2048, .f32⟩
  | .hbm, ⟨13, _⟩ => ⟨S32768x2048, .bf16⟩
  | .hbm, ⟨14, _⟩ => ⟨S32768x512, .f32⟩
  | .hbm, ⟨15, _⟩ => ⟨S32768x512, .bf16⟩
  | .hbm, ⟨16, _⟩ => ⟨S32768x1024, .f32⟩
  | .hbm, ⟨17, _⟩ => ⟨S32768x1024, .bf16⟩
  | .hbm, ⟨18, _⟩ => ⟨S2048x6144, .f32⟩
  | .hbm, ⟨19, _⟩ => ⟨S2048x6144, .bf16⟩
  | .hbm, ⟨20, _⟩ => ⟨S6144, .f32⟩
  | .hbm, ⟨21, _⟩ => ⟨S1x6144, .f32⟩
  | .hbm, ⟨22, _⟩ => ⟨S512x2048, .f32⟩
  | .hbm, ⟨23, _⟩ => ⟨S512x2048, .bf16⟩
  | .hbm, ⟨24, _⟩ => ⟨S1024x2048, .f32⟩
  | .hbm, ⟨25, _⟩ => ⟨S1024x2048, .bf16⟩
  | .hbm, ⟨26, _⟩ => ⟨S1024x2048, .f32⟩
  | .hbm, ⟨27, _⟩ => ⟨S1024x2048, .bf16⟩
  | .hbm, ⟨28, _⟩ => ⟨S16384x1024, .bf16⟩
  | .hbm, ⟨29, _⟩ => ⟨S16384x1024, .bf16⟩
  | .hbm, ⟨30, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S512x512, .bf16⟩
  | .local _ .vmem, ⟨23, _⟩ => ⟨S512x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  ![v28.toNat, c0_i32_11.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  ![v28.toNat, c0_i32_11.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== GatedRefIdeal.lean ====
abbrev S16x2048x2048 : Shape := ⟨3, ![16, 2048, 2048]⟩
abbrev S16x2048x512 : Shape := ⟨3, ![16, 2048, 512]⟩
abbrev S16x2048x1024 : Shape := ⟨3, ![16, 2048, 1024]⟩
abbrev S1x2048x6144 : Shape := ⟨3, ![1, 2048, 6144]⟩
abbrev S1x6144 : Shape := ⟨2, ![1, 6144]⟩
abbrev S1x512x2048 : Shape := ⟨3, ![1, 512, 2048]⟩
abbrev S1x1024x2048 : Shape := ⟨3, ![1, 1024, 2048]⟩
abbrev S2048x6144 : Shape := ⟨2, ![2048, 6144]⟩
abbrev S16x2048x6144 : Shape := ⟨3, ![16, 2048, 6144]⟩
abbrev S6144 : Shape := ⟨1, ![6144]⟩
abbrev S1x1x6144 : Shape := ⟨3, ![1, 1, 6144]⟩
abbrev S_ : Shape := ⟨0, ![]⟩
abbrev S16x2048x3x2048 : Shape := ⟨4, ![16, 2048, 3, 2048]⟩
abbrev S16x2048x1x2048 : Shape := ⟨4, ![16, 2048, 1, 2048]⟩
abbrev S512x2048 : Shape := ⟨2, ![512, 2048]⟩
abbrev S1024x2048 : Shape := ⟨2, ![1024, 2048]⟩
abbrev S32768x2048 : Shape := ⟨2, ![32768, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x512, .f32⟩
  | .hbm, ⟨2, _⟩ => ⟨S16x2048x1024, .f32⟩
  | .hbm, ⟨3, _⟩ => ⟨S16x2048x1024, .f32⟩
  | .hbm, ⟨4, _⟩ => ⟨S1x2048x6144, .f32⟩
  | .hbm, ⟨5, _⟩ => ⟨S1x6144, .f32⟩
  | .hbm, ⟨6, _⟩ => ⟨S1x512x2048, .f32⟩
  | .hbm, ⟨7, _⟩ => ⟨S1x1024x2048, .f32⟩
  | .hbm, ⟨8, _⟩ => ⟨S1x1024x2048, .f32⟩
  | .hbm, ⟨9, _⟩ => ⟨S2048x6144, .f32⟩
  | .hbm, ⟨10, _⟩ => ⟨S16x2048x6144, .f32⟩
  | .hbm, ⟨11, _⟩ => ⟨S6144, .f32⟩
  | .hbm, ⟨12, _⟩ => ⟨S1x1x6144, .f32⟩
  | .hbm, ⟨13, _⟩ => ⟨S16x2048x6144, .f32⟩
  | .hbm, ⟨14, _⟩ => ⟨S16x2048x6144, .f32⟩
  | .hbm, ⟨15, _⟩ => ⟨S16x2048x6144, .f32⟩
  | .hbm, ⟨16, _⟩ => ⟨S16x2048x6144, .f32⟩
  | .hbm, ⟨17, _⟩ => ⟨S_, .f32⟩
  | .hbm, ⟨18, _⟩ => ⟨S16x2048x6144, .f32⟩
  | .hbm, ⟨19, _⟩ => ⟨S16x2048x6144, .f32⟩
  | .hbm, ⟨20, _⟩ => ⟨S_, .f32⟩
  | .hbm, ⟨21, _⟩ => ⟨S16x2048x6144, .f32⟩
  | .hbm, ⟨22, _⟩ => ⟨S16x2048x6144, .f32⟩
  | .hbm, ⟨23, _⟩ => ⟨S16x2048x3x2048, .f32⟩
  | .hbm, ⟨24, _⟩ => ⟨S16x2048x1x2048, .f32⟩
  | .hbm, ⟨25, _⟩ => ⟨S16x2048x2048, .f32⟩
  | .hbm, ⟨26, _⟩ => ⟨S512x2048, .f32⟩
  | .hbm, ⟨27, _⟩ => ⟨S16x2048x2048, .f32⟩
  | .hbm, ⟨28, _⟩ => ⟨S16x2048x2048, .f32⟩
  | .hbm, ⟨29, _⟩ => ⟨S16x2048x1x2048, .f32⟩
  | .hbm, ⟨30, _⟩ => ⟨S16x2048x2048, .f32⟩
  | .hbm, ⟨31, _⟩ => ⟨S1024x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x1x2048, .f32⟩
  | .hbm, ⟨36, _⟩ => ⟨S16x2048x2048, .f32⟩
  | .hbm, ⟨37, _⟩ => ⟨S1024x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S32768x2048, .f32⟩
  | .hbm, ⟨42, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== OutProj.lean ====
abbrev S16x2048x2048 : Shape := ⟨3, ![16, 2048, 2048]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S2048 : Shape := ⟨1, ![2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S1x2048x2048, .f32⟩
  | .hbm, ⟨3, _⟩ => ⟨S1x2048, .f32⟩
  | .hbm, ⟨4, _⟩ => ⟨S32768x2048, .f32⟩
  | .hbm, ⟨5, _⟩ => ⟨S32768x2048, .bf16⟩
  | .hbm, ⟨6, _⟩ => ⟨S32768x2048, .f32⟩
  | .hbm, ⟨7, _⟩ => ⟨S2048x2048, .f32⟩
  | .hbm, ⟨8, _⟩ => ⟨S2048x2048, .bf16⟩
  | .hbm, ⟨9, _⟩ => ⟨S2048, .f32⟩
  | .hbm, ⟨10, _⟩ => ⟨S1x2048, .f32⟩
  | .hbm, ⟨11, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S16x2048x2048 : Shape := ⟨3, ![16, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S16x2048x2048, .f32⟩
  | .hbm, ⟨6, _⟩ => ⟨S2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProj.lean ====
abbrev S16x2048x2048 : Shape := ⟨3, ![16, 2048, 2048]⟩
abbrev S1x2048x6656 : Shape := ⟨3, ![1, 2048, 6656]⟩
abbrev S2048x6656 : Shape := ⟨2, ![2048, 6656]⟩
abbrev S2048x512 : Shape := ⟨2, ![2048, 512]⟩
abbrev S2048x2048 : Shape := ⟨2, ![2048, 2048]⟩
abbrev S2048x3584 : Shape := ⟨2, ![2048, 3584]⟩
abbrev S32768x2048 : Shape := ⟨2, ![32768, 2048]⟩
abbrev S32768x3584 : Shape := ⟨2, ![32768, 3584]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 12
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S1x2048x6656, .f32⟩
  | .hbm, ⟨2, _⟩ => ⟨S2048x6656, .f32⟩
  | .hbm, ⟨3, _⟩ => ⟨S2048x6656, .bf16⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S2048x2048, .bf16⟩
  | .hbm, ⟨8, _⟩ => ⟨S2048x3584, .bf16⟩
  | .hbm, ⟨9, _⟩ => ⟨S32768x2048, .f32⟩
  | .hbm, ⟨10, _⟩ => ⟨S32768x2048, .bf16⟩
  | .hbm, ⟨11, _⟩ => ⟨S32768x3584, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16x2048x2048 : Shape := ⟨3, ![16, 2048, 2048]⟩
abbrev S1x2048x6656 : Shape := ⟨3, ![1, 2048, 6656]⟩
abbrev S2048x6656 : Shape := ⟨2, ![2048, 6656]⟩
abbrev S16x2048x6656 : Shape := ⟨3, ![16, 2048, 6656]⟩
abbrev S16x2048x512 : Shape := ⟨3, ![16, 2048, 512]⟩
abbrev S16x2048x3584 : Shape := ⟨3, ![16, 2048, 3584]⟩
abbrev S32768x3584 : Shape := ⟨2, ![32768, 3584]⟩

abbrev nBuf : Space → Nat
  | .hbm => 11
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048x6656, .f32⟩
  | .hbm, ⟨2, _⟩ => ⟨S2048x6656, .f32⟩
  | .hbm, ⟨3, _⟩ => ⟨S16x2048x6656, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S16x2048x2048, .f32⟩
  | .hbm, ⟨8, _⟩ => ⟨S16x2048x3584, .f32⟩
  | .hbm, ⟨9, _⟩ => ⟨S32768x3584, .f32⟩
  | .hbm, ⟨10, _⟩ => ⟨S32768x3584, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== InProjGroup.lean ====
abbrev S16x2048x2048 : Shape := ⟨3, ![16, 2048, 2048]⟩
abbrev S1x2048x6656 : Shape := ⟨3, ![1, 2048, 6656]⟩
abbrev S2048x6656 : Shape := ⟨2, ![2048, 6656]⟩
abbrev S2048x512 : Shape := ⟨2, ![2048, 512]⟩
abbrev S16x512x4x2048 : Shape := ⟨4, ![16, 512, 4, 2048]⟩
abbrev S16x4x512x2048 : Shape := ⟨4, ![16, 4, 512, 2048]⟩
abbrev S32768x2048 : Shape := ⟨2, ![32768, 2048]⟩
abbrev S2048x1536 : Shape := ⟨2, ![2048, 1536]⟩
abbrev S32768x1536 : Shape := ⟨2, ![32768, 1536]⟩
abbrev S1024x2048 : Shape := ⟨2, ![1024, 2048]⟩
abbrev S1024x1536 : Shape := ⟨2, ![1024, 1536]⟩

abbrev nBuf : Space → Nat
  | .hbm => 13
  | .vmem => 5
  | .smem => 0
  | _ => 0

abbrev bufTy : (tb : Table) → Fin (tcTables nBuf tb) → BufTy
  | .hbm, ⟨0, _⟩ => ⟨S16x2048x2048, .f32⟩
  | .hbm, ⟨1, _⟩ => ⟨S1x2048x6656, .f32⟩
  | .hbm, ⟨2, _⟩ => ⟨S2048x6656, .f32⟩
  | .hbm, ⟨3, _⟩ => ⟨S2048x6656, .bf16⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S16x2048x2048, .bf16⟩
  | .hbm, ⟨8, _⟩ => ⟨S16x512x4x2048, .bf16⟩
  | .hbm, ⟨9, _⟩ => ⟨S16x4x512x2048, .bf16⟩
  | .hbm, ⟨10, _⟩ => ⟨S32768x2048, .bf16⟩
  | .hbm, ⟨11, _⟩ => ⟨S2048x1536, .bf16⟩
  | .hbm, ⟨12, _⟩ => ⟨S32768x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S1024x1536, .bf16⟩
  | .local _ .vmem, ⟨4, _⟩ => ⟨S1024x1536, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjGroupRefIdeal.lean ====
abbrev S16x2048x2048 : Shape := ⟨3, ![16, 2048, 2048]⟩
abbrev S1x2048x6656 : Shape := ⟨3, ![1, 2048, 6656]⟩
abbrev S2048x6656 : Shape := ⟨2, ![2048, 6656]⟩
abbrev S16x2048x6656 : Shape := ⟨3, ![16, 2048, 6656]⟩
abbrev S16x2048x512 : Shape := ⟨3, ![16, 2048, 512]⟩
abbrev S16x2048x1536 : Shape := ⟨3, ![16, 2048, 1536]⟩
abbrev S16x512x4x1536 : Shape := ⟨4, ![16, 512, 4, 1536]⟩
abbrev S16x4x512x1536 : Shape := ⟨4, ![16, 4, 512, 1536]⟩
abbrev S32768x1536 : Shape := ⟨2, ![32768, 1536]⟩

abbrev nBuf : Space → Nat
  | .hbm => 12
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048x6656, .f32⟩
  | .hbm, ⟨2, _⟩ => ⟨S2048x6656, .f32⟩
  | .hbm, ⟨3, _⟩ => ⟨S16x2048x6656, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S16x2048x1536, .f32⟩
  | .hbm, ⟨8, _⟩ => ⟨S16x512x4x1536, .f32⟩
  | .hbm, ⟨9, _⟩ => ⟨S16x4x512x1536, .f32⟩
  | .hbm, ⟨10, _⟩ => ⟨S32768x1536, .f32⟩
  | .hbm, ⟨11, _⟩ => ⟨S32768x1536, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== FfnSample.lean ====
abbrev S4x4096x2048 : Shape := ⟨3, ![4, 4096, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnSampleRefIdeal.lean ====
abbrev S4x4096x2048 : Shape := ⟨3, ![4, 4096, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11264 : Shape := ⟨2, ![2048, 11264]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S16384x2048 : Shape := ⟨2, ![16384, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S2048x11264, .f32⟩
  | .hbm, ⟨23, _⟩ => ⟨S5632x2048, .f32⟩
  | .hbm, ⟨24, _⟩ => ⟨S4x4096x11264, .f32⟩
  | .hbm, ⟨25, _⟩ => ⟨S4x4096x5632, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x2048, .f32⟩
  | .hbm, ⟨38, _⟩ => ⟨S2048, .f32⟩
  | .hbm, ⟨39, _⟩ => ⟨S4x4096x2048, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x1, .f32⟩
  | .hbm, ⟨50, _⟩ => ⟨S4x4096x2048, .f32⟩
  | .hbm, ⟨51, _⟩ => ⟨S4x4096x2048, .f32⟩
  | .hbm, ⟨52, _⟩ => ⟨S1x1x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Proof.AttnBlock.lean ====
/- What one grid point of the attention call leaves in its two output blocks: at row `r` and column `col` the value
   that query block `r / 128` and head `col / 128` compute from the loaded blocks of q, k, v and the bias table. -/
module

public import proofs.«01_k».proof.Proof.Gen.AttnIdeal.Frame
public import Idealize.ShloMosaic.Lib.Pointwise
public import Idealize.ShloMosaic.Lib.Pipeline.CanonAppend
public import Idealize.ShloMosaic.Lib.WholeRead
public import Idealize.ShloMosaic.Lib.ValueIdxCore

@[expose] public section

set_option maxRecDepth 16384

noncomputable section

namespace Cert.AttnIdeal.Gen

open Idealize.ShloMosaic Idealize.ShloMosaic.Pipeline

variable {F : FTy → Type} [FloatOps F] [Named F]

/-- The key row at which query block `k` (four to a residue class) starts reading. -/
def keyStart (k : ℕ) : ℕ := k / 4 * 512 + min 256 (k % 4 * 128 - 64)

/-- Which of the three bias windows query block `k` uses. -/
def biasKind (k : ℕ) : ℕ := if k % 4 = 0 then 1 else if k % 4 = 3 then 2 else 0

/-- The `n` rows from `r0` on of the 128 columns from `c0` on. -/
def rowsAt {e : EltTy} (n : ℕ) (x : Vec F S1x1024x512 e) (r0 c0 : ℕ) : Vec F ⟨3, ![1, n, 128]⟩ e := fun j =>
  x (ix3 0 (Fin.ofNat 1024 (r0 + (j 1).val)) (Fin.ofNat 512 (c0 + (j 2).val)))

/-- The bias window of kind `d`, head `h`. -/
def biasAt (x : Vec F S1x3x4x128x256 .f32) (d h : ℕ) : Vec F S1x1x1x128x256 .f32 := fun j =>
  x (ix5 0 (Fin.ofNat 3 d) (Fin.ofNat 4 h) (j 3) (j 4))

theorem rect_val {s : Shape} (off : Fin s.rank → ℕ) (n : Fin s.rank → ℕ) (inb : ∀ a, off a + n a ≤ s.size a)
    (x : (Rect.unit (s := s) off n inb).shape.Idx) (a : Fin s.rank) :
    ((Rect.unit (s := s) off n inb).emb x a).val = off a + (x a).val := by
  simp [Rect.unit, Rect.emb]

theorem load_rows {arg : Memref sig .tc .vmem S1x1024x512 .bf16} (harg : arg.IsWhole) (x0 : Vec F S1x1024x512 .bf16) (n : ℕ)
    (off : Fin 3 → ℕ) (inb : ∀ a, off a + (![1, n, 128] : Fin 3 → ℕ) a ≤ S1x1024x512.size a) (r0 c0 : ℕ) (hoff : off = ![0, r0, c0]) :
    View.readAt (Elt F) arg.view (Rect.unit (s := S1x1024x512) off (![1, n, 128] : Fin 3 → ℕ) inb).toLoadRect (harg.unread x0) = rowsAt n x0 r0 c0 := by
  subst hoff
  funext j
  rw [harg.readAt_unread]
  refine congrArg x0 (funext fun a => Fin.ext ?_)
  have h1 := inb 1
  have h2 := inb 2
  have hj1 : (j 1).val < n := (j 1).isLt
  have hj2 : (j 2).val < 128 := (j 2).isLt
  have hj0 : (j 0).val < 1 := (j 0).isLt
  simp [S1x1024x512] at h1 h2
  match a with
  | ⟨0, _⟩ => exact (rect_val _ _ _ j 0).trans (by simp [ix3]; omega)
  | ⟨1, _⟩ => exact (rect_val _ _ _ j 1).trans (by simp [ix3]; omega)
  | ⟨2, _⟩ => exact (rect_val _ _ _ j 2).trans (by simp [ix3]; omega)

theorem load_bias {arg : Memref sig .tc .vmem S1x3x4x128x256 .f32} (harg : arg.IsWhole) (x3 : Vec F S1x3x4x128x256 .f32)
    (off : Fin 5 → ℕ) (inb : ∀ a, off a + S1x1x1x128x256.size a ≤ S1x3x4x128x256.size a) (d h : ℕ) (hoff : off = ![0, d, h, 0, 0]) :
    View.readAt (Elt F) arg.view (Rect.unit (s := S1x3x4x128x256) off S1x1x1x128x256.size inb).toLoadRect (harg.unread x3) = biasAt x3 d h := by
  subst hoff
  funext j
  rw [harg.readAt_unread]
  refine congrArg x3 (funext fun a => Fin.ext ?_)
  have h1 := inb 1
  have h2 := inb 2
  have hj0 : (j 0).val < 1 := (j 0).isLt
  have hj1 : (j 1).val < 1 := (j 1).isLt
  have hj2 : (j 2).val < 1 := (j 2).isLt
  simp [S1x3x4x128x256, S1x1x1x128x256] at h1 h2
  match a with
  | ⟨0, _⟩ => exact (rect_val _ _ _ j 0).trans (by simp [ix5]; omega)
  | ⟨1, _⟩ => exact (rect_val _ _ _ j 1).trans (by simp [ix5]; omega)
  | ⟨2, _⟩ => exact (rect_val _ _ _ j 2).trans (by simp [ix5]; omega)
  | ⟨3, _⟩ => exact (rect_val _ _ _ j 3).trans (by simp [ix5])
  | ⟨4, _⟩ => exact (rect_val _ _ _ j 4).trans (by simp [ix5])

/-- Query block `k`, head `h`: the attention output of the block. -/
def headO (x0 x1 x2 : Vec F S1x1024x512 .bf16) (x3 : Vec F S1x3x4x128x256 .f32) (k h : ℕ) : Vec F S1x128x128 .bf16 :=
  k1_pay7 k1_pay1 (rowsAt 128 x0 (k * 128) (h * 128)) (rowsAt 256 x1 (keyStart k) (h * 128)) (rowsAt 256 x2 (keyStart k) (h * 128)) (biasAt x3 (biasKind k) h)

/-- Query block `k`, head `h`: the logarithm of the weights' sum, on every lane. -/
def headL (x0 x1 x2 : Vec F S1x1024x512 .bf16) (x3 : Vec F S1x3x4x128x256 .f32) (k h : ℕ) : Vec F S1x128x128 .f32 :=
  k1_pay9 (k1_pay8 k1_pay1 (rowsAt 128 x0 (k * 128) (h * 128)) (rowsAt 256 x1 (keyStart k) (h * 128)) (rowsAt 256 x2 (keyStart k) (h * 128)) (biasAt x3 (biasKind k) h))

/-- The whole output block. -/
def blockO (x0 x1 x2 : Vec F S1x1024x512 .bf16) (x3 : Vec F S1x3x4x128x256 .f32) : Vec F S1x1024x512 .bf16 := fun y =>
  headO x0 x1 x2 x3 ((y 1).val / 128) ((y 2).val / 128) (ix3 0 (Fin.ofNat 128 (y 1).val) (Fin.ofNat 128 (y 2).val))

/-- The whole block of logarithms. -/
def blockL (x0 x1 x2 : Vec F S1x1024x512 .bf16) (x3 : Vec F S1x3x4x128x256 .f32) : Vec F S1x1024x512 .f32 := fun y =>
  headL x0 x1 x2 x3 ((y 1).val / 128) ((y 2).val / 128) (ix3 0 (Fin.ofNat 128 (y 1).val) (Fin.ofNat 128 (y 2).val))

/-- Any block-wise function read inside head `h` of block `k`. -/
theorem read_block {e : EltTy} (H : ℕ → ℕ → Vec F S1x128x128 e) (off : Fin 3 → ℕ) (inb : ∀ a, off a + S1x128x128.size a ≤ S1x1024x512.size a)
    (k h : ℕ) (hoff : off = ![0, k * 128, h * 128]) (x : S1x128x128.Idx) :
    H k h x = (fun y : S1x1024x512.Idx => H ((y 1).val / 128) ((y 2).val / 128) (ix3 0 (Fin.ofNat 128 (y 1).val) (Fin.ofNat 128 (y 2).val)))
      ((Rect.unit (s := S1x1024x512) off S1x128x128.size inb).emb x) := by
  subst hoff
  have e1 := rect_val (s := S1x1024x512) _ _ inb x 1
  have e2 := rect_val (s := S1x1024x512) _ _ inb x 2
  have hj0 : (x 0).val < 1 := (x 0).isLt
  have hj1 : (x 1).val < 128 := (x 1).isLt
  have hj2 : (x 2).val < 128 := (x 2).isLt
  dsimp only
  rw [e1, e2]
  simp only [Matrix.cons_val_one, Matrix.cons_val, Matrix.cons_val_zero]
  have a1 : (k * 128 + (x 1).val) / 128 = k := by omega
  have a2 : (h * 128 + (x 2).val) / 128 = h := by omega
  rw [a1, a2]
  refine congrArg (H k h) ((eq_ix3 x).trans ?_)
  congr 1
  · exact Fin.ext (by simpa using hj0)
  · exact Fin.ext (by simp; omega)
  · exact Fin.ext (by simp; omega)

theorem off1_eq : ∀ k : Fin k1_t1_loop.trips, k1_off1 k = ![0, k.val * 128, 0 * 128] := by decide +kernel
theorem off2_eq : ∀ (t : Fin grid1.N) (k : Fin k1_t1_loop.trips), k1_off2 (grid1.coords t) k = ![0, keyStart k.val, 0 * 128] := by decide +kernel
theorem off3_eq : ∀ (t : Fin grid1.N) (k : Fin k1_t1_loop.trips), k1_off3 (grid1.coords t) k = ![0, biasKind k.val, 0, 0, 0] := by decide +kernel
theorem off4_eq : ∀ k : Fin k1_t1_loop.trips, k1_off4 k = ![0, k.val * 128, 1 * 128] := by decide +kernel
theorem off5_eq : ∀ (t : Fin grid1.N) (k : Fin k1_t1_loop.trips), k1_off5 (grid1.coords t) k = ![0, keyStart k.val, 1 * 128] := by decide +kernel
theorem off6_eq : ∀ (t : Fin grid1.N) (k : Fin k1_t1_loop.trips), k1_off6 (grid1.coords t) k = ![0, biasKind k.val, 1, 0, 0] := by decide +kernel
theorem off7_eq : ∀ k : Fin k1_t1_loop.trips, k1_off7 k = ![0, k.val * 128, 2 * 128] := by decide +kernel
theorem off8_eq : ∀ (t : Fin grid1.N) (k : Fin k1_t1_loop.trips), k1_off8 (grid1.coords t) k = ![0, keyStart k.val, 2 * 128] := by decide +kernel
theorem off9_eq : ∀ (t : Fin grid1.N) (k : Fin k1_t1_loop.trips), k1_off9 (grid1.coords t) k = ![0, biasKind k.val, 2, 0, 0] := by decide +kernel
theorem off10_eq : ∀ k : Fin k1_t1_loop.trips, k1_off10 k = ![0, k.val * 128, 3 * 128] := by decide +kernel
theorem off11_eq : ∀ (t : Fin grid1.N) (k : Fin k1_t1_loop.trips), k1_off11 (grid1.coords t) k = ![0, keyStart k.val, 3 * 128] := by decide +kernel
theorem off12_eq : ∀ (t : Fin grid1.N) (k : Fin k1_t1_loop.trips), k1_off12 (grid1.coords t) k = ![0, biasKind k.val, 3, 0, 0] := by decide +kernel

theorem trip_pieces_o (𝒱 : Variants) (c : Dev nD) (bd : Option 𝒱.V) (t : Fin grid1.N) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x3x4x128x256 .f32) (harg6 : arg6.IsWhole) (arg7 : Memref sig .tc .vmem S1x1024x512 .bf16) (harg7 : arg7.IsWhole) (arg8 : Memref sig .tc .vmem S1x1024x512 .f32) (harg8 : arg8.IsWhole) (v0 : BitVec 32)
    (x0 x1 x2 : Vec F S1x1024x512 .bf16) (x3 : Vec F S1x3x4x128x256 .f32) (k : Fin k1_t1_loop.trips) :
    ∀ p ∈ (trip_k1_t1 (F := F) 𝒱 c bd (grid1.coords t) arg3 harg3 arg4 harg4 arg5 harg5 arg6 harg6 arg7 harg7 arg8 harg8 v0 (harg3.unread x0) (harg4.unread x1) (harg5.unread x2) (harg6.unread x3) k).1, ∀ x, p.2 x = blockO x0 x1 x2 x3 (p.1.emb x) := by
  intro p hp x
  unfold trip_k1_t1 at hp
  dsimp only at hp
  simp only [List.mem_cons, List.mem_append, List.not_mem_nil, or_false] at hp
  rcases hp with rfl | rfl | rfl | rfl
  · refine Eq.trans (b := headO x0 x1 x2 x3 k.val 3 x) ?_ (read_block (headO x0 x1 x2 x3) (k1_off10 k) (k1_off10_inb k) k.val 3 (off10_eq k) x)
    show (k1_pay28 k1_pay1 (View.readAt (Elt F) arg3.view (Rect.unit (s := S1x1024x512) (k1_off10 k) S1x128x128.size (k1_off10_inb k)).toLoadRect (harg3.unread x0)) (View.readAt (Elt F) arg4.view (Rect.unit (s := S1x1024x512) (k1_off11 (grid1.coords t) k) S1x256x128.size (k1_off11_inb (grid1.coords t) k)).toLoadRect (harg4.unread x1)) (View.readAt (Elt F) arg5.view (Rect.unit (s := S1x1024x512) (k1_off11 (grid1.coords t) k) S1x256x128.size (k1_off11_inb (grid1.coords t) k)).toLoadRect (harg5.unread x2)) (View.readAt (Elt F) arg6.view (Rect.unit (s := S1x3x4x128x256) (k1_off12 (grid1.coords t) k) S1x1x1x128x256.size (k1_off12_inb (grid1.coords t) k)).toLoadRect (harg6.unread x3))) x = _
    rw [load_rows harg3 x0 128 _ _ _ _ (off10_eq k), load_rows harg4 x1 256 _ _ _ _ (off11_eq t k), load_rows harg5 x2 256 _ _ _ _ (off11_eq t k), load_bias harg6 x3 _ _ _ _ (off12_eq t k)]
    rfl
  · refine Eq.trans (b := headO x0 x1 x2 x3 k.val 2 x) ?_ (read_block (headO x0 x1 x2 x3) (k1_off7 k) (k1_off7_inb k) k.val 2 (off7_eq k) x)
    show (k1_pay21 k1_pay1 (View.readAt (Elt F) arg3.view (Rect.unit (s := S1x1024x512) (k1_off7 k) S1x128x128.size (k1_off7_inb k)).toLoadRect (harg3.unread x0)) (View.readAt (Elt F) arg4.view (Rect.unit (s := S1x1024x512) (k1_off8 (grid1.coords t) k) S1x256x128.size (k1_off8_inb (grid1.coords t) k)).toLoadRect (harg4.unread x1)) (View.readAt (Elt F) arg5.view (Rect.unit (s := S1x1024x512) (k1_off8 (grid1.coords t) k) S1x256x128.size (k1_off8_inb (grid1.coords t) k)).toLoadRect (harg5.unread x2)) (View.readAt (Elt F) arg6.view (Rect.unit (s := S1x3x4x128x256) (k1_off9 (grid1.coords t) k) S1x1x1x128x256.size (k1_off9_inb (grid1.coords t) k)).toLoadRect (harg6.unread x3))) x = _
    rw [load_rows harg3 x0 128 _ _ _ _ (off7_eq k), load_rows harg4 x1 256 _ _ _ _ (off8_eq t k), load_rows harg5 x2 256 _ _ _ _ (off8_eq t k), load_bias harg6 x3 _ _ _ _ (off9_eq t k)]
    rfl
  · refine Eq.trans (b := headO x0 x1 x2 x3 k.val 1 x) ?_ (read_block (headO x0 x1 x2 x3) (k1_off4 k) (k1_off4_inb k) k.val 1 (off4_eq k) x)
    show (k1_pay14 k1_pay1 (View.readAt (Elt F) arg3.view (Rect.unit (s := S1x1024x512) (k1_off4 k) S1x128x128.size (k1_off4_inb k)).toLoadRect (harg3.unread x0)) (View.readAt (Elt F) arg4.view (Rect.unit (s := S1x1024x512) (k1_off5 (grid1.coords t) k) S1x256x128.size (k1_off5_inb (grid1.coords t) k)).toLoadRect (harg4.unread x1)) (View.readAt (Elt F) arg5.view (Rect.unit (s := S1x1024x512) (k1_off5 (grid1.coords t) k) S1x256x128.size (k1_off5_inb (grid1.coords t) k)).toLoadRect (harg5.unread x2)) (View.readAt (Elt F) arg6.view (Rect.unit (s := S1x3x4x128x256) (k1_off6 (grid1.coords t) k) S1x1x1x128x256.size (k1_off6_inb (grid1.coords t) k)).toLoadRect (harg6.unread x3))) x = _
    rw [load_rows harg3 x0 128 _ _ _ _ (off4_eq k), load_rows harg4 x1 256 _ _ _ _ (off5_eq t k), load_rows harg5 x2 256 _ _ _ _ (off5_eq t k), load_bias harg6 x3 _ _ _ _ (off6_eq t k)]
    rfl
  · refine Eq.trans (b := headO x0 x1 x2 x3 k.val 0 x) ?_ (read_block (headO x0 x1 x2 x3) (k1_off1 k) (k1_off1_inb k) k.val 0 (off1_eq k) x)
    show (k1_pay7 k1_pay1 (View.readAt (Elt F) arg3.view (Rect.unit (s := S1x1024x512) (k1_off1 k) S1x128x128.size (k1_off1_inb k)).toLoadRect (harg3.unread x0)) (View.readAt (Elt F) arg4.view (Rect.unit (s := S1x1024x512) (k1_off2 (grid1.coords t) k) S1x256x128.size (k1_off2_inb (grid1.coords t) k)).toLoadRect (harg4.unread x1)) (View.readAt (Elt F) arg5.view (Rect.unit (s := S1x1024x512) (k1_off2 (grid1.coords t) k) S1x256x128.size (k1_off2_inb (grid1.coords t) k)).toLoadRect (harg5.unread x2)) (View.readAt (Elt F) arg6.view (Rect.unit (s := S1x3x4x128x256) (k1_off3 (grid1.coords t) k) S1x1x1x128x256.size (k1_off3_inb (grid1.coords t) k)).toLoadRect (harg6.unread x3))) x = _
    rw [load_rows harg3 x0 128 _ _ _ _ (off1_eq k), load_rows harg4 x1 256 _ _ _ _ (off2_eq t k), load_rows harg5 x2 256 _ _ _ _ (off2_eq t k), load_bias harg6 x3 _ _ _ _ (off3_eq t k)]
    rfl

theorem trip_pieces_l (𝒱 : Variants) (c : Dev nD) (bd : Option 𝒱.V) (t : Fin grid1.N) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x3x4x128x256 .f32) (harg6 : arg6.IsWhole) (arg7 : Memref sig .tc .vmem S1x1024x512 .bf16) (harg7 : arg7.IsWhole) (arg8 : Memref sig .tc .vmem S1x1024x512 .f32) (harg8 : arg8.IsWhole) (v0 : BitVec 32)
    (x0 x1 x2 : Vec F S1x1024x512 .bf16) (x3 : Vec F S1x3x4x128x256 .f32) (k : Fin k1_t1_loop.trips) :
    ∀ p ∈ (trip_k1_t1 (F := F) 𝒱 c bd (grid1.coords t) arg3 harg3 arg4 harg4 arg5 harg5 arg6 harg6 arg7 harg7 arg8 harg8 v0 (harg3.unread x0) (harg4.unread x1) (harg5.unread x2) (harg6.unread x3) k).2.1, ∀ x, p.2 x = blockL x0 x1 x2 x3 (p.1.emb x) := by
  intro p hp x
  unfold trip_k1_t1 at hp
  dsimp only at hp
  simp only [List.mem_cons, List.mem_append, List.not_mem_nil, or_false] at hp
  rcases hp with rfl | rfl | rfl | rfl
  · refine Eq.trans (b := headL x0 x1 x2 x3 k.val 3 x) ?_ (read_block (headL x0 x1 x2 x3) (k1_off10 k) (k1_off10_inb k) k.val 3 (off10_eq k) x)
    show (k1_pay2 (k1_pay29 k1_pay1 (View.readAt (Elt F) arg3.view (Rect.unit (s := S1x1024x512) (k1_off10 k) S1x128x128.size (k1_off10_inb k)).toLoadRect (harg3.unread x0)) (View.readAt (Elt F) arg4.view (Rect.unit (s := S1x1024x512) (k1_off11 (grid1.coords t) k) S1x256x128.size (k1_off11_inb (grid1.coords t) k)).toLoadRect (harg4.unread x1)) (View.readAt (Elt F) arg5.view (Rect.unit (s := S1x1024x512) (k1_off11 (grid1.coords t) k) S1x256x128.size (k1_off11_inb (grid1.coords t) k)).toLoadRect (harg5.unread x2)) (View.readAt (Elt F) arg6.view (Rect.unit (s := S1x3x4x128x256) (k1_off12 (grid1.coords t) k) S1x1x1x128x256.size (k1_off12_inb (grid1.coords t) k)).toLoadRect (harg6.unread x3)))) x = _
    rw [load_rows harg3 x0 128 _ _ _ _ (off10_eq k), load_rows harg4 x1 256 _ _ _ _ (off11_eq t k), load_rows harg5 x2 256 _ _ _ _ (off11_eq t k), load_bias harg6 x3 _ _ _ _ (off12_eq t k)]
    rfl
  · refine Eq.trans (b := headL x0 x1 x2 x3 k.val 2 x) ?_ (read_block (headL x0 x1 x2 x3) (k1_off7 k) (k1_off7_inb k) k.val 2 (off7_eq k) x)
    show (k1_pay23 (k1_pay22 k1_pay1 (View.readAt (Elt F) arg3.view (Rect.unit (s := S1x1024x512) (k1_off7 k) S1x128x128.size (k1_off7_inb k)).toLoadRect (harg3.unread x0)) (View.readAt (Elt F) arg4.view (Rect.unit (s := S1x1024x512) (k1_off8 (grid1.coords t) k) S1x256x128.size (k1_off8_inb (grid1.coords t) k)).toLoadRect (harg4.unread x1)) (View.readAt (Elt F) arg5.view (Rect.unit (s := S1x1024x512) (k1_off8 (grid1.coords t) k) S1x256x128.size (k1_off8_inb (grid1.coords t) k)).toLoadRect (harg5.unread x2)) (View.readAt (Elt F) arg6.view (Rect.unit (s := S1x3x4x128x256) (k1_off9 (grid1.coords t) k) S1x1x1x128x256.size (k1_off9_inb (grid1.coords t) k)).toLoadRect (harg6.unread x3)))) x = _
    rw [load_rows harg3 x0 128 _ _ _ _ (off7_eq k), load_rows harg4 x1 256 _ _ _ _ (off8_eq t k), load_rows harg5 x2 256 _ _ _ _ (off8_eq t k), load_bias harg6 x3 _ _ _ _ (off9_eq t k)]
    rfl
  · refine Eq.trans (b := headL x0 x1 x2 x3 k.val 1 x) ?_ (read_block (headL x0 x1 x2 x3) (k1_off4 k) (k1_off4_inb k) k.val 1 (off4_eq k) x)
    show (k1_pay16 (k1_pay15 k1_pay1 (View.readAt (Elt F) arg3.view (Rect.unit (s := S1x1024x512) (k1_off4 k) S1x128x128.size (k1_off4_inb k)).toLoadRect (harg3.unread x0)) (View.readAt (Elt F) arg4.view (Rect.unit (s := S1x1024x512) (k1_off5 (grid1.coords t) k) S1x256x128.size (k1_off5_inb (grid1.coords t) k)).toLoadRect (harg4.unread x1)) (View.readAt (Elt F) arg5.view (Rect.unit (s := S1x1024x512) (k1_off5 (grid1.coords t) k) S1x256x128.size (k1_off5_inb (grid1.coords t) k)).toLoadRect (harg5.unread x2)) (View.readAt (Elt F) arg6.view (Rect.unit (s := S1x3x4x128x256) (k1_off6 (grid1.coords t) k) S1x1x1x128x256.size (k1_off6_inb (grid1.coords t) k)).toLoadRect (harg6.unread x3)))) x = _
    rw [load_rows harg3 x0 128 _ _ _ _ (off4_eq k), load_rows harg4 x1 256 _ _ _ _ (off5_eq t k), load_rows harg5 x2 256 _ _ _ _ (off5_eq t k), load_bias harg6 x3 _ _ _ _ (off6_eq t k)]
    rfl
  · refine Eq.trans (b := headL x0 x1 x2 x3 k.val 0 x) ?_ (read_block (headL x0 x1 x2 x3) (k1_off1 k) (k1_off1_inb k) k.val 0 (off1_eq k) x)
    show (k1_pay9 (k1_pay8 k1_pay1 (View.readAt (Elt F) arg3.view (Rect.unit (s := S1x1024x512) (k1_off1 k) S1x128x128.size (k1_off1_inb k)).toLoadRect (harg3.unread x0)) (View.readAt (Elt F) arg4.view (Rect.unit (s := S1x1024x512) (k1_off2 (grid1.coords t) k) S1x256x128.size (k1_off2_inb (grid1.coords t) k)).toLoadRect (harg4.unread x1)) (View.readAt (Elt F) arg5.view (Rect.unit (s := S1x1024x512) (k1_off2 (grid1.coords t) k) S1x256x128.size (k1_off2_inb (grid1.coords t) k)).toLoadRect (harg5.unread x2)) (View.readAt (Elt F) arg6.view (Rect.unit (s := S1x3x4x128x256) (k1_off3 (grid1.coords t) k) S1x1x1x128x256.size (k1_off3_inb (grid1.coords t) k)).toLoadRect (harg6.unread x3)))) x = _
    rw [load_rows harg3 x0 128 _ _ _ _ (off1_eq k), load_rows harg4 x1 256 _ _ _ _ (off2_eq t k), load_rows harg5 x2 256 _ _ _ _ (off2_eq t k), load_bias harg6 x3 _ _ _ _ (off3_eq t k)]
    rfl

theorem pb_pieces_o (𝒱 : Variants) (c : Dev nD) (bd : Option 𝒱.V) (t : Fin grid1.N) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x3x4x128x256 .f32) (harg6 : arg6.IsWhole) (arg7 : Memref sig .tc .vmem S1x1024x512 .bf16) (harg7 : arg7.IsWhole) (arg8 : Memref sig .tc .vmem S1x1024x512 .f32) (harg8 : arg8.IsWhole) (v0 : BitVec 32)
    (x0 x1 x2 : Vec F S1x1024x512 .bf16) (x3 : Vec F S1x3x4x128x256 .f32) (n : ℕ) (hn : n ≤ k1_t1_loop.trips) :
    ∀ p ∈ (pb_k1_t1 (F := F) 𝒱 c bd (grid1.coords t) arg3 harg3 arg4 harg4 arg5 harg5 arg6 harg6 arg7 harg7 arg8 harg8 v0 (harg3.unread x0) (harg4.unread x1) (harg5.unread x2) (harg6.unread x3) n).1, ∀ x, p.2 x = blockO x0 x1 x2 x3 (p.1.emb x) := by
  induction n with
  | zero => intro p hp; exact absurd hp List.not_mem_nil
  | succ n ih =>
    intro p hp x
    rw [pb_k1_t1_succ 𝒱 c bd (grid1.coords t) arg3 harg3 arg4 harg4 arg5 harg5 arg6 harg6 arg7 harg7 arg8 harg8 v0 (harg3.unread x0) (harg4.unread x1) (harg5.unread x2) (harg6.unread x3) ⟨n, hn⟩] at hp
    rcases List.mem_append.mp hp with h | h
    · exact trip_pieces_o 𝒱 c bd t arg3 harg3 arg4 harg4 arg5 harg5 arg6 harg6 arg7 harg7 arg8 harg8 v0 x0 x1 x2 x3 ⟨n, hn⟩ p h x
    · exact ih (Nat.le_of_succ_le hn) p h x

theorem out1_o_eq (c : Dev nD) (t : Fin grid1.N) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x3x4x128x256 .f32) (harg6 : arg6.IsWhole) (arg7 : Memref sig .tc .vmem S1x1024x512 .bf16) (harg7 : arg7.IsWhole) (arg8 : Memref sig .tc .vmem S1x1024x512 .f32) (harg8 : arg8.IsWhole)
    (x0 x1 x2 : Vec F S1x1024x512 .bf16) (x3 : Vec F S1x3x4x128x256 .f32) :
    out1_A_4 c (grid1.coords t) arg3 harg3 arg4 harg4 arg5 harg5 arg6 harg6 arg7 harg7 arg8 harg8 x0 x1 x2 x3 = blockO x0 x1 x2 x3 := by
  have hL : (kernelRun1_A c (grid1.coords t) arg3 harg3 arg4 harg4 arg5 harg5 arg6 harg6 arg7 harg7 arg8 harg8 x0 x1 x2 x3).1
      = (pb_k1_t1 (F := F) Variants.none c none (grid1.coords t) arg3 harg3 arg4 harg4 arg5 harg5 arg6 harg6 arg7 harg7 arg8 harg8 (kernelRun1_A.sl.v0 (grid1.coords t)) (harg3.unread x0) (harg4.unread x1) (harg5.unread x2) (harg6.unread x3) k1_t1_loop.trips).1 := by
    unfold kernelRun1_A; rfl
  funext y
  unfold out1_A_4
  rw [View.read_writes_junk_apply_eq_canon, hL, ← List.append_nil (pb_k1_t1 (F := F) Variants.none c none (grid1.coords t) arg3 harg3 arg4 harg4 arg5 harg5 arg6 harg6 arg7 harg7 arg8 harg8 _ (harg3.unread x0) (harg4.unread x1) (harg5.unread x2) (harg6.unread x3) k1_t1_loop.trips).1]
  refine View.canon_append_of_pieces _ [] _ (pb_pieces_o _ c none t arg3 harg3 arg4 harg4 arg5 harg5 arg6 harg6 arg7 harg7 arg8 harg8 _ x0 x1 x2 x3 _ (le_refl _)) y ?_
  have hc := cover1_A_4 c (grid1.coords t) arg3 harg3 arg4 harg4 arg5 harg5 arg6 harg6 arg7 harg7 arg8 harg8 x0 x1 x2 x3 y
  rw [hL] at hc
  exact hc

theorem pb_pieces_l (𝒱 : Variants) (c : Dev nD) (bd : Option 𝒱.V) (t : Fin grid1.N) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x3x4x128x256 .f32) (harg6 : arg6.IsWhole) (arg7 : Memref sig .tc .vmem S1x1024x512 .bf16) (harg7 : arg7.IsWhole) (arg8 : Memref sig .tc .vmem S1x1024x512 .f32) (harg8 : arg8.IsWhole) (v0 : BitVec 32)
    (x0 x1 x2 : Vec F S1x1024x512 .bf16) (x3 : Vec F S1x3x4x128x256 .f32) (n : ℕ) (hn : n ≤ k1_t1_loop.trips) :
    ∀ p ∈ (pb_k1_t1 (F := F) 𝒱 c bd (grid1.coords t) arg3 harg3 arg4 harg4 arg5 harg5 arg6 harg6 arg7 harg7 arg8 harg8 v0 (harg3.unread x0) (harg4.unread x1) (harg5.unread x2) (harg6.unread x3) n).2, ∀ x, p.2 x = blockL x0 x1 x2 x3 (p.1.emb x) := by
  induction n with
  | zero => intro p hp; exact absurd hp List.not_mem_nil
  | succ n ih =>
    intro p hp x
    rw [pb_k1_t1_succ 𝒱 c bd (grid1.coords t) arg3 harg3 arg4 harg4 arg5 harg5 arg6 harg6 arg7 harg7 arg8 harg8 v0 (harg3.unread x0) (harg4.unread x1) (harg5.unread x2) (harg6.unread x3) ⟨n, hn⟩] at hp
    rcases List.mem_append.mp hp with h | h
    · exact trip_pieces_l 𝒱 c bd t arg3 harg3 arg4 harg4 arg5 harg5 arg6 harg6 arg7 harg7 arg8 harg8 v0 x0 x1 x2 x3 ⟨n, hn⟩ p h x
    · exact ih (Nat.le_of_succ_le hn) p h x

theorem out1_l_eq (c : Dev nD) (t : Fin grid1.N) (arg3 : Memref sig .tc .vmem S1x1024x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x3x4x128x256 .f32) (harg6 : arg6.IsWhole) (arg7 : Memref sig .tc .vmem S1x1024x512 .bf16) (harg7 : arg7.IsWhole) (arg8 : Memref sig .tc .vmem S1x1024x512 .f32) (harg8 : arg8.IsWhole)
    (x0 x1 x2 : Vec F S1x1024x512 .bf16) (x3 : Vec F S1x3x4x128x256 .f32) :
    out1_A_5 c (grid1.coords t) arg3 harg3 arg4 harg4 arg5 harg5 arg6 harg6 arg7 harg7 arg8 harg8 x0 x1 x2 x3 = blockL x0 x1 x2 x3 := by
  have hL : (kernelRun1_A c (grid1.coords t) arg3 harg3 arg4 harg4 arg5 harg5 arg6 harg6 arg7 harg7 arg8 harg8 x0 x1 x2 x3).2.1
      = (pb_k1_t1 (F := F) Variants.none c none (grid1.coords t) arg3 harg3 arg4 harg4 arg5 harg5 arg6 harg6 arg7 harg7 arg8 harg8 (kernelRun1_A.sl.v0 (grid1.coords t)) (harg3.unread x0) (harg4.unread x1) (harg5.unread x2) (harg6.unread x3) k1_t1_loop.trips).2 := by
    unfold kernelRun1_A; rfl
  funext y
  unfold out1_A_5
  rw [View.read_writes_junk_apply_eq_canon, hL, ← List.append_nil (pb_k1_t1 (F := F) Variants.none c none (grid1.coords t) arg3 harg3 arg4 harg4 arg5 harg5 arg6 harg6 arg7 harg7 arg8 harg8 _ (harg3.unread x0) (harg4.unread x1) (harg5.unread x2) (harg6.unread x3) k1_t1_loop.trips).2]
  refine View.canon_append_of_pieces _ [] _ (pb_pieces_l _ c none t arg3 harg3 arg4 harg4 arg5 harg5 arg6 harg6 arg7 harg7 arg8 harg8 _ x0 x1 x2 x3 _ (le_refl _)) y ?_
  have hc := cover1_A_5 c (grid1.coords t) arg3 harg3 arg4 harg4 arg5 harg5 arg6 harg6 arg7 harg7 arg8 harg8 x0 x1 x2 x3 y
  rw [hL] at hc
  exact hc

end Cert.AttnIdeal.Gen

end
-- ==== Proof.AttnTable.lean ====
/- What one grid point of the bias-table call leaves in its output block: for head `h`, at query row `s` and key
   column `t`, the entry that the loop over the 32 buckets picks, or the mask where the key is out of the window. -/
module

public import proofs.«01_k».proof.Proof.AttnBlock

@[expose] public section

set_option maxRecDepth 16384

noncomputable section

namespace Cert.AttnIdeal.Gen

open Idealize.ShloMosaic Idealize.ShloMosaic.Pipeline

variable {F : FTy → Type} [FloatOps F] [Named F]

/-- The bucket of every (query row, key column) at a point. -/
def bucketAt (F : FTy → Type) [FloatOps F] [Named F] (i : grid0.Coords) : IVec S128x256 32 :=
  k0_pay12 (k0_pay8 i) (k0_pay9 (F := F) i) (k0_pay10 i) (k0_pay11 i)

/-- The table entry picked after the buckets below `n` have been compared. -/
def pick (x0 : Vec F S32x12 .f32) (col : ℕ) (B : IVec S128x256 32) (n : ℕ) : FVec F S128x256 .f32 := fun j =>
  if (B j).toNat < n then x0 (ix2 (Fin.ofNat 32 (B j).toNat) (Fin.ofNat 12 col)) else Scalar.ofBits .f32 0x00000000#32

/-- One more bucket compared. -/
theorem pick_succ (x0 : Vec F S32x12 .f32) (col : ℕ) (B : IVec S128x256 32) (n : ℕ) (hn : n < 32) (w : BitVec 32) (hw : w.toNat = n) (v : Elt F .f32)
    (hv : v = x0 (ix2 (Fin.ofNat 32 n) (Fin.ofNat 12 col))) :
    select (cmpi .eq B (broadcast S128x256 w)) (broadcast S128x256 v) (pick x0 col B n) = pick x0 col B (n + 1) := by
  funext j
  have hc : cmpi .eq B (broadcast S128x256 w) j = BitVec.ofBool (B j == w) := rfl
  rw [ValueIdx.select_apply, hc]
  unfold pick
  by_cases h : B j = w
  · have hb : (B j == w) = true := beq_iff_eq.mpr h
    rw [hb, h, hw]
    simp [hv, broadcast]; rfl
  · have hb : (B j == w) = false := beq_eq_false_iff_ne.mpr h
    have hne : (B j).toNat ≠ n := fun e => h (BitVec.eq_of_toNat_eq (e.trans hw.symm))
    rw [hb]
    by_cases h2 : (B j).toNat < n
    · simp [h2, Nat.lt_succ_of_lt h2]; rfl
    · have : ¬ (B j).toNat < n + 1 := by omega
      simp [h2, this]; rfl

theorem load_entry {arg : Memref sig .tc .smem S32x12 .f32} (harg : arg.IsWhole) (x0 : Vec F S32x12 .f32)
    (off : Fin 2 → ℕ) (inb : ∀ a, off a + S1x1.size a ≤ S32x12.size a) (r c : ℕ) (hoff : off = ![r, c]) (j : S1x1.Idx) :
    View.readAt (Elt F) arg.view (Rect.unit (s := S32x12) off S1x1.size inb).toLoadRect (harg.unread x0) j = x0 (ix2 (Fin.ofNat 32 r) (Fin.ofNat 12 c)) := by
  subst hoff
  rw [harg.readAt_unread]
  refine congrArg x0 (funext fun a => Fin.ext ?_)
  have h0 := inb 0
  have h1 := inb 1
  have hj0 : (j 0).val < 1 := (j 0).isLt
  have hj1 : (j 1).val < 1 := (j 1).isLt
  simp [S32x12, S1x1] at h0 h1
  match a with
  | ⟨0, _⟩ => exact (rect_val (s := S32x12) ![r, c] S1x1.size inb j 0).trans (by simp [ix2]; omega)
  | ⟨1, _⟩ => exact (rect_val (s := S32x12) ![r, c] S1x1.size inb j 1).trans (by simp [ix2]; omega)

theorem toff1_eq : ∀ (t : Fin grid0.N) (k : Fin k0_t1_loop.trips), k0_off1 (grid0.coords t) k = ![k.val, (grid0.coords t 0).val * 4 + 0] := by decide +kernel
theorem tiv1 : ∀ k : Fin k0_t1_loop.trips, (Scf.iv 0#32 1#32 k.val).toNat = k.val ∧ k.val < 32 := by decide +kernel

theorem st1_eq (𝒱 : Variants) (c : Dev nD) (bd : Option 𝒱.V) (t : Fin grid0.N) (arg2 : Memref sig .tc .smem S32x12 .f32) (harg2 : arg2.IsWhole) (arg3 : Memref sig .tc .vmem S1x1x4x128x256 .f32) (harg3 : arg3.IsWhole) (arg0 : BitVec 32) (v12 v15 v30 v35 : IVec S128x256 32) (v37 : IVec S128x256 1) (x0 : Vec F S32x12 .f32)
    (init : FVec F S128x256 .f32) (hinit : init = broadcast S128x256 (Scalar.ofBits .f32 0x00000000#32)) (n : ℕ) (hn : n ≤ k0_t1_loop.trips) :
    st_k0_t1 (F := F) 𝒱 c bd (grid0.coords t) arg2 harg2 arg3 harg3 arg0 v12 v15 v30 v35 v37 (harg2.unread x0) init n
      = pick x0 ((grid0.coords t 0).val * 4 + 0) (k0_pay12 v15 v30 v35 v37) n := by
  induction n with
  | zero => subst hinit; funext j; simp [pick, st_k0_t1]; rfl
  | succ n ih =>
    rw [st_k0_t1_succ 𝒱 c bd (grid0.coords t) arg2 harg2 arg3 harg3 arg0 v12 v15 v30 v35 v37 (harg2.unread x0) init ⟨n, hn⟩]
    show tripR_k0_t1 𝒱 c bd (grid0.coords t) arg2 harg2 arg3 harg3 arg0 v12 v15 v30 v35 v37 (harg2.unread x0) ⟨n, hn⟩ (st_k0_t1 (F := F) 𝒱 c bd (grid0.coords t) arg2 harg2 arg3 harg3 arg0 v12 v15 v30 v35 v37 (harg2.unread x0) init n) = _
    rw [ih (Nat.le_of_succ_le hn)]
    unfold tripR_k0_t1 trip_k0_t1
    dsimp only
    show k0_pay15 v15 v30 v35 v37 ⟨n, hn⟩ _ (View.readAt (Elt F) arg2.view (Rect.unit (s := S32x12) (k0_off1 (grid0.coords t) ⟨n, hn⟩) S1x1.size (k0_off1_inb (grid0.coords t) ⟨n, hn⟩)).toLoadRect (harg2.unread x0) _) = _
    rw [load_entry harg2 x0 _ _ _ _ (toff1_eq t ⟨n, hn⟩)]
    exact pick_succ x0 _ _ n (tiv1 ⟨n, hn⟩).2 _ (tiv1 ⟨n, hn⟩).1 _ rfl

theorem toff2_eq : ∀ (t : Fin grid0.N) (k : Fin k0_t2_loop.trips), k0_off2 (grid0.coords t) k = ![k.val, (grid0.coords t 0).val * 4 + 1] := by decide +kernel
theorem tiv2 : ∀ k : Fin k0_t2_loop.trips, (Scf.iv 0#32 1#32 k.val).toNat = k.val ∧ k.val < 32 := by decide +kernel

theorem st2_eq (𝒱 : Variants) (c : Dev nD) (bd : Option 𝒱.V) (t : Fin grid0.N) (arg2 : Memref sig .tc .smem S32x12 .f32) (harg2 : arg2.IsWhole) (arg3 : Memref sig .tc .vmem S1x1x4x128x256 .f32) (harg3 : arg3.IsWhole) (arg0 : BitVec 32) (v12 v15 v30 v35 : IVec S128x256 32) (v37 : IVec S128x256 1) (x0 : Vec F S32x12 .f32)
    (init : FVec F S128x256 .f32) (hinit : init = broadcast S128x256 (Scalar.ofBits .f32 0x00000000#32)) (n : ℕ) (hn : n ≤ k0_t2_loop.trips) :
    st_k0_t2 (F := F) 𝒱 c bd (grid0.coords t) arg2 harg2 arg3 harg3 arg0 v12 v15 v30 v35 v37 (harg2.unread x0) init n
      = pick x0 ((grid0.coords t 0).val * 4 + 1) (k0_pay12 v15 v30 v35 v37) n := by
  induction n with
  | zero => subst hinit; funext j; simp [pick, st_k0_t2]; rfl
  | succ n ih =>
    rw [st_k0_t2_succ 𝒱 c bd (grid0.coords t) arg2 harg2 arg3 harg3 arg0 v12 v15 v30 v35 v37 (harg2.unread x0) init ⟨n, hn⟩]
    show tripR_k0_t2 𝒱 c bd (grid0.coords t) arg2 harg2 arg3 harg3 arg0 v12 v15 v30 v35 v37 (harg2.unread x0) ⟨n, hn⟩ (st_k0_t2 (F := F) 𝒱 c bd (grid0.coords t) arg2 harg2 arg3 harg3 arg0 v12 v15 v30 v35 v37 (harg2.unread x0) init n) = _
    rw [ih (Nat.le_of_succ_le hn)]
    unfold tripR_k0_t2 trip_k0_t2
    dsimp only
    show k0_pay18 v15 v30 v35 v37 ⟨n, hn⟩ _ (View.readAt (Elt F) arg2.view (Rect.unit (s := S32x12) (k0_off2 (grid0.coords t) ⟨n, hn⟩) S1x1.size (k0_off2_inb (grid0.coords t) ⟨n, hn⟩)).toLoadRect (harg2.unread x0) _) = _
    rw [load_entry harg2 x0 _ _ _ _ (toff2_eq t ⟨n, hn⟩)]
    exact pick_succ x0 _ _ n (tiv2 ⟨n, hn⟩).2 _ (tiv2 ⟨n, hn⟩).1 _ rfl

theorem toff3_eq : ∀ (t : Fin grid0.N) (k : Fin k0_t3_loop.trips), k0_off3 (grid0.coords t) k = ![k.val, (grid0.coords t 0).val * 4 + 2] := by decide +kernel
theorem tiv3 : ∀ k : Fin k0_t3_loop.trips, (Scf.iv 0#32 1#32 k.val).toNat = k.val ∧ k.val < 32 := by decide +kernel

theorem st3_eq (𝒱 : Variants) (c : Dev nD) (bd : Option 𝒱.V) (t : Fin grid0.N) (arg2 : Memref sig .tc .smem S32x12 .f32) (harg2 : arg2.IsWhole) (arg3 : Memref sig .tc .vmem S1x1x4x128x256 .f32) (harg3 : arg3.IsWhole) (v39 : IVec S128x256 32) (x0 : Vec F S32x12 .f32)
    (init : FVec F S128x256 .f32) (hinit : init = broadcast S128x256 (Scalar.ofBits .f32 0x00000000#32)) (n : ℕ) (hn : n ≤ k0_t3_loop.trips) :
    st_k0_t3 (F := F) 𝒱 c bd (grid0.coords t) arg2 harg2 arg3 harg3 v39 (harg2.unread x0) init n
      = pick x0 ((grid0.coords t 0).val * 4 + 2) v39 n := by
  induction n with
  | zero => subst hinit; funext j; simp [pick, st_k0_t3]; rfl
  | succ n ih =>
    rw [st_k0_t3_succ 𝒱 c bd (grid0.coords t) arg2 harg2 arg3 harg3 v39 (harg2.unread x0) init ⟨n, hn⟩]
    show tripR_k0_t3 𝒱 c bd (grid0.coords t) arg2 harg2 arg3 harg3 v39 (harg2.unread x0) ⟨n, hn⟩ (st_k0_t3 (F := F) 𝒱 c bd (grid0.coords t) arg2 harg2 arg3 harg3 v39 (harg2.unread x0) init n) = _
    rw [ih (Nat.le_of_succ_le hn)]
    unfold tripR_k0_t3 trip_k0_t3
    dsimp only
    show k0_pay1 v39 ⟨n, hn⟩ _ (View.readAt (Elt F) arg2.view (Rect.unit (s := S32x12) (k0_off3 (grid0.coords t) ⟨n, hn⟩) S1x1.size (k0_off3_inb (grid0.coords t) ⟨n, hn⟩)).toLoadRect (harg2.unread x0) _) = _
    rw [load_entry harg2 x0 _ _ _ _ (toff3_eq t ⟨n, hn⟩)]
    exact pick_succ x0 _ _ n (tiv3 ⟨n, hn⟩).2 _ (tiv3 ⟨n, hn⟩).1 _ rfl

theorem toff4_eq : ∀ (t : Fin grid0.N) (k : Fin k0_t4_loop.trips), k0_off4 (grid0.coords t) k = ![k.val, (grid0.coords t 0).val * 4 + 3] := by decide +kernel
theorem tiv4 : ∀ k : Fin k0_t4_loop.trips, (Scf.iv 0#32 1#32 k.val).toNat = k.val ∧ k.val < 32 := by decide +kernel

theorem st4_eq (𝒱 : Variants) (c : Dev nD) (bd : Option 𝒱.V) (t : Fin grid0.N) (arg2 : Memref sig .tc .smem S32x12 .f32) (harg2 : arg2.IsWhole) (arg3 : Memref sig .tc .vmem S1x1x4x128x256 .f32) (harg3 : arg3.IsWhole) (v39 : IVec S128x256 32) (x0 : Vec F S32x12 .f32)
    (init : FVec F S128x256 .f32) (hinit : init = broadcast S128x256 (Scalar.ofBits .f32 0x00000000#32)) (n : ℕ) (hn : n ≤ k0_t4_loop.trips) :
    st_k0_t4 (F := F) 𝒱 c bd (grid0.coords t) arg2 harg2 arg3 harg3 v39 (harg2.unread x0) init n
      = pick x0 ((grid0.coords t 0).val * 4 + 3) v39 n := by
  induction n with
  | zero => subst hinit; funext j; simp [pick, st_k0_t4]; rfl
  | succ n ih =>
    rw [st_k0_t4_succ 𝒱 c bd (grid0.coords t) arg2 harg2 arg3 harg3 v39 (harg2.unread x0) init ⟨n, hn⟩]
    show tripR_k0_t4 𝒱 c bd (grid0.coords t) arg2 harg2 arg3 harg3 v39 (harg2.unread x0) ⟨n, hn⟩ (st_k0_t4 (F := F) 𝒱 c bd (grid0.coords t) arg2 harg2 arg3 harg3 v39 (harg2.unread x0) init n) = _
    rw [ih (Nat.le_of_succ_le hn)]
    unfold tripR_k0_t4 trip_k0_t4
    dsimp only
    show k0_pay4 v39 ⟨n, hn⟩ _ (View.readAt (Elt F) arg2.view (Rect.unit (s := S32x12) (k0_off4 (grid0.coords t) ⟨n, hn⟩) S1x1.size (k0_off4_inb (grid0.coords t) ⟨n, hn⟩)).toLoadRect (harg2.unread x0) _) = _
    rw [load_entry harg2 x0 _ _ _ _ (toff4_eq t ⟨n, hn⟩)]
    exact pick_succ x0 _ _ n (tiv4 ⟨n, hn⟩).2 _ (tiv4 ⟨n, hn⟩).1 _ rfl

/-- Head `h` of the block: the picked entries, the mask outside the window. -/
def headTable (i : grid0.Coords) (x0 : Vec F S32x12 .f32) (h : ℕ) : Vec F S1x1x1x128x256 .f32 :=
  k0_pay5 (k0_pay13 (k0_pay6 i)) (pick x0 ((i 0).val * 4 + h) (bucketAt F i) 32)

/-- The whole output block. -/
def blockTable (i : grid0.Coords) (x0 : Vec F S32x12 .f32) : Vec F S1x1x4x128x256 .f32 := fun y =>
  headTable i x0 (y 2).val (ix5 0 0 0 (y 3) (y 4))

theorem read_head (H : ℕ → Vec F S1x1x1x128x256 .f32) (h : ℕ) (off : Fin 5 → ℕ) (inb : ∀ a, off a + S1x1x1x128x256.size a ≤ S1x1x4x128x256.size a)
    (hoff : off = ![0, 0, h, 0, 0]) (x : S1x1x1x128x256.Idx) :
    H h x = (fun y : S1x1x4x128x256.Idx => H (y 2).val (ix5 0 0 0 (y 3) (y 4))) ((Rect.unit (s := S1x1x4x128x256) off S1x1x1x128x256.size inb).emb x) := by
  subst hoff
  have e2 := rect_val (s := S1x1x4x128x256) _ _ inb x 2
  have e3 := rect_val (s := S1x1x4x128x256) _ _ inb x 3
  have e4 := rect_val (s := S1x1x4x128x256) _ _ inb x 4
  have hj0 : (x 0).val < 1 := (x 0).isLt
  have hj1 : (x 1).val < 1 := (x 1).isLt
  have hj2 : (x 2).val < 1 := (x 2).isLt
  have e2' : ((Rect.unit (s := S1x1x4x128x256) ![0, 0, h, 0, 0] S1x1x1x128x256.size inb).emb x 2).val = h := e2.trans (by simp; omega)
  have e3' : ((Rect.unit (s := S1x1x4x128x256) ![0, 0, h, 0, 0] S1x1x1x128x256.size inb).emb x 3) = x 3 := Fin.ext (e3.trans (by simp))
  have e4' : ((Rect.unit (s := S1x1x4x128x256) ![0, 0, h, 0, 0] S1x1x1x128x256.size inb).emb x 4) = x 4 := Fin.ext (e4.trans (by simp))
  dsimp only
  rw [e2', e3', e4']
  refine congrArg (H h) (funext fun a => ?_)
  match a with
  | ⟨0, _⟩ => exact Fin.ext (by simpa [ix5] using hj0)
  | ⟨1, _⟩ => exact Fin.ext (by simpa [ix5] using hj1)
  | ⟨2, _⟩ => exact Fin.ext (by simpa [ix5] using hj2)
  | ⟨3, _⟩ => rfl
  | ⟨4, _⟩ => rfl

theorem out0_eq (c : Dev nD) (t : Fin grid0.N) (arg2 : Memref sig .tc .smem S32x12 .f32) (harg2 : arg2.IsWhole) (arg3 : Memref sig .tc .vmem S1x1x4x128x256 .f32) (harg3 : arg3.IsWhole) (x0 : Vec F S32x12 .f32) :
    out0_A_1 c (grid0.coords t) arg2 harg2 arg3 harg3 x0 = blockTable (grid0.coords t) x0 := by
  have key : ∀ p ∈ (kernelRun0_A c (grid0.coords t) arg2 harg2 arg3 harg3 x0).1, ∀ x, p.2 x = blockTable (grid0.coords t) x0 (p.1.emb x) := by
    intro p hp x
    unfold kernelRun0_A at hp
    dsimp only at hp
    simp only [List.mem_cons, List.not_mem_nil, or_false] at hp
    rcases hp with rfl | rfl | rfl | rfl
    · refine Eq.trans ?_ (read_head (headTable (grid0.coords t) x0) 3 _ inb_S1x1x4x128x256_S1x1x1x128x256_0_0_3_0_0 rfl x)
      dsimp only
      rw [st4_eq Variants.none c none t arg2 harg2 arg3 harg3 _ x0 k0_pay3 rfl (Scf.trips (0#32) (Scalar.addi 0#32 32#32) 1#32) (le_refl _)]
      rfl
    · refine Eq.trans ?_ (read_head (headTable (grid0.coords t) x0) 2 _ inb_S1x1x4x128x256_S1x1x1x128x256_0_0_2_0_0 rfl x)
      dsimp only
      rw [st3_eq Variants.none c none t arg2 harg2 arg3 harg3 _ x0 k0_pay20 rfl (Scf.trips (0#32) (Scalar.addi 0#32 32#32) 1#32) (le_refl _)]
      rfl
    · refine Eq.trans ?_ (read_head (headTable (grid0.coords t) x0) 1 _ inb_S1x1x4x128x256_S1x1x1x128x256_0_0_1_0_0 rfl x)
      dsimp only
      rw [st2_eq Variants.none c none t arg2 harg2 arg3 harg3 _ _ _ _ _ _ x0 k0_pay17 rfl (Scf.trips (0#32) (Scalar.addi 0#32 32#32) 1#32) (le_refl _)]
      rfl
    · refine Eq.trans ?_ (read_head (headTable (grid0.coords t) x0) 0 _ inb_S1x1x4x128x256_S1x1x1x128x256_0_0_0_0_0 rfl x)
      dsimp only
      rw [st1_eq Variants.none c none t arg2 harg2 arg3 harg3 _ _ _ _ _ _ x0 k0_pay14 rfl (Scf.trips (0#32) (Scalar.addi 0#32 32#32) 1#32) (le_refl _)]
      rfl
  funext y
  unfold out0_A_1
  rw [View.read_writes_junk_apply_eq_canon, ← List.append_nil (kernelRun0_A c (grid0.coords t) arg2 harg2 arg3 harg3 x0).1]
  exact View.canon_append_of_pieces _ [] _ key y (cover0_A_1 c (grid0.coords t) arg2 harg2 arg3 harg3 x0 y)

end Cert.AttnIdeal.Gen

end
-- ==== Proof.AttnRun.lean ====
/- The two launches of the attention one after the other: what the result arrays hold at the end, as one function of the
   regrouped activations and of the bias table. -/
module

public import proofs.«01_k».proof.Proof.AttnTable
public import Idealize.ShloMosaic.Lib.Pipeline.ValueKit
public import proofs.«01_k».proof.Proof.Gen.AttnIdeal.Frame
public import Idealize.ShloMosaic.Lib.Claim

@[expose] public section

set_option maxRecDepth 16384

noncomputable section

namespace Cert.AttnIdeal.Gen

open Idealize.ShloMosaic
open Idealize.ShloMosaic.Pipeline Idealize.ShloMosaic.TcCoe
open Idealize.SL.Sem

variable {F : FTy → Type} [FloatOps F] [Named F]
variable (V : (c : Dev nD) → (b : Ref sig .tc) → Buf (Elt F) ((c : Thread nD τ).loc b))

/-- 1024 rows of 512 columns of the regrouped activations. -/
def qkvBlock (Z : Vec F S16x2048x1536 .bf16) (b p g : ℕ) : Vec F S1x1024x512 .bf16 := fun y =>
  Z (ix3 (Fin.ofNat 16 b) (Fin.ofNat 2048 (p * 1024 + (y 1).val)) (Fin.ofNat 1536 (g * 512 + (y 2).val)))

/-- The bias windows of the second dilation. -/
def biasBlock (T : Vec F S3x3x4x128x256 .f32) : Vec F S1x3x4x128x256 .f32 := fun y => T (ix5 1 (y 1) (y 2) (y 3) (y 4))

theorem index1_0 : ∀ t : Fin grid1.N, win1_0.index t = ![t.val / 2, t.val % 2, 0] := by decide +kernel
theorem index1_1 : ∀ t : Fin grid1.N, win1_1.index t = ![t.val / 2, t.val % 2, 1] := by decide +kernel
theorem index1_2 : ∀ t : Fin grid1.N, win1_2.index t = ![t.val / 2, t.val % 2, 2] := by decide +kernel
theorem index1_3 : ∀ t : Fin grid1.N, win1_3.index t = ![1, 0, 0, 0, 0] := by decide +kernel
theorem index1_4 : ∀ t : Fin grid1.N, win1_4.index t = ![t.val / 2, t.val % 2, 0] := by decide +kernel
theorem index1_5 : ∀ t : Fin grid1.N, win1_5.index t = ![t.val / 2, t.val % 2, 0] := by decide +kernel

theorem iblk1_0_eq (c : Dev nD) (t : Fin cfg1.N) : iblk1 V c 0 t = qkvBlock (V c main_v7) (t.val / 2) (t.val % 2) 0 := by
  have ht : t.val < 32 := t.isLt
  funext y
  have h1 : (y 1).val < 1024 := (y 1).isLt
  have h2 : (y 2).val < 512 := (y 2).isLt
  have h0 : (y 0).val < 1 := (y 0).isLt
  blk_simp [iblk1]
  unfold qkvBlock
  refine congrArg (V c main_v7) (funext fun a => Fin.ext ?_)
  fin_cases a
  · blk_simp [index1_0 t]
    simp [Fin.ofNat]
    omega
  · blk_simp [index1_0 t]
    simp [Fin.ofNat]
    omega
  · blk_simp [index1_0 t]
    simp [Fin.ofNat]
    omega

theorem iblk1_1_eq (c : Dev nD) (t : Fin cfg1.N) : iblk1 V c 1 t = qkvBlock (V c main_v7) (t.val / 2) (t.val % 2) 1 := by
  have ht : t.val < 32 := t.isLt
  funext y
  have h1 : (y 1).val < 1024 := (y 1).isLt
  have h2 : (y 2).val < 512 := (y 2).isLt
  have h0 : (y 0).val < 1 := (y 0).isLt
  blk_simp [iblk1]
  unfold qkvBlock
  refine congrArg (V c main_v7) (funext fun a => Fin.ext ?_)
  fin_cases a
  · blk_simp [index1_1 t]
    simp [Fin.ofNat]
    omega
  · blk_simp [index1_1 t]
    simp [Fin.ofNat]
    omega
  · blk_simp [index1_1 t]
    simp [Fin.ofNat]
    omega

theorem iblk1_2_eq (c : Dev nD) (t : Fin cfg1.N) : iblk1 V c 2 t = qkvBlock (V c main_v7) (t.val / 2) (t.val % 2) 2 := by
  have ht : t.val < 32 := t.isLt
  funext y
  have h1 : (y 1).val < 1024 := (y 1).isLt
  have h2 : (y 2).val < 512 := (y 2).isLt
  have h0 : (y 0).val < 1 := (y 0).isLt
  blk_simp [iblk1]
  unfold qkvBlock
  refine congrArg (V c main_v7) (funext fun a => Fin.ext ?_)
  fin_cases a
  · blk_simp [index1_2 t]
    simp [Fin.ofNat]
    omega
  · blk_simp [index1_2 t]
    simp [Fin.ofNat]
    omega
  · blk_simp [index1_2 t]
    simp [Fin.ofNat]
    omega

theorem iblk1_3_eq (c : Dev nD) (t : Fin cfg1.N) : iblk1 V c 3 t = biasBlock (V c main_v8) := by
  funext y
  have h0 : (y 0).val < 1 := (y 0).isLt
  blk_simp [iblk1]
  unfold biasBlock
  refine congrArg (V c main_v8) (funext fun a => Fin.ext ?_)
  fin_cases a <;> blk_simp [index1_3 t] <;> simp

/-- Result array 4 at the end. -/
def finalO (Z : Vec F S16x2048x1536 .bf16) (T : Vec F S3x3x4x128x256 .f32) : Vec F S16x2048x512 .bf16 := fun i =>
  blockO (qkvBlock Z (i 0).val ((i 1).val / 1024) 0) (qkvBlock Z (i 0).val ((i 1).val / 1024) 1)
    (qkvBlock Z (i 0).val ((i 1).val / 1024) 2) (biasBlock T) (ix3 0 (Fin.ofNat 1024 (i 1).val) (i 2))

theorem final1_4 (c : Dev nD) : (dat1 V c).arrAt 4 cfg1.N = finalO (V c main_v7) (V c main_v8) := by
  refine (dat1 V c).arrAt_eq_of_covers 4 _ (by decide +kernel) fun t hf y => ?_
  have ht : t.val < 32 := t.isLt
  have h0 : (y 0).val < 1 := (y 0).isLt
  have h1 : (y 1).val < 1024 := (y 1).isLt
  have h2 : (y 2).val < 512 := (y 2).isLt
  unfold finalO
  blk_simp
  rw [after1_4]
  unfold outsAt1
  simp only [out1_o_eq, iblk1_0_eq, iblk1_1_eq, iblk1_2_eq, iblk1_3_eq, index1_4 t]
  have e1 : ((![t.val / 2, t.val % 2, 0] : Fin 3 → ℕ) 1 * 1024 + (y 1).val) / 1024 = t.val % 2 := by simp; omega
  have e0 : (![t.val / 2, t.val % 2, 0] : Fin 3 → ℕ) 0 = t.val / 2 := rfl
  rw [e1, e0]
  refine congrArg _ (funext fun a => Fin.ext ?_)
  fin_cases a
  · simp
  · simp [Fin.ofNat]; omega
  · show (y 2).val = (((View.whole main_v9_0).slice (win1_4.rect t)).emb y 2).val
    blk_simp [index1_4 t]

/-- Result array 5 at the end. -/
def finalL (Z : Vec F S16x2048x1536 .bf16) (T : Vec F S3x3x4x128x256 .f32) : Vec F S16x2048x512 .f32 := fun i =>
  blockL (qkvBlock Z (i 0).val ((i 1).val / 1024) 0) (qkvBlock Z (i 0).val ((i 1).val / 1024) 1)
    (qkvBlock Z (i 0).val ((i 1).val / 1024) 2) (biasBlock T) (ix3 0 (Fin.ofNat 1024 (i 1).val) (i 2))

theorem final1_5 (c : Dev nD) : (dat1 V c).arrAt 5 cfg1.N = finalL (V c main_v7) (V c main_v8) := by
  refine (dat1 V c).arrAt_eq_of_covers 5 _ (by decide +kernel) fun t hf y => ?_
  have ht : t.val < 32 := t.isLt
  have h0 : (y 0).val < 1 := (y 0).isLt
  have h1 : (y 1).val < 1024 := (y 1).isLt
  have h2 : (y 2).val < 512 := (y 2).isLt
  unfold finalL
  blk_simp
  rw [after1_5]
  unfold outsAt1
  simp only [out1_l_eq, iblk1_0_eq, iblk1_1_eq, iblk1_2_eq, iblk1_3_eq, index1_5 t]
  have e1 : ((![t.val / 2, t.val % 2, 0] : Fin 3 → ℕ) 1 * 1024 + (y 1).val) / 1024 = t.val % 2 := by simp; omega
  have e0 : (![t.val / 2, t.val % 2, 0] : Fin 3 → ℕ) 0 = t.val / 2 := rfl
  rw [e1, e0]
  refine congrArg _ (funext fun a => Fin.ext ?_)
  fin_cases a
  · simp
  · simp [Fin.ofNat]; omega
  · show (y 2).val = (((View.whole main_v9_1).slice (win1_5.rect t)).emb y 2).val
    blk_simp [index1_5 t]

/-- The table of bias windows: entry `(dilation, kind)` is built from the columns of that dilation. -/
def finalT (x0 : Vec F S32x12 .f32) : Vec F S3x3x4x128x256 .f32 := fun i =>
  blockTable (grid0.coords (Fin.ofNat 9 ((i 0).val * 3 + (i 1).val))) x0 (ix5 0 0 (i 2) (i 3) (i 4))

theorem index0_0 : ∀ t : Fin grid0.N, win0_0.index t = ![0, 0] := by decide +kernel
theorem index0_1 : ∀ t : Fin grid0.N, win0_1.index t = ![t.val / 3, t.val % 3, 0, 0, 0] := by decide +kernel

theorem iblk0_0_eq (c : Dev nD) (t : Fin cfg0.N) : iblk0 V c 0 t = V c main_arg1 := by
  funext y
  blk_simp [iblk0]
  refine congrArg (V c main_arg1) (funext fun a => Fin.ext ?_)
  fin_cases a <;> blk_simp [index0_0 t] <;> simp

theorem final0_1 (c : Dev nD) : (dat0 V c).arrAt 1 cfg0.N = finalT (V c main_arg1) := by
  refine (dat0 V c).arrAt_eq_of_covers 1 _ (by decide +kernel) fun t hf y => ?_
  have ht : t.val < 9 := t.isLt
  have h0 : (y 0).val < 1 := (y 0).isLt
  have h1 : (y 1).val < 1 := (y 1).isLt
  unfold finalT
  have e : Fin.ofNat 9 ((((cfg0.win 1).blk t).view.emb y 0).val * 3 + (((cfg0.win 1).blk t).view.emb y 1).val) = t := by
    apply Fin.ext
    blk_simp [index0_1 t]
    simp [Fin.ofNat]
    omega
  rw [e]
  have e' : (ix5 0 0 (((cfg0.win 1).blk t).view.emb y 2) (((cfg0.win 1).blk t).view.emb y 3) (((cfg0.win 1).blk t).view.emb y 4) : S1x1x4x128x256.Idx) = y := by
    refine funext fun a => Fin.ext ?_
    fin_cases a
    · simp
    · simp
    · show (((cfg0.win 1).blk t).view.emb y 2).val = _
      blk_simp [index0_1 t]; simp
    · show (((cfg0.win 1).blk t).view.emb y 3).val = _
      blk_simp [index0_1 t]; simp
    · show (((cfg0.win 1).blk t).view.emb y 4).val = _
      blk_simp [index0_1 t]; simp
  rw [e']
  rw [after0_1]
  unfold outsAt0
  rw [out0_eq, iblk0_0_eq]
  rfl

section Run

open Idealize.ShloMosaic.Tactic Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program: both results in terms of what the second launch finds, the arguments as they were. -/
theorem runResults : θ_run defs (onTc (τ := τ) (main (F := F))) ⟨m, fun _ => 0, ρ⟩ (fun r => ∀ c : Dev nD,
      r.2.mem ((c.tc : Thread nD τ).loc main_v9_0) = (dat1 (V2 m ρ) c).arrAt 4 cfg1.N
      ∧ r.2.mem ((c.tc : Thread nD τ).loc main_v9_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v9_0 (by decide))).trans (W3_arr m ρ c 4),
       (h c _ (mem_uc main_v9_1 (by decide))).trans (W3_arr m ρ c 5),
       (h c _ (mem_uc main_arg0 (by decide))).trans (W3_main_arg0 m ρ c),
       (h c _ (mem_uc main_arg1 (by decide))).trans (W3_main_arg1 m ρ c)⟩)

/-- What the second launch finds in the bias table. -/
theorem V2_main_v8 (c : Dev nD) : V2 m ρ c main_v8 = finalT (m ((c.tc : Thread nD τ).loc main_arg1)) := by
  have h : V2 m ρ c main_v8 = (dat0 (V1 m ρ) c).arrAt 1 cfg0.N := W2_arr m ρ c 1
  rw [h, final0_1]
  exact congrArg finalT (W1_of m ρ c main_arg1 (by decide))

/-- What the second launch finds in the regrouped activations. -/
theorem V2_main_v7 (c : Dev nD) : V2 m ρ c main_v7 = V1 m ρ c main_v7 := by
  exact W2_of_ne m ρ c main_v7 (by decide)

end Run

end Cert.AttnIdeal.Gen

end
-- ==== Proof.AttnVal.lean ====
/- One head of one block of 128 queries, read over the extended reals. -/
module

public import proofs.«01_k».proof.Proof.AttnRun

@[expose] public section

set_option maxRecDepth 16384

noncomputable section

namespace Cert.AttnIdeal.Gen

open Idealize.ShloMosaic

/-- The scale of the logits, as the constant both programs carry. -/
abbrev qkScale : EReal := Ideal.ofBits .f32 0x3DB504F3#32

theorem negInf_bits : Ideal.ofBits .f32 0xFF800000#32 = ⊥ := by simp [Ideal.ofBits, Ideal.ieee]

variable (q : Vec Ideal S1x128x128 .bf16) (k v : Vec Ideal S1x256x128 .bf16) (b : Vec Ideal S1x1x1x128x256 .f32)

/-- The logit of query `l` against key `t`. -/
def blkLogit (l : Fin 128) (t : Fin 256) : EReal :=
  (∑ d : Fin 128, (q (ix3 0 l d) : EReal) * k (ix3 0 t d)) * qkScale + b (ix5 0 0 0 l t)

theorem pay3_apply (l : Fin 128) (t : Fin 256) : k1_pay3 q k b (ix2 l t) = blkLogit q k b l t := by
  unfold blkLogit
  pointwise [k1_pay3]

/-- The largest logit of query `l`. -/
def blkMax (l : Fin 128) : EReal := Finset.univ.fold max ⊥ (fun t : Fin 256 => blkLogit q k b l t)

theorem pay4_apply (l : Fin 128) : k1_pay4 q k b (ix2 l 0) = blkMax q k b l := by
  unfold blkMax
  pointwise [k1_pay4]
  simp only [pay3_apply, negInf_bits]

theorem pay5_apply (l : Fin 128) (c : Fin 256) : k1_pay5 k1_pay1 q k v b (ix2 l c) =
    ∑ t : Fin 256, Ideal.exp (blkLogit q k b l t - blkMax q k b l) * (if h : c.val < 128 then v (ix3 0 t ⟨c.val, h⟩) else 1) := by
  pointwise [k1_pay5, k1_pay1]
  simp only [pay3_apply, pay4_apply]

/-- The sum of the weights of query `l`. -/
def blkDen (l : Fin 128) : EReal := ∑ t : Fin 256, Ideal.exp (blkLogit q k b l t - blkMax q k b l)

theorem pay7_apply (l d : Fin 128) : k1_pay7 k1_pay1 q k v b (ix3 0 l d) =
    Ideal.div (∑ t : Fin 256, Ideal.exp (blkLogit q k b l t - blkMax q k b l) * v (ix3 0 t d)) (blkDen q k b l) := by
  unfold blkDen
  pointwise [k1_pay7, k1_pay6]
  simp only [pay5_apply]
  simp

theorem pay9_apply (l d : Fin 128) : k1_pay9 (k1_pay8 k1_pay1 q k v b) (ix3 0 l d) =
    blkMax q k b l + Ideal.log (blkDen q k b l) := by
  unfold blkDen
  pointwise [k1_pay9, k1_pay8, k1_pay6]
  simp only [pay5_apply, pay4_apply]
  simp

end Cert.AttnIdeal.Gen

end
-- ==== Proof.AttnMath.lean ====
/- Softmax over a window of a row: the weighted mean and the log of the sum do not depend on which window that holds the
   row's unmasked keys is taken, nor on whether the weights or the mean are divided. -/
module

public import Idealize.ShloMosaic.Lib.Pointwise

@[expose] public section

noncomputable section

namespace Cert.Window

open Idealize.ShloMosaic

/-- A number of the extended reals that is a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

variable (f : ℕ → EReal)

/-- The largest value of a window. -/
def wMax (a n : ℕ) : EReal := Finset.univ.fold max ⊥ (fun t : Fin n => f (a + t.val))

theorem wMax_le (a n a' n' : ℕ) (h : ∀ P, f P ≠ ⊥ → a' ≤ P ∧ P < a' + n') : wMax f a n ≤ wMax f a' n' := by
  unfold wMax
  rw [Finset.fold_max_le]
  refine ⟨bot_le, fun t _ => ?_⟩
  by_cases hb : f (a + t.val) = ⊥
  · rw [hb]; exact bot_le
  · obtain ⟨h1, h2⟩ := h _ hb
    rw [Finset.le_fold_max]
    refine Or.inr ⟨⟨a + t.val - a', by omega⟩, Finset.mem_univ _, ?_⟩
    rw [show a' + (a + t.val - a') = a + t.val by omega]

theorem wMax_eq (a n a' n' : ℕ) (h : ∀ P, f P ≠ ⊥ → a ≤ P ∧ P < a + n) (h' : ∀ P, f P ≠ ⊥ → a' ≤ P ∧ P < a' + n') :
    wMax f a n = wMax f a' n' := le_antisymm (wMax_le f a n a' n' h') (wMax_le f a' n' a n h)

theorem wSum_range (u : ℕ → EReal) (a n N : ℕ) (hN : a + n ≤ N) (h : ∀ P, u P ≠ 0 → a ≤ P ∧ P < a + n) :
    ∑ t : Fin n, u (a + t.val) = ∑ P ∈ Finset.range N, u P := by
  rw [Fin.sum_univ_eq_sum_range (fun t => u (a + t)) n]
  have e : ∑ P ∈ Finset.Ico a (a + n), u P = ∑ i ∈ Finset.range n, u (a + i) := by
    rw [Finset.sum_Ico_eq_sum_range]; simp
  rw [← e]
  refine Finset.sum_subset ?_ ?_
  · intro P hP
    rw [Finset.mem_Ico] at hP
    rw [Finset.mem_range]; omega
  · intro P _ hP
    by_contra hu
    exact hP (Finset.mem_Ico.mpr (h P hu))

theorem wSum_eq (u : ℕ → EReal) (a n a' n' : ℕ) (h : ∀ P, u P ≠ 0 → a ≤ P ∧ P < a + n)
    (h' : ∀ P, u P ≠ 0 → a' ≤ P ∧ P < a' + n') :
    ∑ t : Fin n, u (a + t.val) = ∑ t : Fin n', u (a' + t.val) :=
  (wSum_range u a n (a + n + (a' + n')) (by omega) h).trans (wSum_range u a' n' _ (by omega) h').symm

theorem wMax_real (a n : ℕ) (P0 : ℕ) (h0 : a ≤ P0 ∧ P0 < a + n) (hr : IsReal (f P0)) (ht : ∀ P, f P ≠ ⊤) : IsReal (wMax f a n) := by
  have h1 : wMax f a n ≠ ⊤ := by
    intro e
    have : (⊤ : EReal) ≤ wMax f a n := e.symm.le
    unfold wMax at this
    rw [Finset.le_fold_max] at this
    rcases this with h | ⟨t, _, h⟩
    · exact absurd h (by simp)
    · exact ht _ (top_le_iff.mp h)
  have h2 : f P0 ≤ wMax f a n := by
    unfold wMax
    rw [Finset.le_fold_max]
    refine Or.inr ⟨⟨P0 - a, by omega⟩, Finset.mem_univ _, ?_⟩
    rw [show a + (P0 - a) = P0 by omega]
  have h3 : wMax f a n ≠ ⊥ := by
    obtain ⟨r, hr⟩ := hr
    intro e
    rw [e, hr] at h2
    exact absurd (le_bot_iff.mp h2) (EReal.coe_ne_bot r)
  exact ⟨(wMax f a n).toReal, (EReal.coe_toReal h1 h3).symm⟩

/-- The weight of a value under the largest `M`: nonnegative, real, and zero where masked. -/
theorem weight_real (M x : EReal) (hM : IsReal M) (hx : x = ⊥ ∨ IsReal x) : ∃ r : ℝ, 0 ≤ r ∧ Ideal.exp (x - M) = (r : EReal) := by
  obtain ⟨m, rfl⟩ := hM
  rcases hx with rfl | ⟨r, rfl⟩
  · exact ⟨0, le_rfl, by rw [EReal.bot_sub]; rfl⟩
  · exact ⟨Real.exp (r - m), (Real.exp_pos _).le, by rw [← EReal.coe_sub]; rfl⟩

theorem weight_bot (M : EReal) : Ideal.exp (⊥ - M) = 0 := by
  rw [EReal.bot_sub]; rfl

theorem sum_mul_real (ι : Type) (s : Finset ι) (u : ι → EReal) (c : ℝ) (hc : 0 ≤ c) :
    (∑ i ∈ s, u i) * (c : EReal) = ∑ i ∈ s, u i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The sum of the weights of a window is a positive real. -/
theorem den_real (M : EReal) (hM : IsReal M) (a n P0 : ℕ) (h0 : a ≤ P0 ∧ P0 < a + n) (hr : IsReal (f P0))
    (hall : ∀ P, f P = ⊥ ∨ IsReal (f P)) : ∃ c : ℝ, 0 < c ∧ ∑ t : Fin n, Ideal.exp (f (a + t.val) - M) = (c : EReal) := by
  choose w hw0 hw using fun P => weight_real M (f P) hM (hall P)
  refine ⟨∑ t : Fin n, w (a + t.val), ?_, ?_⟩
  · refine Finset.sum_pos' (fun t _ => hw0 _) ⟨⟨P0 - a, by omega⟩, Finset.mem_univ _, ?_⟩
    show 0 < w (a + (P0 - a))
    rw [show a + (P0 - a) = P0 by omega]
    obtain ⟨m, rfl⟩ := hM
    obtain ⟨r, hr⟩ := hr
    have := hw P0
    rw [hr, ← EReal.coe_sub] at this
    have h3 : Real.exp (r - m) = w P0 := EReal.coe_injective this
    rw [← h3]
    exact Real.exp_pos _
  · have : ∀ s : Finset (Fin n), ∑ t ∈ s, Ideal.exp (f (a + t.val) - M) = ((∑ t ∈ s, w (a + t.val) : ℝ) : EReal) := by
      classical
      intro s
      induction s using Finset.induction_on with
      | empty => simp
      | insert b s hb ih => rw [Finset.sum_insert hb, Finset.sum_insert hb, ih, hw, EReal.coe_add]
    exact this _

/-- The two ways of taking the weighted mean agree. -/
theorem mean_eq (v : ℕ → EReal) (a n a' n' P0 : ℕ) (hr : IsReal (f P0)) (hall : ∀ P, f P = ⊥ ∨ IsReal (f P))
    (h : ∀ P, f P ≠ ⊥ → a ≤ P ∧ P < a + n) (h' : ∀ P, f P ≠ ⊥ → a' ≤ P ∧ P < a' + n') :
    Ideal.div (∑ t : Fin n, Ideal.exp (f (a + t.val) - wMax f a n) * v (a + t.val)) (∑ t : Fin n, Ideal.exp (f (a + t.val) - wMax f a n))
      = ∑ t : Fin n', v (a' + t.val) * Ideal.div (Ideal.exp (f (a' + t.val) - wMax f a' n')) (∑ t : Fin n', Ideal.exp (f (a' + t.val) - wMax f a' n')) := by
  have hP0 : f P0 ≠ ⊥ := by obtain ⟨r, hr⟩ := hr; rw [hr]; exact EReal.coe_ne_bot r
  have ht : ∀ P, f P ≠ ⊤ := fun P => by
    rcases hall P with e | ⟨r, e⟩ <;> rw [e]
    · exact bot_ne_top
    · exact EReal.coe_ne_top r
  have hM := wMax_real f a n P0 (h P0 hP0) hr ht
  rw [← wMax_eq f a n a' n' h h']
  obtain ⟨c, hc, e⟩ := den_real f _ hM a n P0 (h P0 hP0) hr hall
  have z : ∀ P, Ideal.exp (f P - wMax f a n) ≠ 0 → f P ≠ ⊥ := fun P hne hb => hne (by rw [hb]; exact weight_bot _)
  rw [← wSum_eq (fun P => Ideal.exp (f P - wMax f a n)) a n a' n' (fun P hP => h P (z P hP)) (fun P hP => h' P (z P hP)), e,
    Ideal.div_coe (ne_of_gt hc), sum_mul_real _ _ _ _ (by positivity)]
  rw [wSum_eq (fun P => Ideal.exp (f P - wMax f a n) * v P * ((1 / c : ℝ) : EReal)) a n a' n' (fun P hP => h P (z P fun e => hP (by simp [e])))
    (fun P hP => h' P (z P fun e => hP (by simp [e])))]
  refine Finset.sum_congr rfl fun t _ => ?_
  rw [Ideal.div_coe (ne_of_gt hc), mul_comm (Ideal.exp _) (v _), mul_assoc]

theorem lse_eq (a n a' n' : ℕ) (h : ∀ P, f P ≠ ⊥ → a ≤ P ∧ P < a + n) (h' : ∀ P, f P ≠ ⊥ → a' ≤ P ∧ P < a' + n') :
    wMax f a n + Ideal.log (∑ t : Fin n, Ideal.exp (f (a + t.val) - wMax f a n))
      = wMax f a' n' + Ideal.log (∑ t : Fin n', Ideal.exp (f (a' + t.val) - wMax f a' n')) := by
  rw [← wMax_eq f a n a' n' h h']
  have z : ∀ P, Ideal.exp (f P - wMax f a n) ≠ 0 → f P ≠ ⊥ := fun P hne hb => hne (by rw [hb]; exact weight_bot _)
  rw [wSum_eq (fun P => Ideal.exp (f P - wMax f a n)) a n a' n' (fun P hP => h P (z P hP)) (fun P hP => h' P (z P hP))]

end Cert.Window

end
-- ==== Proof.AttnBucket.lean ====
/- The relative-position bucket of a scaled distance, as both programs compute it in words. -/
module

public import Idealize.ShloMosaic.Lib.Pointwise

@[expose] public section

set_option maxRecDepth 16384

noncomputable section

namespace Cert.Bucket

open Idealize.ShloMosaic

/-- The real number whose logarithm scale both programs carry. -/
def farReal (a : BitVec 32) : EReal :=
  Ideal.div (Ideal.log (Ideal.div (FloatOps.sitofp (F := Ideal) FTy.f32 (IntOp.maxsi a 1#32)) (Ideal.ofBits FTy.f32 1090519040#32)))
    (Ideal.ofBits FTy.f32 1083917269#32) * Ideal.ofBits FTy.f32 1090519040#32

/-- The bucket of the distance word `w`. -/
def bucketW (w : BitVec 32) : BitVec 32 :=
  IntOp.addi (Scalar.select (IntOp.cmpi CmpIPredicate.sgt w 0#32) 16#32 0#32)
    (Scalar.select (IntOp.cmpi CmpIPredicate.slt (IntOp.absi w) 8#32) (IntOp.absi w)
      (IntOp.minsi (IntOp.addi (8#32) (FloatOps.fptosi (F := Ideal) (φ := .f32) 32 (farReal (IntOp.absi w)))) 15#32))

theorem c8 : Ideal.ofBits .f32 1090519040#32 = ((8 : ℝ) : EReal) := by
  simp [Ideal.ofBits, Ideal.ieee, -EReal.coe_mul]; norm_num

theorem cLog : ∃ c : ℝ, 1 ≤ c ∧ Ideal.ofBits .f32 1083917269#32 = (c : EReal) := by
  refine ⟨_, ?_, by simp [Ideal.ofBits, Ideal.ieee, -EReal.coe_mul]; rfl⟩
  norm_num

/-- For a distance between 8 and 256 the real number lies between 0 and 256. -/
theorem farReal_bounds (a : BitVec 32) (h1 : 8 ≤ a.toNat) (h2 : a.toNat ≤ 256) :
    ∃ x : ℝ, 0 ≤ x ∧ x ≤ 256 ∧ farReal a = (x : EReal) := by
  obtain ⟨c, hc1, hc⟩ := cLog
  have hm : IntOp.maxsi a 1#32 = a := by
    unfold IntOp.maxsi
    have : a.slt 1#32 = false := by
      rw [BitVec.slt_eq_decide]; simp [BitVec.toInt_eq_toNat_cond]; omega
    have h3 : (1#32).slt a = true := by
      rw [BitVec.slt_eq_decide]; simp [BitVec.toInt_eq_toNat_cond]; omega
    simp [h3]
  have hi : (FloatOps.sitofp (F := Ideal) FTy.f32 a : EReal) = ((a.toNat : ℝ) : EReal) := by
    show ((a.toInt : ℝ) : EReal) = _
    have : a.toInt = a.toNat := by rw [BitVec.toInt_eq_toNat_cond]; split <;> omega
    rw [this]; push_cast; rfl
  have hn : (8 : ℝ) ≤ a.toNat := by exact_mod_cast h1
  have hn2 : (a.toNat : ℝ) ≤ 256 := by exact_mod_cast h2
  have hpos : (0 : ℝ) < a.toNat * 8⁻¹ := by positivity
  refine ⟨Real.log (a.toNat * 8⁻¹) * c⁻¹ * 8, ?_, ?_, ?_⟩
  · have : 0 ≤ Real.log (a.toNat * 8⁻¹) := Real.log_nonneg (by linarith)
    positivity
  · have hl : Real.log (a.toNat * 8⁻¹) ≤ a.toNat * 8⁻¹ - 1 := Real.log_le_sub_one_of_pos hpos
    have hl0 : 0 ≤ Real.log (a.toNat * 8⁻¹) := Real.log_nonneg (by linarith)
    have hci : c⁻¹ ≤ 1 := inv_le_one_of_one_le₀ hc1
    have := mul_le_of_le_one_right hl0 hci
    linarith
  · unfold farReal
    have hc0 : c ≠ 0 := ne_of_gt (by linarith)
    rw [hm, hi, c8, hc, Ideal.div_coe (by norm_num : (8 : ℝ) ≠ 0), Ideal.div_coe hc0, ← EReal.coe_mul]
    rw [show ((a.toNat : ℝ) * (1 / 8) : ℝ) = a.toNat * 8⁻¹ by ring]
    rw [show Ideal.log (((a.toNat : ℝ) * 8⁻¹ : ℝ) : EReal) = (Real.log (a.toNat * 8⁻¹) : EReal) from
      if_neg hpos.not_ge]
    rw [← EReal.coe_mul, ← EReal.coe_mul, one_div]

theorem far_word (a : BitVec 32) (h1 : 8 ≤ a.toNat) (h2 : a.toNat ≤ 256) :
    (IntOp.minsi (IntOp.addi (8#32) (FloatOps.fptosi (F := Ideal) (φ := .f32) 32 (farReal a))) 15#32).toNat ≤ 15 := by
  obtain ⟨x, hx0, hx1, hx⟩ := farReal_bounds a h1 h2
  have hf : ∃ k : ℕ, k ≤ 256 ∧ (FloatOps.fptosi (F := Ideal) (φ := .f32) 32 (farReal a)) = BitVec.ofNat 32 k := by
    refine ⟨⌊x⌋₊, ?_, ?_⟩
    · have := Nat.floor_le hx0
      have h3 : ((⌊x⌋₊ : ℕ) : ℝ) ≤ 256 := this.trans hx1
      exact_mod_cast h3
    · rw [hx]
      show Ideal.fptosi 32 (x : EReal) = _
      rw [Ideal.fptosi, Ideal.toIntClamped_coe]
      have hfl : ⌊x⌋ = (⌊x⌋₊ : ℤ) := (Int.natCast_floor_eq_floor hx0).symm
      have h4 : ⌊x⌋₊ ≤ 256 := by
        have h3 : ((⌊x⌋₊ : ℕ) : ℝ) ≤ 256 := (Nat.floor_le hx0).trans hx1
        exact_mod_cast h3
      rw [if_pos hx0, hfl]
      rw [min_eq_right (by push_cast; omega), max_eq_right (by push_cast; omega)]
      exact BitVec.ofInt_natCast 32 _
  obtain ⟨k, hk, e⟩ := hf
  rw [e]
  have : IntOp.addi 8#32 (BitVec.ofNat 32 k) = BitVec.ofNat 32 (8 + k) := by
    apply BitVec.eq_of_toNat_eq; simp [IntOp.addi]
  rw [this]
  unfold IntOp.minsi
  split <;> rename_i h
  · simp [BitVec.slt_eq_decide, BitVec.sle_eq_decide, BitVec.toInt_eq_toNat_cond] at h ⊢
    omega
  · simp

/-- The bucket is one of the 32. -/
theorem bucketW_lt (w : BitVec 32) (h : (IntOp.absi w).toNat ≤ 256) : (bucketW w).toNat < 32 := by
  unfold bucketW
  have hA : (Scalar.select (IntOp.cmpi CmpIPredicate.sgt w 0#32) (16#32) (0#32)).toNat ≤ 16 := by
    unfold Scalar.select; split <;> simp
  have hB : (Scalar.select (IntOp.cmpi CmpIPredicate.slt (IntOp.absi w) 8#32) (IntOp.absi w)
      (IntOp.minsi (IntOp.addi (8#32) (FloatOps.fptosi (F := Ideal) (φ := .f32) 32 (farReal (IntOp.absi w)))) 15#32)).toNat ≤ 15 := by
    by_cases h8 : (IntOp.absi w).toNat < 8
    · have e : IntOp.cmpi CmpIPredicate.slt (IntOp.absi w) 8#32 = 1#1 := by
        show BitVec.ofBool ((IntOp.absi w).slt 8#32) = 1#1
        rw [show (IntOp.absi w).slt 8#32 = true by
          rw [BitVec.slt_eq_decide]; simp [BitVec.toInt_eq_toNat_cond]; omega]
        rfl
      rw [e]
      show (IntOp.absi w).toNat ≤ 15
      omega
    · have e : IntOp.cmpi CmpIPredicate.slt (IntOp.absi w) 8#32 = 0#1 := by
        show BitVec.ofBool ((IntOp.absi w).slt 8#32) = 0#1
        rw [show (IntOp.absi w).slt 8#32 = false by
          rw [BitVec.slt_eq_decide]; simp [BitVec.toInt_eq_toNat_cond]; omega]
        rfl
      rw [e]
      exact far_word _ (by omega) h
  revert hA hB
  generalize Scalar.select (IntOp.cmpi CmpIPredicate.sgt w 0#32) (16#32) (0#32) = A
  generalize Scalar.select (IntOp.cmpi CmpIPredicate.slt (IntOp.absi w) 8#32) (IntOp.absi w)
      (IntOp.minsi (IntOp.addi (8#32) (FloatOps.fptosi (F := Ideal) (φ := .f32) 32 (farReal (IntOp.absi w)))) 15#32) = B
  intro hA hB
  show (A + B).toNat < 32
  rw [BitVec.toNat_add]
  omega

end Cert.Bucket

end
-- ==== Proof.AttnSpec.lean ====
/- The logits of one head of one residue class as a function of query and key positions, and the word arithmetic of
   positions that both programs use to place them. -/
module

public import proofs.«01_k».proof.Proof.AttnMath
public import proofs.«01_k».proof.Proof.AttnBucket

@[expose] public section

set_option maxRecDepth 16384

noncomputable section

namespace Cert.Window

open Idealize.ShloMosaic Cert.Bucket

/-! ## Positions as 32-bit words -/

theorem ofInt_toNat (δ : ℤ) : (BitVec.ofInt 32 δ).toNat = (δ % 4294967296).toNat := by
  rw [BitVec.toNat_ofInt]; rfl

theorem sub_word (t l : ℕ) : IntOp.subi (BitVec.ofNat 32 t) (BitVec.ofNat 32 l) = BitVec.ofInt 32 ((t : ℤ) - l) := by
  apply BitVec.eq_of_toNat_eq
  rw [ofInt_toNat]
  simp [IntOp.subi]
  omega

theorem add_word (a b : ℤ) : IntOp.addi (BitVec.ofInt 32 a) (BitVec.ofInt 32 b) = BitVec.ofInt 32 (a + b) :=
  (BitVec.ofInt_add a b).symm

theorem mul_word (a b : ℤ) : IntOp.muli (BitVec.ofInt 32 a) (BitVec.ofInt 32 b) = BitVec.ofInt 32 (a * b) :=
  (BitVec.ofInt_mul a b).symm

theorem subi_word (a b : ℤ) : IntOp.subi (BitVec.ofInt 32 a) (BitVec.ofInt 32 b) = BitVec.ofInt 32 (a - b) := by
  apply BitVec.eq_of_toNat_eq
  show (BitVec.ofInt 32 a - BitVec.ofInt 32 b).toNat = _
  rw [BitVec.toNat_sub, ofInt_toNat, ofInt_toNat, ofInt_toNat]
  omega

theorem nat_word (n : ℕ) : BitVec.ofNat 32 n = BitVec.ofInt 32 (n : ℤ) := (BitVec.ofInt_natCast 32 n).symm

theorem absi_word (δ : ℤ) (h : δ.natAbs ≤ 4096) : (IntOp.absi (BitVec.ofInt 32 δ)).toNat = δ.natAbs := by
  unfold IntOp.absi
  have hm : (BitVec.ofInt 32 δ).msb = decide (δ < 0) := by
    rw [BitVec.msb_eq_decide, ofInt_toNat]
    apply decide_eq_decide.mpr
    omega
  rw [hm]
  by_cases h0 : δ < 0
  · simp only [h0, decide_true, if_true]
    rw [BitVec.toNat_neg, ofInt_toNat]
    omega
  · simp only [h0, decide_false]
    rw [if_neg (by simp), ofInt_toNat]
    omega

theorem sle_word (a : BitVec 32) (n : ℕ) (ha : a.toNat ≤ 4096) (hn : n ≤ 4096) :
    IntOp.cmpi .sle a (BitVec.ofNat 32 n) = BitVec.ofBool (decide (a.toNat ≤ n)) := by
  show BitVec.ofBool (a.sle (BitVec.ofNat 32 n)) = _
  rw [BitVec.sle_eq_decide]
  congr 1
  apply decide_eq_decide.mpr
  rw [BitVec.toInt_eq_toNat_cond, BitVec.toInt_eq_toNat_cond]
  simp
  omega

theorem sge_zero_word (δ : ℤ) (h : δ.natAbs ≤ 4096) : IntOp.cmpi .sge (BitVec.ofInt 32 δ) 0#32 = BitVec.ofBool (decide (0 ≤ δ)) := by
  show BitVec.ofBool ((0#32).sle (BitVec.ofInt 32 δ)) = _
  rw [BitVec.sle_eq_decide]
  congr 1
  apply decide_eq_decide.mpr
  rw [BitVec.toInt_eq_toNat_cond, BitVec.toInt_eq_toNat_cond, ofInt_toNat]
  simp
  omega

theorem slt_word (δ : ℤ) (h : δ.natAbs ≤ 4096) : IntOp.cmpi .slt (BitVec.ofInt 32 δ) 512#32 = BitVec.ofBool (decide (δ < 512)) := by
  show BitVec.ofBool ((BitVec.ofInt 32 δ).slt 512#32) = _
  rw [BitVec.slt_eq_decide]
  congr 1
  apply decide_eq_decide.mpr
  rw [BitVec.toInt_eq_toNat_cond, BitVec.toInt_eq_toNat_cond, ofInt_toNat]
  simp
  omega

/-- The bucket of a key `δ` positions after its query, the positions of a class being 4 apart. -/
def bucketOf (δ : ℤ) : ℕ := (bucketW (BitVec.ofInt 32 (δ * 4))).toNat

theorem bucketOf_lt (δ : ℤ) (h : δ.natAbs ≤ 64) : bucketOf δ < 32 :=
  bucketW_lt _ (by rw [absi_word _ (by omega)]; omega)

/-! ## The logits -/

variable (x : (⟨3, ![16, 2048, 6656]⟩ : Shape).Idx → EReal) (rb : (⟨2, ![32, 12]⟩ : Shape).Idx → EReal)

/-- An element of the activations, at positions given as numbers. -/
def at3 (b n c : ℕ) : EReal := x (ix3 (Fin.ofNat 16 b) (Fin.ofNat 2048 n) (Fin.ofNat 6656 c))

theorem at3_eq (b : Fin 16) (n c : ℕ) (hn : n < 2048) (hc : c < 6656) : x (ix3 b ⟨n, hn⟩ ⟨c, hc⟩) = at3 x b.val n c := by
  unfold at3
  congr 1
  have h1 : (b : Fin 16) = Fin.ofNat 16 b.val := Fin.ext (by simp)
  have h2 : (⟨n, hn⟩ : Fin 2048) = Fin.ofNat 2048 n := Fin.ext (by simp [Nat.mod_eq_of_lt hn])
  have h3 : (⟨c, hc⟩ : Fin 6656) = Fin.ofNat 6656 c := Fin.ext (by simp [Nat.mod_eq_of_lt hc])
  rw [← h1, ← h2, ← h3]

/-- The logit of query position `q` against key position `k` of residue class `r`, head `h`. -/
def logit (b r h q k : ℕ) : EReal :=
  (∑ d : Fin 128, at3 x b (q * 4 + r) (512 + (h * 128 + d.val)) * at3 x b (k * 4 + r) (2048 + (h * 128 + d.val))) * Ideal.ofBits .f32 0x3DB504F3#32
    + rb (ix2 (Fin.ofNat 32 (bucketOf ((k : ℤ) - q))) (Fin.ofNat 12 (4 + h)))

/-- The same by position in the padded class (64 before the first key), masked outside the window and the array. -/
def gP (b r h q P : ℕ) : EReal := if 64 ≤ P ∧ P < 576 ∧ q ≤ P ∧ P ≤ q + 128 then logit x rb b r h q (P - 64) else ⊥

/-- The values by position in the padded class. -/
def vP (b r h d P : ℕ) : EReal := if 64 ≤ P ∧ P < 576 then at3 x b ((P - 64) * 4 + r) (3584 + (h * 128 + d)) else 0

/-- What the claim's condition gives: queries, keys and the table's columns are real. -/
def Finite : Prop := (∀ b n c, c < 512 → IsReal (at3 x b n (512 + c))) ∧ (∀ b n c, c < 512 → IsReal (at3 x b n (2048 + c)))
  ∧ ∀ i h, h < 4 → IsReal (rb (ix2 (Fin.ofNat 32 i) (Fin.ofNat 12 (4 + h))))

variable {x rb}

theorem scale_real : IsReal (Ideal.ofBits .f32 0x3DB504F3#32) :=
  ⟨_, by simp [Ideal.ofBits, Ideal.ieee, -EReal.coe_mul]; rfl⟩

theorem logit_real (H : Finite x rb) (b r h q k : ℕ) (hh : h < 4) : IsReal (logit x rb b r h q k) :=
  ((IsReal.sum _ _ fun d _ => (H.1 _ _ _ (by omega)).mul (H.2.1 _ _ _ (by omega))).mul scale_real).add (H.2.2 _ _ hh)

theorem gP_real (H : Finite x rb) (b r h q : ℕ) (hh : h < 4) (P : ℕ) : gP x rb b r h q P = ⊥ ∨ IsReal (gP x rb b r h q P) := by
  unfold gP
  split
  · exact Or.inr (logit_real H b r h q _ hh)
  · exact Or.inl rfl

theorem gP_self (H : Finite x rb) (b r h q : ℕ) (hh : h < 4) (hq : q < 512) : IsReal (gP x rb b r h q (q + 64)) := by
  unfold gP
  rw [if_pos (by omega)]
  exact logit_real H b r h q _ hh

theorem gP_window (b r h q P : ℕ) (hP : gP x rb b r h q P ≠ ⊥) : 64 ≤ P ∧ P < 576 ∧ q ≤ P ∧ P ≤ q + 128 := by
  by_contra hc
  exact hP (if_neg hc)

end Cert.Window

end
-- ==== Proof.AttnKerSpec.lean ====
/- The kernel's logits, weights and results in terms of the logits by position. -/
module

public import proofs.«01_k».proof.Proof.AttnVal
public import proofs.«01_k».proof.Proof.AttnSpec

@[expose] public section

set_option maxRecDepth 16384

noncomputable section

namespace Cert.AttnIdeal.Gen

open Idealize.ShloMosaic Cert.Window Cert.Bucket

/-- The packed array: queries, keys and values side by side, regrouped by residue class. -/
def zArr (x : FVec Ideal S16x2048x6656 .f32) : FVec Ideal S16x2048x1536 .bf16 :=
  shapeCast S16x2048x1536 (transpose S16x4x512x1536 [0, 2, 1, 3] (shapeCast S16x512x4x1536 (truncf .bf16 (concatenate S16x2048x1536 2
    [⟨S16x2048x512, extractStridedSlice S16x2048x512 ![0, 0, 512] x slices_S16x2048x6656_S16x2048x512_0_0_512⟩,
     ⟨S16x2048x512, extractStridedSlice S16x2048x512 ![0, 0, 2048] x slices_S16x2048x6656_S16x2048x512_0_0_2048⟩,
     ⟨S16x2048x512, extractStridedSlice S16x2048x512 ![0, 0, 3584] x slices_S16x2048x6656_S16x2048x512_0_0_3584⟩]
    concatenates_S16x2048x512_S16x2048x512_S16x2048x512_S16x2048x1536_d2) bitsLt_bf16_f32) shapeCasts_S16x2048x1536_S16x512x4x1536)
    transposes_S16x512x4x1536_S16x4x512x1536_0_2_1_3) shapeCasts_S16x4x512x1536_S16x2048x1536

theorem zArr_apply (x : FVec Ideal S16x2048x6656 .f32) (b : Fin 16) (r : Fin 4) (l : Fin 512) (q : Fin 1536) :
    zArr x (ix3 b ⟨r.val * 512 + l.val, by omega⟩ q) =
      at3 x b.val (l.val * 4 + r.val) ((if q.val < 512 then 512 else if q.val < 1024 then 1536 else 2560) + q.val) := by
  pointwise [zArr]
  by_cases h1 : q.val < 512
  · rw [dif_pos h1, if_pos h1]
    exact at3_eq x _ _ _ _ _
  · rw [dif_neg h1, if_neg h1]
    by_cases h2 : q.val < 1024
    · rw [dif_pos (by omega), if_pos h2]
      exact (at3_eq x _ _ _ _ _).trans (congrArg (at3 x _ _) (by omega))
    · rw [dif_neg (by omega), if_neg h2]
      exact (at3_eq x _ _ _ _ _).trans (congrArg (at3 x _ _) (by omega))

/-- The packed array at positions given as numbers. -/
theorem zArr_at (x : FVec Ideal S16x2048x6656 .f32) (b r l g c : ℕ) (hb : b < 16) (hr : r < 4) (hl : l < 512) (hg : g < 3) (hc : c < 512) (N Q : ℕ)
    (hN : N = r * 512 + l) (hQ : Q = g * 512 + c) :
    zArr x (ix3 (Fin.ofNat 16 b) (Fin.ofNat 2048 N) (Fin.ofNat 1536 Q)) = at3 x b (l * 4 + r) ((512 + g * 1536) + c) := by
  subst hN hQ
  have e2 : Fin.ofNat 2048 (r * 512 + l) = ⟨(⟨r, hr⟩ : Fin 4).val * 512 + (⟨l, hl⟩ : Fin 512).val, by dsimp only; omega⟩ :=
    Fin.ext (Nat.mod_eq_of_lt (by omega))
  have e3 : Fin.ofNat 1536 (g * 512 + c) = ⟨g * 512 + c, by omega⟩ := Fin.ext (Nat.mod_eq_of_lt (by omega))
  rw [e2, e3, zArr_apply]
  have e1 : (Fin.ofNat 16 b).val = b := Nat.mod_eq_of_lt hb
  rw [e1]
  congr 1
  dsimp only
  split
  · omega
  · split <;> omega

end Cert.AttnIdeal.Gen

end
-- ==== Proof.AttnEntry.lean ====
/- What the host code leaves in the packed array. -/
module

public import proofs.«01_k».proof.Proof.AttnKerSpec
public import Idealize.ShloMosaic.Lib.Claim

@[expose] public section

set_option maxRecDepth 16384

noncomputable section

namespace Cert.AttnIdeal.Gen

open Idealize.ShloMosaic

/-- The three column ranges packed side by side and regrouped by residue class. -/
def pack (a b c : FVec Ideal S16x2048x512 .f32) : FVec Ideal S16x2048x1536 .bf16 :=
  shapeCast S16x2048x1536 (transpose S16x4x512x1536 [0, 2, 1, 3] (shapeCast S16x512x4x1536 (truncf .bf16 (concatenate S16x2048x1536 2
    [⟨S16x2048x512, a⟩, ⟨S16x2048x512, b⟩, ⟨S16x2048x512, c⟩]
    concatenates_S16x2048x512_S16x2048x512_S16x2048x512_S16x2048x1536_d2) bitsLt_bf16_f32) shapeCasts_S16x2048x1536_S16x512x4x1536)
    transposes_S16x512x4x1536_S16x4x512x1536_0_2_1_3) shapeCasts_S16x4x512x1536_S16x2048x1536

variable (σ : Valuation τ sig (Elt Ideal))

/-- The contents after the three slices. -/
def sliced : Valuation τ sig (Elt Ideal) := StableHlo.after (hostOps0.take 3) σ

theorem sliced_v0 : sliced σ (Proc.devRef .tc main_v0)
    = extractStridedSlice S16x2048x512 ![0, 0, 512] (σ (Proc.devRef .tc main_arg0) : FVec Ideal S16x2048x6656 .f32) slices_S16x2048x6656_S16x2048x512_0_0_512 := by
  unfold sliced
  simp only [List.take_succ_cons, List.take_zero, StableHlo.after_cons, StableHlo.after_nil]
  after_results_simp

theorem sliced_v1 : sliced σ (Proc.devRef .tc main_v1)
    = extractStridedSlice S16x2048x512 ![0, 0, 2048] (σ (Proc.devRef .tc main_arg0) : FVec Ideal S16x2048x6656 .f32) slices_S16x2048x6656_S16x2048x512_0_0_2048 := by
  unfold sliced
  simp only [List.take_succ_cons, List.take_zero, StableHlo.after_cons, StableHlo.after_nil]
  after_results_simp

theorem sliced_v2 : sliced σ (Proc.devRef .tc main_v2)
    = extractStridedSlice S16x2048x512 ![0, 0, 3584] (σ (Proc.devRef .tc main_arg0) : FVec Ideal S16x2048x6656 .f32) slices_S16x2048x6656_S16x2048x512_0_0_3584 := by
  unfold sliced
  simp only [List.take_succ_cons, List.take_zero, StableHlo.after_cons, StableHlo.after_nil]
  after_results_simp

theorem after_pack : StableHlo.after hostOps0 σ (Proc.devRef .tc main_v7)
    = pack (sliced σ (Proc.devRef .tc main_v0)) (sliced σ (Proc.devRef .tc main_v1)) (sliced σ (Proc.devRef .tc main_v2)) := by
  simp only [StableHlo.after_cons, StableHlo.after_nil]
  after_results_simp
  rfl

theorem after_v7 : StableHlo.after hostOps0 σ (Proc.devRef .tc main_v7) = zArr (σ (Proc.devRef .tc main_arg0)) := by
  rw [after_pack, sliced_v0, sliced_v1, sliced_v2]
  rfl

theorem V1_main_v7 (m : (ℓ : Loc nD τ sig) → Buf (Elt Ideal) ℓ) (ρ : Dev nD → PrngReg) (c : Dev nD) :
    V1 m ρ c main_v7 = zArr (m ((c.tc : Thread nD τ).loc main_arg0)) :=
  after_v7 (W0 m ρ c)

end Cert.AttnIdeal.Gen

end
-- ==== Proof.AttnKerTab.lean ====
/- The kernel's logits, weights and results in terms of the logits by position. -/
module

public import proofs.«01_k».proof.Proof.AttnKerSpec
public import proofs.«01_k».proof.Proof.AttnSpec

@[expose] public section

set_option maxRecDepth 16384

noncomputable section

namespace Cert.AttnIdeal.Gen

open Idealize.ShloMosaic Cert.Window Cert.Bucket

/-- A row of a block's queries, keys or values, in the input. -/
theorem row_at (x : FVec Ideal S16x2048x6656 .f32) (b p g n r0 c0 : ℕ) (i : Fin n) (d : Fin 128) (r l c : ℕ) (hb : b < 16) (hp : p < 2) (hr : r < 4) (hl : l < 512)
    (hg : g < 3) (hc : c < 512) (hN : p * 1024 + (r0 + i.val) % 1024 = r * 512 + l) (hQ : c0 + d.val = c) :
    rowsAt (F := Ideal) n (qkvBlock (zArr x) b p g) r0 c0 (ix3 0 i d) = (at3 x b (l * 4 + r) ((512 + g * 1536) + c) : EReal) :=
  zArr_at x b r l g c hb hr hl hg hc _ _
    (by show p * 1024 + (r0 + i.val) % 1024 = _; exact hN)
    (by show g * 512 + (c0 + d.val) % 512 = _; rw [hQ, Nat.mod_eq_of_lt hc])

/-! ## The bias table -/

/-- How many positions lie between a window's first key and its first query, by kind of window. -/
def kindOff (k : ℕ) : ℤ := if k = 0 then -64 else if k = 1 then 0 else -128

theorem coords_1 : ∀ k : Fin 3, (grid0.coords (Fin.ofNat 9 (1 * 3 + k.val)) 0).val = 1 ∧ (grid0.coords (Fin.ofNat 9 (1 * 3 + k.val)) 1).val = k.val := by
  decide +kernel

theorem off_word (k : ℕ) (hk : k < 3) : Scalar.select (Scalar.cmpi CmpIPredicate.eq (BitVec.ofNat 32 k) 0#32) (4294967232#32)
    (Scalar.select (Scalar.cmpi CmpIPredicate.eq (BitVec.ofNat 32 k) 1#32) 0#32 4294967168#32) = BitVec.ofInt 32 (kindOff k) := by
  revert k
  decide

theorem pay6_apply (i : grid0.Coords) (l : Fin 128) (t : Fin 256) (hk : (i 1).val < 3) :
    k0_pay6 i (ix2 l t) = BitVec.ofInt 32 ((t.val : ℤ) - l.val + kindOff (i 1).val) := by
  have h : k0_pay6 i (ix2 l t) = IntOp.addi (IntOp.subi (BitVec.ofNat 32 t.val) (BitVec.ofNat 32 l.val))
        (Scalar.select (Scalar.cmpi CmpIPredicate.eq (BitVec.ofNat 32 (i 1).val) 0#32) (4294967232#32)
          (Scalar.select (Scalar.cmpi CmpIPredicate.eq (BitVec.ofNat 32 (i 1).val) 1#32) 0#32 4294967168#32)) := by
    pointwise [k0_pay6]
  rw [h, off_word _ hk, sub_word, add_word]

theorem pay7_word (i : grid0.Coords) (l : Fin 128) (t : Fin 256) (h0 : (i 0).val = 1) (hk : (i 1).val < 3) :
    k0_pay7 i (ix2 l t) = BitVec.ofInt 32 (((t.val : ℤ) - l.val + kindOff (i 1).val) * 4) := by
  have h : k0_pay7 i (ix2 l t) = IntOp.muli (k0_pay6 i (ix2 l t))
      (Scalar.select (Scalar.cmpi CmpIPredicate.eq (BitVec.ofNat 32 (i 0).val) 0#32) (1#32)
        (Scalar.select (Scalar.cmpi CmpIPredicate.eq (BitVec.ofNat 32 (i 0).val) 1#32) 4#32 16#32)) := by
    pointwise [k0_pay7]
  rw [h, h0, pay6_apply i l t hk]
  exact mul_word _ 4

theorem bucketAt_apply (i : grid0.Coords) (l : Fin 128) (t : Fin 256) (h0 : (i 0).val = 1) (hk : (i 1).val < 3) :
    (bucketAt Ideal i (ix2 l t)).toNat = bucketOf ((t.val : ℤ) - l.val + kindOff (i 1).val) := by
  have h : bucketAt Ideal i (ix2 l t) = bucketW (k0_pay7 i (ix2 l t)) := by
    unfold bucketW farReal
    pointwise [bucketAt, k0_pay12, k0_pay8, k0_pay9, k0_pay10, k0_pay11]
  rw [h, pay7_word i l t h0 hk]
  rfl

theorem mask_val : Named.named (F := Ideal) Cert.AttnIdeal.κ "mask" (φ := .f32) 0xF149F2CA#32 = (⊥ : EReal) :=
  IdealRules.named_const.ideal_named_scalar _ _ _ _ rfl

theorem headTable_apply (i : grid0.Coords) (x1 : Vec Ideal S32x12 .f32) (h : ℕ) (hh : h < 4) (l : Fin 128) (t : Fin 256)
    (h0 : (i 0).val = 1) (hk : (i 1).val < 3) :
    headTable i x1 h (ix5 0 0 0 l t) = if ((t.val : ℤ) - l.val + kindOff (i 1).val).natAbs ≤ 64 then
      x1 (ix2 (Fin.ofNat 32 (bucketOf ((t.val : ℤ) - l.val + kindOff (i 1).val))) (Fin.ofNat 12 (4 + h))) else (⊥ : EReal) := by
  have e : headTable i x1 h (ix5 0 0 0 l t) = Scalar.select (IntOp.cmpi CmpIPredicate.sle (IntOp.absi (k0_pay6 i (ix2 l t))) 64#32)
      (pick x1 ((i 0).val * 4 + h) (bucketAt Ideal i) 32 (ix2 l t)) (Named.named (F := Ideal) κ "mask" (φ := .f32) 0xF149F2CA#32) := by
    pointwise [headTable, k0_pay5, k0_pay13]
  have hko : (kindOff (i 1).val).natAbs ≤ 128 := by unfold kindOff; split; · decide
                                                    split <;> decide
  have ha := absi_word ((t.val : ℤ) - l.val + kindOff (i 1).val) (by omega)
  rw [e, pay6_apply i l t hk, mask_val, show (64#32 : BitVec 32) = BitVec.ofNat 32 64 from rfl, sle_word _ 64 (by omega) (by omega), ha]
  by_cases hd : ((t.val : ℤ) - l.val + kindOff (i 1).val).natAbs ≤ 64
  · rw [if_pos hd, decide_eq_true hd]
    show pick x1 ((i 0).val * 4 + h) (bucketAt Ideal i) 32 (ix2 l t) = _
    unfold pick
    rw [bucketAt_apply i l t h0 hk, if_pos (bucketOf_lt _ hd), h0]
  · rw [if_neg hd, decide_eq_false hd]
    rfl

theorem finalT_apply (x1 : Vec Ideal S32x12 .f32) (k : Fin 3) (h : Fin 4) (l : Fin 128) (t : Fin 256) :
    finalT x1 (ix5 1 k h l t) = if ((t.val : ℤ) - l.val + kindOff k.val).natAbs ≤ 64 then
      x1 (ix2 (Fin.ofNat 32 (bucketOf ((t.val : ℤ) - l.val + kindOff k.val))) (Fin.ofNat 12 (4 + h.val))) else (⊥ : EReal) := by
  obtain ⟨h0, h1⟩ := coords_1 k
  have := headTable_apply (grid0.coords (Fin.ofNat 9 (1 * 3 + k.val))) x1 h.val h.isLt l t h0 (by rw [h1]; exact k.isLt)
  rw [h1] at this
  exact this

/-! ## One head of one block -/

section Block

variable (x : FVec Ideal S16x2048x6656 .f32) (x1 : Vec Ideal S32x12 .f32)

/-- The logits of block `k` of half `p`, head `h`. -/
theorem blkLogit_spec (b p k h : ℕ) (hb : b < 16) (hp : p < 2) (hk : k < 8) (hh : h < 4) (l : Fin 128) (t : Fin 256) :
    blkLogit (rowsAt 128 (qkvBlock (zArr x) b p 0) (k * 128) (h * 128)) (rowsAt 256 (qkvBlock (zArr x) b p 1) (keyStart k) (h * 128))
        (biasAt (biasBlock (finalT x1)) (biasKind k) h) l t
      = gP x x1 b (p * 2 + k / 4) h (k % 4 * 128 + l.val) (64 + min 256 (k % 4 * 128 - 64) + t.val) := by
  have hks : keyStart k = k / 4 * 512 + min 256 (k % 4 * 128 - 64) := rfl
  have hq : ∀ d : Fin 128, rowsAt (F := Ideal) 128 (qkvBlock (zArr x) b p 0) (k * 128) (h * 128) (ix3 0 l d)
      = (at3 x b ((k % 4 * 128 + l.val) * 4 + (p * 2 + k / 4)) (512 + (h * 128 + d.val)) : EReal) := fun d =>
    row_at x b p 0 128 (k * 128) (h * 128) l d (p * 2 + k / 4) (k % 4 * 128 + l.val) (h * 128 + d.val) hb hp (by omega) (by omega) (by omega) (by omega)
      (by omega) rfl
  have hkk : ∀ d : Fin 128, rowsAt (F := Ideal) 256 (qkvBlock (zArr x) b p 1) (keyStart k) (h * 128) (ix3 0 t d)
      = (at3 x b ((min 256 (k % 4 * 128 - 64) + t.val) * 4 + (p * 2 + k / 4)) (2048 + (h * 128 + d.val)) : EReal) := fun d =>
    row_at x b p 1 256 (keyStart k) (h * 128) t d (p * 2 + k / 4) (min 256 (k % 4 * 128 - 64) + t.val) (h * 128 + d.val) hb hp (by omega) (by omega) (by omega) (by omega)
      (by omega) rfl
  have hbk : biasKind k < 3 := by unfold biasKind; split; · omega
                                  split <;> omega
  have hko : (t.val : ℤ) - l.val + kindOff (biasKind k)
      = ((min 256 (k % 4 * 128 - 64) + t.val : ℕ) : ℤ) - ((k % 4 * 128 + l.val : ℕ) : ℤ) := by
    unfold biasKind kindOff
    have : k % 4 < 4 := Nat.mod_lt _ (by decide)
    by_cases c0 : k % 4 = 0
    · rw [if_pos c0, c0]; simp
    · by_cases c3 : k % 4 = 3
      · rw [if_neg c0, if_pos c3, c3]; simp; omega
      · rw [if_neg c0, if_neg c3]; simp; omega
  have hbias : biasAt (biasBlock (finalT x1)) (biasKind k) h (ix5 0 0 0 l t)
      = if ((t.val : ℤ) - l.val + kindOff (biasKind k)).natAbs ≤ 64 then
      x1 (ix2 (Fin.ofNat 32 (bucketOf ((t.val : ℤ) - l.val + kindOff (biasKind k)))) (Fin.ofNat 12 (4 + h))) else (⊥ : EReal) := by
    have := finalT_apply x1 (Fin.ofNat 3 (biasKind k)) (Fin.ofNat 4 h) l t
    rw [show (Fin.ofNat 3 (biasKind k)).val = biasKind k from Nat.mod_eq_of_lt hbk, show (Fin.ofNat 4 h).val = h from Nat.mod_eq_of_lt hh] at this
    exact this
  unfold blkLogit
  rw [hbias, hko]
  unfold gP
  by_cases hd : (((min 256 (k % 4 * 128 - 64) + t.val : ℕ) : ℤ) - ((k % 4 * 128 + l.val : ℕ) : ℤ)).natAbs ≤ 64
  · rw [if_pos hd, if_pos (by omega)]
    unfold logit
    rw [show 64 + min 256 (k % 4 * 128 - 64) + t.val - 64 = min 256 (k % 4 * 128 - 64) + t.val by omega]
    refine congrArg₂ (· + ·) (congrArg (· * Ideal.ofBits .f32 0x3DB504F3#32) (Finset.sum_congr rfl fun d _ => ?_)) rfl
    exact congrArg₂ (fun (a b : EReal) => a * b) (hq d) (hkk d)
  · rw [if_neg hd, if_neg (by omega)]
    exact EReal.add_bot _

theorem blkMax_spec (b p k h : ℕ) (hb : b < 16) (hp : p < 2) (hk : k < 8) (hh : h < 4) (l : Fin 128) :
    blkMax (rowsAt 128 (qkvBlock (zArr x) b p 0) (k * 128) (h * 128)) (rowsAt 256 (qkvBlock (zArr x) b p 1) (keyStart k) (h * 128))
        (biasAt (biasBlock (finalT x1)) (biasKind k) h) l
      = wMax (gP x x1 b (p * 2 + k / 4) h (k % 4 * 128 + l.val)) (64 + min 256 (k % 4 * 128 - 64)) 256 :=
  congrArg (fun g => Finset.univ.fold max ⊥ g) (funext fun t => blkLogit_spec x x1 b p k h hb hp hk hh l t)

theorem blkDen_spec (b p k h : ℕ) (hb : b < 16) (hp : p < 2) (hk : k < 8) (hh : h < 4) (l : Fin 128) :
    blkDen (rowsAt 128 (qkvBlock (zArr x) b p 0) (k * 128) (h * 128)) (rowsAt 256 (qkvBlock (zArr x) b p 1) (keyStart k) (h * 128))
        (biasAt (biasBlock (finalT x1)) (biasKind k) h) l
      = ∑ t : Fin 256, Ideal.exp (gP x x1 b (p * 2 + k / 4) h (k % 4 * 128 + l.val) (64 + min 256 (k % 4 * 128 - 64) + t.val)
        - wMax (gP x x1 b (p * 2 + k / 4) h (k % 4 * 128 + l.val)) (64 + min 256 (k % 4 * 128 - 64)) 256) := by
  unfold blkDen
  rw [blkMax_spec x x1 b p k h hb hp hk hh l]
  exact Finset.sum_congr rfl fun t _ => by rw [blkLogit_spec x x1 b p k h hb hp hk hh l t]

theorem headO_spec (b p k h : ℕ) (hb : b < 16) (hp : p < 2) (hk : k < 8) (hh : h < 4) (l d : Fin 128) :
    headO (qkvBlock (zArr x) b p 0) (qkvBlock (zArr x) b p 1) (qkvBlock (zArr x) b p 2) (biasBlock (finalT x1)) k h (ix3 0 l d)
      = Ideal.div (∑ t : Fin 256, Ideal.exp (gP x x1 b (p * 2 + k / 4) h (k % 4 * 128 + l.val) (64 + min 256 (k % 4 * 128 - 64) + t.val)
            - wMax (gP x x1 b (p * 2 + k / 4) h (k % 4 * 128 + l.val)) (64 + min 256 (k % 4 * 128 - 64)) 256)
          * vP x b (p * 2 + k / 4) h d.val (64 + min 256 (k % 4 * 128 - 64) + t.val))
        (∑ t : Fin 256, Ideal.exp (gP x x1 b (p * 2 + k / 4) h (k % 4 * 128 + l.val) (64 + min 256 (k % 4 * 128 - 64) + t.val)
            - wMax (gP x x1 b (p * 2 + k / 4) h (k % 4 * 128 + l.val)) (64 + min 256 (k % 4 * 128 - 64)) 256)) := by
  unfold headO
  rw [pay7_apply, blkDen_spec x x1 b p k h hb hp hk hh l, blkMax_spec x x1 b p k h hb hp hk hh l]
  refine congrArg₂ Ideal.div (Finset.sum_congr rfl fun t _ => ?_) rfl
  rw [blkLogit_spec x x1 b p k h hb hp hk hh l t]
  refine congrArg₂ (fun (a b : EReal) => a * b) rfl ?_
  have hks : keyStart k = k / 4 * 512 + min 256 (k % 4 * 128 - 64) := rfl
  unfold vP
  rw [if_pos (by omega), show 64 + min 256 (k % 4 * 128 - 64) + t.val - 64 = min 256 (k % 4 * 128 - 64) + t.val by omega]
  exact row_at x b p 2 256 (keyStart k) (h * 128) t d (p * 2 + k / 4) (min 256 (k % 4 * 128 - 64) + t.val) (h * 128 + d.val) hb hp (by omega) (by omega) (by omega) (by omega)
      (by omega) rfl

theorem headL_spec (b p k h : ℕ) (hb : b < 16) (hp : p < 2) (hk : k < 8) (hh : h < 4) (l d : Fin 128) :
    headL (qkvBlock (zArr x) b p 0) (qkvBlock (zArr x) b p 1) (qkvBlock (zArr x) b p 2) (biasBlock (finalT x1)) k h (ix3 0 l d)
      = wMax (gP x x1 b (p * 2 + k / 4) h (k % 4 * 128 + l.val)) (64 + min 256 (k % 4 * 128 - 64)) 256
        + Ideal.log (∑ t : Fin 256, Ideal.exp (gP x x1 b (p * 2 + k / 4) h (k % 4 * 128 + l.val) (64 + min 256 (k % 4 * 128 - 64) + t.val)
            - wMax (gP x x1 b (p * 2 + k / 4) h (k % 4 * 128 + l.val)) (64 + min 256 (k % 4 * 128 - 64)) 256)) := by
  unfold headL
  rw [pay9_apply, blkDen_spec x x1 b p k h hb hp hk hh l, blkMax_spec x x1 b p k h hb hp hk hh l]

end Block

end Cert.AttnIdeal.Gen

end
-- ==== Proof.AttnRefStages.lean ====
/- The attention of the reference in stages, from which its two results are put together again. -/
module

public import proofs.«01_k».proof.Proof.Gen.AttnRefIdeal.Run
public import Idealize.ShloMosaic.Lib.Pointwise

@[expose] public section

set_option maxRecDepth 16384

noncomputable section

namespace Cert.AttnRefIdeal.Value

open Cert.AttnRefIdeal Cert.AttnRefIdeal.Gen Idealize.ShloMosaic Idealize.ShloMosaic.TcCoe Idealize.SL.Sem

variable {F : FTy → Type} [FloatOps F]

/-- Queries of the second group. -/
def r_v9 (x0 : FVec F S16x2048x6656 .f32) : FVec F S16x2048x4x128 .f32 :=
  shapeCast S16x2048x4x128 (extractStridedSlice S16x2048x1x4x128 ![0, 0, 1, 0, 0] (shapeCast S16x2048x3x4x128 (extractStridedSlice S16x2048x1x3x4x128 ![0, 0, 0, 0, 0, 0] (shapeCast S16x2048x3x3x4x128 (extractStridedSlice S16x2048x4608 ![0, 0, 0] x0 slices_S16x2048x6656_S16x2048x4608_0_0_0) shapeCasts_S16x2048x4608_S16x2048x3x3x4x128) slices_S16x2048x3x3x4x128_S16x2048x1x3x4x128_0_0_0_0_0_0) shapeCasts_S16x2048x1x3x4x128_S16x2048x3x4x128) slices_S16x2048x3x4x128_S16x2048x1x4x128_0_0_1_0_0) shapeCasts_S16x2048x1x4x128_S16x2048x4x128

/-- Keys of the second group. -/
def r_v11 (x0 : FVec F S16x2048x6656 .f32) : FVec F S16x2048x4x128 .f32 :=
  shapeCast S16x2048x4x128 (extractStridedSlice S16x2048x1x4x128 ![0, 0, 1, 0, 0] (shapeCast S16x2048x3x4x128 (extractStridedSlice S16x2048x1x3x4x128 ![0, 0, 1, 0, 0, 0] (shapeCast S16x2048x3x3x4x128 (extractStridedSlice S16x2048x4608 ![0, 0, 0] x0 slices_S16x2048x6656_S16x2048x4608_0_0_0) shapeCasts_S16x2048x4608_S16x2048x3x3x4x128) slices_S16x2048x3x3x4x128_S16x2048x1x3x4x128_0_0_1_0_0_0) shapeCasts_S16x2048x1x3x4x128_S16x2048x3x4x128) slices_S16x2048x3x4x128_S16x2048x1x4x128_0_0_1_0_0) shapeCasts_S16x2048x1x4x128_S16x2048x4x128

/-- Values of the second group. -/
def r_v13 (x0 : FVec F S16x2048x6656 .f32) : FVec F S16x2048x4x128 .f32 :=
  shapeCast S16x2048x4x128 (extractStridedSlice S16x2048x1x4x128 ![0, 0, 1, 0, 0] (shapeCast S16x2048x3x4x128 (extractStridedSlice S16x2048x1x3x4x128 ![0, 0, 2, 0, 0, 0] (shapeCast S16x2048x3x3x4x128 (extractStridedSlice S16x2048x4608 ![0, 0, 0] x0 slices_S16x2048x6656_S16x2048x4608_0_0_0) shapeCasts_S16x2048x4608_S16x2048x3x3x4x128) slices_S16x2048x3x3x4x128_S16x2048x1x3x4x128_0_0_2_0_0_0) shapeCasts_S16x2048x1x3x4x128_S16x2048x3x4x128) slices_S16x2048x3x4x128_S16x2048x1x4x128_0_0_1_0_0) shapeCasts_S16x2048x1x4x128_S16x2048x4x128

/-- Queries by residue class and block of 64. -/
def r_v18 (x0 : FVec F S16x2048x6656 .f32) : FVec F S16x4x8x64x4x128 .f32 :=
  shapeCast S16x4x8x64x4x128 (pad S16x4x512x4x128 ![0, 0, 0, 0, 0] ![0, 0, 0, 0, 0] ![0, 0, 0, 0, 0] (transpose S16x4x512x4x128 [0, 2, 1, 3, 4] (shapeCast S16x512x4x4x128 (r_v9 x0) shapeCasts_S16x2048x4x128_S16x512x4x4x128) transposes_S16x512x4x4x128_S16x4x512x4x128_0_2_1_3_4) (sitofp .f32 (constantI S_ 32 0#32)) pads_S16x4x512x4x128_S16x4x512x4x128_000_000_000_000_000 h_S_) shapeCasts_S16x4x512x4x128_S16x4x8x64x4x128

/-- Keys by residue class, with a block of zeros at either end. -/
def r_v22 (x0 : FVec F S16x2048x6656 .f32) : FVec F S16x4x10x64x4x128 .f32 :=
  shapeCast S16x4x10x64x4x128 (pad S16x4x640x4x128 ![0, 0, 64, 0, 0] ![0, 0, 64, 0, 0] ![0, 0, 0, 0, 0] (transpose S16x4x512x4x128 [0, 2, 1, 3, 4] (shapeCast S16x512x4x4x128 (r_v11 x0) shapeCasts_S16x2048x4x128_S16x512x4x4x128) transposes_S16x512x4x4x128_S16x4x512x4x128_0_2_1_3_4) (sitofp .f32 (constantI S_ 32 0#32)) pads_S16x4x512x4x128_S16x4x640x4x128_000_000_64640_000_000 h_S_) shapeCasts_S16x4x640x4x128_S16x4x10x64x4x128

/-- The three key blocks around each query block. -/
def r_v26 (x0 : FVec F S16x2048x6656 .f32) : FVec F S16x4x8x192x4x128 .f32 :=
  concatenate S16x4x8x192x4x128 3 [⟨S16x4x8x64x4x128, (extractStridedSlice S16x4x8x64x4x128 ![0, 0, 0, 0, 0, 0] (r_v22 x0) slices_S16x4x10x64x4x128_S16x4x8x64x4x128_0_0_0_0_0_0)⟩, ⟨S16x4x8x64x4x128, (extractStridedSlice S16x4x8x64x4x128 ![0, 0, 1, 0, 0, 0] (r_v22 x0) slices_S16x4x10x64x4x128_S16x4x8x64x4x128_0_0_1_0_0_0)⟩, ⟨S16x4x8x64x4x128, (extractStridedSlice S16x4x8x64x4x128 ![0, 0, 2, 0, 0, 0] (r_v22 x0) slices_S16x4x10x64x4x128_S16x4x8x64x4x128_0_0_2_0_0_0)⟩] concatenates_S16x4x8x64x4x128_S16x4x8x64x4x128_S16x4x8x64x4x128_S16x4x8x192x4x128_d3

/-- Values by residue class, with a block of zeros at either end. -/
def r_v30 (x0 : FVec F S16x2048x6656 .f32) : FVec F S16x4x10x64x4x128 .f32 :=
  shapeCast S16x4x10x64x4x128 (pad S16x4x640x4x128 ![0, 0, 64, 0, 0] ![0, 0, 64, 0, 0] ![0, 0, 0, 0, 0] (transpose S16x4x512x4x128 [0, 2, 1, 3, 4] (shapeCast S16x512x4x4x128 (r_v13 x0) shapeCasts_S16x2048x4x128_S16x512x4x4x128) transposes_S16x512x4x4x128_S16x4x512x4x128_0_2_1_3_4) (sitofp .f32 (constantI S_ 32 0#32)) pads_S16x4x512x4x128_S16x4x640x4x128_000_000_64640_000_000 h_S_) shapeCasts_S16x4x640x4x128_S16x4x10x64x4x128

/-- The three value blocks around each query block. -/
def r_v34 (x0 : FVec F S16x2048x6656 .f32) : FVec F S16x4x8x192x4x128 .f32 :=
  concatenate S16x4x8x192x4x128 3 [⟨S16x4x8x64x4x128, (extractStridedSlice S16x4x8x64x4x128 ![0, 0, 0, 0, 0, 0] (r_v30 x0) slices_S16x4x10x64x4x128_S16x4x8x64x4x128_0_0_0_0_0_0)⟩, ⟨S16x4x8x64x4x128, (extractStridedSlice S16x4x8x64x4x128 ![0, 0, 1, 0, 0, 0] (r_v30 x0) slices_S16x4x10x64x4x128_S16x4x8x64x4x128_0_0_1_0_0_0)⟩, ⟨S16x4x8x64x4x128, (extractStridedSlice S16x4x8x64x4x128 ![0, 0, 2, 0, 0, 0] (r_v30 x0) slices_S16x4x10x64x4x128_S16x4x8x64x4x128_0_0_2_0_0_0)⟩] concatenates_S16x4x8x64x4x128_S16x4x8x64x4x128_S16x4x8x64x4x128_S16x4x8x192x4x128_d3

/-- Key position minus query position. -/
def r_v43 : IVec S64x192 32 :=
  subi (broadcastInDim S64x192 ![0, 1] bcast_S1x192_S64x192_0_1 (subi (broadcastInDim S1x192 ![1] bcast_S192_S1x192_1 (iotaInDim S192 32 0)) (broadcastInDim S1x192 ![] bcast_S_S1x192 (constantI S_ 32 64#32)))) (broadcastInDim S64x192 ![0, 1] bcast_S64x1_S64x192_0_1 (broadcastInDim S64x1 ![0] bcast_S64_S64x1_0 (iotaInDim S64 32 0)))

/-- Buckets of the far distances. -/
def r_v61 (F : FTy → Type) [FloatOps F] : IVec S64x192 32 :=
  minsi (addi (broadcastInDim S64x192 ![] bcast_S_S64x192 (constantI S_ 32 8#32)) (fptosi (F := F) 32 (mulf (Host.divf (Host.log (Host.divf (sitofp .f32 (maxsi (absi (muli r_v43 (broadcastInDim S64x192 ![] bcast_S_S64x192 (constantI S_ 32 4#32)))) (broadcastInDim S64x192 ![] bcast_S_S64x192 (constantI S_ 32 1#32)))) (broadcastInDim S64x192 ![] bcast_S_S64x192 (constant S_ .f32 0x41000000#32)))) (broadcastInDim S64x192 ![] bcast_S_S64x192 (constant S_ .f32 0x409B43D5#32))) (broadcastInDim S64x192 ![] bcast_S_S64x192 (constant S_ .f32 0x41000000#32))))) (broadcastInDim S64x192 ![] bcast_S_S64x192 (constantI S_ 32 15#32))

/-- The bucket of every (query, key) pair. -/
def r_v69 (F : FTy → Type) [FloatOps F] : IVec S64x192 32 :=
  addi ((select (cmpi .sgt (muli r_v43 (broadcastInDim S64x192 ![] bcast_S_S64x192 (constantI S_ 32 4#32))) (broadcastInDim S64x192 ![] bcast_S_S64x192 (constantI S_ 32 0#32))) (broadcastInDim S64x192 ![] bcast_S_S64x192 (constantI S_ 32 16#32)) (broadcastInDim S64x192 ![] bcast_S_S64x192 (constantI S_ 32 0#32)))) (select (cmpi .slt (absi (muli r_v43 (broadcastInDim S64x192 ![] bcast_S_S64x192 (constantI S_ 32 4#32)))) (broadcastInDim S64x192 ![] bcast_S_S64x192 (constantI S_ 32 8#32))) (absi (muli r_v43 (broadcastInDim S64x192 ![] bcast_S_S64x192 (constantI S_ 32 4#32)))) (r_v61 F))

/-- The same with negative rows wrapped. -/
def r_v74 (F : FTy → Type) [FloatOps F] : IVec S64x192 32 :=
  select (cmpi .slt (r_v69 F) (broadcastInDim S64x192 ![] bcast_S_S64x192 (constantI S_ 32 0#32))) (addi (r_v69 F) (broadcastInDim S64x192 ![] bcast_S_S64x192 (constantI S_ 32 32#32))) (r_v69 F)

/-- The bias of every head and pair. -/
def r_v77 (x1 : FVec F S32x12 .f32) : FVec F S4x64x192 .f32 :=
  transpose S4x64x192 [2, 0, 1] (Host.gather gather_S32x4_S64x192x1_S64x192x4_2_0_n_n_0_2_14 (extractStridedSlice S32x4 ![0, 4] x1 slices_S32x12_S32x4_0_4) (broadcastInDim S64x192x1 ![0, 1] bcast_S64x192_S64x192x1_0_1 (r_v74 F))) transposes_S64x192x4_S4x64x192_2_0_1

/-- The key position within its residue class. -/
def r_v87 : IVec S8x1x192 32 :=
  addi (broadcastInDim S8x1x192 ![0, 1, 2] bcast_S8x1x1_S8x1x192_0_1_2 (subi (muli (broadcastInDim S8x1x1 ![0] bcast_S8_S8x1x1_0 (iotaInDim S8 32 0)) (broadcastInDim S8x1x1 ![] bcast_S_S8x1x1 (constantI S_ 32 64#32))) (broadcastInDim S8x1x1 ![] bcast_S_S8x1x1 (constantI S_ 32 64#32)))) (broadcastInDim S8x1x192 ![0, 1, 2] bcast_S1x1x192_S8x1x192_0_1_2 (broadcastInDim S1x1x192 ![1, 2] bcast_S1x192_S1x1x192_1_2 (broadcastInDim S1x192 ![1] bcast_S192_S1x192_1 (iotaInDim S192 32 0))))

/-- Which pairs are inside the window and inside the array. -/
def r_v100 : IVec S8x64x192 1 :=
  andi (andi (broadcastInDim S8x64x192 ![0, 1, 2] bcast_S1x64x192_S8x64x192_0_1_2 (broadcastInDim S1x64x192 ![1, 2] bcast_S64x192_S1x64x192_1_2 (cmpi .sle (absi r_v43) (broadcastInDim S64x192 ![] bcast_S_S64x192 (constantI S_ 32 64#32))))) (broadcastInDim S8x64x192 ![0, 1, 2] bcast_S8x1x192_S8x64x192_0_1_2 (cmpi .sge r_v87 (broadcastInDim S8x1x192 ![] bcast_S_S8x1x192 (constantI S_ 32 0#32))))) (broadcastInDim S8x64x192 ![0, 1, 2] bcast_S8x1x192_S8x64x192_0_1_2 (cmpi .slt r_v87 (broadcastInDim S8x1x192 ![] bcast_S_S8x1x192 (constantI S_ 32 512#32))))

/-- Inner products. -/
def r_v101 (x0 : FVec F S16x2048x6656 .f32) : FVec F S16x4x8x4x64x192 .f32 :=
  Host.dotGeneral dot_S16x4x8x64x4x128_S16x4x8x192x4x128_S16x4x8x4x64x192_5_5_3_3_0124_0124 none (r_v18 x0) (r_v26 x0)

/-- Masked logits. -/
def r_v108 (x0 : FVec F S16x2048x6656 .f32) (x1 : FVec F S32x12 .f32) : FVec F S16x4x8x4x64x192 .f32 :=
  select (broadcastInDim S16x4x8x4x64x192 ![2, 3, 4, 5] bcast_S8x1x64x192_S16x4x8x4x64x192_2_3_4_5 (broadcastInDim S8x1x64x192 ![0, 2, 3] bcast_S8x64x192_S8x1x64x192_0_2_3 r_v100)) (addf (mulf (r_v101 x0) (broadcastInDim S16x4x8x4x64x192 ![] bcast_S_S16x4x8x4x64x192 (constant S_ .f32 0x3DB504F3#32))) (broadcastInDim S16x4x8x4x64x192 ![0, 1, 2, 3, 4, 5] bcast_S1x1x1x4x64x192_S16x4x8x4x64x192_0_1_2_3_4_5 (broadcastInDim S1x1x1x4x64x192 ![3, 4, 5] bcast_S4x64x192_S1x1x1x4x64x192_3_4_5 (r_v77 x1)))) (broadcastInDim S16x4x8x4x64x192 ![] bcast_S_S16x4x8x4x64x192 ((constant S_ .f32 0xFF800000#32)))

/-- Row maxima. -/
def r_v109 (x0 : FVec F S16x2048x6656 .f32) (x1 : FVec F S32x12 .f32) : FVec F S16x4x8x4x64 .f32 :=
  Host.reduce FloatOps.maximumf (r_v108 x0 x1) (constant S_ .f32 0xFF800000#32) reducesTo_S16x4x8x4x64x192_S16x4x8x4x64_d5 h_S_

/-- Weights before normalisation. -/
def r_v113 (x0 : FVec F S16x2048x6656 .f32) (x1 : FVec F S32x12 .f32) : FVec F S16x4x8x4x64x192 .f32 :=
  Host.exp (subf (r_v108 x0 x1) (broadcastInDim S16x4x8x4x64x192 ![0, 1, 2, 3, 4, 5] bcast_S16x4x8x4x64x1_S16x4x8x4x64x192_0_1_2_3_4_5 (broadcastInDim S16x4x8x4x64x1 ![0, 1, 2, 3, 4] bcast_S16x4x8x4x64_S16x4x8x4x64x1_0_1_2_3_4 (r_v109 x0 x1))))

/-- Row sums. -/
def r_v114 (x0 : FVec F S16x2048x6656 .f32) (x1 : FVec F S32x12 .f32) : FVec F S16x4x8x4x64 .f32 :=
  Host.reduceAdd (r_v113 x0 x1) (constant S_ .f32 0x00000000#32) reducesTo_S16x4x8x4x64x192_S16x4x8x4x64_d5 h_S_

/-- Normalised weights. -/
def r_v117 (x0 : FVec F S16x2048x6656 .f32) (x1 : FVec F S32x12 .f32) : FVec F S16x4x8x4x64x192 .f32 :=
  Host.divf (r_v113 x0 x1) (broadcastInDim S16x4x8x4x64x192 ![0, 1, 2, 3, 4, 5] bcast_S16x4x8x4x64x1_S16x4x8x4x64x192_0_1_2_3_4_5 (broadcastInDim S16x4x8x4x64x1 ![0, 1, 2, 3, 4] bcast_S16x4x8x4x64_S16x4x8x4x64x1_0_1_2_3_4 (r_v114 x0 x1)))

/-- Weighted sums of values. -/
def r_v118 (x0 : FVec F S16x2048x6656 .f32) (x1 : FVec F S32x12 .f32) : FVec F S16x4x8x4x128x64 .f32 :=
  Host.dotGeneral dot_S16x4x8x192x4x128_S16x4x8x4x64x192_S16x4x8x4x128x64_3_5_5_4_0124_0123 none (r_v34 x0) (r_v117 x0 x1)

/-- Log of the sum of exponentials. -/
def r_v121 (x0 : FVec F S16x2048x6656 .f32) (x1 : FVec F S32x12 .f32) : FVec F S16x4x8x4x64x1 .f32 :=
  addf (broadcastInDim S16x4x8x4x64x1 ![0, 1, 2, 3, 4] bcast_S16x4x8x4x64_S16x4x8x4x64x1_0_1_2_3_4 (r_v109 x0 x1)) (Host.log (broadcastInDim S16x4x8x4x64x1 ![0, 1, 2, 3, 4] bcast_S16x4x8x4x64_S16x4x8x4x64x1_0_1_2_3_4 (r_v114 x0 x1)))

/-- The result before its rounding. -/
def r_v123 (x0 : FVec F S16x2048x6656 .f32) (x1 : FVec F S32x12 .f32) : FVec F S16x2048x512 .f32 :=
  shapeCast S16x2048x512 (transpose S16x4x8x64x4x128 [0, 1, 2, 5, 3, 4] (r_v118 x0 x1) transposes_S16x4x8x4x128x64_S16x4x8x64x4x128_0_1_2_5_3_4) shapeCasts_S16x4x8x64x4x128_S16x2048x512

/-- Second result. -/
def r_v128 (x0 : FVec F S16x2048x6656 .f32) (x1 : FVec F S32x12 .f32) : FVec F S16x2048x512 .f32 :=
  shapeCast S16x2048x512 (broadcastInDim S16x2048x4x128 ![0, 1, 2, 3] bcast_S16x2048x4x1_S16x2048x4x128_0_1_2_3 (broadcastInDim S16x2048x4x1 ![0, 1, 2] bcast_S16x2048x4_S16x2048x4x1_0_1_2 (shapeCast S16x2048x4 (transpose S16x4x8x64x4 [0, 1, 2, 4, 3] (shapeCast S16x4x8x4x64 (r_v121 x0 x1) shapeCasts_S16x4x8x4x64x1_S16x4x8x4x64) transposes_S16x4x8x4x64_S16x4x8x64x4_0_1_2_4_3) shapeCasts_S16x4x8x64x4_S16x2048x4))) shapeCasts_S16x2048x4x128_S16x2048x512

/-- First result. -/
def r_v129 (x0 : FVec F S16x2048x6656 .f32) (x1 : FVec F S32x12 .f32) : FVec F S16x2048x512 .bf16 :=
  truncf .bf16 (r_v123 x0 x1) bitsLt_bf16_f32

theorem res_v128_eq (m : (ℓ : Loc nD τ sig) → Buf (Elt F) ℓ) (c : Dev nD) : res_main_v128 m c =
    r_v128 (m ((c.tc : Thread nD τ).loc main_arg0)) (m ((c.tc : Thread nD τ).loc main_arg1)) := rfl

theorem res_v129_eq (m : (ℓ : Loc nD τ sig) → Buf (Elt F) ℓ) (c : Dev nD) : res_main_v129 m c =
    r_v129 (m ((c.tc : Thread nD τ).loc main_arg0)) (m ((c.tc : Thread nD τ).loc main_arg1)) := rfl

end Cert.AttnRefIdeal.Value

end
-- ==== Proof.AttnRefVal.lean ====
/- The stages of the reference's attention read at an index over the extended reals. -/
module

public import proofs.«01_k».proof.Proof.AttnRefStages
public import Idealize.ShloMosaic.Lib.ValueIdxRank6
public import Idealize.ShloMosaic.Lib.Pipeline.Value

@[expose] public section

set_option maxRecDepth 16384

noncomputable section

namespace Cert.AttnRefIdeal.Value

open Cert.AttnRefIdeal Cert.AttnRefIdeal.Gen Idealize.ShloMosaic

variable (x0 : FVec Ideal S16x2048x6656 .f32) (x1 : FVec Ideal S32x12 .f32)

theorem r_v9_apply (b : Fin 16) (n : Fin 2048) (h : Fin 4) (d : Fin 128) :
    r_v9 x0 (ix4 b n h d) = x0 (ix3 b n ⟨512 + (h.val * 128 + d.val), by omega⟩) := by
  unfold r_v9
  refine (shapeCast_apply _ _ _ (ix5 b n 0 h d) ?_).trans ?_
  · rw [Shape.rowMajor_val_five, Shape.rowMajor_val_four]
    simp [ix4, ix5]
  refine (extractStridedSlice_apply _ _ _ _ (ix5 b n 1 h d) ?_).trans ?_
  · intro a; fin_cases a <;> simp [ix5]
  refine (shapeCast_apply _ _ _ (ix6 b n 0 1 h d) ?_).trans ?_
  · rw [Shape.rowMajor_val_five, Shape.rowMajor_val_six]
    simp [ix5, ix6]
  refine (extractStridedSlice_apply _ _ _ _ (ix6 b n 0 1 h d) ?_).trans ?_
  · intro a; fin_cases a <;> simp [ix6]
  refine (shapeCast_apply _ _ _ (ix3 b n ⟨512 + (h.val * 128 + d.val), by omega⟩) ?_).trans ?_
  · rw [Shape.rowMajor_val_three, Shape.rowMajor_val_six]
    simp [ix3, ix6]
    omega
  refine (extractStridedSlice_apply _ _ _ _ (ix3 b n ⟨512 + (h.val * 128 + d.val), by omega⟩) ?_).trans rfl
  intro a; fin_cases a <;> simp [ix3]

theorem r_v11_apply (b : Fin 16) (n : Fin 2048) (h : Fin 4) (d : Fin 128) :
    r_v11 x0 (ix4 b n h d) = x0 (ix3 b n ⟨2048 + (h.val * 128 + d.val), by omega⟩) := by
  unfold r_v11
  refine (shapeCast_apply _ _ _ (ix5 b n 0 h d) ?_).trans ?_
  · rw [Shape.rowMajor_val_five, Shape.rowMajor_val_four]
    simp [ix4, ix5]
  refine (extractStridedSlice_apply _ _ _ _ (ix5 b n 1 h d) ?_).trans ?_
  · intro a; fin_cases a <;> simp [ix5]
  refine (shapeCast_apply _ _ _ (ix6 b n 0 1 h d) ?_).trans ?_
  · rw [Shape.rowMajor_val_five, Shape.rowMajor_val_six]
    simp [ix5, ix6]
  refine (extractStridedSlice_apply _ _ _ _ (ix6 b n 1 1 h d) ?_).trans ?_
  · intro a; fin_cases a <;> simp [ix6]
  refine (shapeCast_apply _ _ _ (ix3 b n ⟨2048 + (h.val * 128 + d.val), by omega⟩) ?_).trans ?_
  · rw [Shape.rowMajor_val_three, Shape.rowMajor_val_six]
    simp [ix3, ix6]
    omega
  refine (extractStridedSlice_apply _ _ _ _ (ix3 b n ⟨2048 + (h.val * 128 + d.val), by omega⟩) ?_).trans rfl
  intro a; fin_cases a <;> simp [ix3]

theorem r_v13_apply (b : Fin 16) (n : Fin 2048) (h : Fin 4) (d : Fin 128) :
    r_v13 x0 (ix4 b n h d) = x0 (ix3 b n ⟨3584 + (h.val * 128 + d.val), by omega⟩) := by
  unfold r_v13
  refine (shapeCast_apply _ _ _ (ix5 b n 0 h d) ?_).trans ?_
  · rw [Shape.rowMajor_val_five, Shape.rowMajor_val_four]
    simp [ix4, ix5]
  refine (extractStridedSlice_apply _ _ _ _ (ix5 b n 1 h d) ?_).trans ?_
  · intro a; fin_cases a <;> simp [ix5]
  refine (shapeCast_apply _ _ _ (ix6 b n 0 1 h d) ?_).trans ?_
  · rw [Shape.rowMajor_val_five, Shape.rowMajor_val_six]
    simp [ix5, ix6]
  refine (extractStridedSlice_apply _ _ _ _ (ix6 b n 2 1 h d) ?_).trans ?_
  · intro a; fin_cases a <;> simp [ix6]
  refine (shapeCast_apply _ _ _ (ix3 b n ⟨3584 + (h.val * 128 + d.val), by omega⟩) ?_).trans ?_
  · rw [Shape.rowMajor_val_three, Shape.rowMajor_val_six]
    simp [ix3, ix6]
    omega
  refine (extractStridedSlice_apply _ _ _ _ (ix3 b n ⟨3584 + (h.val * 128 + d.val), by omega⟩) ?_).trans rfl
  intro a; fin_cases a <;> simp [ix3]

theorem sitofp_zero : (FloatOps.sitofp FTy.f32 0#32 : Ideal .f32) = 0 := by simp [FloatOps.sitofp]

theorem r_v18_apply (b : Fin 16) (r : Fin 4) (j : Fin 8) (s : Fin 64) (h : Fin 4) (d : Fin 128) :
    r_v18 x0 (ix6 b r j s h d) = x0 (ix3 b ⟨(j.val * 64 + s.val) * 4 + r.val, by omega⟩ ⟨512 + (h.val * 128 + d.val), by omega⟩) := by
  pointwise [r_v18]
  rw [dif_pos (by omega), r_v9_apply]

theorem r_v22_apply (b : Fin 16) (r : Fin 4) (j : Fin 10) (s : Fin 64) (h : Fin 4) (d : Fin 128) :
    r_v22 x0 (ix6 b r j s h d) = if h_1 : 64 ≤ j.val * 64 + s.val ∧ j.val * 64 + s.val < 576 then
      x0 (ix3 b ⟨(j.val * 64 + s.val - 64) * 4 + r.val, by omega⟩ ⟨2048 + (h.val * 128 + d.val), by omega⟩) else 0 := by
  pointwise [r_v22]
  by_cases h1 : 64 ≤ j.val * 64 + s.val ∧ j.val * 64 + s.val < 576
  · rw [dif_pos h1, dif_pos (by omega), r_v11_apply]
  · rw [dif_neg h1, dif_neg (by omega), sitofp_zero]

theorem r_v26_apply (b : Fin 16) (r : Fin 4) (j : Fin 8) (t : Fin 192) (h : Fin 4) (d : Fin 128) :
    r_v26 x0 (ix6 b r j t h d) = if h_1 : 64 ≤ j.val * 64 + t.val ∧ j.val * 64 + t.val < 576 then
      x0 (ix3 b ⟨(j.val * 64 + t.val - 64) * 4 + r.val, by omega⟩ ⟨2048 + (h.val * 128 + d.val), by omega⟩) else 0 := by
  have key : r_v26 x0 (ix6 b r j t h d) = r_v22 x0 (ix6 b r ⟨j.val + t.val / 64, by omega⟩ ⟨t.val % 64, by omega⟩ h d) := by
    pointwise [r_v26]
    split
    · congr 3 <;> omega
    · split
      · congr 3 <;> omega
      · congr 3 <;> omega
  have e : (j.val + t.val / 64) * 64 + t.val % 64 = j.val * 64 + t.val := by omega
  rw [key, r_v22_apply]
  simp only [e]

theorem r_v30_apply (b : Fin 16) (r : Fin 4) (j : Fin 10) (s : Fin 64) (h : Fin 4) (d : Fin 128) :
    r_v30 x0 (ix6 b r j s h d) = if h_1 : 64 ≤ j.val * 64 + s.val ∧ j.val * 64 + s.val < 576 then
      x0 (ix3 b ⟨(j.val * 64 + s.val - 64) * 4 + r.val, by omega⟩ ⟨3584 + (h.val * 128 + d.val), by omega⟩) else 0 := by
  pointwise [r_v30]
  by_cases h1 : 64 ≤ j.val * 64 + s.val ∧ j.val * 64 + s.val < 576
  · rw [dif_pos h1, dif_pos (by omega), r_v13_apply]
  · rw [dif_neg h1, dif_neg (by omega), sitofp_zero]

theorem r_v34_apply (b : Fin 16) (r : Fin 4) (j : Fin 8) (t : Fin 192) (h : Fin 4) (d : Fin 128) :
    r_v34 x0 (ix6 b r j t h d) = if h_1 : 64 ≤ j.val * 64 + t.val ∧ j.val * 64 + t.val < 576 then
      x0 (ix3 b ⟨(j.val * 64 + t.val - 64) * 4 + r.val, by omega⟩ ⟨3584 + (h.val * 128 + d.val), by omega⟩) else 0 := by
  have key : r_v34 x0 (ix6 b r j t h d) = r_v30 x0 (ix6 b r ⟨j.val + t.val / 64, by omega⟩ ⟨t.val % 64, by omega⟩ h d) := by
    pointwise [r_v34]
    split
    · congr 3 <;> omega
    · split
      · congr 3 <;> omega
      · congr 3 <;> omega
  have e : (j.val + t.val / 64) * 64 + t.val % 64 = j.val * 64 + t.val := by omega
  rw [key, r_v30_apply]
  simp only [e]

end Cert.AttnRefIdeal.Value

end
-- ==== Proof.AttnRefVal2.lean ====
/- Logits, maxima, sums and results of the reference at an index. -/
module

public import proofs.«01_k».proof.Proof.AttnRefVal
public import Idealize.ShloMosaic.Lib.ValueIdxRank6
public import Idealize.ShloMosaic.Lib.Pipeline.Value

@[expose] public section

set_option maxRecDepth 16384

noncomputable section

namespace Cert.AttnRefIdeal.Value

open Cert.AttnRefIdeal Cert.AttnRefIdeal.Gen Idealize.ShloMosaic

variable (x0 : FVec Ideal S16x2048x6656 .f32) (x1 : FVec Ideal S32x12 .f32)

/-- The indices of the last axis over a row. -/
theorem fiber6 (h : S16x4x8x4x64x192.ReducesTo [5] S16x4x8x4x64) (b : Fin 16) (r : Fin 4) (j : Fin 8) (e : Fin 4) (l : Fin 64)
    (i : S16x4x8x4x64x192.Idx) : h.drop i = ix5 b r j e l ↔ ∃ t : Fin 192, ix6 b r j e l t = i := by
  constructor
  · intro hi
    refine ⟨i 5, funext fun a => Fin.ext ?_⟩
    match a with
    | ⟨0, _⟩ => exact (congrArg Fin.val (congrFun hi 0)).symm
    | ⟨1, _⟩ => exact (congrArg Fin.val (congrFun hi 1)).symm
    | ⟨2, _⟩ => exact (congrArg Fin.val (congrFun hi 2)).symm
    | ⟨3, _⟩ => exact (congrArg Fin.val (congrFun hi 3)).symm
    | ⟨4, _⟩ => exact (congrArg Fin.val (congrFun hi 4)).symm
    | ⟨5, _⟩ => rfl
  · rintro ⟨t, rfl⟩
    funext a
    apply Fin.ext
    match a with
    | ⟨0, _⟩ => rfl
    | ⟨1, _⟩ => rfl
    | ⟨2, _⟩ => rfl
    | ⟨3, _⟩ => rfl
    | ⟨4, _⟩ => rfl

theorem r_v101_apply (b : Fin 16) (r : Fin 4) (j : Fin 8) (h : Fin 4) (l : Fin 64) (t : Fin 192) :
    r_v101 x0 (ix6 b r j h l t) = ∑ d : Fin 128, r_v18 x0 (ix6 b r j l h d) * r_v26 x0 (ix6 b r j t h d) := by
  let D := dot_S16x4x8x64x4x128_S16x4x8x192x4x128_S16x4x8x4x64x192_5_5_3_3_0124_0124
  have hr : D.contr.rank = 1 := rfl
  have hs : D.contr.size ⟨0, by omega⟩ = 128 := rfl
  refine (Ideal.dotGeneral_apply D none _ (r_v18 x0) (r_v26 x0) _).trans ?_
  rw [← Equiv.sum_comp (ValueIdx.contrEquiv1 D 128 hr hs).symm]
  refine Finset.sum_congr rfl fun d _ => ?_
  have hk := ValueIdx.contrEquiv1_symm_val D 128 hr hs d
  have el : D.lhsIdx (ix6 b r j h l t) ((ValueIdx.contrEquiv1 D 128 hr hs).symm d) = ix6 b r j l h d := by
    funext a; apply Fin.ext
    match a with
    | ⟨0, _⟩ => rfl
    | ⟨1, _⟩ => rfl
    | ⟨2, _⟩ => rfl
    | ⟨3, _⟩ => rfl
    | ⟨4, _⟩ => rfl
    | ⟨5, _⟩ => exact hk
  have er : D.rhsIdx (ix6 b r j h l t) ((ValueIdx.contrEquiv1 D 128 hr hs).symm d) = ix6 b r j t h d := by
    funext a; apply Fin.ext
    match a with
    | ⟨0, _⟩ => rfl
    | ⟨1, _⟩ => rfl
    | ⟨2, _⟩ => rfl
    | ⟨3, _⟩ => rfl
    | ⟨4, _⟩ => rfl
    | ⟨5, _⟩ => exact hk
  rw [el, er]

theorem r_v118_apply (b : Fin 16) (r : Fin 4) (j : Fin 8) (h : Fin 4) (l : Fin 64) (d : Fin 128) :
    r_v118 x0 x1 (ix6 b r j h d l) = ∑ t : Fin 192, r_v34 x0 (ix6 b r j t h d) * r_v117 x0 x1 (ix6 b r j h l t) := by
  let D := dot_S16x4x8x192x4x128_S16x4x8x4x64x192_S16x4x8x4x128x64_3_5_5_4_0124_0123
  have hr : D.contr.rank = 1 := rfl
  have hs : D.contr.size ⟨0, by omega⟩ = 192 := rfl
  refine (Ideal.dotGeneral_apply D none _ (r_v34 x0) (r_v117 x0 x1) _).trans ?_
  rw [← Equiv.sum_comp (ValueIdx.contrEquiv1 D 192 hr hs).symm]
  refine Finset.sum_congr rfl fun t _ => ?_
  have hk := ValueIdx.contrEquiv1_symm_val D 192 hr hs t
  have el : D.lhsIdx (ix6 b r j h d l) ((ValueIdx.contrEquiv1 D 192 hr hs).symm t) = ix6 b r j t h d := by
    funext a; apply Fin.ext
    match a with
    | ⟨0, _⟩ => rfl
    | ⟨1, _⟩ => rfl
    | ⟨2, _⟩ => rfl
    | ⟨3, _⟩ => exact hk
    | ⟨4, _⟩ => rfl
    | ⟨5, _⟩ => rfl
  have er : D.rhsIdx (ix6 b r j h d l) ((ValueIdx.contrEquiv1 D 192 hr hs).symm t) = ix6 b r j h l t := by
    funext a; apply Fin.ext
    match a with
    | ⟨0, _⟩ => rfl
    | ⟨1, _⟩ => rfl
    | ⟨2, _⟩ => rfl
    | ⟨3, _⟩ => rfl
    | ⟨4, _⟩ => rfl
    | ⟨5, _⟩ => exact hk
  rw [el, er]

theorem bc_mask (f : IVec S8x64x192 1) (b : Fin 16) (r : Fin 4) (j : Fin 8) (h : Fin 4) (l : Fin 64) (t : Fin 192) : broadcastInDim S16x4x8x4x64x192 ![2, 3, 4, 5] bcast_S8x1x64x192_S16x4x8x4x64x192_2_3_4_5 (broadcastInDim S8x1x64x192 ![0, 2, 3] bcast_S8x64x192_S8x1x64x192_0_2_3 f) (ix6 b r j h l t) = f (ix3 j l t) := by
    refine (broadcastInDim_apply _ _ _ _ (ix4 j 0 l t) ?_).trans (broadcastInDim_apply _ _ _ _ (ix3 j l t) ?_)
    · intro a
      match a with
      | ⟨0, _⟩ => exact (if_neg (by decide +revert)).symm
      | ⟨1, _⟩ => exact (if_pos rfl).symm
      | ⟨2, _⟩ => exact (if_neg (by decide +revert)).symm
      | ⟨3, _⟩ => exact (if_neg (by decide +revert)).symm
    · intro a
      match a with
      | ⟨0, _⟩ => exact (if_neg (by decide +revert)).symm
      | ⟨1, _⟩ => exact (if_neg (by decide +revert)).symm
      | ⟨2, _⟩ => exact (if_neg (by decide +revert)).symm
theorem bc_bias (f : FVec Ideal S4x64x192 .f32) (b : Fin 16) (r : Fin 4) (j : Fin 8) (h : Fin 4) (l : Fin 64) (t : Fin 192) : broadcastInDim S16x4x8x4x64x192 ![0, 1, 2, 3, 4, 5] bcast_S1x1x1x4x64x192_S16x4x8x4x64x192_0_1_2_3_4_5 (broadcastInDim S1x1x1x4x64x192 ![3, 4, 5] bcast_S4x64x192_S1x1x1x4x64x192_3_4_5 f) (ix6 b r j h l t) = f (ix3 h l t) := by
    refine (broadcastInDim_apply _ _ _ _ (ix6 0 0 0 h l t) ?_).trans (broadcastInDim_apply _ _ _ _ (ix3 h l t) ?_)
    · intro a
      match a with
      | ⟨0, _⟩ => exact (if_pos rfl).symm
      | ⟨1, _⟩ => exact (if_pos rfl).symm
      | ⟨2, _⟩ => exact (if_pos rfl).symm
      | ⟨3, _⟩ => exact (if_neg (by decide +revert)).symm
      | ⟨4, _⟩ => exact (if_neg (by decide +revert)).symm
      | ⟨5, _⟩ => exact (if_neg (by decide +revert)).symm
    · intro a
      match a with
      | ⟨0, _⟩ => exact (if_neg (by decide +revert)).symm
      | ⟨1, _⟩ => exact (if_neg (by decide +revert)).symm
      | ⟨2, _⟩ => exact (if_neg (by decide +revert)).symm
theorem bc_row (f : FVec Ideal S16x4x8x4x64 .f32) (b : Fin 16) (r : Fin 4) (j : Fin 8) (h : Fin 4) (l : Fin 64) : broadcastInDim S16x4x8x4x64x1 ![0, 1, 2, 3, 4] bcast_S16x4x8x4x64_S16x4x8x4x64x1_0_1_2_3_4 f (ix6 b r j h l 0) = f (ix5 b r j h l) := by
    refine broadcastInDim_apply _ _ _ _ (ix5 b r j h l) ?_
    intro a
    match a with
    | ⟨0, _⟩ => exact (if_neg (by decide +revert)).symm
    | ⟨1, _⟩ => exact (if_neg (by decide +revert)).symm
    | ⟨2, _⟩ => exact (if_neg (by decide +revert)).symm
    | ⟨3, _⟩ => exact (if_neg (by decide +revert)).symm
    | ⟨4, _⟩ => exact (if_neg (by decide +revert)).symm
theorem logit_read (M : IVec S8x64x192 1) (Q : FVec Ideal S16x4x8x4x64x192 .f32) (B : FVec Ideal S4x64x192 .f32) (i : S16x4x8x4x64x192.Idx) :
    select (broadcastInDim S16x4x8x4x64x192 ![2, 3, 4, 5] bcast_S8x1x64x192_S16x4x8x4x64x192_2_3_4_5 (broadcastInDim S8x1x64x192 ![0, 2, 3] bcast_S8x64x192_S8x1x64x192_0_2_3 M)) (addf (mulf Q (broadcastInDim S16x4x8x4x64x192 ![] bcast_S_S16x4x8x4x64x192 (constant (F := Ideal) S_ .f32 0x3DB504F3#32))) (broadcastInDim S16x4x8x4x64x192 ![0, 1, 2, 3, 4, 5] bcast_S1x1x1x4x64x192_S16x4x8x4x64x192_0_1_2_3_4_5 (broadcastInDim S1x1x1x4x64x192 ![3, 4, 5] bcast_S4x64x192_S1x1x1x4x64x192_3_4_5 B))) (broadcastInDim S16x4x8x4x64x192 ![] bcast_S_S16x4x8x4x64x192 (constant (F := Ideal) S_ .f32 0xFF800000#32)) i =
      Scalar.select (broadcastInDim S16x4x8x4x64x192 ![2, 3, 4, 5] bcast_S8x1x64x192_S16x4x8x4x64x192_2_3_4_5 (broadcastInDim S8x1x64x192 ![0, 2, 3] bcast_S8x64x192_S8x1x64x192_0_2_3 M) i) ((Q i : EReal) * Ideal.ofBits .f32 0x3DB504F3#32 + (broadcastInDim S16x4x8x4x64x192 ![0, 1, 2, 3, 4, 5] bcast_S1x1x1x4x64x192_S16x4x8x4x64x192_0_1_2_3_4_5 (broadcastInDim S1x1x1x4x64x192 ![3, 4, 5] bcast_S4x64x192_S1x1x1x4x64x192_3_4_5 B) i : EReal)) (Ideal.ofBits .f32 0xFF800000#32) := rfl

theorem logit_read_at (M : IVec S8x64x192 1) (Q : FVec Ideal S16x4x8x4x64x192 .f32) (B : FVec Ideal S4x64x192 .f32) (b : Fin 16) (r : Fin 4) (j : Fin 8) (h : Fin 4) (l : Fin 64) (t : Fin 192) :
    select (broadcastInDim S16x4x8x4x64x192 ![2, 3, 4, 5] bcast_S8x1x64x192_S16x4x8x4x64x192_2_3_4_5 (broadcastInDim S8x1x64x192 ![0, 2, 3] bcast_S8x64x192_S8x1x64x192_0_2_3 M)) (addf (mulf Q (broadcastInDim S16x4x8x4x64x192 ![] bcast_S_S16x4x8x4x64x192 (constant (F := Ideal) S_ .f32 0x3DB504F3#32))) (broadcastInDim S16x4x8x4x64x192 ![0, 1, 2, 3, 4, 5] bcast_S1x1x1x4x64x192_S16x4x8x4x64x192_0_1_2_3_4_5 (broadcastInDim S1x1x1x4x64x192 ![3, 4, 5] bcast_S4x64x192_S1x1x1x4x64x192_3_4_5 B))) (broadcastInDim S16x4x8x4x64x192 ![] bcast_S_S16x4x8x4x64x192 (constant (F := Ideal) S_ .f32 0xFF800000#32)) (ix6 b r j h l t) =
      Scalar.select (M (ix3 j l t)) ((Q (ix6 b r j h l t) : EReal) * Ideal.ofBits .f32 0x3DB504F3#32 + (B (ix3 h l t) : EReal)) (Ideal.ofBits .f32 0xFF800000#32) := by
  rw [logit_read, bc_mask, bc_bias]

theorem r_v108_apply (b : Fin 16) (r : Fin 4) (j : Fin 8) (h : Fin 4) (l : Fin 64) (t : Fin 192) : r_v108 x0 x1 (ix6 b r j h l t) = Scalar.select (r_v100 (ix3 j l t))
    ((r_v101 x0 (ix6 b r j h l t) : EReal) * Ideal.ofBits .f32 0x3DB504F3#32 + (r_v77 x1 (ix3 h l t) : EReal)) (Ideal.ofBits .f32 0xFF800000#32) := by
  unfold r_v108
  exact logit_read_at _ _ _ b r j h l t

theorem r_v109_apply (b : Fin 16) (r : Fin 4) (j : Fin 8) (h : Fin 4) (l : Fin 64) :
    r_v109 x0 x1 (ix5 b r j h l) =
      Finset.univ.fold max (Ideal.ofBits .f32 0xFF800000#32) (fun t : Fin 192 => r_v108 x0 x1 (ix6 b r j h l t)) := by
  pointwise [r_v109]
  exact Finset.fold_filter_eq_fold_of_fiber max _ (fun t : Fin 192 => ix6 b r j h l t) (fun _ _ e => congrFun e 5)
    (fiber6 _ b r j h l) _ _

theorem r_v114_apply (b : Fin 16) (r : Fin 4) (j : Fin 8) (h : Fin 4) (l : Fin 64) :
    r_v114 x0 x1 (ix5 b r j h l) = ∑ t : Fin 192, r_v113 x0 x1 (ix6 b r j h l t) := by
  pointwise [r_v114]
  unfold Ideal.hostReduceAdd
  rw [zero_add]
  exact Finset.sum_filter_eq_sum_of_fiber _ (fun t : Fin 192 => ix6 b r j h l t) (fun _ _ e => congrFun e 5)
    (fiber6 _ b r j h l) _

theorem r_v113_apply (b : Fin 16) (r : Fin 4) (j : Fin 8) (h : Fin 4) (l : Fin 64) (t : Fin 192) :
    r_v113 x0 x1 (ix6 b r j h l t) = Ideal.exp (r_v108 x0 x1 (ix6 b r j h l t) - r_v109 x0 x1 (ix5 b r j h l)) := by
  pointwise [r_v113]

theorem r_v117_apply (b : Fin 16) (r : Fin 4) (j : Fin 8) (h : Fin 4) (l : Fin 64) (t : Fin 192) :
    r_v117 x0 x1 (ix6 b r j h l t) = Ideal.div (r_v113 x0 x1 (ix6 b r j h l t)) (r_v114 x0 x1 (ix5 b r j h l)) := by
  pointwise [r_v117]

theorem lse_read (A B : FVec Ideal S16x4x8x4x64 .f32) (i : S16x4x8x4x64x1.Idx) :
    addf (broadcastInDim S16x4x8x4x64x1 ![0, 1, 2, 3, 4] bcast_S16x4x8x4x64_S16x4x8x4x64x1_0_1_2_3_4 A) (Host.log (broadcastInDim S16x4x8x4x64x1 ![0, 1, 2, 3, 4] bcast_S16x4x8x4x64_S16x4x8x4x64x1_0_1_2_3_4 B)) i = (broadcastInDim S16x4x8x4x64x1 ![0, 1, 2, 3, 4] bcast_S16x4x8x4x64_S16x4x8x4x64x1_0_1_2_3_4 A i : EReal) + Ideal.log (broadcastInDim S16x4x8x4x64x1 ![0, 1, 2, 3, 4] bcast_S16x4x8x4x64_S16x4x8x4x64x1_0_1_2_3_4 B i) := rfl

theorem lse_read_row (A B : FVec Ideal S16x4x8x4x64 .f32) (b : Fin 16) (r : Fin 4) (j : Fin 8) (h : Fin 4) (l : Fin 64) :
    addf (broadcastInDim S16x4x8x4x64x1 ![0, 1, 2, 3, 4] bcast_S16x4x8x4x64_S16x4x8x4x64x1_0_1_2_3_4 A) (Host.log (broadcastInDim S16x4x8x4x64x1 ![0, 1, 2, 3, 4] bcast_S16x4x8x4x64_S16x4x8x4x64x1_0_1_2_3_4 B)) (ix6 b r j h l 0) = (A (ix5 b r j h l) : EReal) + Ideal.log (B (ix5 b r j h l)) := by
  rw [lse_read, bc_row, bc_row]

theorem r_v121_apply (b : Fin 16) (r : Fin 4) (j : Fin 8) (h : Fin 4) (l : Fin 64) :
    r_v121 x0 x1 (ix6 b r j h l 0) = (r_v109 x0 x1 (ix5 b r j h l) : EReal) + Ideal.log (r_v114 x0 x1 (ix5 b r j h l)) := by
  unfold r_v121
  exact lse_read_row _ _ b r j h l

theorem r_v129_apply (b : Fin 16) (r : Fin 4) (j : Fin 8) (h : Fin 4) (l : Fin 64) (d : Fin 128) :
    r_v129 x0 x1 (ix3 b ⟨r.val * 512 + j.val * 64 + l.val, by omega⟩ ⟨h.val * 128 + d.val, by omega⟩) =
      r_v118 x0 x1 (ix6 b r j h d l) := by
  pointwise [r_v129, r_v123]

theorem r_v128_apply (b : Fin 16) (r : Fin 4) (j : Fin 8) (h : Fin 4) (l : Fin 64) (d : Fin 128) :
    r_v128 x0 x1 (ix3 b ⟨r.val * 512 + j.val * 64 + l.val, by omega⟩ ⟨h.val * 128 + d.val, by omega⟩) =
      r_v121 x0 x1 (ix6 b r j h l 0) := by
  pointwise [r_v128]

theorem r_v77_apply (h : Fin 4) (l : Fin 64) (t : Fin 192) (n : ℕ) (hn : n < 32)
    (hb : (r_v74 Ideal (ix2 l t)).toInt = n) : r_v77 x1 (ix3 h l t) = x1 (ix2 ⟨n, hn⟩ ⟨4 + h.val, by omega⟩) := by
  let G := gather_S32x4_S64x192x1_S64x192x4_2_0_n_n_0_2_14
  have hg : ∀ (x : FVec Ideal S32x4 .f32) (idx : IVec S64x192x1 32), idx (ix3 l t 0) = r_v74 Ideal (ix2 l t) →
      Host.gather G x idx (ix3 l t h) = x (ix2 ⟨n, hn⟩ h) := by
    intro x idx hidx
    unfold Host.gather
    refine congrArg x (funext fun a => Fin.ext ?_)
    show G.start (ix3 l t h) idx a + G.batchCoord (ix3 l t h) a + G.offCoord (ix3 l t h) a = _
    rw [GatherDims.batchCoord_eq_zero _ _ _ List.not_mem_nil]
    have h01 : a = 0 ∨ a = 1 := by
      match a with
      | ⟨0, _⟩ => exact Or.inl rfl
      | ⟨1, _⟩ => exact Or.inr rfl
    rcases h01 with rfl | rfl
    · rw [GatherDims.offCoord_eq_zero _ _ _ (fun h => ((GatherDims.mem_sKept _ _).mp h).1 (List.mem_singleton.mpr rfl))]
      simp only [Nat.add_zero]
      unfold GatherDims.start
      rw [dif_pos (show (0 : Fin 2) ∈ G.startIndexMap from List.mem_singleton.mpr rfl)]
      have hsi : G.siIdx (ix3 l t h) ⟨List.idxOf (0 : Fin 2) G.startIndexMap,
          List.idxOf_lt_length_iff.2 (List.mem_singleton.mpr rfl)⟩ = ix3 l t 0 := by
        funext b; refine Fin.ext ?_
        match b with
        | ⟨0, _⟩ => rfl
        | ⟨1, _⟩ => rfl
        | ⟨2, _⟩ => rfl
      rw [hsi, hidx, hb]
      show min (n : ℤ).toNat 31 = n
      simp
      omega
    · have h0 : G.start (ix3 l t h) idx 1 = 0 := by
        unfold GatherDims.start
        rw [dif_neg (by show (1 : Fin 2) ∉ ([0] : List (Fin 2)); decide)]
      rw [h0]
      simp only [Nat.zero_add]
      rfl
  unfold r_v77
  refine (transpose_apply _ _ _ _ (ix3 l t h) ?_).trans ?_
  · intro a; fin_cases a <;> rfl
  refine (hg _ _ ?_).trans ?_
  · pointwise []
  · refine (extractStridedSlice_apply _ _ _ _ (ix2 ⟨n, hn⟩ ⟨4 + h.val, by omega⟩) ?_)
    intro a; fin_cases a <;> simp [ix2]

end Cert.AttnRefIdeal.Value

end
-- ==== Proof.AttnRefSpec.lean ====
/- The reference's logits, weights and results in terms of the logits by position. -/
module

public import proofs.«01_k».proof.Proof.AttnRefVal2
public import proofs.«01_k».proof.Proof.AttnSpec

@[expose] public section

set_option maxRecDepth 16384

noncomputable section

namespace Cert.AttnRefIdeal.Value

open Idealize.ShloMosaic Cert.AttnRefIdeal Cert.Window Cert.Bucket

variable (x0 : FVec Ideal S16x2048x6656 .f32) (x1 : FVec Ideal S32x12 .f32)

theorem r_v43_apply (l : Fin 64) (t : Fin 192) : r_v43 (ix2 l t) = BitVec.ofInt 32 ((t.val : ℤ) - 64 - l.val) := by
  have h : r_v43 (ix2 l t) = IntOp.subi (IntOp.subi (BitVec.ofNat 32 t.val) 64#32) (BitVec.ofNat 32 l.val) := by
    pointwise [r_v43]
  rw [h, sub_word t.val 64, nat_word l.val, subi_word]
  simp

theorem r_v69_apply (l : Fin 64) (t : Fin 192) : r_v69 Ideal (ix2 l t) = bucketW (BitVec.ofInt 32 (((t.val : ℤ) - 64 - l.val) * 4)) := by
  have h : r_v69 Ideal (ix2 l t) = bucketW (IntOp.muli (r_v43 (ix2 l t)) 4#32) := by
    unfold bucketW farReal
    pointwise [r_v69, r_v61]
  rw [h, r_v43_apply]
  exact congrArg bucketW (mul_word _ 4)

theorem r_v74_toInt (l : Fin 64) (t : Fin 192) (hd : ((t.val : ℤ) - 64 - l.val).natAbs ≤ 64) :
    (r_v74 Ideal (ix2 l t)).toInt = bucketOf ((t.val : ℤ) - 64 - l.val) := by
  have hb := bucketOf_lt _ hd
  have h : r_v74 Ideal (ix2 l t) = Scalar.select (IntOp.cmpi .slt (r_v69 Ideal (ix2 l t)) 0#32) (IntOp.addi (r_v69 Ideal (ix2 l t)) 32#32) (r_v69 Ideal (ix2 l t)) := by
    pointwise [r_v74]
  rw [h, r_v69_apply]
  unfold bucketOf at hb ⊢
  generalize bucketW (BitVec.ofInt 32 (((t.val : ℤ) - 64 - l.val) * 4)) = w at hb ⊢
  have e : IntOp.cmpi .slt w 0#32 = 0#1 := by
    show BitVec.ofBool (w.slt 0#32) = 0#1
    rw [show w.slt 0#32 = false by
      rw [BitVec.slt_eq_decide]; simp [BitVec.toInt_eq_toNat_cond]; omega]
    rfl
  rw [e]
  show w.toInt = _
  rw [BitVec.toInt_eq_toNat_cond, if_pos (by omega)]

theorem r_v100_apply (j : Fin 8) (l : Fin 64) (t : Fin 192) : r_v100 (ix3 j l t) =
    BitVec.ofBool (decide ((((t.val : ℤ) - 64 - l.val).natAbs ≤ 64 ∧ 64 ≤ j.val * 64 + t.val) ∧ j.val * 64 + t.val < 576)) := by
  have h : r_v100 (ix3 j l t) = IntOp.andi (IntOp.andi (IntOp.cmpi .sle (IntOp.absi (r_v43 (ix2 l t))) 64#32)
        (IntOp.cmpi .sge (IntOp.addi (IntOp.subi (IntOp.muli (BitVec.ofNat 32 j.val) 64#32) 64#32) (BitVec.ofNat 32 t.val)) 0#32))
      (IntOp.cmpi .slt (IntOp.addi (IntOp.subi (IntOp.muli (BitVec.ofNat 32 j.val) 64#32) 64#32) (BitVec.ofNat 32 t.val)) 512#32) := by
    pointwise [r_v100, r_v87]
  have hs : IntOp.addi (IntOp.subi (IntOp.muli (BitVec.ofNat 32 j.val) 64#32) 64#32) (BitVec.ofNat 32 t.val)
      = BitVec.ofInt 32 ((j.val : ℤ) * 64 - 64 + t.val) := by
    rw [nat_word j.val, nat_word t.val, show (64#32 : BitVec 32) = BitVec.ofInt 32 64 from rfl, mul_word, subi_word, add_word]
  have ha := absi_word ((t.val : ℤ) - 64 - l.val) (by omega)
  rw [h, hs, r_v43_apply, sge_zero_word _ (by omega), slt_word _ (by omega),
    show (64#32 : BitVec 32) = BitVec.ofNat 32 64 from rfl, sle_word _ 64 (by omega) (by omega), ha]
  have e1 : (0 ≤ (j.val : ℤ) * 64 - 64 + t.val) = (64 ≤ j.val * 64 + t.val) := propext (by omega)
  have e2 : ((j.val : ℤ) * 64 - 64 + t.val < 512) = (j.val * 64 + t.val < 576) := propext (by omega)
  simp only [e1, e2]
  by_cases a : ((t.val : ℤ) - 64 - l.val).natAbs ≤ 64 <;> by_cases b : 64 ≤ j.val * 64 + t.val <;>
    by_cases c : j.val * 64 + t.val < 576 <;> simp [a, b, c, IntOp.andi]

theorem r_v108_spec (b : Fin 16) (r : Fin 4) (j : Fin 8) (h : Fin 4) (l : Fin 64) (t : Fin 192) :
    r_v108 x0 x1 (ix6 b r j h l t) = gP x0 x1 b.val r.val h.val (j.val * 64 + l.val) (j.val * 64 + t.val) := by
  rw [r_v108_apply, r_v100_apply]
  unfold gP
  by_cases hv : (((t.val : ℤ) - 64 - l.val).natAbs ≤ 64 ∧ 64 ≤ j.val * 64 + t.val) ∧ j.val * 64 + t.val < 576
  · rw [if_pos (by omega), decide_eq_true hv]
    show (r_v101 x0 (ix6 b r j h l t) : EReal) * _ + (r_v77 x1 (ix3 h l t) : EReal) = _
    unfold logit
    have hd : ((t.val : ℤ) - 64 - l.val) = ((j.val * 64 + t.val - 64 : ℕ) : ℤ) - ((j.val * 64 + l.val : ℕ) : ℤ) := by omega
    rw [r_v101_apply, r_v77_apply x1 h l t _ (bucketOf_lt _ hv.1.1) (r_v74_toInt l t hv.1.1)]
    refine congrArg₂ (· + ·) (congrArg (· * Ideal.ofBits .f32 0x3DB504F3#32) (Finset.sum_congr rfl fun d _ => ?_)) ?_
    · rw [r_v18_apply, r_v26_apply, dif_pos (by omega), at3_eq x0, at3_eq x0]
    · rw [← hd]
      refine congrArg x1 (congrArg₂ ix2 (Fin.ext ?_) (Fin.ext ?_))
      · show _ = bucketOf _ % 32
        rw [Nat.mod_eq_of_lt (bucketOf_lt _ hv.1.1)]
      · show 4 + h.val = (4 + h.val) % 12
        omega
  · rw [if_neg (by omega), decide_eq_false hv]
    show Ideal.ofBits .f32 0xFF800000#32 = ⊥
    simp [Ideal.ofBits, Ideal.ieee]

theorem r_v109_spec (b : Fin 16) (r : Fin 4) (j : Fin 8) (h : Fin 4) (l : Fin 64) :
    r_v109 x0 x1 (ix5 b r j h l) = wMax (gP x0 x1 b.val r.val h.val (j.val * 64 + l.val)) (j.val * 64) 192 := by
  rw [r_v109_apply]
  unfold wMax
  rw [show Ideal.ofBits .f32 0xFF800000#32 = ⊥ by simp [Ideal.ofBits, Ideal.ieee]]
  exact congrArg (fun g => Finset.univ.fold max ⊥ g) (funext fun t => r_v108_spec x0 x1 b r j h l t)

theorem r_v113_spec (b : Fin 16) (r : Fin 4) (j : Fin 8) (h : Fin 4) (l : Fin 64) (t : Fin 192) :
    r_v113 x0 x1 (ix6 b r j h l t) = Ideal.exp (gP x0 x1 b.val r.val h.val (j.val * 64 + l.val) (j.val * 64 + t.val)
      - wMax (gP x0 x1 b.val r.val h.val (j.val * 64 + l.val)) (j.val * 64) 192) := by
  rw [r_v113_apply, r_v108_spec, r_v109_spec]

theorem r_v114_spec (b : Fin 16) (r : Fin 4) (j : Fin 8) (h : Fin 4) (l : Fin 64) :
    r_v114 x0 x1 (ix5 b r j h l) = ∑ t : Fin 192, Ideal.exp (gP x0 x1 b.val r.val h.val (j.val * 64 + l.val) (j.val * 64 + t.val)
      - wMax (gP x0 x1 b.val r.val h.val (j.val * 64 + l.val)) (j.val * 64) 192) := by
  rw [r_v114_apply]
  exact Finset.sum_congr rfl fun t _ => r_v113_spec x0 x1 b r j h l t

theorem r_v34_spec (b : Fin 16) (r : Fin 4) (j : Fin 8) (t : Fin 192) (h : Fin 4) (d : Fin 128) :
    r_v34 x0 (ix6 b r j t h d) = vP x0 b.val r.val h.val d.val (j.val * 64 + t.val) := by
  rw [r_v34_apply]
  unfold vP
  by_cases hv : 64 ≤ j.val * 64 + t.val ∧ j.val * 64 + t.val < 576
  · rw [dif_pos hv, if_pos hv, at3_eq x0]
  · rw [dif_neg hv, if_neg hv]

/-- The reference's first result. -/
theorem ref_o (b : Fin 16) (r : Fin 4) (j : Fin 8) (h : Fin 4) (l : Fin 64) (d : Fin 128) :
    r_v129 x0 x1 (ix3 b ⟨r.val * 512 + j.val * 64 + l.val, by omega⟩ ⟨h.val * 128 + d.val, by omega⟩) =
      ∑ t : Fin 192, vP x0 b.val r.val h.val d.val (j.val * 64 + t.val) *
        Ideal.div (Ideal.exp (gP x0 x1 b.val r.val h.val (j.val * 64 + l.val) (j.val * 64 + t.val)
          - wMax (gP x0 x1 b.val r.val h.val (j.val * 64 + l.val)) (j.val * 64) 192))
        (∑ t : Fin 192, Ideal.exp (gP x0 x1 b.val r.val h.val (j.val * 64 + l.val) (j.val * 64 + t.val)
          - wMax (gP x0 x1 b.val r.val h.val (j.val * 64 + l.val)) (j.val * 64) 192)) := by
  rw [r_v129_apply, r_v118_apply]
  refine Finset.sum_congr rfl fun t _ => ?_
  rw [r_v34_spec, r_v117_apply, r_v113_spec, r_v114_spec]

/-- The reference's second result. -/
theorem ref_l (b : Fin 16) (r : Fin 4) (j : Fin 8) (h : Fin 4) (l : Fin 64) (d : Fin 128) :
    r_v128 x0 x1 (ix3 b ⟨r.val * 512 + j.val * 64 + l.val, by omega⟩ ⟨h.val * 128 + d.val, by omega⟩) =
      wMax (gP x0 x1 b.val r.val h.val (j.val * 64 + l.val)) (j.val * 64) 192
        + Ideal.log (∑ t : Fin 192, Ideal.exp (gP x0 x1 b.val r.val h.val (j.val * 64 + l.val) (j.val * 64 + t.val)
          - wMax (gP x0 x1 b.val r.val h.val (j.val * 64 + l.val)) (j.val * 64) 192)) := by
  rw [r_v128_apply, r_v121_apply, r_v109_spec, r_v114_spec]

end Cert.AttnRefIdeal.Value

end
-- ==== Proof.AttnEq.lean ====
/- The kernel's results are the reference's, where the logits are real. -/
module

public import proofs.«01_k».proof.Proof.AttnKerTab
public import proofs.«01_k».proof.Proof.AttnRefSpec

@[expose] public section

set_option maxRecDepth 16384

noncomputable section

namespace Cert.AttnIdeal.Gen

open Idealize.ShloMosaic Cert.Window

variable (x : FVec Ideal S16x2048x6656 .f32) (x1 : Vec Ideal S32x12 .f32)

/-- The two windows of a query hold every key it attends to. -/
theorem window_ker (b r h q n : ℕ) (hn : n < 4) (hq : q / 128 = n) (P : ℕ) (hP : gP x x1 b r h q P ≠ ⊥) :
    64 + min 256 (n * 128 - 64) ≤ P ∧ P < 64 + min 256 (n * 128 - 64) + 256 := by
  have := gP_window b r h q P hP
  omega

theorem window_ref (b r h q j : ℕ) (hq : q / 64 = j) (P : ℕ) (hP : gP x x1 b r h q P ≠ ⊥) : j * 64 ≤ P ∧ P < j * 64 + 192 := by
  have := gP_window b r h q P hP
  omega

/-- Every index of a result, by sequence, residue class, block, place in the block, head and lane. -/
theorem idx_split (i : S16x2048x512.Idx) : ∃ (b : Fin 16) (r : Fin 4) (j : Fin 8) (l : Fin 64) (h : Fin 4) (d : Fin 128),
    i = ix3 b ⟨r.val * 512 + j.val * 64 + l.val, by omega⟩ ⟨h.val * 128 + d.val, by omega⟩ := by
  have h1 : (i 1).val < 2048 := (i 1).isLt
  have h2 : (i 2).val < 512 := (i 2).isLt
  refine ⟨i 0, ⟨(i 1).val / 512, by omega⟩, ⟨(i 1).val % 512 / 64, by omega⟩, ⟨(i 1).val % 64, by omega⟩, ⟨(i 2).val / 128, by omega⟩,
    ⟨(i 2).val % 128, by omega⟩, ?_⟩
  funext a
  match a with
  | 0 => rfl
  | 1 => exact Fin.ext (by show (i 1).val = (i 1).val / 512 * 512 + (i 1).val % 512 / 64 * 64 + (i 1).val % 64; omega)
  | 2 => exact Fin.ext (by show (i 2).val = (i 2).val / 128 * 128 + (i 2).val % 128; omega)

section At

variable (b : Fin 16) (r : Fin 4) (j : Fin 8) (l : Fin 64) (h : Fin 4) (d : Fin 128)

theorem finalO_at : finalO (zArr x) (finalT x1) (ix3 b ⟨r.val * 512 + j.val * 64 + l.val, by omega⟩ ⟨h.val * 128 + d.val, by omega⟩)
    = Ideal.div (∑ t : Fin 256, Ideal.exp (gP x x1 b.val r.val h.val (j.val * 64 + l.val) (64 + min 256 (j.val / 2 * 128 - 64) + t.val)
            - wMax (gP x x1 b.val r.val h.val (j.val * 64 + l.val)) (64 + min 256 (j.val / 2 * 128 - 64)) 256)
          * vP x b.val r.val h.val d.val (64 + min 256 (j.val / 2 * 128 - 64) + t.val))
        (∑ t : Fin 256, Ideal.exp (gP x x1 b.val r.val h.val (j.val * 64 + l.val) (64 + min 256 (j.val / 2 * 128 - 64) + t.val)
            - wMax (gP x x1 b.val r.val h.val (j.val * 64 + l.val)) (64 + min 256 (j.val / 2 * 128 - 64)) 256)) := by
  have := headO_spec x x1 b.val ((r.val * 512 + j.val * 64 + l.val) / 1024) ((r.val * 512 + j.val * 64 + l.val) % 1024 / 128) ((h.val * 128 + d.val) / 128)
    b.isLt (by omega) (by omega) (by omega) (Fin.ofNat 128 ((r.val * 512 + j.val * 64 + l.val) % 1024)) (Fin.ofNat 128 (h.val * 128 + d.val))
  rw [show (r.val * 512 + j.val * 64 + l.val) / 1024 * 2 + (r.val * 512 + j.val * 64 + l.val) % 1024 / 128 / 4 = r.val by omega,
    show (h.val * 128 + d.val) / 128 = h.val by omega,
    show (r.val * 512 + j.val * 64 + l.val) % 1024 / 128 % 4 = j.val / 2 by omega,
    show (Fin.ofNat 128 ((r.val * 512 + j.val * 64 + l.val) % 1024)).val = (r.val * 512 + j.val * 64 + l.val) % 1024 % 128 from rfl,
    show (Fin.ofNat 128 (h.val * 128 + d.val)).val = d.val from (by show (h.val * 128 + d.val) % 128 = d.val; omega),
    show j.val / 2 * 128 + (r.val * 512 + j.val * 64 + l.val) % 1024 % 128 = j.val * 64 + l.val by omega] at this
  refine Eq.trans ?_ this
  show headO _ _ _ _ ((r.val * 512 + j.val * 64 + l.val) % 1024 / 128) ((h.val * 128 + d.val) / 128) (ix3 0 _ _) = _
  rw [show (h.val * 128 + d.val) / 128 = h.val by omega]
  rfl

theorem finalL_at : finalL (zArr x) (finalT x1) (ix3 b ⟨r.val * 512 + j.val * 64 + l.val, by omega⟩ ⟨h.val * 128 + d.val, by omega⟩)
    = wMax (gP x x1 b.val r.val h.val (j.val * 64 + l.val)) (64 + min 256 (j.val / 2 * 128 - 64)) 256
      + Ideal.log (∑ t : Fin 256, Ideal.exp (gP x x1 b.val r.val h.val (j.val * 64 + l.val) (64 + min 256 (j.val / 2 * 128 - 64) + t.val)
            - wMax (gP x x1 b.val r.val h.val (j.val * 64 + l.val)) (64 + min 256 (j.val / 2 * 128 - 64)) 256)) := by
  have := headL_spec x x1 b.val ((r.val * 512 + j.val * 64 + l.val) / 1024) ((r.val * 512 + j.val * 64 + l.val) % 1024 / 128) ((h.val * 128 + d.val) / 128)
    b.isLt (by omega) (by omega) (by omega) (Fin.ofNat 128 ((r.val * 512 + j.val * 64 + l.val) % 1024)) (Fin.ofNat 128 (h.val * 128 + d.val))
  rw [show (r.val * 512 + j.val * 64 + l.val) / 1024 * 2 + (r.val * 512 + j.val * 64 + l.val) % 1024 / 128 / 4 = r.val by omega,
    show (h.val * 128 + d.val) / 128 = h.val by omega,
    show (r.val * 512 + j.val * 64 + l.val) % 1024 / 128 % 4 = j.val / 2 by omega,
    show (Fin.ofNat 128 ((r.val * 512 + j.val * 64 + l.val) % 1024)).val = (r.val * 512 + j.val * 64 + l.val) % 1024 % 128 from rfl,
    show j.val / 2 * 128 + (r.val * 512 + j.val * 64 + l.val) % 1024 % 128 = j.val * 64 + l.val by omega] at this
  refine Eq.trans ?_ this
  show headL _ _ _ _ ((r.val * 512 + j.val * 64 + l.val) % 1024 / 128) ((h.val * 128 + d.val) / 128) (ix3 0 _ _) = _
  rw [show (h.val * 128 + d.val) / 128 = h.val by omega]
  rfl

end At

/-- The attention outputs agree. -/
theorem out_eq (H : Finite x x1) : finalO (zArr x) (finalT x1) = Cert.AttnRefIdeal.Value.r_v129 (F := Ideal) x x1 := by
  funext i
  obtain ⟨b, r, j, l, h, d, rfl⟩ := idx_split i
  rw [finalO_at]
  refine Eq.trans ?_ (Cert.AttnRefIdeal.Value.ref_o x x1 b r j h l d).symm
  exact mean_eq _ _ _ _ _ _ _ (gP_self H b.val r.val h.val (j.val * 64 + l.val) h.isLt (by omega)) (gP_real H b.val r.val h.val _ h.isLt)
    (window_ker x x1 b.val r.val h.val _ (j.val / 2) (by omega) (by omega)) (window_ref x x1 b.val r.val h.val _ j.val (by omega))

/-- The logarithms of the weights' sums agree. -/
theorem lse_out_eq : finalL (zArr x) (finalT x1) = Cert.AttnRefIdeal.Value.r_v128 (F := Ideal) x x1 := by
  funext i
  obtain ⟨b, r, j, l, h, d, rfl⟩ := idx_split i
  rw [finalL_at]
  refine Eq.trans ?_ (Cert.AttnRefIdeal.Value.ref_l x x1 b r j h l d).symm
  exact lse_eq _ _ _ _ _ (window_ker x x1 b.val r.val h.val _ (j.val / 2) (by omega) (by omega)) (window_ref x x1 b.val r.val h.val _ j.val (by omega))

end Cert.AttnIdeal.Gen

end
-- ==== Proof.AttnPre.lean ====
/- The precondition read as a statement about the arrays: queries, keys and bias entries are real numbers. -/
module

public import proofs.«01_k».proof.Pre_finite_logits
public import proofs.«01_k».proof.Proof.AttnSpec

@[expose] public section

set_option maxRecDepth 16384

noncomputable section

namespace Cert.Pre_finite_logits

open Idealize.ShloMosaic Cert.Window

theorem facts : Facts where
  slices_S16x2048x6656_S16x2048x512_0_0_512 := by decide
  bcast_S_S16x2048x512 := by decide
  slices_S16x2048x6656_S16x2048x512_0_0_2048 := by decide
  slices_S32x12_S32x4_0_4 := by decide
  bcast_S_S32x4 := by decide

/-- A number whose magnitude compares below infinity is real. -/
theorem real_of_lt (a : EReal) (h : BitVec.ofBool (decide (FloatOps.absf (F := Ideal) (φ := .f32) a < Ideal.ofBits FTy.f32 2139095040#32)) = 1#1) : IsReal a := by
  have hc : Ideal.ofBits FTy.f32 2139095040#32 = (⊤ : EReal) := by simp [Ideal.ofBits, Ideal.ieee]
  rw [hc] at h
  have h' : (FloatOps.absf (F := Ideal) (φ := .f32) a : EReal) < ⊤ := by
    by_contra hn
    rw [decide_eq_false hn] at h
    exact absurd h (by decide)
  induction a using EReal.rec with
  | bot => exact absurd h' (by simp [FloatOps.absf])
  | coe r => exact ⟨r, rfl⟩
  | top => exact absurd h' (by simp [FloatOps.absf])

variable [Facts] (x0 : FVec Ideal S16x2048x6656 .f32) (x1 : FVec Ideal S32x12 .f32)

theorem fn_q (b : Fin 16) (n : Fin 2048) (c : Fin 512) : (fn (F := Ideal) x0 x1).1 (ix3 b n c) =
    BitVec.ofBool (decide (FloatOps.absf (F := Ideal) (φ := .f32) (x0 (ix3 b n ⟨512 + c.val, by omega⟩)) < Ideal.ofBits FTy.f32 2139095040#32)) := by
  pointwise [fn]

theorem fn_k (b : Fin 16) (n : Fin 2048) (c : Fin 512) : (fn (F := Ideal) x0 x1).2.1 (ix3 b n c) =
    BitVec.ofBool (decide (FloatOps.absf (F := Ideal) (φ := .f32) (x0 (ix3 b n ⟨2048 + c.val, by omega⟩)) < Ideal.ofBits FTy.f32 2139095040#32)) := by
  pointwise [fn]

theorem fn_b (i : Fin 32) (h : Fin 4) : (fn (F := Ideal) x0 x1).2.2 (ix2 i h) =
    BitVec.ofBool (decide (FloatOps.absf (F := Ideal) (φ := .f32) (x1 (ix2 i ⟨4 + h.val, by omega⟩)) < Ideal.ofBits FTy.f32 2139095040#32)) := by
  pointwise [fn]

theorem finite (hq : (fn (F := Ideal) x0 x1).1 = fun _ => 1#1) (hk : (fn (F := Ideal) x0 x1).2.1 = fun _ => 1#1)
    (hb : (fn (F := Ideal) x0 x1).2.2 = fun _ => 1#1) : Finite x0 x1 := by
  refine ⟨fun b n c hc => ?_, fun b n c hc => ?_, fun i h hh => ?_⟩
  · have := congrFun hq (ix3 (Fin.ofNat 16 b) (Fin.ofNat 2048 n) (⟨c, hc⟩ : Fin 512))
    rw [fn_q] at this
    have e : (Fin.ofNat 6656 (512 + c)) = ⟨512 + c, by omega⟩ := Fin.ext (Nat.mod_eq_of_lt (by omega))
    unfold at3
    rw [e]
    exact real_of_lt _ this
  · have := congrFun hk (ix3 (Fin.ofNat 16 b) (Fin.ofNat 2048 n) (⟨c, hc⟩ : Fin 512))
    rw [fn_k] at this
    have e : (Fin.ofNat 6656 (2048 + c)) = ⟨2048 + c, by omega⟩ := Fin.ext (Nat.mod_eq_of_lt (by omega))
    unfold at3
    rw [e]
    exact real_of_lt _ this
  · have := congrFun hb (ix2 (Fin.ofNat 32 i) (⟨h, hh⟩ : Fin 4))
    rw [fn_b] at this
    have e : (Fin.ofNat 12 (4 + h)) = ⟨4 + h, by omega⟩ := Fin.ext (Nat.mod_eq_of_lt (by omega))
    rw [e]
    exact real_of_lt _ this

end Cert.Pre_finite_logits

end
-- ==== Proof.AttnClaims.lean ====
/- The attention's claims: the frames, the named constant, and the results against the reference. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.AttnEntry
public import proofs.«01_k».proof.Proof.AttnEq
public import proofs.«01_k».proof.Proof.AttnPre
public import Idealize.ShloMosaic.Lib.Quiescent

@[expose] public section

set_option maxRecDepth 16384

noncomputable section

namespace Cert.Proof

open Idealize.ShloMosaic Idealize.SL.Sem

theorem attn_frame : quiescent_Attn (hAttn := Cert.Attn.Gen.facts) := fun m ρ _ => Cert.Attn.Gen.frame (F := Bits) m ρ

theorem attn_ideal_frame : quiescent_AttnIdeal (hAttnIdeal := Cert.AttnIdeal.Gen.facts) := fun m ρ _ => Cert.AttnIdeal.Gen.frame (F := Ideal) m ρ

theorem attn_ref_frame : quiescent_AttnRefIdeal (hAttnRefIdeal := Cert.AttnRefIdeal.Gen.facts) := fun m ρ _ =>
  (θ_run Cert.AttnRefIdeal.defs _ _).mono
    (fun r h => ⟨fun c => (h c).2.2, Idealize.ShloMosaic.sem_eq_zero_of_no_sems (by decide) r.2⟩)
    (Cert.AttnRefIdeal.Value.run (F := Ideal) m ρ)

theorem attn_preserves : preserves_Attn_AttnIdeal := IdealRules.named_const.statement Cert.AttnIdeal.κ "mask" .f32 0xF149F2CA#32 ⊥ rfl

section Values

variable (m : (ℓ : Loc Cert.AttnIdeal.nD Cert.AttnIdeal.τ Cert.AttnIdeal.sig) → Buf (Elt Ideal) ℓ) (ρ : Dev Cert.AttnIdeal.nD → PrngReg)

open Cert.AttnIdeal Cert.AttnIdeal.Gen in
/-- The kernel's attention output, as a function of the arguments. -/
theorem kernel_o (c : Dev Cert.AttnIdeal.nD) : (dat1 (V2 m ρ) c).arrAt 4 cfg1.N
    = finalO (zArr (m ((c.tc : Thread nD τ).loc main_arg0))) (finalT (m ((c.tc : Thread nD τ).loc main_arg1))) := by
  rw [final1_4, V2_main_v8, V2_main_v7, V1_main_v7]

open Cert.AttnIdeal Cert.AttnIdeal.Gen in
/-- The kernel's logarithms, as a function of the arguments. -/
theorem kernel_l (c : Dev Cert.AttnIdeal.nD) : (dat1 (V2 m ρ) c).arrAt 5 cfg1.N
    = finalL (zArr (m ((c.tc : Thread nD τ).loc main_arg0))) (finalT (m ((c.tc : Thread nD τ).loc main_arg1))) := by
  rw [final1_5, V2_main_v8, V2_main_v7, V1_main_v7]

end Values

theorem attn_algebraic : algebraic_AttnIdeal_AttnRefIdeal_pre_finite_logits (hAttnIdeal := Cert.AttnIdeal.Gen.facts)
    (hAttnRefIdeal := Cert.AttnRefIdeal.Gen.facts) (hPre_finite_logits := Cert.Pre_finite_logits.facts) := by
  intro m ρ m' ρ' hpre hagree
  haveI := Cert.Pre_finite_logits.facts
  refine ⟨fun c => (Cert.AttnIdeal.Gen.dat1 (Cert.AttnIdeal.Gen.V2 m ρ) c).arrAt 4 Cert.AttnIdeal.cfg1.N,
    fun c => (Cert.AttnIdeal.Gen.dat1 (Cert.AttnIdeal.Gen.V2 m ρ) c).arrAt 5 Cert.AttnIdeal.cfg1.N,
    Cert.AttnIdeal.Gen.runResults m ρ, (θ_run _ _ _).mono (fun r h c => ?_) (Cert.AttnRefIdeal.Value.run (F := Ideal) m' ρ')⟩
  obtain ⟨ho, hl, h0, h1⟩ := h c
  obtain ⟨a0, a1⟩ := hagree c
  obtain ⟨hq, hk, hb⟩ := hpre c
  refine ⟨ho.trans ?_, hl.trans ?_, h0, h1⟩
  · refine Eq.trans ?_ (kernel_o m ρ c).symm
    rw [Cert.AttnRefIdeal.Value.res_v129_eq, a0, a1]
    exact (Cert.AttnIdeal.Gen.out_eq _ _ (Cert.Pre_finite_logits.finite _ _ hq hk hb)).symm
  · refine Eq.trans ?_ (kernel_l m ρ c).symm
    rw [Cert.AttnRefIdeal.Value.res_v128_eq, a0, a1]
    exact (Cert.AttnIdeal.Gen.lse_out_eq _ _).symm

end Cert.Proof

end
-- ==== Proof.FfnBlock.lean ====
/- What one grid point of the feed-forward call leaves in its scratch and in its output block. The first point of a row
   block stores the normalised rows sixteen at a time; the last one adds the normalised sum to the input, also sixteen
   rows at a time, each chunk reading the block below the chunks stored so far. -/
module

public import proofs.«01_k».proof.Proof.Gen.FfnIdeal.Frame
public import Idealize.ShloMosaic.Lib.Pointwise
public import Idealize.ShloMosaic.Lib.Pipeline.CanonAppend
public import Idealize.ShloMosaic.Lib.WholeRead
public import Idealize.ShloMosaic.Lib.ValueIdxCore

@[expose] public section

set_option maxRecDepth 16384

noncomputable section

namespace Cert.FfnIdeal.Gen

open Idealize.ShloMosaic Idealize.ShloMosaic.Pipeline

variable {F : FTy → Type} [FloatOps F]

/-- The `k`-th sixteen rows. -/
def rows16 {e : EltTy} (x : Vec F S1024x2048 e) (k : ℕ) : Vec F S16x2048 e := fun j =>
  x (ix2 (Fin.ofNat 1024 (16 * k + (j 0).val)) (j 1))

/-- The normalisation of sixteen rows. -/
def preChunk (g : Vec F S1x2048 .f32) (x : Vec F S16x2048 .f32) : Vec F S16x2048 .bf16 := k0_pay5 g x

/-- The last step on sixteen rows: the input plus half the normalised sum. -/
def postChunk (g : Vec F S1x2048 .f32) (x u : Vec F S16x2048 .f32) : Vec F S16x2048 .f32 := k0_pay3 (k0_pay109 g) x u

/-- The normalised block. -/
def blockH (x0 : Vec F S1024x2048 .f32) (x1 : Vec F S1x2048 .f32) : Vec F S1024x2048 .bf16 := fun y =>
  preChunk x1 (rows16 x0 ((y 0).val / 16)) (ix2 (Fin.ofNat 16 (y 0).val) (y 1))

/-- The finished block. -/
def blockC (x0 : Vec F S1024x2048 .f32) (x5 : Vec F S1x2048 .f32) (u : Vec F S1024x2048 .f32) : Vec F S1024x2048 .f32 := fun y =>
  postChunk x5 (rows16 x0 ((y 0).val / 16)) (rows16 u ((y 0).val / 16)) (ix2 (Fin.ofNat 16 (y 0).val) (y 1))

theorem rect_val {s : Shape} (off : Fin s.rank → ℕ) (n : Fin s.rank → ℕ) (inb : ∀ a, off a + n a ≤ s.size a)
    (x : (Rect.unit (s := s) off n inb).shape.Idx) (a : Fin s.rank) :
    ((Rect.unit (s := s) off n inb).emb x a).val = off a + (x a).val := by
  simp [Rect.unit, Rect.emb]

theorem emb_whole {d0 d1 : ℕ} (inb : ∀ a, (![0, 0] : Fin 2 → ℕ) a + (![d0, d1] : Fin 2 → ℕ) a ≤ (⟨2, ![d0, d1]⟩ : Shape).size a)
    (x : (⟨2, ![d0, d1]⟩ : Shape).Idx) : (Rect.unit (s := ⟨2, ![d0, d1]⟩) ![0, 0] ![d0, d1] inb).emb x = x := by
  funext a
  refine Fin.ext ((rect_val _ _ _ x a).trans ?_)
  match a with
  | ⟨0, _⟩ => exact Nat.zero_add _
  | ⟨1, _⟩ => exact Nat.zero_add _

/-- One store of a whole block. -/
theorem canon_whole {d0 d1 : ℕ} {e : EltTy} (inb : ∀ a, (![0, 0] : Fin 2 → ℕ) a + (![d0, d1] : Fin 2 → ℕ) a ≤ (⟨2, ![d0, d1]⟩ : Shape).size a)
    (w : Vec F ⟨2, ![d0, d1]⟩ e) (L : List (View.Piece (Elt F) ⟨2, ![d0, d1]⟩ e)) :
    View.canon ((⟨Rect.unit (s := ⟨2, ![d0, d1]⟩) ![0, 0] ![d0, d1] inb, w⟩ : View.Piece (Elt F) ⟨2, ![d0, d1]⟩ e) :: L) = w := by
  funext y
  refine Eq.trans (congrArg (View.canon _) (emb_whole inb y).symm) ?_
  exact View.canon_cons_emb (Rect.unit (s := ⟨2, ![d0, d1]⟩) ![0, 0] ![d0, d1] inb) w L y

/-- A load of the whole of a staged block. -/
theorem load_all {d0 d1 : ℕ} {e : EltTy} {arg : Memref sig .tc .vmem ⟨2, ![d0, d1]⟩ e} (harg : arg.IsWhole) (x : Vec F ⟨2, ![d0, d1]⟩ e)
    (inb : ∀ a, (![0, 0] : Fin 2 → ℕ) a + (![d0, d1] : Fin 2 → ℕ) a ≤ (⟨2, ![d0, d1]⟩ : Shape).size a) :
    View.readAt (Elt F) arg.view (Rect.unit (s := ⟨2, ![d0, d1]⟩) ![0, 0] ![d0, d1] inb).toLoadRect (harg.unread x) = x :=
  funext fun j => (harg.readAt_unread _ _ j).trans (congrArg x (emb_whole inb j))

theorem emb_rows (n : ℕ) (o : ℕ) (ho : o = 16 * n) (inb : ∀ a, (![o, 0] : Fin 2 → ℕ) a + S16x2048.size a ≤ S1024x2048.size a)
    (x : S16x2048.Idx) : (Rect.unit (s := S1024x2048) ![o, 0] S16x2048.size inb).emb x = ix2 (Fin.ofNat 1024 (16 * n + (x 0).val)) (x 1) := by
  subst ho
  have h0 := inb 0
  simp [S1024x2048, S16x2048] at h0
  have hx0 : (x 0).val < 16 := (x 0).isLt
  funext a
  refine Fin.ext ((rect_val _ _ _ x a).trans ?_)
  match a with
  | ⟨0, _⟩ => simp [ix2]; omega
  | ⟨1, _⟩ => simp [ix2]

theorem load_rows {arg : Memref sig .tc .vmem S1024x2048 .f32} (harg : arg.IsWhole) (x0 : Vec F S1024x2048 .f32) (n o : ℕ) (ho : o = 16 * n)
    (inb : ∀ a, (![o, 0] : Fin 2 → ℕ) a + S16x2048.size a ≤ S1024x2048.size a) :
    View.readAt (Elt F) arg.view (Rect.unit (s := S1024x2048) ![o, 0] S16x2048.size inb).toLoadRect (harg.unread x0) = rows16 x0 n :=
  funext fun j => (harg.readAt_unread _ _ j).trans (congrArg x0 (emb_rows n o ho inb j))

/-- A function of sixteen rows, read inside chunk `n`. -/
theorem read_chunk {e : EltTy} (H : ℕ → Vec F S16x2048 e) (n o : ℕ) (ho : o = 16 * n) (inb : ∀ a, (![o, 0] : Fin 2 → ℕ) a + S16x2048.size a ≤ S1024x2048.size a)
    (x : S16x2048.Idx) :
    H n x = (fun y : S1024x2048.Idx => H ((y 0).val / 16) (ix2 (Fin.ofNat 16 (y 0).val) (y 1)))
      ((Rect.unit (s := S1024x2048) ![o, 0] S16x2048.size inb).emb x) := by
  have h0 := inb 0
  have hx0 : (x 0).val < 16 := (x 0).isLt
  rw [emb_rows n o ho inb x]
  subst ho
  simp [S1024x2048, S16x2048] at h0
  have e1 : (16 * n + (x 0).val) % 1024 / 16 = n := by omega
  have e2 : (16 * n + (x 0).val) % 1024 % 16 = (x 0).val := by omega
  simp only [ix2, Fin.ofNat, Matrix.cons_val_zero, Matrix.cons_val_one]
  refine Eq.trans ?_ (congrFun (congrArg H e1.symm) _)
  refine congrArg (H n) (funext fun a => ?_)
  match a with
  | ⟨0, _⟩ => exact Fin.ext e2.symm
  | ⟨1, _⟩ => rfl

/-- The pieces of the normalised block. -/
def IsPre (x0 : Vec F S1024x2048 .f32) (x1 : Vec F S1x2048 .f32) (p : View.Piece (Elt F) S1024x2048 .bf16) : Prop :=
  ∃ (o n : ℕ) (_ : o = 16 * n) (inb : ∀ a, (![o, 0] : Fin 2 → ℕ) a + S16x2048.size a ≤ S1024x2048.size a),
    p = ⟨Rect.unit (s := S1024x2048) ![o, 0] S16x2048.size inb, preChunk x1 (rows16 x0 n)⟩

theorem isPre (arg2 : Memref sig .tc .vmem S1024x2048 .f32) (harg2 : arg2.IsWhole) (arg3 : Memref sig .tc .vmem S1x2048 .f32) (harg3 : arg3.IsWhole)
    (x0 : Vec F S1024x2048 .f32) (x1 : Vec F S1x2048 .f32) (o n : ℕ) (ho : o = 16 * n) (inb : ∀ a, (![o, 0] : Fin 2 → ℕ) a + S16x2048.size a ≤ S1024x2048.size a) :
    IsPre x0 x1 ⟨Rect.unit (s := S1024x2048) ![o, 0] S16x2048.size inb,
      preChunk (View.readAt (Elt F) arg3.view (Rect.unit (s := S1x2048) ![0, 0] S1x2048.size inb_S1x2048_S1x2048_0_0).toLoadRect (harg3.unread x1))
        (View.readAt (Elt F) arg2.view (Rect.unit (s := S1024x2048) ![o, 0] S16x2048.size inb).toLoadRect (harg2.unread x0))⟩ := by
  refine ⟨o, n, ho, inb, ?_⟩
  rw [load_rows harg2 x0 n o ho inb, show View.readAt (Elt F) arg3.view (Rect.unit (s := S1x2048) ![0, 0] S1x2048.size inb_S1x2048_S1x2048_0_0).toLoadRect (harg3.unread x1) = x1 from load_all harg3 x1 _]

theorem pre_pieces (c : Dev nD) (arg2 : Memref sig .tc .vmem S1024x2048 .f32) (harg2 : arg2.IsWhole) (arg3 : Memref sig .tc .vmem S1x2048 .f32) (harg3 : arg3.IsWhole)
    (x0 : Vec F S1024x2048 .f32) (x1 : Vec F S1x2048 .f32) : ∀ p ∈ kernelRun0_A.sl.HS0_64 c arg2 harg2 arg3 harg3 x0 x1, IsPre x0 x1 p := by
  unfold kernelRun0_A.sl.HS0_64
  refine List.forall_mem_cons.mpr ⟨isPre arg2 harg2 arg3 harg3 x0 x1 1008 63 rfl inb_S1024x2048_S16x2048_1008_0, ?_⟩
  refine List.forall_mem_cons.mpr ⟨isPre arg2 harg2 arg3 harg3 x0 x1 992 62 rfl inb_S1024x2048_S16x2048_992_0, ?_⟩
  refine List.forall_mem_cons.mpr ⟨isPre arg2 harg2 arg3 harg3 x0 x1 976 61 rfl inb_S1024x2048_S16x2048_976_0, ?_⟩
  refine List.forall_mem_cons.mpr ⟨isPre arg2 harg2 arg3 harg3 x0 x1 960 60 rfl inb_S1024x2048_S16x2048_960_0, ?_⟩
  refine List.forall_mem_cons.mpr ⟨isPre arg2 harg2 arg3 harg3 x0 x1 944 59 rfl inb_S1024x2048_S16x2048_944_0, ?_⟩
  refine List.forall_mem_cons.mpr ⟨isPre arg2 harg2 arg3 harg3 x0 x1 928 58 rfl inb_S1024x2048_S16x2048_928_0, ?_⟩
  refine List.forall_mem_cons.mpr ⟨isPre arg2 harg2 arg3 harg3 x0 x1 912 57 rfl inb_S1024x2048_S16x2048_912_0, ?_⟩
  refine List.forall_mem_cons.mpr ⟨isPre arg2 harg2 arg3 harg3 x0 x1 896 56 rfl inb_S1024x2048_S16x2048_896_0, ?_⟩
  refine List.forall_mem_cons.mpr ⟨isPre arg2 harg2 arg3 harg3 x0 x1 880 55 rfl inb_S1024x2048_S16x2048_880_0, ?_⟩
  refine List.forall_mem_cons.mpr ⟨isPre arg2 harg2 arg3 harg3 x0 x1 864 54 rfl inb_S1024x2048_S16x2048_864_0, ?_⟩
  refine List.forall_mem_cons.mpr ⟨isPre arg2 harg2 arg3 harg3 x0 x1 848 53 rfl inb_S1024x2048_S16x2048_848_0, ?_⟩
  refine List.forall_mem_cons.mpr ⟨isPre arg2 harg2 arg3 harg3 x0 x1 832 52 rfl inb_S1024x2048_S16x2048_832_0, ?_⟩
  refine List.forall_mem_cons.mpr ⟨isPre arg2 harg2 arg3 harg3 x0 x1 816 51 rfl inb_S1024x2048_S16x2048_816_0, ?_⟩
  refine List.forall_mem_cons.mpr ⟨isPre arg2 harg2 arg3 harg3 x0 x1 800 50 rfl inb_S1024x2048_S16x2048_800_0, ?_⟩
  refine List.forall_mem_cons.mpr ⟨isPre arg2 harg2 arg3 harg3 x0 x1 784 49 rfl inb_S1024x2048_S16x2048_784_0, ?_⟩
  refine List.forall_mem_cons.mpr ⟨isPre arg2 harg2 arg3 harg3 x0 x1 768 48 rfl inb_S1024x2048_S16x2048_768_0, ?_⟩
  refine List.forall_mem_cons.mpr ⟨isPre arg2 harg2 arg3 harg3 x0 x1 752 47 rfl inb_S1024x2048_S16x2048_752_0, ?_⟩
  refine List.forall_mem_cons.mpr ⟨isPre arg2 harg2 arg3 harg3 x0 x1 736 46 rfl inb_S1024x2048_S16x2048_736_0, ?_⟩
  refine List.forall_mem_cons.mpr ⟨isPre arg2 harg2 arg3 harg3 x0 x1 720 45 rfl inb_S1024x2048_S16x2048_720_0, ?_⟩
  refine List.forall_mem_cons.mpr ⟨isPre arg2 harg2 arg3 harg3 x0 x1 704 44 rfl inb_S1024x2048_S16x2048_704_0, ?_⟩
  refine List.forall_mem_cons.mpr ⟨isPre arg2 harg2 arg3 harg3 x0 x1 688 43 rfl inb_S1024x2048_S16x2048_688_0, ?_⟩
  refine List.forall_mem_cons.mpr ⟨isPre arg2 harg2 arg3 harg3 x0 x1 672 42 rfl inb_S1024x2048_S16x2048_672_0, ?_⟩
  refine List.forall_mem_cons.mpr ⟨isPre arg2 harg2 arg3 harg3 x0 x1 656 41 rfl inb_S1024x2048_S16x2048_656_0, ?_⟩
  refine List.forall_mem_cons.mpr ⟨isPre arg2 harg2 arg3 harg3 x0 x1 640 40 rfl inb_S1024x2048_S16x2048_640_0, ?_⟩
  refine List.forall_mem_cons.mpr ⟨isPre arg2 harg2 arg3 harg3 x0 x1 624 39 rfl inb_S1024x2048_S16x2048_624_0, ?_⟩
  refine List.forall_mem_cons.mpr ⟨isPre arg2 harg2 arg3 harg3 x0 x1 608 38 rfl inb_S1024x2048_S16x2048_608_0, ?_⟩
  refine List.forall_mem_cons.mpr ⟨isPre arg2 harg2 arg3 harg3 x0 x1 592 37 rfl inb_S1024x2048_S16x2048_592_0, ?_⟩
  refine List.forall_mem_cons.mpr ⟨isPre arg2 harg2 arg3 harg3 x0 x1 576 36 rfl inb_S1024x2048_S16x2048_576_0, ?_⟩
  refine List.forall_mem_cons.mpr ⟨isPre arg2 harg2 arg3 harg3 x0 x1 560 35 rfl inb_S1024x2048_S16x2048_560_0, ?_⟩
  refine List.forall_mem_cons.mpr ⟨isPre arg2 harg2 arg3 harg3 x0 x1 544 34 rfl inb_S1024x2048_S16x2048_544_0, ?_⟩
  refine List.forall_mem_cons.mpr ⟨isPre arg2 harg2 arg3 harg3 x0 x1 528 33 rfl inb_S1024x2048_S16x2048_528_0, ?_⟩
  refine List.forall_mem_cons.mpr ⟨isPre arg2 harg2 arg3 harg3 x0 x1 512 32 rfl inb_S1024x2048_S16x2048_512_0, ?_⟩
  refine List.forall_mem_cons.mpr ⟨isPre arg2 harg2 arg3 harg3 x0 x1 496 31 rfl inb_S1024x2048_S16x2048_496_0, ?_⟩
  refine List.forall_mem_cons.mpr ⟨isPre arg2 harg2 arg3 harg3 x0 x1 480 30 rfl inb_S1024x2048_S16x2048_480_0, ?_⟩
  refine List.forall_mem_cons.mpr ⟨isPre arg2 harg2 arg3 harg3 x0 x1 464 29 rfl inb_S1024x2048_S16x2048_464_0, ?_⟩
  refine List.forall_mem_cons.mpr ⟨isPre arg2 harg2 arg3 harg3 x0 x1 448 28 rfl inb_S1024x2048_S16x2048_448_0, ?_⟩
  refine List.forall_mem_cons.mpr ⟨isPre arg2 harg2 arg3 harg3 x0 x1 432 27 rfl inb_S1024x2048_S16x2048_432_0, ?_⟩
  refine List.forall_mem_cons.mpr ⟨isPre arg2 harg2 arg3 harg3 x0 x1 416 26 rfl inb_S1024x2048_S16x2048_416_0, ?_⟩
  refine List.forall_mem_cons.mpr ⟨isPre arg2 harg2 arg3 harg3 x0 x1 400 25 rfl inb_S1024x2048_S16x2048_400_0, ?_⟩
  refine List.forall_mem_cons.mpr ⟨isPre arg2 harg2 arg3 harg3 x0 x1 384 24 rfl inb_S1024x2048_S16x2048_384_0, ?_⟩
  refine List.forall_mem_cons.mpr ⟨isPre arg2 harg2 arg3 harg3 x0 x1 368 23 rfl inb_S1024x2048_S16x2048_368_0, ?_⟩
  refine List.forall_mem_cons.mpr ⟨isPre arg2 harg2 arg3 harg3 x0 x1 352 22 rfl inb_S1024x2048_S16x2048_352_0, ?_⟩
  refine List.forall_mem_cons.mpr ⟨isPre arg2 harg2 arg3 harg3 x0 x1 336 21 rfl inb_S1024x2048_S16x2048_336_0, ?_⟩
  refine List.forall_mem_cons.mpr ⟨isPre arg2 harg2 arg3 harg3 x0 x1 320 20 rfl inb_S1024x2048_S16x2048_320_0, ?_⟩
  refine List.forall_mem_cons.mpr ⟨isPre arg2 harg2 arg3 harg3 x0 x1 304 19 rfl inb_S1024x2048_S16x2048_304_0, ?_⟩
  refine List.forall_mem_cons.mpr ⟨isPre arg2 harg2 arg3 harg3 x0 x1 288 18 rfl inb_S1024x2048_S16x2048_288_0, ?_⟩
  refine List.forall_mem_cons.mpr ⟨isPre arg2 harg2 arg3 harg3 x0 x1 272 17 rfl inb_S1024x2048_S16x2048_272_0, ?_⟩
  refine List.forall_mem_cons.mpr ⟨isPre arg2 harg2 arg3 harg3 x0 x1 256 16 rfl inb_S1024x2048_S16x2048_256_0, ?_⟩
  refine List.forall_mem_cons.mpr ⟨isPre arg2 harg2 arg3 harg3 x0 x1 240 15 rfl inb_S1024x2048_S16x2048_240_0, ?_⟩
  refine List.forall_mem_cons.mpr ⟨isPre arg2 harg2 arg3 harg3 x0 x1 224 14 rfl inb_S1024x2048_S16x2048_224_0, ?_⟩
  refine List.forall_mem_cons.mpr ⟨isPre arg2 harg2 arg3 harg3 x0 x1 208 13 rfl inb_S1024x2048_S16x2048_208_0, ?_⟩
  refine List.forall_mem_cons.mpr ⟨isPre arg2 harg2 arg3 harg3 x0 x1 192 12 rfl inb_S1024x2048_S16x2048_192_0, ?_⟩
  refine List.forall_mem_cons.mpr ⟨isPre arg2 harg2 arg3 harg3 x0 x1 176 11 rfl inb_S1024x2048_S16x2048_176_0, ?_⟩
  refine List.forall_mem_cons.mpr ⟨isPre arg2 harg2 arg3 harg3 x0 x1 160 10 rfl inb_S1024x2048_S16x2048_160_0, ?_⟩
  refine List.forall_mem_cons.mpr ⟨isPre arg2 harg2 arg3 harg3 x0 x1 144 9 rfl inb_S1024x2048_S16x2048_144_0, ?_⟩
  refine List.forall_mem_cons.mpr ⟨isPre arg2 harg2 arg3 harg3 x0 x1 128 8 rfl inb_S1024x2048_S16x2048_128_0, ?_⟩
  refine List.forall_mem_cons.mpr ⟨isPre arg2 harg2 arg3 harg3 x0 x1 112 7 rfl inb_S1024x2048_S16x2048_112_0, ?_⟩
  refine List.forall_mem_cons.mpr ⟨isPre arg2 harg2 arg3 harg3 x0 x1 96 6 rfl inb_S1024x2048_S16x2048_96_0, ?_⟩
  refine List.forall_mem_cons.mpr ⟨isPre arg2 harg2 arg3 harg3 x0 x1 80 5 rfl inb_S1024x2048_S16x2048_80_0, ?_⟩
  refine List.forall_mem_cons.mpr ⟨isPre arg2 harg2 arg3 harg3 x0 x1 64 4 rfl inb_S1024x2048_S16x2048_64_0, ?_⟩
  refine List.forall_mem_cons.mpr ⟨isPre arg2 harg2 arg3 harg3 x0 x1 48 3 rfl inb_S1024x2048_S16x2048_48_0, ?_⟩
  refine List.forall_mem_cons.mpr ⟨isPre arg2 harg2 arg3 harg3 x0 x1 32 2 rfl inb_S1024x2048_S16x2048_32_0, ?_⟩
  refine List.forall_mem_cons.mpr ⟨isPre arg2 harg2 arg3 harg3 x0 x1 16 1 rfl inb_S1024x2048_S16x2048_16_0, ?_⟩
  refine List.forall_mem_cons.mpr ⟨isPre arg2 harg2 arg3 harg3 x0 x1 0 0 rfl inb_S1024x2048_S16x2048_0_0, ?_⟩
  exact List.forall_mem_nil _

theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    View.canon (kernelRun0_A.sl.HS0_64 c arg2 harg2 arg3 harg3 x0 x1) = blockH x0 x1 := by
  funext y
  have hc := scover0_A_0 c i arg2 harg2 arg3 harg3 arg4 harg4 arg5 harg5 arg6 harg6 arg7 harg7 arg8 harg8 arg9 harg9 hc0 hc1 hc2 x0 x1 x2 x3 x4 x5 y
  unfold kernelRun0_A at hc
  rw [← List.append_nil (kernelRun0_A.sl.HS0_64 c arg2 harg2 arg3 harg3 x0 x1)]
  refine View.canon_append_of_pieces _ [] _ (fun p hp x => ?_) y hc
  obtain ⟨o, n, ho, inb, rfl⟩ := pre_pieces c arg2 harg2 arg3 harg3 x0 x1 p hp
  exact read_chunk (fun n => preChunk x1 (rows16 x0 n)) n o ho inb x

theorem sout_A_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    sout0_A_0 c i arg2 harg2 arg3 harg3 arg4 harg4 arg5 harg5 arg6 harg6 arg7 harg7 arg8 harg8 arg9 harg9 hc0 hc1 hc2 x0 x1 x2 x3 x4 x5 = blockH x0 x1 := by
  have h := scratch_A c i arg2 harg2 arg3 harg3 arg4 harg4 arg5 harg5 arg6 harg6 arg7 harg7 arg8 harg8 arg9 harg9 hc0 hc1 hc2 x0 x1 x2 x3 x4 x5
  refine Eq.trans (View.read_writes_junk_eq_canon _ _) (Eq.trans ?_ h)
  unfold kernelRun0_A
  rfl

theorem out_A_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    out0_A_6 c i arg2 harg2 arg3 harg3 arg4 harg4 arg5 harg5 arg6 harg6 arg7 harg7 arg8 harg8 arg9 harg9 hc0 hc1 hc2 x0 x1 x2 x3 x4 x5 = k0_pay1 (blockH x0 x1) (k0_pay108 (blockH x0 x1) x2) x3 x4 := by
  have hv : kernelRun0_A.sl.v1163 c arg2 harg2 arg3 harg3 arg9 x0 x1 = blockH x0 x1 := by
    refine Eq.trans (View.readCov_eq_canon' _ _ _) (funext fun j => ?_)
    exact (congrArg (View.canon _) (emb_whole _ j)).trans (congrFun (scratch_A c i arg2 harg2 arg3 harg3 arg4 harg4 arg5 harg5 arg6 harg6 arg7 harg7 arg8 harg8 arg9 harg9 hc0 hc1 hc2 x0 x1 x2 x3 x4 x5) j)
  refine Eq.trans (View.read_writes_junk_eq_canon _ _) ?_
  unfold kernelRun0_A kernelRun0_A.sl.r_38 kernelRun0_A.sl.r_39
  dsimp only
  rw [hv, show View.readAt (Elt F) arg4.view (Rect.unit (s := S2048x512) ![0, 0] S2048x512.size inb_S2048x512_S2048x512_0_0).toLoadRect (harg4.unread x2) = x2 from load_all harg4 x2 _,
    show View.readAt (Elt F) arg5.view (Rect.unit (s := S2048x512) ![0, 0] S2048x512.size inb_S2048x512_S2048x512_0_0).toLoadRect (harg5.unread x3) = x3 from load_all harg5 x3 _,
    show View.readAt (Elt F) arg6.view (Rect.unit (s := S512x2048) ![0, 0] S512x2048.size inb_S512x2048_S512x2048_0_0).toLoadRect (harg6.unread x4) = x4 from load_all harg6 x4 _]
  exact canon_whole (d0 := 1024) (d1 := 2048) _ _ _

theorem out_B_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 hc2 x0 x1 x2 x3 x4 x5 xo6 xs0 = k0_pay2 xo6 xs0 x2 x3 x4 := by
  refine Eq.trans (View.read_writes_junk_eq_canon _ _) ?_
  unfold kernelRun0_B
  dsimp only
  rw [show View.readAt (Elt F) arg8.view (Rect.unit (s := S1024x2048) ![0, 0] S1024x2048.size inb_S1024x2048_S1024x2048_0_0).toLoadRect (harg8.unread xo6) = xo6 from load_all harg8 xo6 _,
    show View.readAt (Elt F) arg9.view (Rect.unit (s := S1024x2048) ![0, 0] S1024x2048.size inb_S1024x2048_S1024x2048_0_0).toLoadRect (harg9.unread xs0) = xs0 from load_all harg9 xs0 _,
    show View.readAt (Elt F) arg4.view (Rect.unit (s := S2048x512) ![0, 0] S2048x512.size inb_S2048x512_S2048x512_0_0).toLoadRect (harg4.unread x2) = x2 from load_all harg4 x2 _,
    show View.readAt (Elt F) arg5.view (Rect.unit (s := S2048x512) ![0, 0] S2048x512.size inb_S2048x512_S2048x512_0_0).toLoadRect (harg5.unread x3) = x3 from load_all harg5 x3 _,
    show View.readAt (Elt F) arg6.view (Rect.unit (s := S512x2048) ![0, 0] S512x2048.size inb_S512x2048_S512x2048_0_0).toLoadRect (harg6.unread x4) = x4 from load_all harg6 x4 _]
  exact canon_whole (d0 := 1024) (d1 := 2048) _ _ _

end Cert.FfnIdeal.Gen

end
-- ==== Proof.FfnLast.lean ====
/- The last point of a row block: the sixty-four finished chunks, each read below the ones stored before it. -/
module

public import proofs.«01_k».proof.Proof.FfnBlock
public import Idealize.ShloMosaic.Lib.Pointwise
public import Idealize.ShloMosaic.Lib.Pipeline.CanonAppend
public import Idealize.ShloMosaic.Lib.WholeRead
public import Idealize.ShloMosaic.Lib.ValueIdxCore

@[expose] public section

set_option maxRecDepth 16384

noncomputable section

namespace Cert.FfnIdeal.Gen

open Idealize.ShloMosaic Idealize.ShloMosaic.Pipeline

variable {F : FTy → Type} [FloatOps F]

/-- After `n` finished chunks: those chunks, and below them the sum. -/
def Upto (G u : Vec F S1024x2048 .f32) (n : ℕ) (L : List (View.Piece (Elt F) S1024x2048 .f32)) : Prop :=
  ∀ y, View.canon L y = if (y 0).val < 16 * n then G y else u y

theorem upto_step (arg2 : Memref sig .tc .vmem S1024x2048 .f32) (harg2 : arg2.IsWhole) (arg7 : Memref sig .tc .vmem S1x2048 .f32) (harg7 : arg7.IsWhole)
    (arg8 : Memref sig .tc .vmem S1024x2048 .f32) (x0 : Vec F S1024x2048 .f32) (x5 : Vec F S1x2048 .f32) (u : Vec F S1024x2048 .f32) (L : List (View.Piece (Elt F) S1024x2048 .f32))
    (o n : ℕ) (ho : o = 16 * n) (inb : ∀ a, (![o, 0] : Fin 2 → ℕ) a + S16x2048.size a ≤ S1024x2048.size a) (hL : Upto (blockC x0 x5 u) u n L) :
    Upto (blockC x0 x5 u) u (n + 1) (⟨Rect.unit (s := S1024x2048) ![o, 0] S16x2048.size inb,
      postChunk (View.readAt (Elt F) arg7.view (Rect.unit (s := S1x2048) ![0, 0] S1x2048.size inb_S1x2048_S1x2048_0_0).toLoadRect (harg7.unread x5))
        (View.readAt (Elt F) arg2.view (Rect.unit (s := S1024x2048) ![o, 0] S16x2048.size inb).toLoadRect (harg2.unread x0))
        (arg8.view.readCov L (Rect.unit (s := S1024x2048) ![o, 0] S16x2048.size inb).toLoadRect)⟩ :: L) := by
  have hG : ∀ x : S16x2048.Idx, postChunk x5 (rows16 x0 n) (rows16 u n) x = blockC x0 x5 u ((Rect.unit (s := S1024x2048) ![o, 0] S16x2048.size inb).emb x) := fun x =>
    read_chunk (F := F) (e := .f32) (fun n => postChunk x5 (rows16 x0 n) (rows16 u n)) n o ho inb x
  have hb : 16 * n + 16 ≤ 1024 := by
    have h0 := inb 0
    simp [S1024x2048, S16x2048] at h0
    omega
  have hu : arg8.view.readCov L (Rect.unit (s := S1024x2048) ![o, 0] S16x2048.size inb).toLoadRect = rows16 u n := by
    refine Eq.trans (View.readCov_eq_canon' _ _ _) (funext fun (j : S16x2048.Idx) => ?_)
    refine (congrArg (View.canon L) (emb_rows n o ho inb j)).trans ((hL _).trans (if_neg ?_))
    have hj : (j 0).val < 16 := (j 0).isLt
    simp only [ix2, Fin.ofNat, Matrix.cons_val_zero]
    omega
  rw [hu, load_rows harg2 x0 n o ho inb, show View.readAt (Elt F) arg7.view (Rect.unit (s := S1x2048) ![0, 0] S1x2048.size inb_S1x2048_S1x2048_0_0).toLoadRect (harg7.unread x5) = x5 from load_all harg7 x5 _]
  intro y
  have hy1 : (y 0).val < 1024 := (y 0).isLt
  by_cases hm : y ∈ (Rect.unit (s := S1024x2048) ![o, 0] S16x2048.size inb).set
  · obtain ⟨x, rfl⟩ := (Rect.unit (s := S1024x2048) ![o, 0] S16x2048.size inb).exists_idx_of_mem hm
    refine (View.canon_cons_emb _ _ _ x).trans ?_
    have hx : (x 0).val < 16 := (x 0).isLt
    have h0 : ((Rect.unit (s := S1024x2048) ![o, 0] S16x2048.size inb).idx x 0).val = o + (x 0).val := rect_val (s := S1024x2048) _ _ inb x 0
    rw [if_pos (by omega)]
    exact hG x
  · refine (View.canon_cons_of_not_mem (⟨Rect.unit (s := S1024x2048) ![o, 0] S16x2048.size inb, postChunk x5 (rows16 x0 n) (rows16 u n)⟩ : View.Piece (Elt F) S1024x2048 .f32) L hm).trans ?_
    rw [hL y]
    have hno : ¬ (16 * n ≤ (y 0).val ∧ (y 0).val < 16 * n + 16) := by
      rintro ⟨h1, h2⟩
      refine hm ?_
      have hy : y = (Rect.unit (s := S1024x2048) ![o, 0] S16x2048.size inb).emb (ix2 (Fin.ofNat 16 ((y 0).val - 16 * n)) (y 1) : S16x2048.Idx) := by
        rw [emb_rows n o ho inb]
        funext a
        match a with
        | ⟨0, _⟩ => exact Fin.ext (by simp only [ix2, Fin.ofNat, Matrix.cons_val_zero]; show (y 0).val = _; omega)
        | ⟨1, _⟩ => rfl
      rw [hy]
      exact (Rect.unit (s := S1024x2048) ![o, 0] S16x2048.size inb).idx_mem _
    by_cases hlt : (y 0).val < 16 * n
    · rw [if_pos hlt, if_pos (by omega)]
    · rw [if_neg hlt, if_neg (by omega)]

theorem upto_0 (c : Dev nD) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg8 : Memref sig .tc .vmem S1024x2048 .f32) (harg8 : arg8.IsWhole) (arg9 : Memref sig .tc .vmem S1024x2048 .bf16) (harg9 : arg9.IsWhole) (x2 x3 : Vec F S2048x512 .bf16) (x4 : Vec F S512x2048 .bf16) (xo6 : Vec F S1024x2048 .f32) (xs0 : Vec F S1024x2048 .bf16) (G : Vec F S1024x2048 .f32) :
    Upto G (k0_pay2 xo6 xs0 x2 x3 x4) 0 (kernelRun0_C.sl.H6_1 c arg4 harg4 arg5 harg5 arg6 harg6 arg8 harg8 arg9 harg9 x2 x3 x4 xo6 xs0) := by
  intro y
  unfold kernelRun0_C.sl.H6_1
  rw [show View.readAt (Elt F) arg8.view (Rect.unit (s := S1024x2048) ![0, 0] S1024x2048.size inb_S1024x2048_S1024x2048_0_0).toLoadRect (harg8.unread xo6) = xo6 from load_all harg8 xo6 _,
    show View.readAt (Elt F) arg9.view (Rect.unit (s := S1024x2048) ![0, 0] S1024x2048.size inb_S1024x2048_S1024x2048_0_0).toLoadRect (harg9.unread xs0) = xs0 from load_all harg9 xs0 _,
    show View.readAt (Elt F) arg4.view (Rect.unit (s := S2048x512) ![0, 0] S2048x512.size inb_S2048x512_S2048x512_0_0).toLoadRect (harg4.unread x2) = x2 from load_all harg4 x2 _,
    show View.readAt (Elt F) arg5.view (Rect.unit (s := S2048x512) ![0, 0] S2048x512.size inb_S2048x512_S2048x512_0_0).toLoadRect (harg5.unread x3) = x3 from load_all harg5 x3 _,
    show View.readAt (Elt F) arg6.view (Rect.unit (s := S512x2048) ![0, 0] S512x2048.size inb_S512x2048_S512x2048_0_0).toLoadRect (harg6.unread x4) = x4 from load_all harg6 x4 _, if_neg (by omega)]
  exact congrFun (canon_whole (d0 := 1024) (d1 := 2048) _ _ _) y

theorem upto_1 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 1 (kernelRun0_C.sl.H6_2 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 0 0 rfl inb_S1024x2048_S16x2048_0_0 (upto_0 c arg4 harg4 arg5 harg5 arg6 harg6 arg8 harg8 arg9 harg9 x2 x3 x4 xo6 xs0 _)

theorem upto_2 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 2 (kernelRun0_C.sl.H6_3 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 16 1 rfl inb_S1024x2048_S16x2048_16_0 (upto_1 c arg2 harg2 arg4 harg4 arg5 harg5 arg6 harg6 arg7 harg7 arg8 harg8 arg9 harg9 x0 x2 x3 x4 x5 xo6 xs0)

theorem upto_3 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 3 (kernelRun0_C.sl.H6_4 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 32 2 rfl inb_S1024x2048_S16x2048_32_0 (upto_2 c arg2 harg2 arg4 harg4 arg5 harg5 arg6 harg6 arg7 harg7 arg8 harg8 arg9 harg9 x0 x2 x3 x4 x5 xo6 xs0)

theorem upto_4 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 4 (kernelRun0_C.sl.H6_5 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 48 3 rfl inb_S1024x2048_S16x2048_48_0 (upto_3 c arg2 harg2 arg4 harg4 arg5 harg5 arg6 harg6 arg7 harg7 arg8 harg8 arg9 harg9 x0 x2 x3 x4 x5 xo6 xs0)

theorem upto_5 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 5 (kernelRun0_C.sl.H6_6 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 64 4 rfl inb_S1024x2048_S16x2048_64_0 (upto_4 c arg2 harg2 arg4 harg4 arg5 harg5 arg6 harg6 arg7 harg7 arg8 harg8 arg9 harg9 x0 x2 x3 x4 x5 xo6 xs0)

theorem upto_6 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 6 (kernelRun0_C.sl.H6_7 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 80 5 rfl inb_S1024x2048_S16x2048_80_0 (upto_5 c arg2 harg2 arg4 harg4 arg5 harg5 arg6 harg6 arg7 harg7 arg8 harg8 arg9 harg9 x0 x2 x3 x4 x5 xo6 xs0)

theorem upto_7 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 7 (kernelRun0_C.sl.H6_8 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 96 6 rfl inb_S1024x2048_S16x2048_96_0 (upto_6 c arg2 harg2 arg4 harg4 arg5 harg5 arg6 harg6 arg7 harg7 arg8 harg8 arg9 harg9 x0 x2 x3 x4 x5 xo6 xs0)

theorem upto_8 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 8 (kernelRun0_C.sl.H6_9 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 112 7 rfl inb_S1024x2048_S16x2048_112_0 (upto_7 c arg2 harg2 arg4 harg4 arg5 harg5 arg6 harg6 arg7 harg7 arg8 harg8 arg9 harg9 x0 x2 x3 x4 x5 xo6 xs0)

theorem upto_9 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 9 (kernelRun0_C.sl.H6_10 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 128 8 rfl inb_S1024x2048_S16x2048_128_0 (upto_8 c arg2 harg2 arg4 harg4 arg5 harg5 arg6 harg6 arg7 harg7 arg8 harg8 arg9 harg9 x0 x2 x3 x4 x5 xo6 xs0)

theorem upto_10 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 10 (kernelRun0_C.sl.H6_11 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 144 9 rfl inb_S1024x2048_S16x2048_144_0 (upto_9 c arg2 harg2 arg4 harg4 arg5 harg5 arg6 harg6 arg7 harg7 arg8 harg8 arg9 harg9 x0 x2 x3 x4 x5 xo6 xs0)

theorem upto_11 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 11 (kernelRun0_C.sl.H6_12 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 160 10 rfl inb_S1024x2048_S16x2048_160_0 (upto_10 c arg2 harg2 arg4 harg4 arg5 harg5 arg6 harg6 arg7 harg7 arg8 harg8 arg9 harg9 x0 x2 x3 x4 x5 xo6 xs0)

theorem upto_12 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 12 (kernelRun0_C.sl.H6_13 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 176 11 rfl inb_S1024x2048_S16x2048_176_0 (upto_11 c arg2 harg2 arg4 harg4 arg5 harg5 arg6 harg6 arg7 harg7 arg8 harg8 arg9 harg9 x0 x2 x3 x4 x5 xo6 xs0)

theorem upto_13 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 13 (kernelRun0_C.sl.H6_14 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 192 12 rfl inb_S1024x2048_S16x2048_192_0 (upto_12 c arg2 harg2 arg4 harg4 arg5 harg5 arg6 harg6 arg7 harg7 arg8 harg8 arg9 harg9 x0 x2 x3 x4 x5 xo6 xs0)

theorem upto_14 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 14 (kernelRun0_C.sl.H6_15 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 208 13 rfl inb_S1024x2048_S16x2048_208_0 (upto_13 c arg2 harg2 arg4 harg4 arg5 harg5 arg6 harg6 arg7 harg7 arg8 harg8 arg9 harg9 x0 x2 x3 x4 x5 xo6 xs0)

theorem upto_15 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 15 (kernelRun0_C.sl.H6_16 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 224 14 rfl inb_S1024x2048_S16x2048_224_0 (upto_14 c arg2 harg2 arg4 harg4 arg5 harg5 arg6 harg6 arg7 harg7 arg8 harg8 arg9 harg9 x0 x2 x3 x4 x5 xo6 xs0)

theorem upto_16 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 16 (kernelRun0_C.sl.H6_17 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 240 15 rfl inb_S1024x2048_S16x2048_240_0 (upto_15 c arg2 harg2 arg4 harg4 arg5 harg5 arg6 harg6 arg7 harg7 arg8 harg8 arg9 harg9 x0 x2 x3 x4 x5 xo6 xs0)

theorem upto_17 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 17 (kernelRun0_C.sl.H6_18 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 256 16 rfl inb_S1024x2048_S16x2048_256_0 (upto_16 c arg2 harg2 arg4 harg4 arg5 harg5 arg6 harg6 arg7 harg7 arg8 harg8 arg9 harg9 x0 x2 x3 x4 x5 xo6 xs0)

theorem upto_18 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 18 (kernelRun0_C.sl.H6_19 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 272 17 rfl inb_S1024x2048_S16x2048_272_0 (upto_17 c arg2 harg2 arg4 harg4 arg5 harg5 arg6 harg6 arg7 harg7 arg8 harg8 arg9 harg9 x0 x2 x3 x4 x5 xo6 xs0)

theorem upto_19 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 19 (kernelRun0_C.sl.H6_20 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 288 18 rfl inb_S1024x2048_S16x2048_288_0 (upto_18 c arg2 harg2 arg4 harg4 arg5 harg5 arg6 harg6 arg7 harg7 arg8 harg8 arg9 harg9 x0 x2 x3 x4 x5 xo6 xs0)

theorem upto_20 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 20 (kernelRun0_C.sl.H6_21 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 304 19 rfl inb_S1024x2048_S16x2048_304_0 (upto_19 c arg2 harg2 arg4 harg4 arg5 harg5 arg6 harg6 arg7 harg7 arg8 harg8 arg9 harg9 x0 x2 x3 x4 x5 xo6 xs0)

theorem upto_21 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 21 (kernelRun0_C.sl.H6_22 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 320 20 rfl inb_S1024x2048_S16x2048_320_0 (upto_20 c arg2 harg2 arg4 harg4 arg5 harg5 arg6 harg6 arg7 harg7 arg8 harg8 arg9 harg9 x0 x2 x3 x4 x5 xo6 xs0)

theorem upto_22 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 22 (kernelRun0_C.sl.H6_23 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 336 21 rfl inb_S1024x2048_S16x2048_336_0 (upto_21 c arg2 harg2 arg4 harg4 arg5 harg5 arg6 harg6 arg7 harg7 arg8 harg8 arg9 harg9 x0 x2 x3 x4 x5 xo6 xs0)

theorem upto_23 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 23 (kernelRun0_C.sl.H6_24 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 352 22 rfl inb_S1024x2048_S16x2048_352_0 (upto_22 c arg2 harg2 arg4 harg4 arg5 harg5 arg6 harg6 arg7 harg7 arg8 harg8 arg9 harg9 x0 x2 x3 x4 x5 xo6 xs0)

theorem upto_24 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 24 (kernelRun0_C.sl.H6_25 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 368 23 rfl inb_S1024x2048_S16x2048_368_0 (upto_23 c arg2 harg2 arg4 harg4 arg5 harg5 arg6 harg6 arg7 harg7 arg8 harg8 arg9 harg9 x0 x2 x3 x4 x5 xo6 xs0)

theorem upto_25 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 25 (kernelRun0_C.sl.H6_26 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 384 24 rfl inb_S1024x2048_S16x2048_384_0 (upto_24 c arg2 harg2 arg4 harg4 arg5 harg5 arg6 harg6 arg7 harg7 arg8 harg8 arg9 harg9 x0 x2 x3 x4 x5 xo6 xs0)

theorem upto_26 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 26 (kernelRun0_C.sl.H6_27 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 400 25 rfl inb_S1024x2048_S16x2048_400_0 (upto_25 c arg2 harg2 arg4 harg4 arg5 harg5 arg6 harg6 arg7 harg7 arg8 harg8 arg9 harg9 x0 x2 x3 x4 x5 xo6 xs0)

theorem upto_27 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 27 (kernelRun0_C.sl.H6_28 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 416 26 rfl inb_S1024x2048_S16x2048_416_0 (upto_26 c arg2 harg2 arg4 harg4 arg5 harg5 arg6 harg6 arg7 harg7 arg8 harg8 arg9 harg9 x0 x2 x3 x4 x5 xo6 xs0)

theorem upto_28 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 28 (kernelRun0_C.sl.H6_29 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 432 27 rfl inb_S1024x2048_S16x2048_432_0 (upto_27 c arg2 harg2 arg4 harg4 arg5 harg5 arg6 harg6 arg7 harg7 arg8 harg8 arg9 harg9 x0 x2 x3 x4 x5 xo6 xs0)

theorem upto_29 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 29 (kernelRun0_C.sl.H6_30 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 448 28 rfl inb_S1024x2048_S16x2048_448_0 (upto_28 c arg2 harg2 arg4 harg4 arg5 harg5 arg6 harg6 arg7 harg7 arg8 harg8 arg9 harg9 x0 x2 x3 x4 x5 xo6 xs0)

theorem upto_30 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 30 (kernelRun0_C.sl.H6_31 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 464 29 rfl inb_S1024x2048_S16x2048_464_0 (upto_29 c arg2 harg2 arg4 harg4 arg5 harg5 arg6 harg6 arg7 harg7 arg8 harg8 arg9 harg9 x0 x2 x3 x4 x5 xo6 xs0)

theorem upto_31 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 31 (kernelRun0_C.sl.H6_32 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 480 30 rfl inb_S1024x2048_S16x2048_480_0 (upto_30 c arg2 harg2 arg4 harg4 arg5 harg5 arg6 harg6 arg7 harg7 arg8 harg8 arg9 harg9 x0 x2 x3 x4 x5 xo6 xs0)

theorem upto_32 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 32 (kernelRun0_C.sl.H6_33 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 496 31 rfl inb_S1024x2048_S16x2048_496_0 (upto_31 c arg2 harg2 arg4 harg4 arg5 harg5 arg6 harg6 arg7 harg7 arg8 harg8 arg9 harg9 x0 x2 x3 x4 x5 xo6 xs0)

theorem upto_33 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 33 (kernelRun0_C.sl.H6_34 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 512 32 rfl inb_S1024x2048_S16x2048_512_0 (upto_32 c arg2 harg2 arg4 harg4 arg5 harg5 arg6 harg6 arg7 harg7 arg8 harg8 arg9 harg9 x0 x2 x3 x4 x5 xo6 xs0)

theorem upto_34 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 34 (kernelRun0_C.sl.H6_35 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 528 33 rfl inb_S1024x2048_S16x2048_528_0 (upto_33 c arg2 harg2 arg4 harg4 arg5 harg5 arg6 harg6 arg7 harg7 arg8 harg8 arg9 harg9 x0 x2 x3 x4 x5 xo6 xs0)

theorem upto_35 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 35 (kernelRun0_C.sl.H6_36 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 544 34 rfl inb_S1024x2048_S16x2048_544_0 (upto_34 c arg2 harg2 arg4 harg4 arg5 harg5 arg6 harg6 arg7 harg7 arg8 harg8 arg9 harg9 x0 x2 x3 x4 x5 xo6 xs0)

theorem upto_36 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 36 (kernelRun0_C.sl.H6_37 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 560 35 rfl inb_S1024x2048_S16x2048_560_0 (upto_35 c arg2 harg2 arg4 harg4 arg5 harg5 arg6 harg6 arg7 harg7 arg8 harg8 arg9 harg9 x0 x2 x3 x4 x5 xo6 xs0)

theorem upto_37 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 37 (kernelRun0_C.sl.H6_38 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 576 36 rfl inb_S1024x2048_S16x2048_576_0 (upto_36 c arg2 harg2 arg4 harg4 arg5 harg5 arg6 harg6 arg7 harg7 arg8 harg8 arg9 harg9 x0 x2 x3 x4 x5 xo6 xs0)

theorem upto_38 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 38 (kernelRun0_C.sl.H6_39 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 592 37 rfl inb_S1024x2048_S16x2048_592_0 (upto_37 c arg2 harg2 arg4 harg4 arg5 harg5 arg6 harg6 arg7 harg7 arg8 harg8 arg9 harg9 x0 x2 x3 x4 x5 xo6 xs0)

theorem upto_39 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 39 (kernelRun0_C.sl.H6_40 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 608 38 rfl inb_S1024x2048_S16x2048_608_0 (upto_38 c arg2 harg2 arg4 harg4 arg5 harg5 arg6 harg6 arg7 harg7 arg8 harg8 arg9 harg9 x0 x2 x3 x4 x5 xo6 xs0)

theorem upto_40 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 40 (kernelRun0_C.sl.H6_41 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 624 39 rfl inb_S1024x2048_S16x2048_624_0 (upto_39 c arg2 harg2 arg4 harg4 arg5 harg5 arg6 harg6 arg7 harg7 arg8 harg8 arg9 harg9 x0 x2 x3 x4 x5 xo6 xs0)

theorem upto_41 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 41 (kernelRun0_C.sl.H6_42 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 640 40 rfl inb_S1024x2048_S16x2048_640_0 (upto_40 c arg2 harg2 arg4 harg4 arg5 harg5 arg6 harg6 arg7 harg7 arg8 harg8 arg9 harg9 x0 x2 x3 x4 x5 xo6 xs0)

theorem upto_42 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 42 (kernelRun0_C.sl.H6_43 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 656 41 rfl inb_S1024x2048_S16x2048_656_0 (upto_41 c arg2 harg2 arg4 harg4 arg5 harg5 arg6 harg6 arg7 harg7 arg8 harg8 arg9 harg9 x0 x2 x3 x4 x5 xo6 xs0)

theorem upto_43 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 43 (kernelRun0_C.sl.H6_44 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 672 42 rfl inb_S1024x2048_S16x2048_672_0 (upto_42 c arg2 harg2 arg4 harg4 arg5 harg5 arg6 harg6 arg7 harg7 arg8 harg8 arg9 harg9 x0 x2 x3 x4 x5 xo6 xs0)

theorem upto_44 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 44 (kernelRun0_C.sl.H6_45 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 688 43 rfl inb_S1024x2048_S16x2048_688_0 (upto_43 c arg2 harg2 arg4 harg4 arg5 harg5 arg6 harg6 arg7 harg7 arg8 harg8 arg9 harg9 x0 x2 x3 x4 x5 xo6 xs0)

theorem upto_45 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 45 (kernelRun0_C.sl.H6_46 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 704 44 rfl inb_S1024x2048_S16x2048_704_0 (upto_44 c arg2 harg2 arg4 harg4 arg5 harg5 arg6 harg6 arg7 harg7 arg8 harg8 arg9 harg9 x0 x2 x3 x4 x5 xo6 xs0)

theorem upto_46 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 46 (kernelRun0_C.sl.H6_47 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 720 45 rfl inb_S1024x2048_S16x2048_720_0 (upto_45 c arg2 harg2 arg4 harg4 arg5 harg5 arg6 harg6 arg7 harg7 arg8 harg8 arg9 harg9 x0 x2 x3 x4 x5 xo6 xs0)

theorem upto_47 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 47 (kernelRun0_C.sl.H6_48 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 736 46 rfl inb_S1024x2048_S16x2048_736_0 (upto_46 c arg2 harg2 arg4 harg4 arg5 harg5 arg6 harg6 arg7 harg7 arg8 harg8 arg9 harg9 x0 x2 x3 x4 x5 xo6 xs0)

theorem upto_48 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 48 (kernelRun0_C.sl.H6_49 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 752 47 rfl inb_S1024x2048_S16x2048_752_0 (upto_47 c arg2 harg2 arg4 harg4 arg5 harg5 arg6 harg6 arg7 harg7 arg8 harg8 arg9 harg9 x0 x2 x3 x4 x5 xo6 xs0)

theorem upto_49 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 49 (kernelRun0_C.sl.H6_50 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 768 48 rfl inb_S1024x2048_S16x2048_768_0 (upto_48 c arg2 harg2 arg4 harg4 arg5 harg5 arg6 harg6 arg7 harg7 arg8 harg8 arg9 harg9 x0 x2 x3 x4 x5 xo6 xs0)

theorem upto_50 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 50 (kernelRun0_C.sl.H6_51 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 784 49 rfl inb_S1024x2048_S16x2048_784_0 (upto_49 c arg2 harg2 arg4 harg4 arg5 harg5 arg6 harg6 arg7 harg7 arg8 harg8 arg9 harg9 x0 x2 x3 x4 x5 xo6 xs0)

theorem upto_51 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 51 (kernelRun0_C.sl.H6_52 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 800 50 rfl inb_S1024x2048_S16x2048_800_0 (upto_50 c arg2 harg2 arg4 harg4 arg5 harg5 arg6 harg6 arg7 harg7 arg8 harg8 arg9 harg9 x0 x2 x3 x4 x5 xo6 xs0)

theorem upto_52 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 52 (kernelRun0_C.sl.H6_53 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 816 51 rfl inb_S1024x2048_S16x2048_816_0 (upto_51 c arg2 harg2 arg4 harg4 arg5 harg5 arg6 harg6 arg7 harg7 arg8 harg8 arg9 harg9 x0 x2 x3 x4 x5 xo6 xs0)

theorem upto_53 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 53 (kernelRun0_C.sl.H6_54 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 832 52 rfl inb_S1024x2048_S16x2048_832_0 (upto_52 c arg2 harg2 arg4 harg4 arg5 harg5 arg6 harg6 arg7 harg7 arg8 harg8 arg9 harg9 x0 x2 x3 x4 x5 xo6 xs0)

theorem upto_54 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 54 (kernelRun0_C.sl.H6_55 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 848 53 rfl inb_S1024x2048_S16x2048_848_0 (upto_53 c arg2 harg2 arg4 harg4 arg5 harg5 arg6 harg6 arg7 harg7 arg8 harg8 arg9 harg9 x0 x2 x3 x4 x5 xo6 xs0)

theorem upto_55 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 55 (kernelRun0_C.sl.H6_56 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 864 54 rfl inb_S1024x2048_S16x2048_864_0 (upto_54 c arg2 harg2 arg4 harg4 arg5 harg5 arg6 harg6 arg7 harg7 arg8 harg8 arg9 harg9 x0 x2 x3 x4 x5 xo6 xs0)

theorem upto_56 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 56 (kernelRun0_C.sl.H6_57 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 880 55 rfl inb_S1024x2048_S16x2048_880_0 (upto_55 c arg2 harg2 arg4 harg4 arg5 harg5 arg6 harg6 arg7 harg7 arg8 harg8 arg9 harg9 x0 x2 x3 x4 x5 xo6 xs0)

theorem upto_57 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 57 (kernelRun0_C.sl.H6_58 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 896 56 rfl inb_S1024x2048_S16x2048_896_0 (upto_56 c arg2 harg2 arg4 harg4 arg5 harg5 arg6 harg6 arg7 harg7 arg8 harg8 arg9 harg9 x0 x2 x3 x4 x5 xo6 xs0)

theorem upto_58 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 58 (kernelRun0_C.sl.H6_59 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 912 57 rfl inb_S1024x2048_S16x2048_912_0 (upto_57 c arg2 harg2 arg4 harg4 arg5 harg5 arg6 harg6 arg7 harg7 arg8 harg8 arg9 harg9 x0 x2 x3 x4 x5 xo6 xs0)

theorem upto_59 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 59 (kernelRun0_C.sl.H6_60 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 928 58 rfl inb_S1024x2048_S16x2048_928_0 (upto_58 c arg2 harg2 arg4 harg4 arg5 harg5 arg6 harg6 arg7 harg7 arg8 harg8 arg9 harg9 x0 x2 x3 x4 x5 xo6 xs0)

theorem upto_60 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 60 (kernelRun0_C.sl.H6_61 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 944 59 rfl inb_S1024x2048_S16x2048_944_0 (upto_59 c arg2 harg2 arg4 harg4 arg5 harg5 arg6 harg6 arg7 harg7 arg8 harg8 arg9 harg9 x0 x2 x3 x4 x5 xo6 xs0)

theorem upto_61 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 61 (kernelRun0_C.sl.H6_62 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 960 60 rfl inb_S1024x2048_S16x2048_960_0 (upto_60 c arg2 harg2 arg4 harg4 arg5 harg5 arg6 harg6 arg7 harg7 arg8 harg8 arg9 harg9 x0 x2 x3 x4 x5 xo6 xs0)

theorem upto_62 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 62 (kernelRun0_C.sl.H6_63 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 976 61 rfl inb_S1024x2048_S16x2048_976_0 (upto_61 c arg2 harg2 arg4 harg4 arg5 harg5 arg6 harg6 arg7 harg7 arg8 harg8 arg9 harg9 x0 x2 x3 x4 x5 xo6 xs0)

theorem upto_63 (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 63 (kernelRun0_C.sl.H6_64 c arg2 harg2 arg4 harg4 arg5 harg5 arg6 harg6 arg7 harg7 arg8 harg8 arg9 harg9 x0 x2 x3 x4 x5 xo6 xs0) :=
  upto_step arg2 harg2 arg7 harg7 arg8 x0 x5 (k0_pay2 xo6 xs0 x2 x3 x4) _ 992 62 rfl inb_S1024x2048_S16x2048_992_0 (upto_62 c arg2 harg2 arg4 harg4 arg5 harg5 arg6 harg6 arg7 harg7 arg8 harg8 arg9 harg9 x0 x2 x3 x4 x5 xo6 xs0)

theorem out_C_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (hc2 : cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_C_6 c i arg2 harg2 arg3 harg3 arg4 harg4 arg5 harg5 arg6 harg6 arg7 harg7 arg8 harg8 arg9 harg9 hc0 hc1 hc2 x0 x1 x2 x3 x4 x5 xo6 xs0 = blockC x0 x5 (k0_pay2 xo6 xs0 x2 x3 x4) := by
  refine Eq.trans (View.read_writes_junk_eq_canon _ _) (funext fun y => ?_)
  have h := upto_step arg2 harg2 arg7 harg7 arg8 x0 x5 (k0_pay2 xo6 xs0 x2 x3 x4) _ 1008 63 rfl inb_S1024x2048_S16x2048_1008_0 (upto_63 c arg2 harg2 arg4 harg4 arg5 harg5 arg6 harg6 arg7 harg7 arg8 harg8 arg9 harg9 x0 x2 x3 x4 x5 xo6 xs0) y
  have hy : (y 0).val < 1024 := (y 0).isLt
  rw [if_pos (by omega)] at h
  refine Eq.trans ?_ h
  unfold kernelRun0_C
  rfl

end Cert.FfnIdeal.Gen

end
-- ==== Proof.FfnFold.lean ====
/- The feed-forward call's eleven points of one row block, one after the other: the partial sums carried in the output
   block and the normalised rows carried in the scratch; the result array at the end. -/
module

public import proofs.«01_k».proof.Proof.FfnLast
public import proofs.«01_k».proof.Proof.Gen.FfnIdeal.Value
public import Idealize.ShloMosaic.Lib.Pipeline.ValueKit

@[expose] public section

set_option maxRecDepth 16384

noncomputable section

namespace Cert.FfnIdeal.Gen

open Idealize.ShloMosaic
open Idealize.ShloMosaic.Pipeline Idealize.ShloMosaic.TcCoe
open Idealize.SL.Sem

variable {F : FTy → Type} [FloatOps F]

/-- Row block `i` of the input. -/
def xBlk (X : Vec F S32768x2048 .f32) (i : ℕ) : Vec F S1024x2048 .f32 := fun y =>
  X (ix2 (Fin.ofNat 32768 (1024 * i + (y 0).val)) (y 1))

/-- The 512 columns from `512 * j` on of the first weights. -/
def wBlk (W : Vec F S2048x11264 .bf16) (j : ℕ) : Vec F S2048x512 .bf16 := fun y =>
  W (ix2 (y 0) (Fin.ofNat 11264 (512 * j + (y 1).val)))

/-- The 512 rows from `512 * j` on of the second weights. -/
def oBlk (W : Vec F S5632x2048 .bf16) (j : ℕ) : Vec F S512x2048 .bf16 := fun y =>
  W (ix2 (Fin.ofNat 5632 (512 * j + (y 0).val)) (y 1))

/-- The sum over the first `j + 1` column blocks. -/
def partSum (X : Vec F S32768x2048 .f32) (g : Vec F S1x2048 .f32) (W : Vec F S2048x11264 .bf16) (O : Vec F S5632x2048 .bf16) (i : ℕ) :
    ℕ → Vec F S1024x2048 .f32
  | 0 => k0_pay1 (blockH (xBlk X i) g) (k0_pay108 (blockH (xBlk X i) g) (wBlk W 0)) (wBlk W 11) (oBlk O 0)
  | j + 1 => k0_pay2 (partSum X g W O i j) (blockH (xBlk X i) g) (wBlk W (j + 1)) (wBlk W (j + 1 + 11)) (oBlk O (j + 1))

/-- What point `j` of row block `i` leaves in the output block. -/
def leftAt (X : Vec F S32768x2048 .f32) (g : Vec F S1x2048 .f32) (W : Vec F S2048x11264 .bf16) (O : Vec F S5632x2048 .bf16) (g' : Vec F S1x2048 .f32) (i j : ℕ) :
    Vec F S1024x2048 .f32 :=
  if j = 10 then blockC (xBlk X i) g' (partSum X g W O i 10) else partSum X g W O i j

theorem index0 : ∀ t : Fin grid0.N, win0_0.index t = ![t.val / 11, 0] := by decide +kernel
theorem index1 : ∀ t : Fin grid0.N, win0_1.index t = ![0, 0] := by decide +kernel
theorem index2 : ∀ t : Fin grid0.N, win0_2.index t = ![0, t.val % 11] := by decide +kernel
theorem index3 : ∀ t : Fin grid0.N, win0_3.index t = ![0, t.val % 11 + 11] := by decide +kernel
theorem index4 : ∀ t : Fin grid0.N, win0_4.index t = ![t.val % 11, 0] := by decide +kernel
theorem index5 : ∀ t : Fin grid0.N, win0_5.index t = ![0, 0] := by decide +kernel

variable (m : (ℓ : Loc nD τ sig) → Buf (Elt F) ℓ)

theorem iblk_0 (c : Dev nD) (t : Fin cfg0.N) : iblk m c 0 t = xBlk (V m c main_v0) (t.val / 11) := by
  have ht : t.val < 352 := t.isLt
  funext y
  have h0 : (y 0).val < 1024 := (y 0).isLt
  have h1 : (y 1).val < 2048 := (y 1).isLt
  blk_simp [iblk]
  unfold xBlk
  refine congrArg (V m c main_v0) (funext fun a => Fin.ext ?_)
  fin_cases a
  · blk_simp [index0 t]
    simp [Fin.ofNat]
    omega
  · blk_simp [index0 t]
    simp

theorem iblk_1 (c : Dev nD) (t : Fin cfg0.N) : iblk m c 1 t = V m c main_v2 := by
  funext y
  have h0 : (y 0).val < 1 := (y 0).isLt
  blk_simp [iblk]
  refine congrArg (V m c main_v2) (funext fun a => Fin.ext ?_)
  fin_cases a <;> blk_simp [index1 t] <;> simp

theorem iblk_2 (c : Dev nD) (t : Fin cfg0.N) : iblk m c 2 t = wBlk (V m c main_v4) (t.val % 11) := by
  have ht : t.val < 352 := t.isLt
  funext y
  have h0 : (y 0).val < 2048 := (y 0).isLt
  have h1 : (y 1).val < 512 := (y 1).isLt
  blk_simp [iblk]
  unfold wBlk
  refine congrArg (V m c main_v4) (funext fun a => Fin.ext ?_)
  fin_cases a
  · blk_simp [index2 t]
    simp
  · blk_simp [index2 t]
    simp [Fin.ofNat]
    omega

theorem iblk_3 (c : Dev nD) (t : Fin cfg0.N) : iblk m c 3 t = wBlk (V m c main_v4) (t.val % 11 + 11) := by
  have ht : t.val < 352 := t.isLt
  funext y
  have h0 : (y 0).val < 2048 := (y 0).isLt
  have h1 : (y 1).val < 512 := (y 1).isLt
  blk_simp [iblk]
  unfold wBlk
  refine congrArg (V m c main_v4) (funext fun a => Fin.ext ?_)
  fin_cases a
  · blk_simp [index3 t]
    simp
  · blk_simp [index3 t]
    simp [Fin.ofNat]
    omega

theorem iblk_4 (c : Dev nD) (t : Fin cfg0.N) : iblk m c 4 t = oBlk (V m c main_v6) (t.val % 11) := by
  have ht : t.val < 352 := t.isLt
  funext y
  have h0 : (y 0).val < 512 := (y 0).isLt
  have h1 : (y 1).val < 2048 := (y 1).isLt
  blk_simp [iblk]
  unfold oBlk
  refine congrArg (V m c main_v6) (funext fun a => Fin.ext ?_)
  fin_cases a
  · blk_simp [index4 t]
    simp [Fin.ofNat]
    omega
  · blk_simp [index4 t]
    simp

theorem iblk_5 (c : Dev nD) (t : Fin cfg0.N) : iblk m c 5 t = V m c main_v8 := by
  funext y
  have h0 : (y 0).val < 1 := (y 0).isLt
  blk_simp [iblk]
  refine congrArg (V m c main_v8) (funext fun a => Fin.ext ?_)
  fin_cases a <;> blk_simp [index5 t] <;> simp

theorem outs_congr (c : Dev nD) (n n' : ℕ) (h : n < cfg0.N) (h' : n' < cfg0.N) (e : n = n') : outsAt0 m c n h = outsAt0 m c n' h' := by
  subst e; rfl

theorem first_point (c : Dev nD) (t : Fin cfg0.N) (h0 : t.val % 11 = 0) :
    outsAt0 m c t.val t.isLt = (partSum (V m c main_v0) (V m c main_v2) (V m c main_v4) (V m c main_v6) (t.val / 11) 0, blockH (xBlk (V m c main_v0) (t.val / 11)) (V m c main_v2)) := by
  rw [outsAt0_A m c t h0 (by omega) (by omega), out_A_eq, sout_A_eq, iblk_0, iblk_1, iblk_2, iblk_3, iblk_4, h0]
  rfl

theorem outs_at (c : Dev nD) (i : ℕ) (hi : i < 32) : ∀ (j : ℕ) (_ : j < 11) (h : 11 * i + j < cfg0.N),
    outsAt0 m c (11 * i + j) h = (leftAt (V m c main_v0) (V m c main_v2) (V m c main_v4) (V m c main_v6) (V m c main_v8) i j, blockH (xBlk (V m c main_v0) i) (V m c main_v2)) := by
  intro j
  induction j with
  | zero =>
    intro _ h
    have e : (11 * i + 0) / 11 = i := by omega
    refine (first_point m c ⟨11 * i + 0, h⟩ (by show (11 * i + 0) % 11 = 0; omega)).trans ?_
    show (partSum _ _ _ _ ((11 * i + 0) / 11) 0, blockH (xBlk _ ((11 * i + 0) / 11)) _) = _
    rw [e]
    rfl
  | succ j ih =>
    intro hj h
    have hp := ih (by omega) (by omega)
    have e : (11 * i + (j + 1)) / 11 = i := by omega
    have em : (11 * i + (j + 1)) % 11 = j + 1 := by omega
    have e0 : leftAt (V m c main_v0) (V m c main_v2) (V m c main_v4) (V m c main_v6) (V m c main_v8) i j = partSum (V m c main_v0) (V m c main_v2) (V m c main_v4) (V m c main_v6) i j := if_neg (by omega)
    rw [e0] at hp
    have hp' := (outs_congr m c ((⟨11 * i + (j + 1), h⟩ : Fin cfg0.N).val - 1) (11 * i + j) (Nat.lt_of_le_of_lt (Nat.sub_le _ _) h) (by omega) (by show 11 * i + (j + 1) - 1 = _; omega)).trans hp
    by_cases h10 : j + 1 = 10
    · refine (outsAt0_C m c ⟨11 * i + (j + 1), h⟩ (by show ¬ (11 * i + (j + 1)) % 11 = 0; omega) (by show 1 ≤ (11 * i + (j + 1)) % 11; omega) (by show (11 * i + (j + 1)) % 11 = 10; omega)).trans ?_
      rw [out_C_eq, iblk_0, iblk_1, iblk_2, iblk_3, iblk_4, iblk_5, hp']
      unfold leftAt
      rw [if_pos h10]
      refine Prod.ext ?_ rfl
      dsimp only
      rw [e, em]
      have hj9 : j = 9 := by omega
      subst hj9
      rfl
    · refine (outsAt0_B m c ⟨11 * i + (j + 1), h⟩ (by show ¬ (11 * i + (j + 1)) % 11 = 0; omega) (by show 1 ≤ (11 * i + (j + 1)) % 11; omega) (by show ¬ (11 * i + (j + 1)) % 11 = 10; omega)).trans ?_
      rw [out_B_eq, iblk_0, iblk_1, iblk_2, iblk_3, iblk_4, iblk_5, hp']
      unfold leftAt
      rw [if_neg h10]
      refine Prod.ext ?_ rfl
      dsimp only
      rw [em]
      rfl

/-- The result array at the end. -/
def final (X : Vec F S32768x2048 .f32) (g : Vec F S1x2048 .f32) (W : Vec F S2048x11264 .bf16) (O : Vec F S5632x2048 .bf16) (g' : Vec F S1x2048 .f32) :
    Vec F S32768x2048 .f32 := fun y =>
  blockC (xBlk X ((y 0).val / 1024)) g' (partSum X g W O ((y 0).val / 1024) 10) (ix2 (Fin.ofNat 1024 (y 0).val) (y 1))

theorem final_eq (c : Dev nD) : Value.G6 m c = final (V m c main_v0) (V m c main_v2) (V m c main_v4) (V m c main_v6) (V m c main_v8) := by
  funext y
  have h0 : (y 0).val < 32768 := (y 0).isLt
  have h1 : (y 1).val < 2048 := (y 1).isLt
  have hr : Value.run6Of y = (y 0).val / 1024 := by
    show 1 * ((y 0).val / 1024 - 0) + 1 * ((y 1).val / 2048 - 0) = _
    omega
  have hN : cfg0.N = 352 := N_0
  have hlt : Value.pt6Of y < cfg0.N := by
    show 11 * Value.run6Of y + 10 < _
    omega
  unfold Value.G6
  rw [dif_pos hlt, ← Value.outsAt0_sweep m c _ hlt]
  have ho := outs_at m c (Value.run6Of y) (by omega) 10 (by omega) hlt
  refine (congrFun (congrArg Prod.fst ho) _).trans ?_
  show leftAt _ _ _ _ _ (Value.run6Of y) 10 (Value.loc6Of y) = _
  unfold leftAt final
  rw [if_pos rfl, hr]
  refine congrArg _ (funext fun a => Fin.ext ?_)
  match a with
  | ⟨0, _⟩ => rfl
  | ⟨1, _⟩ => exact Nat.mod_eq_of_lt h1

end Cert.FfnIdeal.Gen

end
-- ==== Proof.FfnSpec.lean ====
/- One row of the feed-forward layer as the problem writes it: the row normalised and scaled, the gated projection, the
   second projection, the sum normalised and scaled, half of it added to the row. -/
module

public import Idealize.ShloMosaic.Lib.Pointwise

@[expose] public section

noncomputable section

namespace Cert.FfnSpec

open Idealize.ShloMosaic

/-- The reciprocal root mean square of a row. -/
def rowScale (x : Fin 2048 → EReal) : EReal :=
  Ideal.rsqrt (Ideal.div (∑ d, x d * x d) (Ideal.ofBits .f32 0x45000000#32) + Ideal.ofBits .f32 0x358637BD#32)

/-- The normalised row. -/
def hid (x g : Fin 2048 → EReal) (d : Fin 2048) : EReal := x d * rowScale x * g d

/-- Column `f` of the first projection. -/
def lin (h : Fin 2048 → EReal) (W : Fin 2048 → Fin 11264 → EReal) (f : ℕ) : EReal := ∑ k, h k * W k (Fin.ofNat 11264 f)

/-- The gated column `f`: the first half's column times its logistic, times the second half's column. -/
def gated (h : Fin 2048 → EReal) (W : Fin 2048 → Fin 11264 → EReal) (f : ℕ) : EReal :=
  lin h W f * Ideal.logistic (lin h W f) * lin h W (f + 5632)

/-- The second projection. -/
def proj (h : Fin 2048 → EReal) (W : Fin 2048 → Fin 11264 → EReal) (O : Fin 5632 → Fin 2048 → EReal) (e : Fin 2048) : EReal :=
  ∑ f : Fin 5632, gated h W f.val * O f e

/-- The layer's row. -/
def row (x g : Fin 2048 → EReal) (W : Fin 2048 → Fin 11264 → EReal) (O : Fin 5632 → Fin 2048 → EReal) (g' : Fin 2048 → EReal) (e : Fin 2048) : EReal :=
  x e + Ideal.ofBits .f32 0x3F000000#32 * (proj (hid x g) W O e * rowScale (proj (hid x g) W O) * g' e)

/-- The second projection over the columns of block `j`. -/
def projBlock (h : Fin 2048 → EReal) (W : Fin 2048 → Fin 11264 → EReal) (O : Fin 5632 → Fin 2048 → EReal) (e : Fin 2048) (j : ℕ) : EReal :=
  ∑ f : Fin 512, gated h W (512 * j + f.val) * O (Fin.ofNat 5632 (512 * j + f.val)) e

theorem sum_blocks (G : ℕ → EReal) (w : ℕ) : ∀ n : ℕ, ∑ f ∈ Finset.range (w * n), G f = ∑ j ∈ Finset.range n, ∑ f ∈ Finset.range w, G (w * j + f)
  | 0 => rfl
  | n + 1 => by rw [Nat.mul_succ, Finset.sum_range_add, sum_blocks G w n, Finset.sum_range_succ]

/-- Eleven blocks of columns are all of them. -/
theorem proj_eq (h : Fin 2048 → EReal) (W : Fin 2048 → Fin 11264 → EReal) (O : Fin 5632 → Fin 2048 → EReal) (e : Fin 2048) :
    ∑ j ∈ Finset.range 11, projBlock h W O e j = proj h W O e := by
  have hb := sum_blocks (fun f => gated h W f * O (Fin.ofNat 5632 f) e) 512 11
  unfold projBlock proj
  have h1 : ∑ f ∈ Finset.range (512 * 11), gated h W f * O (Fin.ofNat 5632 f) e = ∑ f : Fin 5632, gated h W f.val * O f e := by
    refine (Finset.sum_range (n := 512 * 11) (fun f => gated h W f * O (Fin.ofNat 5632 f) e)).trans ?_
    refine Finset.sum_congr rfl fun f _ => ?_
    have hf : Fin.ofNat 5632 f.val = f := Fin.ext (Nat.mod_eq_of_lt f.isLt)
    rw [hf]
  rw [← h1, hb]
  refine Finset.sum_congr rfl fun j _ => ?_
  exact (Finset.sum_range (fun f => gated h W (512 * j + f) * O (Fin.ofNat 5632 (512 * j + f)) e)).symm

/-- The half on the scale is the half on the product. -/
theorem half_mul (u s g h : EReal) : u * s * (h * g) = h * (u * s * g) := by
  rw [← mul_assoc, mul_comm (u * s) h, mul_assoc]

end Cert.FfnSpec

end
-- ==== Proof.FfnVal.lean ====
/- The feed-forward call's result array over the extended reals: each row is the layer's row. -/
module

public import proofs.«01_k».proof.Proof.FfnFold
public import proofs.«01_k».proof.Proof.FfnSpec

@[expose] public section

set_option maxRecDepth 16384

noncomputable section

namespace Cert.FfnIdeal.Gen

open Idealize.ShloMosaic Cert.FfnSpec

theorem preChunk_apply (g : Vec Ideal S1x2048 .f32) (x : Vec Ideal S16x2048 .f32) (a : Fin 16) (d : Fin 2048) :
    preChunk (F := Ideal) g x (ix2 a d) = hid (fun d => x (ix2 a d)) (fun d => g (ix2 0 d)) d := by
  unfold preChunk hid rowScale
  pointwise [k0_pay5, k0_pay4]

theorem postChunk_apply (g : Vec Ideal S1x2048 .f32) (x u : Vec Ideal S16x2048 .f32) (a : Fin 16) (d : Fin 2048) :
    postChunk (F := Ideal) g x u (ix2 a d) = x (ix2 a d) + u (ix2 a d) * rowScale (fun d => u (ix2 a d)) * (Ideal.ofBits .f32 0x3F000000#32 * g (ix2 0 d)) := by
  unfold postChunk rowScale
  pointwise [k0_pay3, k0_pay109]

theorem pay108_apply (h : Vec Ideal S1024x2048 .bf16) (w : Vec Ideal S2048x512 .bf16) (a : Fin 1024) (f : Fin 512) :
    k0_pay108 (F := Ideal) h w (ix2 a f) = ∑ k : Fin 2048, h (ix2 a k) * w (ix2 k f) := by
  pointwise [k0_pay108]

theorem pay1_apply (h : Vec Ideal S1024x2048 .bf16) (p : Vec Ideal S1024x512 .f32) (w : Vec Ideal S2048x512 .bf16) (o : Vec Ideal S512x2048 .bf16) (a : Fin 1024) (e : Fin 2048) :
    k0_pay1 (F := Ideal) h p w o (ix2 a e) = ∑ f : Fin 512, (p (ix2 a f) * Ideal.logistic (p (ix2 a f)) * ∑ k : Fin 2048, h (ix2 a k) * w (ix2 k f)) * o (ix2 f e) := by
  pointwise [k0_pay1]

theorem pay2_apply (s : Vec Ideal S1024x2048 .f32) (h : Vec Ideal S1024x2048 .bf16) (v w : Vec Ideal S2048x512 .bf16) (o : Vec Ideal S512x2048 .bf16) (a : Fin 1024) (e : Fin 2048) :
    k0_pay2 (F := Ideal) s h v w o (ix2 a e) = s (ix2 a e) + ∑ f : Fin 512, ((∑ k : Fin 2048, h (ix2 a k) * v (ix2 k f)) * Ideal.logistic (∑ k : Fin 2048, h (ix2 a k) * v (ix2 k f))
      * ∑ k : Fin 2048, h (ix2 a k) * w (ix2 k f)) * o (ix2 f e) := by
  pointwise [k0_pay2]

variable (X : Vec Ideal S32768x2048 .f32) (g : Vec Ideal S1x2048 .f32) (W : Vec Ideal S2048x11264 .bf16) (O : Vec Ideal S5632x2048 .bf16) (g' : Vec Ideal S1x2048 .f32)

/-- A row of the input. -/
abbrev xRow (r : ℕ) : Fin 2048 → EReal := fun d => X (ix2 (Fin.ofNat 32768 r) d)

/-- The one row of a scale. -/
abbrev gRow (g : Vec Ideal S1x2048 .f32) : Fin 2048 → EReal := fun d => g (ix2 0 d)

theorem rows16_xBlk (i : ℕ) (a : Fin 1024) : (fun d => rows16 (xBlk X i) (a.val / 16) (ix2 (Fin.ofNat 16 a.val) d)) = xRow X (1024 * i + a.val) := by
  funext d
  show X (ix2 (Fin.ofNat 32768 (1024 * i + (16 * (a.val / 16) + a.val % 16) % 1024)) d) = _
  have ha := a.isLt
  congr 3
  omega

theorem rows16_at (u : Vec Ideal S1024x2048 .f32) (a : Fin 1024) (d : Fin 2048) : rows16 u (a.val / 16) (ix2 (Fin.ofNat 16 a.val) d) = u (ix2 a d) := by
  show u (ix2 (Fin.ofNat 1024 (16 * (a.val / 16) + a.val % 16)) d) = _
  have ha := a.isLt
  congr 2
  refine Fin.ext ?_
  show (16 * (a.val / 16) + a.val % 16) % 1024 = a.val
  omega

theorem blockH_apply (i : ℕ) (a : Fin 1024) (d : Fin 2048) :
    blockH (xBlk X i) g (ix2 a d) = hid (xRow X (1024 * i + a.val)) (gRow g) d := by
  show preChunk g (rows16 (xBlk X i) (a.val / 16)) (ix2 (Fin.ofNat 16 a.val) d) = _
  rw [preChunk_apply, rows16_xBlk]

theorem lin_block (h : Fin 2048 → EReal) (j : ℕ) (f : Fin 512) :
    ∑ k : Fin 2048, h k * wBlk W j (ix2 k f) = lin h (fun k f => W (ix2 k f)) (512 * j + f.val) := rfl

theorem block_sum (i j : ℕ) (a : Fin 1024) (e : Fin 2048) :
    ∑ f : Fin 512, ((∑ k : Fin 2048, blockH (xBlk X i) g (ix2 a k) * wBlk W j (ix2 k f)) * Ideal.logistic (∑ k : Fin 2048, blockH (xBlk X i) g (ix2 a k) * wBlk W j (ix2 k f))
      * ∑ k : Fin 2048, blockH (xBlk X i) g (ix2 a k) * wBlk W (j + 11) (ix2 k f)) * oBlk O j (ix2 f e)
    = projBlock (hid (xRow X (1024 * i + a.val)) (gRow g)) (fun k f => W (ix2 k f)) (fun f e => O (ix2 f e)) e j := by
  unfold projBlock gated
  refine Finset.sum_congr rfl fun f _ => ?_
  simp only [blockH_apply]
  rw [lin_block, lin_block, show 512 * (j + 11) + f.val = 512 * j + f.val + 5632 from by ring]
  rfl

theorem partSum_apply (i : ℕ) (a : Fin 1024) (e : Fin 2048) : ∀ j : ℕ, partSum X g W O i j (ix2 a e) =
    ∑ n ∈ Finset.range (j + 1), projBlock (hid (xRow X (1024 * i + a.val)) (gRow g)) (fun k f => W (ix2 k f)) (fun f e => O (ix2 f e)) e n
  | 0 => by
    rw [Finset.sum_range_one, ← block_sum]
    refine (pay1_apply _ _ _ _ a e).trans ?_
    simp only [pay108_apply]
  | j + 1 => by
    rw [Finset.sum_range_succ, ← partSum_apply i a e j, ← block_sum]
    exact pay2_apply _ _ _ _ _ a e

theorem final_apply (r : Fin 32768) (e : Fin 2048) :
    final X g W O g' (ix2 r e) = row (xRow X r.val) (gRow g) (fun k f => W (ix2 k f)) (fun f e => O (ix2 f e)) (gRow g') e := by
  have hr := r.isLt
  let a : Fin 1024 := Fin.ofNat 1024 r.val
  have hrow : 1024 * (r.val / 1024) + a.val = r.val := by
    show 1024 * (r.val / 1024) + r.val % 1024 = r.val
    omega
  have hp : ∀ e, partSum X g W O (r.val / 1024) 10 (ix2 a e) = proj (hid (xRow X r.val) (gRow g)) (fun k f => W (ix2 k f)) (fun f e => O (ix2 f e)) e := fun e => by
    rw [partSum_apply, proj_eq, hrow]
  show postChunk g' (rows16 (xBlk X (r.val / 1024)) (a.val / 16)) (rows16 (partSum X g W O (r.val / 1024) 10) (a.val / 16)) (ix2 (Fin.ofNat 16 a.val) e) = _
  rw [postChunk_apply, half_mul]
  simp only [rows16_at, hp]
  have hx := congrFun (rows16_xBlk X (r.val / 1024) a) e
  rw [hrow] at hx
  simp only [rows16_at] at hx
  rw [hx]
  rfl

end Cert.FfnIdeal.Gen

end
-- ==== Proof.FfnEntry.lean ====
/- What the host code leaves in the feed-forward call's inputs, at an index. -/
module

public import proofs.«01_k».proof.Proof.FfnVal
public import Idealize.ShloMosaic.Lib.Pipeline.Value
public import Idealize.ShloMosaic.Lib.Claim

@[expose] public section

set_option maxRecDepth 16384

noncomputable section

namespace Cert.FfnIdeal.Gen

open Idealize.ShloMosaic Cert.FfnSpec

variable (σ : Valuation τ sig (Elt Ideal))

theorem after_v0 : StableHlo.after hostOps0 σ (Proc.devRef .tc main_v0)
    = shapeCast S32768x2048 (σ (Proc.devRef .tc main_arg0) : FVec Ideal S16x2048x2048 .f32) shapeCasts_S16x2048x2048_S32768x2048 := by
  simp only [StableHlo.after_cons, StableHlo.after_nil]
  after_results_simp
  rfl

theorem after_v2 : StableHlo.after hostOps0 σ (Proc.devRef .tc main_v2)
    = broadcastInDim S1x2048 ![1] bcast_S2048_S1x2048_1 (shapeCast S2048 (σ (Proc.devRef .tc main_arg1) : FVec Ideal S1x2048 .f32) shapeCasts_S1x2048_S2048) := by
  simp only [StableHlo.after_cons, StableHlo.after_nil]
  after_results_simp
  rfl

theorem after_v4 : StableHlo.after hostOps0 σ (Proc.devRef .tc main_v4)
    = truncf (F := Ideal) .bf16 (shapeCast S2048x11264 (σ (Proc.devRef .tc main_arg2) : FVec Ideal S1x2048x11264 .f32) shapeCasts_S1x2048x11264_S2048x11264) bitsLt_bf16_f32 := by
  simp only [StableHlo.after_cons, StableHlo.after_nil]
  after_results_simp
  rfl

theorem after_v6 : StableHlo.after hostOps0 σ (Proc.devRef .tc main_v6)
    = truncf (F := Ideal) .bf16 (shapeCast S5632x2048 (σ (Proc.devRef .tc main_arg3) : FVec Ideal S1x5632x2048 .f32) shapeCasts_S1x5632x2048_S5632x2048) bitsLt_bf16_f32 := by
  simp only [StableHlo.after_cons, StableHlo.after_nil]
  after_results_simp
  rfl

theorem after_v8 : StableHlo.after hostOps0 σ (Proc.devRef .tc main_v8)
    = broadcastInDim S1x2048 ![1] bcast_S2048_S1x2048_1 (shapeCast S2048 (σ (Proc.devRef .tc main_arg4) : FVec Ideal S1x2048 .f32) shapeCasts_S1x2048_S2048) := by
  simp only [StableHlo.after_cons, StableHlo.after_nil]
  after_results_simp
  rfl

theorem rows_apply (x : FVec Ideal S16x2048x2048 .f32) (r : Fin 32768) (d : Fin 2048) :
    shapeCast S32768x2048 x shapeCasts_S16x2048x2048_S32768x2048 (ix2 r d) = x (ix3 ⟨r.val / 2048, by omega⟩ ⟨r.val % 2048, by omega⟩ d) := by
  refine shapeCast_apply _ _ _ (ix3 ⟨r.val / 2048, by omega⟩ ⟨r.val % 2048, by omega⟩ d) ?_
  rw [Shape.rowMajor_val_three, Shape.rowMajor_val_two]
  simp [ix2, ix3]
  omega

theorem scale_apply (g : FVec Ideal S1x2048 .f32) (d : Fin 2048) :
    broadcastInDim S1x2048 ![1] bcast_S2048_S1x2048_1 (shapeCast S2048 g shapeCasts_S1x2048_S2048) (ix2 0 d) = g (ix2 0 d) := by
  pointwise []

theorem wIn_apply (w : FVec Ideal S1x2048x11264 .f32) (k : Fin 2048) (f : Fin 11264) :
    truncf .bf16 (shapeCast S2048x11264 w shapeCasts_S1x2048x11264_S2048x11264) bitsLt_bf16_f32 (ix2 k f) = w (ix3 0 k f) := by
  pointwise []

theorem wOut_apply (o : FVec Ideal S1x5632x2048 .f32) (f : Fin 5632) (e : Fin 2048) :
    truncf .bf16 (shapeCast S5632x2048 o shapeCasts_S1x5632x2048_S5632x2048) bitsLt_bf16_f32 (ix2 f e) = o (ix3 0 f e) := by
  pointwise []

/-- The kernel's array at a row and a column, from the arguments. -/
theorem kernel_apply (m : (ℓ : Loc nD τ sig) → Buf (Elt Ideal) ℓ) (c : Dev nD) (r : Fin 32768) (e : Fin 2048) :
    (Value.G6 m c : FVec Ideal S32768x2048 .f32) (ix2 r e)
      = row (fun d => (m ((c.tc : Thread nD τ).loc main_arg0) : FVec Ideal S16x2048x2048 .f32) (ix3 ⟨r.val / 2048, by omega⟩ ⟨r.val % 2048, by omega⟩ d))
        (fun d => (m ((c.tc : Thread nD τ).loc main_arg1) : FVec Ideal S1x2048 .f32) (ix2 0 d))
        (fun k f => (m ((c.tc : Thread nD τ).loc main_arg2) : FVec Ideal S1x2048x11264 .f32) (ix3 0 k f))
        (fun f e => (m ((c.tc : Thread nD τ).loc main_arg3) : FVec Ideal S1x5632x2048 .f32) (ix3 0 f e))
        (fun d => (m ((c.tc : Thread nD τ).loc main_arg4) : FVec Ideal S1x2048 .f32) (ix2 0 d)) e := by
  have h0 := after_v0 (fun b => m (c, b))
  have h1 := after_v2 (fun b => m (c, b))
  have h2 := after_v4 (fun b => m (c, b))
  have h3 := after_v6 (fun b => m (c, b))
  have h4 := after_v8 (fun b => m (c, b))
  have hr : Fin.ofNat 32768 r.val = r := Fin.ext (Nat.mod_eq_of_lt r.isLt)
  refine (congrFun (final_eq m c) (ix2 r e)).trans ((final_apply _ _ _ _ _ r e).trans ?_)
  unfold xRow gRow
  rw [hr]
  refine congrFun (congr (congr (congr (congr (congrArg row (funext fun d => ?_)) (funext fun d => ?_)) (funext fun k => funext fun f => ?_)) (funext fun f => funext fun e => ?_)) (funext fun d => ?_)) e
  · exact (congrFun h0 (ix2 r d)).trans (rows_apply _ r d)
  · exact (congrFun h1 (ix2 0 d)).trans (scale_apply _ d)
  · exact (congrFun h2 (ix2 k f)).trans (wIn_apply _ k f)
  · exact (congrFun h3 (ix2 f e)).trans (wOut_apply _ f e)
  · exact (congrFun h4 (ix2 0 d)).trans (scale_apply _ d)

end Cert.FfnIdeal.Gen

end
-- ==== Proof.FfnRef.lean ====
/- The stages of the reference's feed-forward layer, and each read at an index over the extended reals. -/
module

public import proofs.«01_k».proof.Proof.Gen.FfnRefIdeal.Run
public import proofs.«01_k».proof.Proof.FfnSpec
public import Idealize.ShloMosaic.Lib.Pipeline.Value

@[expose] public section

set_option maxRecDepth 16384

noncomputable section

namespace Cert.FfnRefIdeal.Value

open Cert.FfnRefIdeal Cert.FfnRefIdeal.Gen Idealize.ShloMosaic Cert.FfnSpec

/-- A row's scale, on the whole array. -/
def rNorm (x : FVec Ideal S16x2048x2048 .f32) : FVec Ideal S16x2048x2048 .f32 :=
  broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32))))

/-- A vector of weights on every row. -/
def rWt (g : FVec Ideal S1x2048 .f32) : FVec Ideal S16x2048x2048 .f32 :=
  broadcastInDim S16x2048x2048 ![0, 1, 2] bcast_S1x1x2048_S16x2048x2048_0_1_2 (broadcastInDim S1x1x2048 ![2] bcast_S2048_S1x1x2048_2 (shapeCast _ g shapeCasts_S1x2048_S2048))

/-- The normalised array. -/
def rHid (x : FVec Ideal S16x2048x2048 .f32) (g : FVec Ideal S1x2048 .f32) : FVec Ideal S16x2048x2048 .f32 := mulf (mulf x (rNorm x)) (rWt g)

/-- The first projection. -/
def rLin (h : FVec Ideal S16x2048x2048 .f32) (w : FVec Ideal S1x2048x11264 .f32) : FVec Ideal S16x2048x11264 .f32 :=
  Host.dotGeneral dot_S16x2048x2048_S2048x11264_S16x2048x11264_2_0_01_1_n_n none h (shapeCast S2048x11264 w shapeCasts_S1x2048x11264_S2048x11264)

/-- The gated columns. -/
def rGated (p : FVec Ideal S16x2048x11264 .f32) : FVec Ideal S16x2048x5632 .f32 :=
  mulf (mulf (extractStridedSlice S16x2048x5632 ![0, 0, 0] p slices_S16x2048x11264_S16x2048x5632_0_0_0) (Host.divf (broadcastInDim S16x2048x5632 ![] bcast_S_S16x2048x5632 (constant S_ .f32 0x3F800000#32)) (addf (broadcastInDim S16x2048x5632 ![] bcast_S_S16x2048x5632 (constant S_ .f32 0x3F800000#32)) (Host.exp (Host.negf (extractStridedSlice S16x2048x5632 ![0, 0, 0] p slices_S16x2048x11264_S16x2048x5632_0_0_0)))))) (extractStridedSlice S16x2048x5632 ![0, 0, 5632] p slices_S16x2048x11264_S16x2048x5632_0_0_5632)

/-- The second projection. -/
def rProj (q : FVec Ideal S16x2048x5632 .f32) (o : FVec Ideal S1x5632x2048 .f32) : FVec Ideal S16x2048x2048 .f32 :=
  Host.dotGeneral dot_S16x2048x5632_S5632x2048_S16x2048x2048_2_0_01_1_n_n none q (shapeCast S5632x2048 o shapeCasts_S1x5632x2048_S5632x2048)

/-- Half of the scaled second projection added to the array. -/
def rOut (x u : FVec Ideal S16x2048x2048 .f32) (g : FVec Ideal S1x2048 .f32) : FVec Ideal S16x2048x2048 .f32 :=
  addf x (mulf (broadcastInDim S16x2048x2048 ![] bcast_S_S16x2048x2048 (constant S_ .f32 0x3F000000#32)) (mulf (mulf u (rNorm u)) (rWt g)))

theorem res_v39_eq (m : (ℓ : Loc nD τ sig) → Buf (Elt Ideal) ℓ) (c : Dev nD) : res_main_v39 m c
    = shapeCast S32768x2048 (rOut (m ((c.tc : Thread nD τ).loc main_arg0)) (rProj (rGated (rLin (rHid (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) shapeCasts_S16x2048x2048_S32768x2048 := rfl

theorem rNorm_apply (x : FVec Ideal S16x2048x2048 .f32) (b : Fin 16) (n d : Fin 2048) : rNorm x (ix3 b n d) = rowScale (fun d => x (ix3 b n d)) := by
  unfold rNorm rowScale
  pointwise []

theorem rWt_apply (g : FVec Ideal S1x2048 .f32) (b : Fin 16) (n d : Fin 2048) : rWt g (ix3 b n d) = g (ix2 0 d) := by
  unfold rWt
  pointwise []

theorem rHid_apply (x : FVec Ideal S16x2048x2048 .f32) (g : FVec Ideal S1x2048 .f32) (b : Fin 16) (n d : Fin 2048) :
    rHid x g (ix3 b n d) = hid (fun d => x (ix3 b n d)) (fun d => g (ix2 0 d)) d := by
  show x (ix3 b n d) * rNorm x (ix3 b n d) * rWt g (ix3 b n d) = _
  rw [rNorm_apply, rWt_apply]
  rfl

theorem rLin_apply (h : FVec Ideal S16x2048x2048 .f32) (w : FVec Ideal S1x2048x11264 .f32) (b : Fin 16) (n : Fin 2048) (f : Fin 11264) :
    rLin h w (ix3 b n f) = ∑ k : Fin 2048, h (ix3 b n k) * w (ix3 0 k f) := by
  unfold rLin
  pointwise []

theorem rGated_apply (p : FVec Ideal S16x2048x11264 .f32) (b : Fin 16) (n : Fin 2048) (f : Fin 5632) :
    rGated p (ix3 b n f) = p (ix3 b n (Fin.ofNat 11264 f.val)) * Ideal.logistic (p (ix3 b n (Fin.ofNat 11264 f.val))) * p (ix3 b n (Fin.ofNat 11264 (f.val + 5632))) := by
  have hf := f.isLt
  have h1 : Fin.ofNat 11264 f.val = ⟨f.val, by omega⟩ := Fin.ext (Nat.mod_eq_of_lt (by omega))
  have h2 : Fin.ofNat 11264 (f.val + 5632) = ⟨5632 + f.val, by omega⟩ :=
    Fin.ext ((Nat.mod_eq_of_lt (by omega : f.val + 5632 < 11264)).trans (Nat.add_comm _ _))
  rw [h1, h2, show Ideal.logistic (p (ix3 b n ⟨f.val, by omega⟩)) = Ideal.div 1 (1 + Ideal.exp (-p (ix3 b n ⟨f.val, by omega⟩))) from rfl]
  unfold rGated
  pointwise []

theorem rProj_apply (q : FVec Ideal S16x2048x5632 .f32) (o : FVec Ideal S1x5632x2048 .f32) (b : Fin 16) (n e : Fin 2048) :
    rProj q o (ix3 b n e) = ∑ f : Fin 5632, q (ix3 b n f) * o (ix3 0 f e) := by
  unfold rProj
  pointwise []

theorem rOut_apply (x u : FVec Ideal S16x2048x2048 .f32) (g : FVec Ideal S1x2048 .f32) (b : Fin 16) (n d : Fin 2048) :
    rOut x u g (ix3 b n d) = x (ix3 b n d) + Ideal.ofBits .f32 0x3F000000#32 * (u (ix3 b n d) * rowScale (fun d => u (ix3 b n d)) * g (ix2 0 d)) := by
  show x (ix3 b n d) + Ideal.ofBits .f32 0x3F000000#32 * (u (ix3 b n d) * rNorm u (ix3 b n d) * rWt g (ix3 b n d)) = _
  rw [rNorm_apply, rWt_apply]

/-- The reference's array at a row and a column. -/
theorem ref_apply (x : FVec Ideal S16x2048x2048 .f32) (g g' : FVec Ideal S1x2048 .f32) (w : FVec Ideal S1x2048x11264 .f32) (o : FVec Ideal S1x5632x2048 .f32)
    (b : Fin 16) (n e : Fin 2048) : rOut x (rProj (rGated (rLin (rHid x g) w)) o) g' (ix3 b n e)
      = row (fun d => x (ix3 b n d)) (fun d => g (ix2 0 d)) (fun k f => w (ix3 0 k f)) (fun f e => o (ix3 0 f e)) (fun d => g' (ix2 0 d)) e := by
  have hu : ∀ e, rProj (rGated (rLin (rHid x g) w)) o (ix3 b n e)
      = proj (hid (fun d => x (ix3 b n d)) (fun d => g (ix2 0 d))) (fun k f => w (ix3 0 k f)) (fun f e => o (ix3 0 f e)) e := fun e => by
    rw [rProj_apply]
    unfold proj gated lin
    simp only [rGated_apply, rLin_apply, rHid_apply]
  rw [rOut_apply]
  simp only [hu]
  rfl

end Cert.FfnRefIdeal.Value

end
-- ==== Proof.FfnClaims.lean ====
/- The feed-forward layer's claims: the frames, and the result against the reference. -/
module

public import proofs.«01_k».proof.Defs
public import proofs.«01_k».proof.Proof.Gen.Ffn.Frame
public import proofs.«01_k».proof.Proof.Gen.FfnIdeal.Frame
public import proofs.«01_k».proof.Proof.FfnEntry
public import proofs.«01_k».proof.Proof.FfnRef
public import Idealize.ShloMosaic.Lib.Quiescent

@[expose] public section

set_option maxRecDepth 16384

noncomputable section

namespace Cert.Proof

open Idealize.ShloMosaic Idealize.SL.Sem

theorem ffn_frame : quiescent_Ffn (hFfn := Cert.Ffn.Gen.facts) := fun m ρ _ => Cert.Ffn.Gen.frame (F := Bits) m ρ

theorem ffn_ideal_frame : quiescent_FfnIdeal (hFfnIdeal := Cert.FfnIdeal.Gen.facts) := fun m ρ _ => Cert.FfnIdeal.Gen.frame (F := Ideal) m ρ

theorem ffn_ref_frame : quiescent_FfnRefIdeal (hFfnRefIdeal := Cert.FfnRefIdeal.Gen.facts) := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem ffn_preserves : preserves_Ffn_FfnIdeal := trivial

section Values

variable (m : (ℓ : Loc Cert.FfnIdeal.nD Cert.FfnIdeal.τ Cert.FfnIdeal.sig) → Buf (Elt Ideal) ℓ)

open Cert.FfnIdeal Cert.FfnIdeal.Gen in
/-- The kernel's array is the reference's. -/
theorem ffn_out_eq (c : Dev nD) : Value.G6 m c = shapeCast S32768x2048
    (Cert.FfnRefIdeal.Value.rOut (m ((c.tc : Thread nD τ).loc main_arg0)) (Cert.FfnRefIdeal.Value.rProj (Cert.FfnRefIdeal.Value.rGated (Cert.FfnRefIdeal.Value.rLin
      (Cert.FfnRefIdeal.Value.rHid (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) shapeCasts_S16x2048x2048_S32768x2048 := by
  have h : ∀ (r : Fin 32768) (e : Fin 2048), (Value.G6 m c : FVec Ideal S32768x2048 .f32) (ix2 r e) = shapeCast S32768x2048
    (Cert.FfnRefIdeal.Value.rOut (m ((c.tc : Thread nD τ).loc main_arg0)) (Cert.FfnRefIdeal.Value.rProj (Cert.FfnRefIdeal.Value.rGated (Cert.FfnRefIdeal.Value.rLin
      (Cert.FfnRefIdeal.Value.rHid (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) shapeCasts_S16x2048x2048_S32768x2048 (ix2 r e) := fun r e =>
    (kernel_apply m c r e).trans ((rows_apply _ r e).trans (Cert.FfnRefIdeal.Value.ref_apply _ _ _ _ _ _ _ e)).symm
  funext i
  rw [show i = ix2 (i 0) (i 1) from funext fun a => by fin_cases a <;> rfl]
  exact h (i 0) (i 1)

end Values

theorem ffn_algebraic : algebraic_FfnIdeal_FfnRefIdeal (hFfnIdeal := Cert.FfnIdeal.Gen.facts) (hFfnRefIdeal := Cert.FfnRefIdeal.Gen.facts) := by
  intro m ρ m' ρ' _ hagree
  refine ⟨fun c => Cert.FfnIdeal.Value.G6 m c, Cert.FfnIdeal.Value.run m ρ, (θ_run _ _ _).mono (fun r h c => ?_) (Cert.FfnRefIdeal.Value.run (F := Ideal) m' ρ')⟩
  obtain ⟨ho, hk⟩ := h c
  obtain ⟨a0, a1, a2, a3, a4⟩ := hagree c
  refine ⟨ho.trans ?_, hk⟩
  refine Eq.trans ?_ (ffn_out_eq m c).symm
  rw [Cert.FfnRefIdeal.Value.res_v39_eq, a0, a1, a2, a3, a4]

end Cert.Proof

end
-- ==== Proof.GatedSpec.lean ====
/- One entry of the gated merge over the extended reals: each branch's projection times its gate, the three added. -/
module

public import Idealize.ShloMosaic.Lib.Pointwise

@[expose] public section

set_option maxRecDepth 16384

noncomputable section

namespace Cert.GatedSpec

open Idealize.ShloMosaic

/-- One entry of a product. -/
def dotAt {n : ℕ} (x w : Fin n → EReal) : EReal := ∑ k, x k * w k

/-- One gate. -/
def gate (h w : Fin 2048 → EReal) (b : EReal) : EReal := Ideal.logistic (dotAt h w + b)

/-- One entry of the merge: gates' columns `w k`, their biases `b k`, and the columns of the three branches' projections. -/
def merged (h : Fin 2048 → EReal) (a : Fin 512 → EReal) (f m : Fin 1024 → EReal) (w : Fin 3 → Fin 2048 → EReal) (b : Fin 3 → EReal)
    (pa : Fin 512 → EReal) (pf pm : Fin 1024 → EReal) : EReal :=
  gate h (w 0) (b 0) * dotAt a pa + gate h (w 1) (b 1) * dotAt f pf + gate h (w 2) (b 2) * dotAt m pm

end Cert.GatedSpec

end
-- ==== Proof.GatedVal.lean ====
/- The gated merge block by block, and its result array at an index. -/
module

public import proofs.«01_k».proof.Proof.Gen.GatedIdeal.Value
public import proofs.«01_k».proof.Proof.GatedSpec
public import Idealize.ShloMosaic.Lib.Pipeline.Value
public import Idealize.ShloMosaic.Lib.Pipeline.ValueKit
public import Idealize.ShloMosaic.Lib.Claim

@[expose] public section

set_option maxRecDepth 16384

noncomputable section

namespace Cert.GatedIdeal.Gen

open Idealize.ShloMosaic Cert.GatedSpec
open Idealize.ShloMosaic.Pipeline Idealize.ShloMosaic.TcCoe

variable {F : FTy → Type} [FloatOps F]

theorem zero_off : (![0, 0] : Fin 2 → ℕ) = fun _ => 0 := funext fun a => by fin_cases a <;> rfl

theorem ld_0 (x : Vec F S1024x2048 .bf16) : View.ld x r0_0 = x := View.ld_unit_zero zero_off _ x
theorem ld_1 (x : Vec F S1024x1024 .bf16) : View.ld x r0_1 = x := View.ld_unit_zero zero_off _ x
theorem ld_2 (x : Vec F S2048x512 .bf16) : View.ld x r0_2 = x := View.ld_unit_zero zero_off _ x
theorem ld_3 (x : Vec F S1x512 .f32) : View.ld x r0_3 = x := View.ld_unit_zero zero_off _ x
theorem ld_4 (x : Vec F S1024x512 .bf16) : View.ld x r0_4 = x := View.ld_unit_zero zero_off _ x
theorem ld_5 (x : Vec F S512x512 .bf16) : View.ld x r0_5 = x := View.ld_unit_zero zero_off _ x

/-- One block of the merge. -/
def blockG (h : Vec F S1024x2048 .bf16) (a : Vec F S1024x512 .bf16) (f m : Vec F S1024x1024 .bf16) (w0 w1 w2 : Vec F S2048x512 .bf16)
    (b0 b1 b2 : Vec F S1x512 .f32) (pa : Vec F S512x512 .bf16) (pf pm : Vec F S1024x512 .bf16) : Vec F S1024x512 .bf16 :=
  k0_pay1 (k0_pay4 (k0_pay2 h) f w0 b0 a pa w1 b1 pf) (k0_pay5 (k0_pay2 h) w2 b2) (k0_pay6 m) pm

theorem out_eq (i : grid0.Coords) (x0 : Vec F S1024x2048 .bf16) (x1 : Vec F S1024x512 .bf16) (x2 x3 x4 : Vec F S1024x1024 .bf16) (x5 x6 x7 : Vec F S2048x512 .bf16)
    (x8 x9 x10 : Vec F S1x512 .f32) (x11 : Vec F S512x512 .bf16) (x12 x13 : Vec F S1024x512 .bf16) :
    out0_14 i x0 x1 x2 x3 x4 x5 x6 x7 x8 x9 x10 x11 x12 x13 = blockG x0 x1 (k0_pay3 i x2 x3) x4 x5 x6 x7 x8 x9 x10 x11 x12 x13 := by
  unfold_out out0_14
  refine (View.canon_cons_unit_zero (S := S1024x512) zero_off _ _ _).trans ?_
  simp only [ld_0, ld_1, ld_2, ld_3, ld_4, ld_5]
  rfl

/-- The question the body asks of its row block's number: does the block lie in the first half of its sequence? -/
def firstHalf (n : ℕ) : BitVec 1 :=
  let arg0 : BitVec 32 := BitVec.ofNat 32 n
  let v2 : BitVec 32 := Scalar.divsi arg0 1#32
  let v4 : BitVec 32 := Scalar.extui (Scalar.cmpi .sgt arg0 0#32)
  let v6 : BitVec 32 := Scalar.extui (Scalar.cmpi .slt arg0 0#32)
  let v9 : BitVec 32 := Scalar.extui (Scalar.cmpi .sgt 1#32 0#32)
  let v11 : BitVec 32 := Scalar.extui (Scalar.cmpi .slt 1#32 0#32)
  let v13 : BitVec 1 := Scalar.cmpi .ne (Scalar.subi v4 v6) (Scalar.subi v9 v11)
  let v15 : BitVec 1 := Scalar.cmpi .ne (Scalar.remsi arg0 1#32) 0#32
  let v18 : BitVec 32 := Scalar.select (Scalar.andi v13 v15) (Scalar.subi v2 1#32) v2
  let v20 : BitVec 32 := Scalar.select (Scalar.cmpi .eq 2#32 0#32) 1#32 2#32
  let v21 : BitVec 32 := Scalar.remsi v18 v20
  let v25 : BitVec 1 := Scalar.xori (Scalar.cmpi .slt v21 0#32) (Scalar.cmpi .slt v20 0#32)
  let v26 : BitVec 1 := Scalar.andi v25 (Scalar.cmpi .ne v21 0#32)
  Scalar.cmpi .eq (Scalar.select v26 (Scalar.addi v21 v20) v21) 0#32

theorem firstHalf_eq : ∀ n : Fin 32, firstHalf n.val = if n.val % 2 = 0 then 1#1 else 0#1 := by decide +kernel

theorem pay3_eq (i : grid0.Coords) (x y : Vec F S1024x1024 .bf16) : k0_pay3 i x y = if (i 0).val % 2 = 0 then x else y := by
  have h : k0_pay3 i x y = Scalar.select (firstHalf (i 0).val) (shapeCast S1024x1024 x shapeCasts_S1024x1024_S1024x1024) (shapeCast S1024x1024 y shapeCasts_S1024x1024_S1024x1024) := rfl
  rw [h, firstHalf_eq ⟨(i 0).val, (i 0).isLt⟩, shapeCast_self, shapeCast_self]
  dsimp only
  split_ifs <;> rfl

/-- Block `(i, j)` of an array. -/
def blkOf {R C p q : ℕ} [NeZero R] [NeZero C] {e : EltTy} (X : Vec F ⟨2, ![R, C]⟩ e) (i j : ℕ) : Vec F ⟨2, ![p, q]⟩ e := fun y =>
  X (ix2 (Fin.ofNat R (i * p + (y 0).val)) (Fin.ofNat C (j * q + (y 1).val)))

theorem blk_eq {R C p q : ℕ} [NeZero R] [NeZero C] {e : EltTy} (X : Vec F ⟨2, ![R, C]⟩ e) (i j : ℕ)
    (g : (⟨2, ![p, q]⟩ : Shape).Idx → (⟨2, ![R, C]⟩ : Shape).Idx) (h0 : ∀ y, (g y 0).val = i * p + (y 0).val) (h1 : ∀ y, (g y 1).val = j * q + (y 1).val) :
    (fun y => X (g y)) = blkOf X i j := by
  funext y
  have k0 : (g y 0).val < R := (g y 0).isLt
  have k1 : (g y 1).val < C := (g y 1).isLt
  refine congrArg X (funext fun a => Fin.ext ?_)
  match a with
  | ⟨0, _⟩ => exact (h0 y).trans (Nat.mod_eq_of_lt (h0 y ▸ k0)).symm
  | ⟨1, _⟩ => exact (h1 y).trans (Nat.mod_eq_of_lt (h1 y ▸ k1)).symm

theorem coords_0 : ∀ t : Fin grid0.N, (grid0.coords t 0).val = t.val / 4 := by decide +kernel
theorem index0 : ∀ t : Fin grid0.N, win0_0.index t = ![t.val / 4, 0] := by decide +kernel
theorem index1 : ∀ t : Fin grid0.N, win0_1.index t = ![t.val / 4, 0] := by decide +kernel
theorem index2 : ∀ t : Fin grid0.N, win0_2.index t = ![t.val / 8, 0] := by decide +kernel
theorem index3 : ∀ t : Fin grid0.N, win0_3.index t = ![t.val / 8, 0] := by decide +kernel
theorem index4 : ∀ t : Fin grid0.N, win0_4.index t = ![t.val / 4, 0] := by decide +kernel
theorem index5 : ∀ t : Fin grid0.N, win0_5.index t = ![0, t.val % 4] := by decide +kernel
theorem index6 : ∀ t : Fin grid0.N, win0_6.index t = ![0, t.val % 4 + 4] := by decide +kernel
theorem index7 : ∀ t : Fin grid0.N, win0_7.index t = ![0, t.val % 4 + 8] := by decide +kernel
theorem index8 : ∀ t : Fin grid0.N, win0_8.index t = ![0, t.val % 4] := by decide +kernel
theorem index9 : ∀ t : Fin grid0.N, win0_9.index t = ![0, t.val % 4 + 4] := by decide +kernel
theorem index10 : ∀ t : Fin grid0.N, win0_10.index t = ![0, t.val % 4 + 8] := by decide +kernel
theorem index11 : ∀ t : Fin grid0.N, win0_11.index t = ![0, t.val % 4] := by decide +kernel
theorem index12 : ∀ t : Fin grid0.N, win0_12.index t = ![0, t.val % 4] := by decide +kernel
theorem index13 : ∀ t : Fin grid0.N, win0_13.index t = ![0, t.val % 4] := by decide +kernel
theorem index14 : ∀ t : Fin grid0.N, win0_14.index t = ![t.val / 4, t.val % 4] := by decide +kernel

variable (m : (ℓ : Loc nD τ sig) → Buf (Elt F) ℓ)

theorem iblk_0 (c : Dev nD) (t : Fin cfg0.N) : iblk m c 0 t = blkOf (V m c main_v4) (t.val / 4) 0 :=
  blk_eq (V m c main_v4) _ _ ((cfg0.win 0).blk t).view.emb (fun y => by blk_simp [index0 t]) (fun y => by blk_simp [index0 t])
theorem iblk_1 (c : Dev nD) (t : Fin cfg0.N) : iblk m c 1 t = blkOf (V m c main_v6) (t.val / 4) 0 :=
  blk_eq (V m c main_v6) _ _ ((cfg0.win 1).blk t).view.emb (fun y => by blk_simp [index1 t]) (fun y => by blk_simp [index1 t])
theorem iblk_2 (c : Dev nD) (t : Fin cfg0.N) : iblk m c 2 t = blkOf (V m c main_v19) (t.val / 8) 0 :=
  blk_eq (V m c main_v19) _ _ ((cfg0.win 2).blk t).view.emb (fun y => by blk_simp [index2 t]) (fun y => by blk_simp [index2 t])
theorem iblk_3 (c : Dev nD) (t : Fin cfg0.N) : iblk m c 3 t = blkOf (V m c main_v20) (t.val / 8) 0 :=
  blk_eq (V m c main_v20) _ _ ((cfg0.win 3).blk t).view.emb (fun y => by blk_simp [index3 t]) (fun y => by blk_simp [index3 t])
theorem iblk_4 (c : Dev nD) (t : Fin cfg0.N) : iblk m c 4 t = blkOf (V m c main_v8) (t.val / 4) 0 :=
  blk_eq (V m c main_v8) _ _ ((cfg0.win 4).blk t).view.emb (fun y => by blk_simp [index4 t]) (fun y => by blk_simp [index4 t])
theorem iblk_5 (c : Dev nD) (t : Fin cfg0.N) : iblk m c 5 t = blkOf (V m c main_v10) 0 (t.val % 4) :=
  blk_eq (V m c main_v10) _ _ ((cfg0.win 5).blk t).view.emb (fun y => by blk_simp [index5 t]) (fun y => by blk_simp [index5 t])
theorem iblk_6 (c : Dev nD) (t : Fin cfg0.N) : iblk m c 6 t = blkOf (V m c main_v10) 0 (t.val % 4 + 4) :=
  blk_eq (V m c main_v10) _ _ ((cfg0.win 6).blk t).view.emb (fun y => by blk_simp [index6 t]) (fun y => by blk_simp [index6 t])
theorem iblk_7 (c : Dev nD) (t : Fin cfg0.N) : iblk m c 7 t = blkOf (V m c main_v10) 0 (t.val % 4 + 8) :=
  blk_eq (V m c main_v10) _ _ ((cfg0.win 7).blk t).view.emb (fun y => by blk_simp [index7 t]) (fun y => by blk_simp [index7 t])
theorem iblk_8 (c : Dev nD) (t : Fin cfg0.N) : iblk m c 8 t = blkOf (V m c main_v12) 0 (t.val % 4) :=
  blk_eq (V m c main_v12) _ _ ((cfg0.win 8).blk t).view.emb (fun y => by blk_simp [index8 t]) (fun y => by blk_simp [index8 t])
theorem iblk_9 (c : Dev nD) (t : Fin cfg0.N) : iblk m c 9 t = blkOf (V m c main_v12) 0 (t.val % 4 + 4) :=
  blk_eq (V m c main_v12) _ _ ((cfg0.win 9).blk t).view.emb (fun y => by blk_simp [index9 t]) (fun y => by blk_simp [index9 t])
theorem iblk_10 (c : Dev nD) (t : Fin cfg0.N) : iblk m c 10 t = blkOf (V m c main_v12) 0 (t.val % 4 + 8) :=
  blk_eq (V m c main_v12) _ _ ((cfg0.win 10).blk t).view.emb (fun y => by blk_simp [index10 t]) (fun y => by blk_simp [index10 t])
theorem iblk_11 (c : Dev nD) (t : Fin cfg0.N) : iblk m c 11 t = blkOf (V m c main_v14) 0 (t.val % 4) :=
  blk_eq (V m c main_v14) _ _ ((cfg0.win 11).blk t).view.emb (fun y => by blk_simp [index11 t]) (fun y => by blk_simp [index11 t])
theorem iblk_12 (c : Dev nD) (t : Fin cfg0.N) : iblk m c 12 t = blkOf (V m c main_v16) 0 (t.val % 4) :=
  blk_eq (V m c main_v16) _ _ ((cfg0.win 12).blk t).view.emb (fun y => by blk_simp [index12 t]) (fun y => by blk_simp [index12 t])
theorem iblk_13 (c : Dev nD) (t : Fin cfg0.N) : iblk m c 13 t = blkOf (V m c main_v18) 0 (t.val % 4) :=
  blk_eq (V m c main_v18) _ _ ((cfg0.win 13).blk t).view.emb (fun y => by blk_simp [index13 t]) (fun y => by blk_simp [index13 t])

/-- The result array at the end, from the arrays the host code leaves. -/
def finalG (H : Vec F S32768x2048 .bf16) (A : Vec F S32768x512 .bf16) (FL FH : Vec F S16384x1024 .bf16) (M : Vec F S32768x1024 .bf16)
    (W : Vec F S2048x6144 .bf16) (B : Vec F S1x6144 .f32) (PA : Vec F S512x2048 .bf16) (PF PM : Vec F S1024x2048 .bf16) : Vec F S32768x2048 .bf16 := fun i =>
  blockG (blkOf H ((i 0).val / 1024) 0) (blkOf A ((i 0).val / 1024) 0)
    (if (i 0).val / 1024 % 2 = 0 then blkOf FL ((i 0).val / 1024 / 2) 0 else blkOf FH ((i 0).val / 1024 / 2) 0) (blkOf M ((i 0).val / 1024) 0)
    (blkOf W 0 ((i 1).val / 512)) (blkOf W 0 ((i 1).val / 512 + 4)) (blkOf W 0 ((i 1).val / 512 + 8))
    (blkOf B 0 ((i 1).val / 512)) (blkOf B 0 ((i 1).val / 512 + 4)) (blkOf B 0 ((i 1).val / 512 + 8))
    (blkOf PA 0 ((i 1).val / 512)) (blkOf PF 0 ((i 1).val / 512)) (blkOf PM 0 ((i 1).val / 512))
    (ix2 (Fin.ofNat 1024 (i 0).val) (Fin.ofNat 512 (i 1).val))

theorem final14 (c : Dev nD) : (dats m 0 c).arrAt 14 cfg0.N = finalG (V m c main_v4) (V m c main_v6) (V m c main_v19) (V m c main_v20) (V m c main_v8)
    (V m c main_v10) (V m c main_v12) (V m c main_v14) (V m c main_v16) (V m c main_v18) := by
  refine (dats m 0 c).arrAt_eq_of_covers 14 _ (by decide +kernel) fun t hf y => ?_
  have ht : t.val < 128 := t.isLt
  have h0 : (y 0).val < 1024 := (y 0).isLt
  have h1 : (y 1).val < 512 := (y 1).isLt
  unfold finalG
  blk_simp
  rw [after0_14]
  simp only [out_eq, pay3_eq, coords_0, iblk_0, iblk_1, iblk_2, iblk_3, iblk_4, iblk_5, iblk_6, iblk_7, iblk_8, iblk_9, iblk_10, iblk_11, iblk_12, iblk_13, index14 t]
  have e0 : ((![t.val / 4, t.val % 4] : Fin 2 → ℕ) 0 * 1024 + (y 0).val) / 1024 = t.val / 4 := by simp; omega
  have e1 : ((![t.val / 4, t.val % 4] : Fin 2 → ℕ) 1 * 512 + (y 1).val) / 512 = t.val % 4 := by simp; omega
  rw [e0, e1, show t.val / 4 / 2 = t.val / 8 by omega]
  refine congrArg _ (funext fun a => Fin.ext ?_)
  fin_cases a
  · simp [Fin.ofNat]; omega
  · simp [Fin.ofNat]; omega

theorem block_apply (h : FVec Ideal S1024x2048 .bf16) (a : FVec Ideal S1024x512 .bf16) (f m : FVec Ideal S1024x1024 .bf16) (w0 w1 w2 : FVec Ideal S2048x512 .bf16)
    (b0 b1 b2 : FVec Ideal S1x512 .f32) (pa : FVec Ideal S512x512 .bf16) (pf pm : FVec Ideal S1024x512 .bf16) (r : Fin 1024) (e : Fin 512) :
    (blockG (F := Ideal) h a f m w0 w1 w2 b0 b1 b2 pa pf pm (ix2 r e) : EReal)
      = merged (fun k => h (ix2 r k)) (fun k => a (ix2 r k)) (fun k => f (ix2 r k)) (fun k => m (ix2 r k))
        ![fun k => w0 (ix2 k e), fun k => w1 (ix2 k e), fun k => w2 (ix2 k e)] ![b0 (ix2 0 e), b1 (ix2 0 e), b2 (ix2 0 e)]
        (fun k => pa (ix2 k e)) (fun k => pf (ix2 k e)) (fun k => pm (ix2 k e)) := by
  show _ = gate (fun k => h (ix2 r k)) (fun k => w0 (ix2 k e)) (b0 (ix2 0 e)) * dotAt (fun k => a (ix2 r k)) (fun k => pa (ix2 k e))
    + gate (fun k => h (ix2 r k)) (fun k => w1 (ix2 k e)) (b1 (ix2 0 e)) * dotAt (fun k => f (ix2 r k)) (fun k => pf (ix2 k e))
    + gate (fun k => h (ix2 r k)) (fun k => w2 (ix2 k e)) (b2 (ix2 0 e)) * dotAt (fun k => m (ix2 r k)) (fun k => pm (ix2 k e))
  unfold gate dotAt
  pointwise [blockG, k0_pay1, k0_pay2, k0_pay4, k0_pay5, k0_pay6]

end Cert.GatedIdeal.Gen

end
-- ==== Proof.GatedEntry.lean ====
/- What the host code leaves in the gated merge's inputs, and the result from the arguments. -/
module

public import proofs.«01_k».proof.Proof.GatedVal

@[expose] public section

set_option maxRecDepth 16384

noncomputable section

namespace Cert.GatedIdeal.Gen

open Idealize.ShloMosaic Cert.GatedSpec

variable (σ : Valuation τ sig (Elt Ideal))

theorem after_v4 : StableHlo.after hostOps0 σ (Proc.devRef .tc main_v4)
    = truncf (F := Ideal) .bf16 (shapeCast S32768x2048 (σ (Proc.devRef .tc main_arg0) : FVec Ideal S16x2048x2048 .f32) shapeCasts_S16x2048x2048_S32768x2048) bitsLt_bf16_f32 := by
  simp only [StableHlo.after_cons, StableHlo.after_nil]
  after_results_simp
  rfl

theorem after_v6 : StableHlo.after hostOps0 σ (Proc.devRef .tc main_v6)
    = truncf (F := Ideal) .bf16 (shapeCast S32768x512 (σ (Proc.devRef .tc main_arg1) : FVec Ideal S16x2048x512 .f32) shapeCasts_S16x2048x512_S32768x512) bitsLt_bf16_f32 := by
  simp only [StableHlo.after_cons, StableHlo.after_nil]
  after_results_simp
  rfl

theorem after_v8 : StableHlo.after hostOps0 σ (Proc.devRef .tc main_v8)
    = truncf (F := Ideal) .bf16 (shapeCast S32768x1024 (σ (Proc.devRef .tc main_arg3) : FVec Ideal S16x2048x1024 .f32) shapeCasts_S16x2048x1024_S32768x1024) bitsLt_bf16_f32 := by
  simp only [StableHlo.after_cons, StableHlo.after_nil]
  after_results_simp
  rfl

theorem after_v10 : StableHlo.after hostOps0 σ (Proc.devRef .tc main_v10)
    = truncf (F := Ideal) .bf16 (shapeCast S2048x6144 (σ (Proc.devRef .tc main_arg4) : FVec Ideal S1x2048x6144 .f32) shapeCasts_S1x2048x6144_S2048x6144) bitsLt_bf16_f32 := by
  simp only [StableHlo.after_cons, StableHlo.after_nil]
  after_results_simp
  rfl

theorem after_v12 : StableHlo.after hostOps0 σ (Proc.devRef .tc main_v12)
    = broadcastInDim S1x6144 ![1] bcast_S6144_S1x6144_1 (shapeCast S6144 (σ (Proc.devRef .tc main_arg5) : FVec Ideal S1x6144 .f32) shapeCasts_S1x6144_S6144) := by
  simp only [StableHlo.after_cons, StableHlo.after_nil]
  after_results_simp
  rfl

theorem after_v14 : StableHlo.after hostOps0 σ (Proc.devRef .tc main_v14)
    = truncf (F := Ideal) .bf16 (shapeCast S512x2048 (σ (Proc.devRef .tc main_arg6) : FVec Ideal S1x512x2048 .f32) shapeCasts_S1x512x2048_S512x2048) bitsLt_bf16_f32 := by
  simp only [StableHlo.after_cons, StableHlo.after_nil]
  after_results_simp
  rfl

theorem after_v16 : StableHlo.after hostOps0 σ (Proc.devRef .tc main_v16)
    = truncf (F := Ideal) .bf16 (shapeCast S1024x2048 (σ (Proc.devRef .tc main_arg7) : FVec Ideal S1x1024x2048 .f32) shapeCasts_S1x1024x2048_S1024x2048) bitsLt_bf16_f32 := by
  simp only [StableHlo.after_cons, StableHlo.after_nil]
  after_results_simp
  rfl

theorem after_v18 : StableHlo.after hostOps0 σ (Proc.devRef .tc main_v18)
    = truncf (F := Ideal) .bf16 (shapeCast S1024x2048 (σ (Proc.devRef .tc main_arg8) : FVec Ideal S1x1024x2048 .f32) shapeCasts_S1x1024x2048_S1024x2048) bitsLt_bf16_f32 := by
  simp only [StableHlo.after_cons, StableHlo.after_nil]
  after_results_simp
  rfl

theorem after_v19 : StableHlo.after hostOps0 σ (Proc.devRef .tc main_v19)
    = shapeCast S16384x1024 (extractStridedSlice S16x1024x1024 ![0, 0, 0] (truncf (F := Ideal) .bf16 (σ (Proc.devRef .tc main_arg2) : FVec Ideal S16x2048x1024 .f32) bitsLt_bf16_f32)
      slices_S16x2048x1024_S16x1024x1024_0_0_0) shapeCasts_S16x1024x1024_S16384x1024 := by
  simp only [StableHlo.after_cons, StableHlo.after_nil]
  after_results_simp
  rfl

theorem after_v20 : StableHlo.after hostOps0 σ (Proc.devRef .tc main_v20)
    = shapeCast S16384x1024 (extractStridedSlice S16x1024x1024 ![0, 1024, 0] (truncf (F := Ideal) .bf16 (σ (Proc.devRef .tc main_arg2) : FVec Ideal S16x2048x1024 .f32) bitsLt_bf16_f32)
      slices_S16x2048x1024_S16x1024x1024_0_1024_0) shapeCasts_S16x1024x1024_S16384x1024 := by
  simp only [StableHlo.after_cons, StableHlo.after_nil]
  after_results_simp
  rfl

/-- Two leading axes merged into one: row `r` is row `r % 2048` of sequence `r / 2048`. -/
theorem merge_apply {n : ℕ} (x : FVec Ideal ⟨3, ![16, 2048, n]⟩ .f32) (h : (⟨3, ![16, 2048, n]⟩ : Shape).ShapeCasts ⟨2, ![32768, n]⟩) (r : Fin 32768) (d : Fin n) :
    shapeCast ⟨2, ![32768, n]⟩ x h (ix2 r d) = x (ix3 ⟨r.val / 2048, by omega⟩ ⟨r.val % 2048, by omega⟩ d) := by
  refine shapeCast_apply _ _ _ (ix3 ⟨r.val / 2048, by omega⟩ ⟨r.val % 2048, by omega⟩ d) ?_
  rw [Shape.rowMajor_val_three, Shape.rowMajor_val_two]
  show (r.val / 2048 * 2048 + r.val % 2048) * n + d.val = r.val * n + d.val
  rw [show r.val / 2048 * 2048 + r.val % 2048 = r.val by omega]

theorem half_apply (x : FVec Ideal S16x1024x1024 .bf16) (r : Fin 16384) (d : Fin 1024) :
    shapeCast S16384x1024 x shapeCasts_S16x1024x1024_S16384x1024 (ix2 r d) = x (ix3 ⟨r.val / 1024, by omega⟩ ⟨r.val % 1024, by omega⟩ d) := by
  refine shapeCast_apply _ _ _ (ix3 ⟨r.val / 1024, by omega⟩ ⟨r.val % 1024, by omega⟩ d) ?_
  rw [Shape.rowMajor_val_three, Shape.rowMajor_val_two]
  simp [ix2, ix3]
  omega

theorem lo_apply (x : FVec Ideal S16x2048x1024 .f32) (b : Fin 16) (n d : Fin 1024) :
    extractStridedSlice S16x1024x1024 ![0, 0, 0] (truncf (F := Ideal) .bf16 x bitsLt_bf16_f32) slices_S16x2048x1024_S16x1024x1024_0_0_0 (ix3 b n d)
      = x (ix3 b ⟨n.val, by omega⟩ d) := by
  pointwise []

theorem hi_apply (x : FVec Ideal S16x2048x1024 .f32) (b : Fin 16) (n d : Fin 1024) :
    extractStridedSlice S16x1024x1024 ![0, 1024, 0] (truncf (F := Ideal) .bf16 x bitsLt_bf16_f32) slices_S16x2048x1024_S16x1024x1024_0_1024_0 (ix3 b n d)
      = x (ix3 b ⟨1024 + n.val, by omega⟩ d) := by
  pointwise []

theorem bias_apply (b : FVec Ideal S1x6144 .f32) (n : Fin 6144) :
    broadcastInDim S1x6144 ![1] bcast_S6144_S1x6144_1 (shapeCast S6144 b shapeCasts_S1x6144_S6144) (ix2 0 n) = b (ix2 0 n) := by
  pointwise []

theorem unit_apply {p q : ℕ} (w : FVec Ideal ⟨3, ![1, p, q]⟩ .f32) (h : (⟨3, ![1, p, q]⟩ : Shape).ShapeCasts ⟨2, ![p, q]⟩) (k : Fin p) (f : Fin q) :
    shapeCast ⟨2, ![p, q]⟩ w h (ix2 k f) = w (ix3 0 k f) := by
  refine shapeCast_apply _ _ _ (ix3 0 k f) ?_
  rw [Shape.rowMajor_val_three, Shape.rowMajor_val_two]
  show (0 * p + k.val) * q + f.val = k.val * q + f.val
  rw [Nat.zero_mul, Nat.zero_add]

/-- Column `e` of the gates' weights for branch `k`. -/
def gateCol (k : Fin 3) (e : Fin 2048) : Fin 6144 := ⟨2048 * k.val + e.val, by omega⟩

/-- The result from the arguments, at row `n` of sequence `s` and column `e`. -/
def mergedAt (h : FVec Ideal S16x2048x2048 .f32) (a : FVec Ideal S16x2048x512 .f32) (f m : FVec Ideal S16x2048x1024 .f32) (w : FVec Ideal S1x2048x6144 .f32)
    (b : FVec Ideal S1x6144 .f32) (pa : FVec Ideal S1x512x2048 .f32) (pf pm : FVec Ideal S1x1024x2048 .f32) (s : Fin 16) (n e : Fin 2048) : EReal :=
  merged (fun k => h (ix3 s n k)) (fun k => a (ix3 s n k)) (fun k => f (ix3 s n k)) (fun k => m (ix3 s n k))
    (fun j k => w (ix3 0 k (gateCol j e))) (fun j => b (ix2 0 (gateCol j e))) (fun k => pa (ix3 0 k e)) (fun k => pf (ix3 0 k e)) (fun k => pm (ix3 0 k e))

/-- Element `(r % p, c % q)` of block `(r / p, c / q)`. -/
theorem blkOf_apply {F : FTy → Type} [FloatOps F] {R C p q : ℕ} [NeZero R] [NeZero C] {T : EltTy} (X : Vec F ⟨2, ![R, C]⟩ T) (i j : ℕ) (a : Fin p) (b : Fin q) (r : Fin R) (c : Fin C)
    (hr : i * p + a.val = r.val) (hc : j * q + b.val = c.val) : (blkOf X i j : Vec F ⟨2, ![p, q]⟩ T) (ix2 a b) = X (ix2 r c) := by
  refine congrArg X ?_
  refine congr (congrArg ix2 (Fin.ext ?_)) (Fin.ext ?_)
  · exact (congrArg (· % R) hr).trans (Nat.mod_eq_of_lt r.isLt)
  · exact (congrArg (· % C) hc).trans (Nat.mod_eq_of_lt c.isLt)

theorem zero_blk (q k : ℕ) : 0 * q + k = k := by rw [Nat.zero_mul, Nat.zero_add]

theorem half_block (FL FH : FVec Ideal S16384x1024 .bf16) (n b : ℕ) (a k : Fin 1024) (p : Fin 16384) (h : b * 1024 + a.val = p.val) :
    (if n % 2 = 0 then (blkOf FL b 0 : Vec Ideal S1024x1024 .bf16) else blkOf FH b 0) (ix2 a k) = if n % 2 = 0 then FL (ix2 p k) else FH (ix2 p k) := by
  split_ifs
  · exact blkOf_apply (F := Ideal) (T := .bf16) FL b 0 a k p k h (zero_blk _ _)
  · exact blkOf_apply (F := Ideal) (T := .bf16) FH b 0 a k p k h (zero_blk _ _)

/-- The array the kernel leaves, at a row and a column, from the arrays the host code leaves. -/
theorem final_apply (H : FVec Ideal S32768x2048 .bf16) (A : FVec Ideal S32768x512 .bf16) (FL FH : FVec Ideal S16384x1024 .bf16) (M : FVec Ideal S32768x1024 .bf16)
    (W : FVec Ideal S2048x6144 .bf16) (B : FVec Ideal S1x6144 .f32) (PA : FVec Ideal S512x2048 .bf16) (PF PM : FVec Ideal S1024x2048 .bf16) (r : Fin 32768) (e : Fin 2048) :
    (finalG (F := Ideal) H A FL FH M W B PA PF PM (ix2 r e) : EReal)
      = merged (fun k => H (ix2 r k)) (fun k => A (ix2 r k))
        (fun k => if r.val / 1024 % 2 = 0 then FL (ix2 ⟨r.val / 2048 * 1024 + r.val % 1024, by omega⟩ k) else FH (ix2 ⟨r.val / 2048 * 1024 + r.val % 1024, by omega⟩ k))
        (fun k => M (ix2 r k)) (fun j k => W (ix2 k (gateCol j e))) (fun j => B (ix2 0 (gateCol j e)))
        (fun k => PA (ix2 k e)) (fun k => PF (ix2 k e)) (fun k => PM (ix2 k e)) := by
  have hr := r.isLt
  have he := e.isLt
  have hR : r.val / 1024 * 1024 + (Fin.ofNat 1024 r.val).val = r.val := by simp only [Fin.ofNat]; omega
  have hF : r.val / 1024 / 2 * 1024 + (Fin.ofNat 1024 r.val).val = r.val / 2048 * 1024 + r.val % 1024 := by simp only [Fin.ofNat]; omega
  have hE : e.val / 512 * 512 + (Fin.ofNat 512 e.val).val = e.val := by simp only [Fin.ofNat]; omega
  have h0 : e.val / 512 * 512 + (Fin.ofNat 512 e.val).val = (gateCol 0 e).val := by simp only [Fin.ofNat, gateCol]; simp; omega
  have h1 : (e.val / 512 + 4) * 512 + (Fin.ofNat 512 e.val).val = (gateCol 1 e).val := by simp only [Fin.ofNat, gateCol]; simp; omega
  have h2 : (e.val / 512 + 8) * 512 + (Fin.ofNat 512 e.val).val = (gateCol 2 e).val := by simp only [Fin.ofNat, gateCol]; simp; omega
  unfold finalG
  refine (block_apply _ _ _ _ _ _ _ _ _ _ _ _ _ _ _).trans ?_
  refine congr (congr (congr (congr (congr (congr (congr (congr (congrArg merged (funext fun k => ?_)) (funext fun k => ?_)) (funext fun k => ?_)) (funext fun k => ?_))
    (funext fun j => ?_)) (funext fun j => ?_)) (funext fun k => ?_)) (funext fun k => ?_)) (funext fun k => ?_)
  · exact blkOf_apply (F := Ideal) (T := .bf16) H (r.val / 1024) 0 (Fin.ofNat 1024 r.val) k r k hR (zero_blk _ _)
  · exact blkOf_apply (F := Ideal) (T := .bf16) A (r.val / 1024) 0 (Fin.ofNat 1024 r.val) k r k hR (zero_blk _ _)
  · exact half_block FL FH (r.val / 1024) (r.val / 1024 / 2) (Fin.ofNat 1024 r.val) k _ hF
  · exact blkOf_apply (F := Ideal) (T := .bf16) M (r.val / 1024) 0 (Fin.ofNat 1024 r.val) k r k hR (zero_blk _ _)
  · fin_cases j
    · exact funext fun k => blkOf_apply (F := Ideal) (T := .bf16) W 0 (e.val / 512) k (Fin.ofNat 512 e.val) k (gateCol 0 e) (zero_blk _ _) h0
    · exact funext fun k => blkOf_apply (F := Ideal) (T := .bf16) W 0 (e.val / 512 + 4) k (Fin.ofNat 512 e.val) k (gateCol 1 e) (zero_blk _ _) h1
    · exact funext fun k => blkOf_apply (F := Ideal) (T := .bf16) W 0 (e.val / 512 + 8) k (Fin.ofNat 512 e.val) k (gateCol 2 e) (zero_blk _ _) h2
  · fin_cases j
    · exact blkOf_apply (F := Ideal) (T := .f32) B 0 (e.val / 512) 0 (Fin.ofNat 512 e.val) 0 (gateCol 0 e) rfl h0
    · exact blkOf_apply (F := Ideal) (T := .f32) B 0 (e.val / 512 + 4) 0 (Fin.ofNat 512 e.val) 0 (gateCol 1 e) rfl h1
    · exact blkOf_apply (F := Ideal) (T := .f32) B 0 (e.val / 512 + 8) 0 (Fin.ofNat 512 e.val) 0 (gateCol 2 e) rfl h2
  · exact blkOf_apply (F := Ideal) (T := .bf16) PA 0 (e.val / 512) k (Fin.ofNat 512 e.val) k e (zero_blk _ _) hE
  · exact blkOf_apply (F := Ideal) (T := .bf16) PF 0 (e.val / 512) k (Fin.ofNat 512 e.val) k e (zero_blk _ _) hE
  · exact blkOf_apply (F := Ideal) (T := .bf16) PM 0 (e.val / 512) k (Fin.ofNat 512 e.val) k e (zero_blk _ _) hE

/-- The kernel's array at a row and a column, from the arguments. -/
theorem kernel_apply (m : (ℓ : Loc nD τ sig) → Buf (Elt Ideal) ℓ) (c : Dev nD) (r : Fin 32768) (e : Fin 2048) :
    ((dats m 0 c).arrAt 14 cfg0.N : FVec Ideal S32768x2048 .bf16) (ix2 r e)
      = mergedAt (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) ⟨r.val / 2048, by omega⟩ ⟨r.val % 2048, by omega⟩ e := by
  have hr := r.isLt
  refine (congrFun (final14 m c) (ix2 r e)).trans ((final_apply _ _ _ _ _ _ _ _ _ _ r e).trans ?_)
  unfold mergedAt
  refine congr (congr (congr (congr (congr (congr (congr (congr (congrArg merged (funext fun k => ?_)) (funext fun k => ?_)) (funext fun k => ?_)) (funext fun k => ?_))
    (funext fun j => funext fun k => ?_)) (funext fun j => ?_)) (funext fun k => ?_)) (funext fun k => ?_)) (funext fun k => ?_)
  · exact (congrFun (after_v4 (fun b => m (c, b))) (ix2 r k)).trans (merge_apply _ _ r k)
  · exact (congrFun (after_v6 (fun b => m (c, b))) (ix2 r k)).trans (merge_apply _ _ r k)
  · split_ifs
    · refine (congrFun (after_v19 (fun b => m (c, b))) _).trans ((half_apply _ _ k).trans ((lo_apply _ _ _ k).trans (congrArg _ ?_)))
      exact congr (congr (congrArg ix3 (Fin.ext (by simp; omega))) (Fin.ext (by simp; omega))) rfl
    · refine (congrFun (after_v20 (fun b => m (c, b))) _).trans ((half_apply _ _ k).trans ((hi_apply _ _ _ k).trans (congrArg _ ?_)))
      exact congr (congr (congrArg ix3 (Fin.ext (by simp; omega))) (Fin.ext (by simp; omega))) rfl
  · exact (congrFun (after_v8 (fun b => m (c, b))) (ix2 r k)).trans (merge_apply _ _ r k)
  · exact (congrFun (after_v10 (fun b => m (c, b))) (ix2 k (gateCol j e))).trans (unit_apply _ _ k _)
  · exact (congrFun (after_v12 (fun b => m (c, b))) (ix2 0 (gateCol j e))).trans (bias_apply _ _)
  · exact (congrFun (after_v14 (fun b => m (c, b))) (ix2 k e)).trans (unit_apply _ _ k e)
  · exact (congrFun (after_v16 (fun b => m (c, b))) (ix2 k e)).trans (unit_apply _ _ k e)
  · exact (congrFun (after_v18 (fun b => m (c, b))) (ix2 k e)).trans (unit_apply _ _ k e)

end Cert.GatedIdeal.Gen

end
-- ==== Proof.GatedRef.lean ====
/- The reference's gated merge at an index. -/
module

public import proofs.«01_k».proof.Proof.Gen.GatedRefIdeal.Run
public import proofs.«01_k».proof.Proof.GatedSpec
public import Idealize.ShloMosaic.Lib.Pipeline.Value

@[expose] public section

set_option maxRecDepth 16384

noncomputable section

namespace Cert.GatedRefIdeal.Value

open Cert.GatedRefIdeal Cert.GatedRefIdeal.Gen Idealize.ShloMosaic Cert.GatedSpec

/-- The gates of the three branches side by side. -/
def rGates (h : FVec Ideal S16x2048x2048 .f32) (w : FVec Ideal S1x2048x6144 .f32) (b : FVec Ideal S1x6144 .f32) : FVec Ideal S16x2048x6144 .f32 :=
  Host.divf (broadcastInDim S16x2048x6144 ![] bcast_S_S16x2048x6144 (constant S_ .f32 0x3F800000#32)) (addf (broadcastInDim S16x2048x6144 ![] bcast_S_S16x2048x6144 (constant S_ .f32 0x3F800000#32)) (Host.exp (Host.negf (addf (Host.dotGeneral dot_S16x2048x2048_S2048x6144_S16x2048x6144_2_0_01_1_n_n none h (shapeCast S2048x6144 w shapeCasts_S1x2048x6144_S2048x6144)) (broadcastInDim S16x2048x6144 ![0, 1, 2] bcast_S1x1x6144_S16x2048x6144_0_1_2 (broadcastInDim S1x1x6144 ![2] bcast_S6144_S1x1x6144_2 (shapeCast S6144 b shapeCasts_S1x6144_S6144)))))))

/-- The gates, one branch to an axis. -/
def rSplit (g : FVec Ideal S16x2048x6144 .f32) : FVec Ideal S16x2048x3x2048 .f32 := shapeCast S16x2048x3x2048 g shapeCasts_S16x2048x6144_S16x2048x3x2048

/-- The first branch's projection. -/
def rProjA (a : FVec Ideal S16x2048x512 .f32) (w : FVec Ideal S1x512x2048 .f32) : FVec Ideal S16x2048x2048 .f32 :=
  Host.dotGeneral dot_S16x2048x512_S512x2048_S16x2048x2048_2_0_01_1_n_n none a (shapeCast S512x2048 w shapeCasts_S1x512x2048_S512x2048)

/-- Another branch's projection. -/
def rProj (a : FVec Ideal S16x2048x1024 .f32) (w : FVec Ideal S1x1024x2048 .f32) : FVec Ideal S16x2048x2048 .f32 :=
  Host.dotGeneral dot_S16x2048x1024_S1024x2048_S16x2048x2048_2_0_01_1_n_n none a (shapeCast S1024x2048 w shapeCasts_S1x1024x2048_S1024x2048)

/-- The three branches added, each times its gate. -/
def rSum (g : FVec Ideal S16x2048x3x2048 .f32) (a f m : FVec Ideal S16x2048x2048 .f32) : FVec Ideal S16x2048x2048 .f32 :=
  addf (addf (mulf (shapeCast S16x2048x2048 (extractStridedSlice S16x2048x1x2048 ![0, 0, 0, 0] g slices_S16x2048x3x2048_S16x2048x1x2048_0_0_0_0) shapeCasts_S16x2048x1x2048_S16x2048x2048) a)
    (mulf (shapeCast S16x2048x2048 (extractStridedSlice S16x2048x1x2048 ![0, 0, 1, 0] g slices_S16x2048x3x2048_S16x2048x1x2048_0_0_1_0) shapeCasts_S16x2048x1x2048_S16x2048x2048) f))
    (mulf (shapeCast S16x2048x2048 (extractStridedSlice S16x2048x1x2048 ![0, 0, 2, 0] g slices_S16x2048x3x2048_S16x2048x1x2048_0_0_2_0) shapeCasts_S16x2048x1x2048_S16x2048x2048) m)

/-- The reference's result. -/
def rOut (h : FVec Ideal S16x2048x2048 .f32) (a : FVec Ideal S16x2048x512 .f32) (f m : FVec Ideal S16x2048x1024 .f32) (w : FVec Ideal S1x2048x6144 .f32)
    (b : FVec Ideal S1x6144 .f32) (pa : FVec Ideal S1x512x2048 .f32) (pf pm : FVec Ideal S1x1024x2048 .f32) : FVec Ideal S32768x2048 .bf16 :=
  truncf .bf16 (shapeCast S32768x2048 (rSum (rSplit (rGates h w b)) (rProjA a pa) (rProj f pf) (rProj m pm)) shapeCasts_S16x2048x2048_S32768x2048) bitsLt_bf16_f32

theorem rGates_apply (h : FVec Ideal S16x2048x2048 .f32) (w : FVec Ideal S1x2048x6144 .f32) (b : FVec Ideal S1x6144 .f32) (s : Fin 16) (n : Fin 2048) (e : Fin 6144) :
    rGates h w b (ix3 s n e) = gate (fun k => h (ix3 s n k)) (fun k => w (ix3 0 k e)) (b (ix2 0 e)) := by
  show _ = Ideal.div 1 (1 + Ideal.exp (-(dotAt (fun k => h (ix3 s n k)) (fun k => w (ix3 0 k e)) + b (ix2 0 e))))
  unfold dotAt
  pointwise [rGates]

/-- Column `e` of the gates' weights for branch `k`. -/
def gateCol (k : Fin 3) (e : Fin 2048) : Fin 6144 := ⟨2048 * k.val + e.val, by omega⟩

theorem rSplit_apply (g : FVec Ideal S16x2048x6144 .f32) (s : Fin 16) (n : Fin 2048) (k : Fin 3) (e : Fin 2048) : rSplit g (ix4 s n k e) = g (ix3 s n (gateCol k e)) := by
  refine shapeCast_apply _ _ _ (ix3 s n (gateCol k e)) ?_
  rw [Shape.rowMajor_val_three, Shape.rowMajor_val_four]
  simp [ix4, ix3, gateCol]
  omega

theorem rProjA_apply (a : FVec Ideal S16x2048x512 .f32) (w : FVec Ideal S1x512x2048 .f32) (s : Fin 16) (n e : Fin 2048) :
    rProjA a w (ix3 s n e) = dotAt (fun k => a (ix3 s n k)) (fun k => w (ix3 0 k e)) := by
  unfold dotAt
  pointwise [rProjA]

theorem rProj_apply (a : FVec Ideal S16x2048x1024 .f32) (w : FVec Ideal S1x1024x2048 .f32) (s : Fin 16) (n e : Fin 2048) :
    rProj a w (ix3 s n e) = dotAt (fun k => a (ix3 s n k)) (fun k => w (ix3 0 k e)) := by
  unfold dotAt
  pointwise [rProj]

theorem rSum_apply (g : FVec Ideal S16x2048x3x2048 .f32) (a f m : FVec Ideal S16x2048x2048 .f32) (s : Fin 16) (n e : Fin 2048) :
    rSum g a f m (ix3 s n e) = g (ix4 s n 0 e) * a (ix3 s n e) + g (ix4 s n 1 e) * f (ix3 s n e) + g (ix4 s n 2 e) * m (ix3 s n e) := by
  pointwise [rSum]

/-- The reference's array at a row and a column. -/
theorem rOut_apply (h : FVec Ideal S16x2048x2048 .f32) (a : FVec Ideal S16x2048x512 .f32) (f m : FVec Ideal S16x2048x1024 .f32) (w : FVec Ideal S1x2048x6144 .f32)
    (b : FVec Ideal S1x6144 .f32) (pa : FVec Ideal S1x512x2048 .f32) (pf pm : FVec Ideal S1x1024x2048 .f32) (r : Fin 32768) (e : Fin 2048)
    (s : Fin 16) (n : Fin 2048) (hs : s.val = r.val / 2048) (hn : n.val = r.val % 2048) :
    rOut h a f m w b pa pf pm (ix2 r e) = merged (fun k => h (ix3 s n k)) (fun k => a (ix3 s n k)) (fun k => f (ix3 s n k)) (fun k => m (ix3 s n k))
      (fun j k => w (ix3 0 k (gateCol j e))) (fun j => b (ix2 0 (gateCol j e))) (fun k => pa (ix3 0 k e)) (fun k => pf (ix3 0 k e)) (fun k => pm (ix3 0 k e)) := by
  show shapeCast S32768x2048 (rSum (rSplit (rGates h w b)) (rProjA a pa) (rProj f pf) (rProj m pm)) shapeCasts_S16x2048x2048_S32768x2048 (ix2 r e) = _
  refine (shapeCast_apply _ _ _ (ix3 s n e) ?_).trans ((rSum_apply _ _ _ _ s n e).trans ?_)
  · rw [Shape.rowMajor_val_three, Shape.rowMajor_val_two]
    simp [ix2, ix3]
    omega
  · rw [rSplit_apply, rSplit_apply, rSplit_apply, rGates_apply, rGates_apply, rGates_apply, rProjA_apply, rProj_apply, rProj_apply]
    rfl

end Cert.GatedRefIdeal.Value

end
-- ==== Proof.GatedClaims.lean ====
/- The gated merge's claims: the frames, and the result against the reference. -/
module

public import proofs.«01_k».proof.Defs
public import proofs.«01_k».proof.Proof.Gen.Gated.Frame
public import proofs.«01_k».proof.Proof.Gen.GatedIdeal.Frame
public import proofs.«01_k».proof.Proof.GatedEntry
public import proofs.«01_k».proof.Proof.GatedRef
public import Idealize.ShloMosaic.Lib.Quiescent

@[expose] public section

set_option maxRecDepth 16384

noncomputable section

namespace Cert.Proof

open Idealize.ShloMosaic Idealize.SL.Sem

theorem gated_frame : quiescent_Gated (hGated := Cert.Gated.Gen.facts) := fun m ρ _ => Cert.Gated.Gen.frame (F := Bits) m ρ

theorem gated_ideal_frame : quiescent_GatedIdeal (hGatedIdeal := Cert.GatedIdeal.Gen.facts) := fun m ρ _ => Cert.GatedIdeal.Gen.frame (F := Ideal) m ρ

theorem gated_ref_frame : quiescent_GatedRefIdeal (hGatedRefIdeal := Cert.GatedRefIdeal.Gen.facts) := fun m ρ _ =>
  (θ_run Cert.GatedRefIdeal.defs _ _).mono
    (fun r h => ⟨fun c => (h c).2, Idealize.ShloMosaic.sem_eq_zero_of_no_sems (by decide) r.2⟩)
    (Cert.GatedRefIdeal.Value.run (F := Ideal) m ρ)

theorem gated_preserves : preserves_Gated_GatedIdeal := trivial

open Cert.GatedIdeal Cert.GatedIdeal.Gen in
/-- The kernel's array is the reference's. -/
theorem gated_out_eq (m : (ℓ : Loc nD τ sig) → Buf (Elt Ideal) ℓ) (c : Dev nD) :
    ((dats m 0 c).arrAt 14 cfg0.N : FVec Ideal S32768x2048 .bf16)
      = Cert.GatedRefIdeal.Value.rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) := by
  funext i
  rw [show i = ix2 (i 0) (i 1) from funext fun a => by fin_cases a <;> rfl]
  exact (kernel_apply m c (i 0) (i 1)).trans (Cert.GatedRefIdeal.Value.rOut_apply _ _ _ _ _ _ _ _ _ (i 0) (i 1) _ _ rfl rfl).symm

theorem gated_algebraic : algebraic_GatedIdeal_GatedRefIdeal (hGatedIdeal := Cert.GatedIdeal.Gen.facts) (hGatedRefIdeal := Cert.GatedRefIdeal.Gen.facts) := by
  intro m ρ m' ρ' _ hagree
  refine ⟨fun c => (Cert.GatedIdeal.Gen.dats m 0 c).arrAt 14 Cert.GatedIdeal.cfg0.N, Cert.GatedIdeal.Value.run_blocks m ρ,
    (θ_run _ _ _).mono (fun r h c => ?_) (Cert.GatedRefIdeal.Value.run (F := Ideal) m' ρ')⟩
  obtain ⟨ho, hk⟩ := h c
  obtain ⟨a0, a1, a2, a3, a4, a5, a6, a7, a8⟩ := hagree c
  refine ⟨ho.trans ?_, hk⟩
  refine Eq.trans ?_ (gated_out_eq m c).symm
  rw [a0, a1, a2, a3, a4, a5, a6, a7, a8]
  rfl

end Cert.Proof

end
-- ==== Proof.InProjVal.lean ====
/- The projection call block by block, and its result array at an index. -/
module

public import proofs.«01_k».proof.Proof.Gen.InProjIdeal.Value
public import Idealize.ShloMosaic.Lib.Pointwise
public import Idealize.ShloMosaic.Lib.Pipeline.Value
public import Idealize.ShloMosaic.Lib.Pipeline.ValueKit
public import Idealize.ShloMosaic.Lib.Claim

@[expose] public section

set_option maxRecDepth 16384

noncomputable section

namespace Cert.InProjIdeal.Gen

open Idealize.ShloMosaic
open Idealize.ShloMosaic.Pipeline Idealize.ShloMosaic.TcCoe

variable {F : FTy → Type} [FloatOps F]

theorem zero_off : (![0, 0] : Fin 2 → ℕ) = fun _ => 0 := funext fun a => by fin_cases a <;> rfl

theorem out_eq (x0 : Vec F S1024x2048 .bf16) (x1 : Vec F S2048x1792 .bf16) : out0_2 x0 x1 = k0_pay1 x0 x1 := by
  unfold out0_2
  refine (View.canon_cons_unit_zero (S := S1024x1792) zero_off _ _ _).trans ?_
  exact congr (congrArg k0_pay1 (View.ld_unit_zero (S := S1024x2048) zero_off _ x0)) (View.ld_unit_zero (S := S2048x1792) zero_off _ x1)

/-- Row block `i` of the activations. -/
def hBlk (X : Vec F S32768x2048 .bf16) (i : ℕ) : Vec F S1024x2048 .bf16 := fun y =>
  X (ix2 (Fin.ofNat 32768 (1024 * i + (y 0).val)) (y 1))

/-- Column block `j` of the weights. -/
def wBlk (W : Vec F S2048x3584 .bf16) (j : ℕ) : Vec F S2048x1792 .bf16 := fun y =>
  W (ix2 (y 0) (Fin.ofNat 3584 (1792 * j + (y 1).val)))

theorem index0 : ∀ t : Fin grid0.N, win0_0.index t = ![t.val % 32, 0] := by decide +kernel
theorem index1 : ∀ t : Fin grid0.N, win0_1.index t = ![0, t.val / 32] := by decide +kernel
theorem index2 : ∀ t : Fin grid0.N, win0_2.index t = ![t.val % 32, t.val / 32] := by decide +kernel

variable (m : (ℓ : Loc nD τ sig) → Buf (Elt F) ℓ)

theorem iblk_0 (c : Dev nD) (t : Fin cfg0.N) : iblk m c 0 t = hBlk (V m c main_v8) (t.val % 32) := by
  have ht : t.val < 64 := t.isLt
  funext y
  have h0 : (y 0).val < 1024 := (y 0).isLt
  have h1 : (y 1).val < 2048 := (y 1).isLt
  blk_simp [iblk]
  unfold hBlk
  refine congrArg (V m c main_v8) (funext fun a => Fin.ext ?_)
  fin_cases a
  · blk_simp [index0 t]
    simp [Fin.ofNat]
    omega
  · blk_simp [index0 t]
    simp

theorem iblk_1 (c : Dev nD) (t : Fin cfg0.N) : iblk m c 1 t = wBlk (V m c main_v6) (t.val / 32) := by
  have ht : t.val < 64 := t.isLt
  funext y
  have h0 : (y 0).val < 2048 := (y 0).isLt
  have h1 : (y 1).val < 1792 := (y 1).isLt
  blk_simp [iblk]
  unfold wBlk
  refine congrArg (V m c main_v6) (funext fun a => Fin.ext ?_)
  fin_cases a
  · blk_simp [index1 t]
    simp
  · blk_simp [index1 t]
    simp [Fin.ofNat]
    omega

/-- The result array at the end. -/
def finalZ (X : Vec F S32768x2048 .bf16) (W : Vec F S2048x3584 .bf16) : Vec F S32768x3584 .bf16 := fun i =>
  k0_pay1 (hBlk X ((i 0).val / 1024)) (wBlk W ((i 1).val / 1792)) (ix2 (Fin.ofNat 1024 (i 0).val) (Fin.ofNat 1792 (i 1).val))

theorem final2 (c : Dev nD) : (dats m 0 c).arrAt 2 cfg0.N = finalZ (V m c main_v8) (V m c main_v6) := by
  refine (dats m 0 c).arrAt_eq_of_covers 2 _ (by decide +kernel) fun t hf y => ?_
  have ht : t.val < 64 := t.isLt
  have h0 : (y 0).val < 1024 := (y 0).isLt
  have h1 : (y 1).val < 1792 := (y 1).isLt
  unfold finalZ
  blk_simp
  rw [after0_2]
  simp only [out_eq, iblk_0, iblk_1, index2 t]
  have e0 : ((![t.val % 32, t.val / 32] : Fin 2 → ℕ) 0 * 1024 + (y 0).val) / 1024 = t.val % 32 := by simp; omega
  have e1 : ((![t.val % 32, t.val / 32] : Fin 2 → ℕ) 1 * 1792 + (y 1).val) / 1792 = t.val / 32 := by simp; omega
  rw [e0, e1]
  refine congrArg _ (funext fun a => Fin.ext ?_)
  fin_cases a
  · simp [Fin.ofNat]; omega
  · simp [Fin.ofNat]; omega

/-- One entry of a product. -/
def dotAt (x w : Fin 2048 → EReal) : EReal := ∑ k, x k * w k

theorem final_apply (X : FVec Ideal S32768x2048 .bf16) (W : FVec Ideal S2048x3584 .bf16) (r : Fin 32768) (n : Fin 3584) :
    (finalZ (F := Ideal) X W (ix2 r n) : EReal) = dotAt (fun k => X (ix2 r k)) (fun k => W (ix2 k n)) := by
  have hr : Fin.ofNat 32768 (1024 * (r.val / 1024) + r.val % 1024) = r := Fin.ext (by simp [Fin.ofNat]; omega)
  have hn : Fin.ofNat 3584 (1792 * (n.val / 1792) + n.val % 1792) = n := Fin.ext (by simp [Fin.ofNat]; omega)
  have hp : ∀ (x : FVec Ideal S1024x2048 .bf16) (w : FVec Ideal S2048x1792 .bf16) (a : Fin 1024) (b : Fin 1792),
      k0_pay1 x w (ix2 a b) = ∑ k : Fin 2048, x (ix2 a k) * w (ix2 k b) := fun x w a b => by
    pointwise [k0_pay1]
  refine (hp _ _ _ _).trans (Finset.sum_congr rfl fun k _ => ?_)
  exact congr (congrArg (· * ·) (congrArg (fun r => X (ix2 r k)) hr)) (congrArg (fun n => W (ix2 k n)) hn)

/-! ## The host code -/

/-- The column of the layer's weights that column `n` of the packed weights holds. -/
def natCol (n : Fin 3584) : Fin 6656 :=
  ⟨if n.val < 512 then n.val else if n.val < 1024 then n.val + 1024 else if n.val < 1536 then n.val + 2048 else n.val + 3072,
    by have := n.isLt; split_ifs <;> omega⟩

section Host

variable (σ : Valuation τ sig (Elt Ideal))

/-- The contents after the four slices. -/
def sliced : Valuation τ sig (Elt Ideal) := StableHlo.after (hostOps0.take 6) σ

/-- The weights, in the narrow format. -/
def wArr (w : FVec Ideal S1x2048x6656 .f32) : FVec Ideal S2048x6656 .bf16 :=
  truncf .bf16 (shapeCast S2048x6656 w shapeCasts_S1x2048x6656_S2048x6656) bitsLt_bf16_f32

theorem sliced_v2 : sliced σ (Proc.devRef .tc main_v2)
    = extractStridedSlice S2048x512 ![0, 0] (wArr (σ (Proc.devRef .tc main_arg1))) slices_S2048x6656_S2048x512_0_0 := by
  unfold sliced
  simp only [List.take_succ_cons, List.take_zero, StableHlo.after_cons, StableHlo.after_nil]
  after_results_simp
  rfl

theorem sliced_v3 : sliced σ (Proc.devRef .tc main_v3)
    = extractStridedSlice S2048x512 ![0, 1536] (wArr (σ (Proc.devRef .tc main_arg1))) slices_S2048x6656_S2048x512_0_1536 := by
  unfold sliced
  simp only [List.take_succ_cons, List.take_zero, StableHlo.after_cons, StableHlo.after_nil]
  after_results_simp
  rfl

theorem sliced_v4 : sliced σ (Proc.devRef .tc main_v4)
    = extractStridedSlice S2048x512 ![0, 3072] (wArr (σ (Proc.devRef .tc main_arg1))) slices_S2048x6656_S2048x512_0_3072 := by
  unfold sliced
  simp only [List.take_succ_cons, List.take_zero, StableHlo.after_cons, StableHlo.after_nil]
  after_results_simp
  rfl

theorem sliced_v5 : sliced σ (Proc.devRef .tc main_v5)
    = extractStridedSlice S2048x2048 ![0, 4608] (wArr (σ (Proc.devRef .tc main_arg1))) slices_S2048x6656_S2048x2048_0_4608 := by
  unfold sliced
  simp only [List.take_succ_cons, List.take_zero, StableHlo.after_cons, StableHlo.after_nil]
  after_results_simp
  rfl

/-- The four column ranges side by side. -/
def pack (a b d : FVec Ideal S2048x512 .bf16) (e : FVec Ideal S2048x2048 .bf16) : FVec Ideal S2048x3584 .bf16 :=
  concatenate S2048x3584 1 [⟨S2048x512, a⟩, ⟨S2048x512, b⟩, ⟨S2048x512, d⟩, ⟨S2048x2048, e⟩]
    concatenates_S2048x512_S2048x512_S2048x512_S2048x2048_S2048x3584_d1

theorem after_v6 : StableHlo.after hostOps0 σ (Proc.devRef .tc main_v6)
    = pack (sliced σ (Proc.devRef .tc main_v2)) (sliced σ (Proc.devRef .tc main_v3)) (sliced σ (Proc.devRef .tc main_v4)) (sliced σ (Proc.devRef .tc main_v5)) := by
  simp only [StableHlo.after_cons, StableHlo.after_nil]
  after_results_simp
  rfl

theorem after_v8 : StableHlo.after hostOps0 σ (Proc.devRef .tc main_v8)
    = truncf (F := Ideal) .bf16 (shapeCast S32768x2048 (σ (Proc.devRef .tc main_arg0) : FVec Ideal S16x2048x2048 .f32) shapeCasts_S16x2048x2048_S32768x2048) bitsLt_bf16_f32 := by
  simp only [StableHlo.after_cons, StableHlo.after_nil]
  after_results_simp
  rfl

end Host

theorem pack_apply (w : FVec Ideal S1x2048x6656 .f32) (k : Fin 2048) (n : Fin 3584) :
    pack (extractStridedSlice S2048x512 ![0, 0] (wArr w) slices_S2048x6656_S2048x512_0_0)
      (extractStridedSlice S2048x512 ![0, 1536] (wArr w) slices_S2048x6656_S2048x512_0_1536)
      (extractStridedSlice S2048x512 ![0, 3072] (wArr w) slices_S2048x6656_S2048x512_0_3072)
      (extractStridedSlice S2048x2048 ![0, 4608] (wArr w) slices_S2048x6656_S2048x2048_0_4608) (ix2 k n) = w (ix3 0 k (natCol n)) := by
  pointwise [pack, wArr]
  have hn := n.isLt
  split_ifs <;> refine congrArg (fun f => w (ix3 0 k f)) (Fin.ext ?_) <;> simp only [natCol] <;> split_ifs <;> omega

theorem rows_apply (x : FVec Ideal S16x2048x2048 .f32) (r : Fin 32768) (d : Fin 2048) :
    truncf .bf16 (shapeCast S32768x2048 x shapeCasts_S16x2048x2048_S32768x2048) bitsLt_bf16_f32 (ix2 r d) = x (ix3 ⟨r.val / 2048, by omega⟩ ⟨r.val % 2048, by omega⟩ d) := by
  show shapeCast S32768x2048 x shapeCasts_S16x2048x2048_S32768x2048 (ix2 r d) = _
  refine shapeCast_apply _ _ _ (ix3 ⟨r.val / 2048, by omega⟩ ⟨r.val % 2048, by omega⟩ d) ?_
  rw [Shape.rowMajor_val_three, Shape.rowMajor_val_two]
  simp [ix2, ix3]
  omega

/-- The kernel's array at a row and a column, from the arguments. -/
theorem kernel_apply (m : (ℓ : Loc nD τ sig) → Buf (Elt Ideal) ℓ) (c : Dev nD) (r : Fin 32768) (n : Fin 3584) :
    ((dats m 0 c).arrAt 2 cfg0.N : FVec Ideal S32768x3584 .bf16) (ix2 r n)
      = dotAt (fun k => (m ((c.tc : Thread nD τ).loc main_arg0) : FVec Ideal S16x2048x2048 .f32) (ix3 ⟨r.val / 2048, by omega⟩ ⟨r.val % 2048, by omega⟩ k))
        (fun k => (m ((c.tc : Thread nD τ).loc main_arg1) : FVec Ideal S1x2048x6656 .f32) (ix3 0 k (natCol n))) := by
  have h0 := after_v8 (fun b => m (c, b))
  have h1 := after_v6 (fun b => m (c, b))
  rw [sliced_v2, sliced_v3, sliced_v4, sliced_v5] at h1
  refine (congrFun (final2 m c) (ix2 r n)).trans ((final_apply _ _ r n).trans ?_)
  refine congr (congrArg dotAt (funext fun k => ?_)) (funext fun k => ?_)
  · exact (congrFun h0 (ix2 r k)).trans (rows_apply _ r k)
  · exact (congrFun h1 (ix2 k n)).trans (pack_apply _ k n)

end Cert.InProjIdeal.Gen

end
-- ==== Proof.InProjRef.lean ====
/- The reference's projection at an index. -/
module

public import proofs.«01_k».proof.Proof.Gen.InProjRefIdeal.Run
public import proofs.«01_k».proof.Proof.InProjVal
public import Idealize.ShloMosaic.Lib.Pipeline.Value

@[expose] public section

set_option maxRecDepth 16384

noncomputable section

namespace Cert.InProjRefIdeal.Value

open Cert.InProjRefIdeal Cert.InProjRefIdeal.Gen Idealize.ShloMosaic

/-- The whole projection. -/
def rLin (h : FVec Ideal S16x2048x2048 .f32) (w : FVec Ideal S1x2048x6656 .f32) : FVec Ideal S16x2048x6656 .f32 :=
  Host.dotGeneral dot_S16x2048x2048_S2048x6656_S16x2048x6656_2_0_01_1_n_n none h (shapeCast S2048x6656 w shapeCasts_S1x2048x6656_S2048x6656)

/-- The four column ranges side by side. -/
def rPick (z : FVec Ideal S16x2048x6656 .f32) : FVec Ideal S16x2048x3584 .f32 :=
  concatenate S16x2048x3584 2 [⟨S16x2048x512, extractStridedSlice S16x2048x512 ![0, 0, 0] z slices_S16x2048x6656_S16x2048x512_0_0_0⟩,
    ⟨S16x2048x512, extractStridedSlice S16x2048x512 ![0, 0, 1536] z slices_S16x2048x6656_S16x2048x512_0_0_1536⟩,
    ⟨S16x2048x512, extractStridedSlice S16x2048x512 ![0, 0, 3072] z slices_S16x2048x6656_S16x2048x512_0_0_3072⟩,
    ⟨S16x2048x2048, extractStridedSlice S16x2048x2048 ![0, 0, 4608] z slices_S16x2048x6656_S16x2048x2048_0_0_4608⟩]
    concatenates_S16x2048x512_S16x2048x512_S16x2048x512_S16x2048x2048_S16x2048x3584_d2

/-- The reference's result. -/
def rOut (h : FVec Ideal S16x2048x2048 .f32) (w : FVec Ideal S1x2048x6656 .f32) : FVec Ideal S32768x3584 .bf16 :=
  truncf .bf16 (shapeCast S32768x3584 (rPick (rLin h w)) shapeCasts_S16x2048x3584_S32768x3584) bitsLt_bf16_f32

theorem rLin_apply (h : FVec Ideal S16x2048x2048 .f32) (w : FVec Ideal S1x2048x6656 .f32) (b : Fin 16) (n : Fin 2048) (f : Fin 6656) :
    rLin h w (ix3 b n f) = ∑ k : Fin 2048, h (ix3 b n k) * w (ix3 0 k f) := by
  unfold rLin
  pointwise []

theorem rPick_apply (z : FVec Ideal S16x2048x6656 .f32) (b : Fin 16) (n : Fin 2048) (f : Fin 3584) :
    rPick z (ix3 b n f) = z (ix3 b n (Cert.InProjIdeal.Gen.natCol f)) := by
  pointwise [rPick]
  have hf := f.isLt
  split_ifs <;> refine congrArg (fun f => z (ix3 b n f)) (Fin.ext ?_) <;> simp only [Cert.InProjIdeal.Gen.natCol] <;> split_ifs <;> omega

theorem rOut_apply (h : FVec Ideal S16x2048x2048 .f32) (w : FVec Ideal S1x2048x6656 .f32) (r : Fin 32768) (n : Fin 3584) :
    rOut h w (ix2 r n) = Cert.InProjIdeal.Gen.dotAt (fun k => h (ix3 ⟨r.val / 2048, by omega⟩ ⟨r.val % 2048, by omega⟩ k)) (fun k => w (ix3 0 k (Cert.InProjIdeal.Gen.natCol n))) := by
  show shapeCast S32768x3584 (rPick (rLin h w)) shapeCasts_S16x2048x3584_S32768x3584 (ix2 r n) = _
  refine (shapeCast_apply _ _ _ (ix3 ⟨r.val / 2048, by omega⟩ ⟨r.val % 2048, by omega⟩ n) ?_).trans ((rPick_apply _ _ _ n).trans (rLin_apply _ _ _ _ _))
  rw [Shape.rowMajor_val_three, Shape.rowMajor_val_two]
  simp [ix2, ix3]
  omega

end Cert.InProjRefIdeal.Value

end
-- ==== Proof.InProjClaims.lean ====
/- The projection call's claims: the frames, and the result against the reference. -/
module

public import proofs.«01_k».proof.Defs
public import proofs.«01_k».proof.Proof.Gen.InProj.Frame
public import proofs.«01_k».proof.Proof.Gen.InProjIdeal.Frame
public import proofs.«01_k».proof.Proof.InProjVal
public import proofs.«01_k».proof.Proof.InProjRef
public import Idealize.ShloMosaic.Lib.Quiescent

@[expose] public section

set_option maxRecDepth 16384

noncomputable section

namespace Cert.Proof

open Idealize.ShloMosaic Idealize.SL.Sem

theorem in_frame : quiescent_InProj (hInProj := Cert.InProj.Gen.facts) := fun m ρ _ => Cert.InProj.Gen.frame (F := Bits) m ρ

theorem in_ideal_frame : quiescent_InProjIdeal (hInProjIdeal := Cert.InProjIdeal.Gen.facts) := fun m ρ _ => Cert.InProjIdeal.Gen.frame (F := Ideal) m ρ

theorem in_ref_frame : quiescent_InProjRefIdeal (hInProjRefIdeal := Cert.InProjRefIdeal.Gen.facts) := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

theorem in_preserves : preserves_InProj_InProjIdeal := trivial

open Cert.InProjIdeal Cert.InProjIdeal.Gen in
/-- The kernel's array is the reference's. -/
theorem in_out_eq (m : (ℓ : Loc nD τ sig) → Buf (Elt Ideal) ℓ) (c : Dev nD) :
    ((dats m 0 c).arrAt 2 cfg0.N : FVec Ideal S32768x3584 .bf16)
      = Cert.InProjRefIdeal.Value.rOut (m ((c.tc : Thread nD τ).loc main_arg0)) (m ((c.tc : Thread nD τ).loc main_arg1)) := by
  funext i
  rw [show i = ix2 (i 0) (i 1) from funext fun a => by fin_cases a <;> rfl]
  exact (kernel_apply m c (i 0) (i 1)).trans (Cert.InProjRefIdeal.Value.rOut_apply _ _ (i 0) (i 1)).symm

theorem in_algebraic : algebraic_InProjIdeal_InProjRefIdeal (hInProjIdeal := Cert.InProjIdeal.Gen.facts) (hInProjRefIdeal := Cert.InProjRefIdeal.Gen.facts) := by
  intro m ρ m' ρ' _ hagree
  refine ⟨fun c => (Cert.InProjIdeal.Gen.dats m 0 c).arrAt 2 Cert.InProjIdeal.cfg0.N, Cert.InProjIdeal.Value.run_blocks m ρ,
    (θ_run _ _ _).mono (fun r h c => ?_) (Cert.InProjRefIdeal.Value.run (F := Ideal) m' ρ')⟩
  obtain ⟨ho, hk⟩ := h c
  obtain ⟨a0, a1⟩ := hagree c
  refine ⟨ho.trans ?_, hk⟩
  refine Eq.trans ?_ (in_out_eq m c).symm
  rw [a0, a1]
  rfl

end Cert.Proof

end
-- ==== Proof.OutProjBlock.lean ====
/- What one grid point of the output projection leaves in its output block: the block's product stands in the scratch, and
   each sixteen rows of the output are the input's rows plus the normalised rows of the product. -/
module

public import proofs.«01_k».proof.Proof.Gen.OutProjIdeal.Frame
public import Idealize.ShloMosaic.Lib.Pointwise
public import Idealize.ShloMosaic.Lib.Pipeline.CanonAppend
public import Idealize.ShloMosaic.Lib.WholeRead
public import Idealize.ShloMosaic.Lib.ValueIdxCore

@[expose] public section

set_option maxRecDepth 16384

noncomputable section

namespace Cert.OutProjIdeal.Gen

open Idealize.ShloMosaic Idealize.ShloMosaic.Pipeline

variable {F : FTy → Type} [FloatOps F]

/-- The `k`-th sixteen rows. -/
def chunk (x : Vec F S512x2048 .f32) (k : ℕ) : Vec F S16x2048 .f32 := fun j => x (ix2 (Fin.ofNat 512 (16 * k + (j 0).val)) (j 1))

/-- Sixteen rows of the result: the input plus the normalised product. -/
def post (g : Vec F S1x2048 .f32) (x u : Vec F S16x2048 .f32) : Vec F S16x2048 .f32 := k0_pay5 g x u

/-- The finished block. -/
def blockY (x : Vec F S512x2048 .f32) (g : Vec F S1x2048 .f32) (u : Vec F S512x2048 .f32) : Vec F S512x2048 .f32 := fun y =>
  post g (chunk x ((y 0).val / 16)) (chunk u ((y 0).val / 16)) (ix2 (Fin.ofNat 16 (y 0).val) (y 1))

theorem off_zero : (![0, 0] : Fin 2 → ℕ) = fun _ => 0 := funext fun a => by fin_cases a <;> rfl

theorem unit_val {s : Shape} (off n : Fin s.rank → ℕ) (inb : ∀ a, off a + n a ≤ s.size a) (x : (Rect.unit (s := s) off n inb).shape.Idx)
    (a : Fin s.rank) : ((Rect.unit (s := s) off n inb).emb x a).val = off a + (x a).val := by
  simp [Rect.unit, Rect.emb]

theorem unit_emb_all {d0 d1 : ℕ} (inb : ∀ a, (![0, 0] : Fin 2 → ℕ) a + (![d0, d1] : Fin 2 → ℕ) a ≤ (⟨2, ![d0, d1]⟩ : Shape).size a)
    (x : (⟨2, ![d0, d1]⟩ : Shape).Idx) : (Rect.unit (s := ⟨2, ![d0, d1]⟩) ![0, 0] ![d0, d1] inb).emb x = x := by
  funext a
  refine Fin.ext ((unit_val _ _ _ x a).trans ?_)
  fin_cases a <;> exact Nat.zero_add _

/-- Reading a staged block whole. -/
theorem read_all {d0 d1 : ℕ} {e : EltTy} {arg : Memref sig .tc .vmem ⟨2, ![d0, d1]⟩ e} (harg : arg.IsWhole) (x : Vec F ⟨2, ![d0, d1]⟩ e)
    (inb : ∀ a, (![0, 0] : Fin 2 → ℕ) a + (![d0, d1] : Fin 2 → ℕ) a ≤ (⟨2, ![d0, d1]⟩ : Shape).size a) :
    View.readAt (Elt F) arg.view (Rect.unit (s := ⟨2, ![d0, d1]⟩) ![0, 0] ![d0, d1] inb).toLoadRect (harg.unread x) = x :=
  funext fun j => (harg.readAt_unread _ _ j).trans (congrArg x (unit_emb_all inb j))

theorem chunk_emb (o : ℕ) (ho : 16 * (o / 16) = o) (inb : ∀ a, (![o, 0] : Fin 2 → ℕ) a + S16x2048.size a ≤ S512x2048.size a)
    (x : S16x2048.Idx) : (Rect.unit (s := S512x2048) ![o, 0] S16x2048.size inb).emb x = ix2 (Fin.ofNat 512 (16 * (o / 16) + (x 0).val)) (x 1) := by
  have h0 := inb 0
  simp [S512x2048, S16x2048] at h0
  have hx0 : (x 0).val < 16 := (x 0).isLt
  funext a
  refine Fin.ext ((unit_val _ _ _ x a).trans ?_)
  match a with
  | ⟨0, _⟩ => simp [ix2]; omega
  | ⟨1, _⟩ => simp [ix2]

/-- A piece of the finished block. -/
def IsChunk (x : Vec F S512x2048 .f32) (g : Vec F S1x2048 .f32) (u : Vec F S512x2048 .f32) (p : View.Piece (Elt F) S512x2048 .f32) : Prop :=
  ∃ (o : ℕ) (_ : 16 * (o / 16) = o) (inb : ∀ a, (![o, 0] : Fin 2 → ℕ) a + S16x2048.size a ≤ S512x2048.size a),
    p = ⟨Rect.unit (s := S512x2048) ![o, 0] S16x2048.size inb, post g (chunk x (o / 16)) (chunk u (o / 16))⟩

theorem scratch_eq (c : Dev nD) (arg1 : Memref sig .tc .vmem S512x2048 .bf16) (harg1 : arg1.IsWhole) (arg3 : Memref sig .tc .vmem S2048x2048 .bf16) (harg3 : arg3.IsWhole)
    (x0 : Vec F S512x2048 .bf16) (x2 : Vec F S2048x2048 .bf16) : View.canon (kernelRun0_A.sl.HS0_1 c arg1 harg1 arg3 harg3 x0 x2) = k0_pay3 x0 x2 := by
  unfold kernelRun0_A.sl.HS0_1
  rw [show View.readAt (Elt F) arg1.view (Rect.unit (s := S512x2048) ![0, 0] S512x2048.size inb_S512x2048_S512x2048_0_0).toLoadRect (harg1.unread x0) = x0 from read_all harg1 x0 _,
    show View.readAt (Elt F) arg3.view (Rect.unit (s := S2048x2048) ![0, 0] S2048x2048.size inb_S2048x2048_S2048x2048_0_0).toLoadRect (harg3.unread x2) = x2 from read_all harg3 x2 _]
  exact View.canon_cons_unit_zero (S := S512x2048) off_zero _ _ _

theorem isChunk (c : Dev nD) (arg1 : Memref sig .tc .vmem S512x2048 .bf16) (harg1 : arg1.IsWhole) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg6 : Memref sig .tc .vmem S512x2048 .f32)
    (x0 : Vec F S512x2048 .bf16) (x1 : Vec F S512x2048 .f32) (x2 : Vec F S2048x2048 .bf16) (x3 : Vec F S1x2048 .f32)
    (o : ℕ) (ho : 16 * (o / 16) = o) (inb : ∀ a, (![o, 0] : Fin 2 → ℕ) a + S16x2048.size a ≤ S512x2048.size a) :
    IsChunk x1 x3 (k0_pay3 x0 x2) ⟨Rect.unit (s := S512x2048) ![o, 0] S16x2048.size inb,
      post (View.readAt (Elt F) arg4.view (Rect.unit (s := S1x2048) ![0, 0] S1x2048.size inb_S1x2048_S1x2048_0_0).toLoadRect (harg4.unread x3))
        (View.readAt (Elt F) arg2.view (Rect.unit (s := S512x2048) ![o, 0] S16x2048.size inb).toLoadRect (harg2.unread x1))
        (arg6.view.readCov (kernelRun0_A.sl.HS0_1 c arg1 harg1 arg3 harg3 x0 x2) (Rect.unit (s := S512x2048) ![o, 0] S16x2048.size inb).toLoadRect)⟩ := by
  refine ⟨o, ho, inb, ?_⟩
  have hx : View.readAt (Elt F) arg2.view (Rect.unit (s := S512x2048) ![o, 0] S16x2048.size inb).toLoadRect (harg2.unread x1) = chunk x1 (o / 16) :=
    funext fun j => (harg2.readAt_unread _ _ j).trans (congrArg x1 (chunk_emb o ho inb j))
  have hu : arg6.view.readCov (kernelRun0_A.sl.HS0_1 c arg1 harg1 arg3 harg3 x0 x2) (Rect.unit (s := S512x2048) ![o, 0] S16x2048.size inb).toLoadRect = chunk (k0_pay3 x0 x2) (o / 16) := by
    refine Eq.trans (View.readCov_eq_canon' _ _ _) (funext fun (j : S16x2048.Idx) => ?_)
    rw [scratch_eq]
    exact congrArg (k0_pay3 x0 x2) (chunk_emb o ho inb j)
  rw [hx, hu, show View.readAt (Elt F) arg4.view (Rect.unit (s := S1x2048) ![0, 0] S1x2048.size inb_S1x2048_S1x2048_0_0).toLoadRect (harg4.unread x3) = x3 from read_all harg4 x3 _]

theorem chunks (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (x0 : Vec F S512x2048 .bf16) (x1 : Vec F S512x2048 .f32) (x2 : Vec F S2048x2048 .bf16) (x3 : Vec F S1x2048 .f32) :
    ∀ p ∈ (kernelRun0_A c i arg1 harg1 arg2 harg2 arg3 harg3 arg4 harg4 arg5 harg5 arg6 harg6 x0 x1 x2 x3).1, IsChunk x1 x3 (k0_pay3 x0 x2) p := by
  unfold kernelRun0_A
  dsimp only
  iterate 32 refine List.forall_mem_cons.mpr ⟨isChunk c arg1 harg1 arg2 harg2 arg3 harg3 arg4 harg4 arg6 x0 x1 x2 x3 _ rfl _, ?_⟩
  exact List.forall_mem_nil _

theorem chunk_read (H : ℕ → Vec F S16x2048 .f32) (o : ℕ) (ho : 16 * (o / 16) = o) (inb : ∀ a, (![o, 0] : Fin 2 → ℕ) a + S16x2048.size a ≤ S512x2048.size a)
    (x : S16x2048.Idx) :
    H (o / 16) x = (fun y : S512x2048.Idx => H ((y 0).val / 16) (ix2 (Fin.ofNat 16 (y 0).val) (y 1)))
      ((Rect.unit (s := S512x2048) ![o, 0] S16x2048.size inb).emb x) := by
  have h0 := inb 0
  have hx0 : (x 0).val < 16 := (x 0).isLt
  rw [chunk_emb o ho inb x]
  simp [S512x2048, S16x2048] at h0
  have e1 : (16 * (o / 16) + (x 0).val) % 512 / 16 = o / 16 := by omega
  have e2 : (16 * (o / 16) + (x 0).val) % 512 % 16 = (x 0).val := by omega
  simp only [ix2, Fin.ofNat, Matrix.cons_val_zero, Matrix.cons_val_one]
  refine Eq.trans ?_ (congrFun (congrArg H e1.symm) _)
  refine congrArg (H (o / 16)) (funext fun a => ?_)
  match a with
  | ⟨0, _⟩ => exact Fin.ext e2.symm
  | ⟨1, _⟩ => rfl

theorem out_eq (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole)
    (x0 : Vec F S512x2048 .bf16) (x1 : Vec F S512x2048 .f32) (x2 : Vec F S2048x2048 .bf16) (x3 : Vec F S1x2048 .f32) :
    out0_A_4 c i arg1 harg1 arg2 harg2 arg3 harg3 arg4 harg4 arg5 harg5 arg6 harg6 x0 x1 x2 x3 = blockY x1 x3 (k0_pay3 x0 x2) := by
  refine Eq.trans (View.read_writes_junk_eq_canon _ _) (funext fun y => ?_)
  have hc := cover0_A_4 c i arg1 harg1 arg2 harg2 arg3 harg3 arg4 harg4 arg5 harg5 arg6 harg6 x0 x1 x2 x3 y
  have hp := chunks c i arg1 harg1 arg2 harg2 arg3 harg3 arg4 harg4 arg5 harg5 arg6 harg6 x0 x1 x2 x3
  generalize (kernelRun0_A c i arg1 harg1 arg2 harg2 arg3 harg3 arg4 harg4 arg5 harg5 arg6 harg6 x0 x1 x2 x3).1 = L at hc hp ⊢
  rw [← List.append_nil L]
  refine View.canon_append_of_pieces _ [] _ (fun p hm x => ?_) y hc
  obtain ⟨o, ho, inb, rfl⟩ := hp p hm
  exact chunk_read (fun n => post x3 (chunk x1 n) (chunk (k0_pay3 x0 x2) n)) o ho inb x

end Cert.OutProjIdeal.Gen

end
-- ==== Proof.OutProjVal.lean ====
/- The output projection's result array, and each entry of it from the arguments. -/
module

public import proofs.«01_k».proof.Proof.OutProjBlock
public import proofs.«01_k».proof.Proof.FfnSpec
public import proofs.«01_k».proof.Proof.Gen.OutProjIdeal.Value
public import Idealize.ShloMosaic.Lib.Pipeline.Value
public import Idealize.ShloMosaic.Lib.Pipeline.ValueKit
public import Idealize.ShloMosaic.Lib.Claim

@[expose] public section

set_option maxRecDepth 16384

noncomputable section

namespace Cert.OutProjIdeal.Gen

open Idealize.ShloMosaic Cert.FfnSpec
open Idealize.ShloMosaic.Pipeline Idealize.ShloMosaic.TcCoe

variable {F : FTy → Type} [FloatOps F]

/-- Row block `i` of an array. -/
def rowBlk {e : EltTy} (X : Vec F S32768x2048 e) (i : ℕ) : Vec F S512x2048 e := fun y => X (ix2 (Fin.ofNat 32768 (512 * i + (y 0).val)) (y 1))

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel

variable (m : (ℓ : Loc nD τ sig) → Buf (Elt F) ℓ)

theorem iblk_0 (c : Dev nD) (t : Fin cfg0.N) : iblk m c 0 t = rowBlk (V m c main_v1) t.val := by
  have ht : t.val < 64 := t.isLt
  funext y
  have h0 : (y 0).val < 512 := (y 0).isLt
  blk_simp [iblk]
  unfold rowBlk
  refine congrArg (V m c main_v1) (funext fun a => Fin.ext ?_)
  fin_cases a
  · blk_simp [index0 t]
    simp [Fin.ofNat]
    omega
  · blk_simp [index0 t]
    simp

theorem iblk_1 (c : Dev nD) (t : Fin cfg0.N) : iblk m c 1 t = rowBlk (V m c main_v2) t.val := by
  have ht : t.val < 64 := t.isLt
  funext y
  have h0 : (y 0).val < 512 := (y 0).isLt
  blk_simp [iblk]
  unfold rowBlk
  refine congrArg (V m c main_v2) (funext fun a => Fin.ext ?_)
  fin_cases a
  · blk_simp [index1 t]
    simp [Fin.ofNat]
    omega
  · blk_simp [index1 t]
    simp

theorem iblk_2 (c : Dev nD) (t : Fin cfg0.N) : iblk m c 2 t = V m c main_v4 := by
  funext y
  blk_simp [iblk]
  refine congrArg (V m c main_v4) (funext fun a => Fin.ext ?_)
  fin_cases a <;> blk_simp [index2 t] <;> simp

theorem iblk_3 (c : Dev nD) (t : Fin cfg0.N) : iblk m c 3 t = V m c main_v6 := by
  funext y
  blk_simp [iblk]
  refine congrArg (V m c main_v6) (funext fun a => Fin.ext ?_)
  fin_cases a <;> blk_simp [index3 t] <;> simp

/-- The result array at the end. -/
def finalY (U : Vec F S32768x2048 .bf16) (X : Vec F S32768x2048 .f32) (W : Vec F S2048x2048 .bf16) (g : Vec F S1x2048 .f32) : Vec F S32768x2048 .f32 := fun i =>
  blockY (rowBlk X ((i 0).val / 512)) g (k0_pay3 (rowBlk U ((i 0).val / 512)) W) (ix2 (Fin.ofNat 512 (i 0).val) (i 1))

theorem final4 (c : Dev nD) : (dats m 0 c).arrAt 4 cfg0.N = finalY (V m c main_v1) (V m c main_v2) (V m c main_v4) (V m c main_v6) := by
  refine (dats m 0 c).arrAt_eq_of_covers 4 _ (by decide +kernel) fun t hf y => ?_
  have ht : t.val < 64 := t.isLt
  have h0 : (y 0).val < 512 := (y 0).isLt
  unfold finalY
  blk_simp
  rw [after0_4]
  unfold outsAt0
  simp only [out_eq, iblk_0, iblk_1, iblk_2, iblk_3, index4 t]
  have e0 : ((![t.val, 0] : Fin 2 → ℕ) 0 * 512 + (y 0).val) / 512 = t.val := by simp; omega
  rw [e0]
  refine congrArg _ (funext fun a => Fin.ext ?_)
  fin_cases a
  · simp [Fin.ofNat]; omega
  · simp [index4 t]

/-! ## At an index -/

/-- One entry of the layer's output projection: the input plus the scaled product. -/
def entry (u x : Fin 2048 → EReal) (w : Fin 2048 → Fin 2048 → EReal) (g : Fin 2048 → EReal) (e : Fin 2048) : EReal :=
  x e + (∑ k, u k * w k e) * rowScale (fun d => ∑ k, u k * w k d) * g e

theorem post_apply (g : Vec Ideal S1x2048 .f32) (x u : Vec Ideal S16x2048 .f32) (a : Fin 16) (d : Fin 2048) :
    post (F := Ideal) g x u (ix2 a d) = x (ix2 a d) + u (ix2 a d) * rowScale (fun d => u (ix2 a d)) * g (ix2 0 d) := by
  unfold post rowScale
  pointwise [k0_pay5, k0_pay4]

theorem prod_apply (u : Vec Ideal S512x2048 .bf16) (w : Vec Ideal S2048x2048 .bf16) (a : Fin 512) (e : Fin 2048) :
    k0_pay3 (F := Ideal) u w (ix2 a e) = ∑ k : Fin 2048, u (ix2 a k) * w (ix2 k e) := by
  pointwise [k0_pay3]

theorem chunk_apply (x : Vec Ideal S512x2048 .f32) (a : Fin 512) (d : Fin 2048) :
    chunk x (a.val / 16) (ix2 (Fin.ofNat 16 a.val) d) = x (ix2 a d) := by
  have h : Fin.ofNat 512 (16 * (a.val / 16) + a.val % 16) = a := Fin.ext (by simp [Fin.ofNat]; omega)
  exact congrArg (fun a => x (ix2 a d)) h

theorem final_apply (U : FVec Ideal S32768x2048 .bf16) (X : FVec Ideal S32768x2048 .f32) (W : FVec Ideal S2048x2048 .bf16) (g : FVec Ideal S1x2048 .f32)
    (r : Fin 32768) (e : Fin 2048) : (finalY (F := Ideal) U X W g (ix2 r e) : EReal)
      = entry (fun k => U (ix2 r k)) (fun d => X (ix2 r d)) (fun k d => W (ix2 k d)) (fun d => g (ix2 0 d)) e := by
  have hr : Fin.ofNat 32768 (512 * (r.val / 512) + r.val % 512) = r := Fin.ext (by simp [Fin.ofNat]; omega)
  have hU : ∀ k : Fin 2048, (rowBlk (F := Ideal) (e := .bf16) U (r.val / 512) (ix2 (Fin.ofNat 512 r.val) k) : EReal) = U (ix2 r k) := fun k => congrArg (fun r => U (ix2 r k)) hr
  have hX : ∀ k : Fin 2048, (rowBlk (F := Ideal) (e := .f32) X (r.val / 512) (ix2 (Fin.ofNat 512 r.val) k) : EReal) = X (ix2 r k) := fun k => congrArg (fun r => X (ix2 r k)) hr
  have hY : ∀ (x u : Vec Ideal S512x2048 .f32) (a : Fin 512), blockY (F := Ideal) x g u (ix2 a e)
      = x (ix2 a e) + u (ix2 a e) * rowScale (fun d => u (ix2 a d)) * g (ix2 0 e) := fun x u a => by
    refine (post_apply g (chunk x (a.val / 16)) (chunk u (a.val / 16)) (Fin.ofNat 16 a.val) e).trans ?_
    simp only [chunk_apply]
  refine (hY (rowBlk X (r.val / 512)) (k0_pay3 (F := Ideal) (rowBlk U (r.val / 512)) W) (Fin.ofNat 512 r.val)).trans ?_
  simp only [prod_apply, hU, hX]
  rfl

/-! ## The host code -/

section Host

variable (σ : Valuation τ sig (Elt Ideal))

theorem after_v1 : StableHlo.after hostOps0 σ (Proc.devRef .tc main_v1)
    = truncf (F := Ideal) .bf16 (shapeCast S32768x2048 (σ (Proc.devRef .tc main_arg0) : FVec Ideal S16x2048x2048 .f32) shapeCasts_S16x2048x2048_S32768x2048) bitsLt_bf16_f32 := by
  simp only [StableHlo.after_cons, StableHlo.after_nil]
  after_results_simp
  rfl

theorem after_v2 : StableHlo.after hostOps0 σ (Proc.devRef .tc main_v2)
    = shapeCast S32768x2048 (σ (Proc.devRef .tc main_arg1) : FVec Ideal S16x2048x2048 .f32) shapeCasts_S16x2048x2048_S32768x2048 := by
  simp only [StableHlo.after_cons, StableHlo.after_nil]
  after_results_simp
  rfl

theorem after_v4 : StableHlo.after hostOps0 σ (Proc.devRef .tc main_v4)
    = truncf (F := Ideal) .bf16 (shapeCast S2048x2048 (σ (Proc.devRef .tc main_arg2) : FVec Ideal S1x2048x2048 .f32) shapeCasts_S1x2048x2048_S2048x2048) bitsLt_bf16_f32 := by
  simp only [StableHlo.after_cons, StableHlo.after_nil]
  after_results_simp
  rfl

theorem after_v6 : StableHlo.after hostOps0 σ (Proc.devRef .tc main_v6)
    = broadcastInDim S1x2048 ![1] bcast_S2048_S1x2048_1 (shapeCast S2048 (σ (Proc.devRef .tc main_arg3) : FVec Ideal S1x2048 .f32) shapeCasts_S1x2048_S2048) := by
  simp only [StableHlo.after_cons, StableHlo.after_nil]
  after_results_simp
  rfl

end Host

theorem rows_apply (x : FVec Ideal S16x2048x2048 .f32) (r : Fin 32768) (d : Fin 2048) :
    shapeCast S32768x2048 x shapeCasts_S16x2048x2048_S32768x2048 (ix2 r d) = x (ix3 ⟨r.val / 2048, by omega⟩ ⟨r.val % 2048, by omega⟩ d) := by
  refine shapeCast_apply _ _ _ (ix3 ⟨r.val / 2048, by omega⟩ ⟨r.val % 2048, by omega⟩ d) ?_
  rw [Shape.rowMajor_val_three, Shape.rowMajor_val_two]
  simp [ix2, ix3]
  omega

theorem gain_apply (g : FVec Ideal S1x2048 .f32) (d : Fin 2048) :
    broadcastInDim S1x2048 ![1] bcast_S2048_S1x2048_1 (shapeCast S2048 g shapeCasts_S1x2048_S2048) (ix2 0 d) = g (ix2 0 d) := by
  pointwise []

theorem mat_apply (w : FVec Ideal S1x2048x2048 .f32) (k d : Fin 2048) :
    truncf .bf16 (shapeCast S2048x2048 w shapeCasts_S1x2048x2048_S2048x2048) bitsLt_bf16_f32 (ix2 k d) = w (ix3 0 k d) := by
  pointwise []

/-- The kernel's array at a row and a column, from the arguments. -/
theorem kernel_apply (m : (ℓ : Loc nD τ sig) → Buf (Elt Ideal) ℓ) (c : Dev nD) (r : Fin 32768) (e : Fin 2048) :
    ((dats m 0 c).arrAt 4 cfg0.N : FVec Ideal S32768x2048 .f32) (ix2 r e)
      = entry (fun k => (m ((c.tc : Thread nD τ).loc main_arg0) : FVec Ideal S16x2048x2048 .f32) (ix3 ⟨r.val / 2048, by omega⟩ ⟨r.val % 2048, by omega⟩ k))
        (fun d => (m ((c.tc : Thread nD τ).loc main_arg1) : FVec Ideal S16x2048x2048 .f32) (ix3 ⟨r.val / 2048, by omega⟩ ⟨r.val % 2048, by omega⟩ d))
        (fun k d => (m ((c.tc : Thread nD τ).loc main_arg2) : FVec Ideal S1x2048x2048 .f32) (ix3 0 k d))
        (fun d => (m ((c.tc : Thread nD τ).loc main_arg3) : FVec Ideal S1x2048 .f32) (ix2 0 d)) e := by
  have h0 := after_v1 (fun b => m (c, b))
  have h1 := after_v2 (fun b => m (c, b))
  have h2 := after_v4 (fun b => m (c, b))
  have h3 := after_v6 (fun b => m (c, b))
  refine (congrFun (final4 m c) (ix2 r e)).trans ((final_apply _ _ _ _ r e).trans ?_)
  refine congrFun (congr (congr (congr (congrArg entry (funext fun k => ?_)) (funext fun d => ?_)) (funext fun k => funext fun d => ?_)) (funext fun d => ?_)) e
  · exact (congrFun h0 (ix2 r k)).trans (rows_apply _ r k)
  · exact (congrFun h1 (ix2 r d)).trans (rows_apply _ r d)
  · exact (congrFun h2 (ix2 k d)).trans (mat_apply _ k d)
  · exact (congrFun h3 (ix2 0 d)).trans (gain_apply _ d)

end Cert.OutProjIdeal.Gen

end
-- ==== Proof.OutProjRef.lean ====
/- The reference's output projection, and each entry of it. -/
module

public import proofs.«01_k».proof.Proof.Gen.OutProjRefIdeal.Run
public import proofs.«01_k».proof.Proof.OutProjVal
public import Idealize.ShloMosaic.Lib.Pipeline.Value

@[expose] public section

set_option maxRecDepth 16384

noncomputable section

namespace Cert.OutProjRefIdeal.Value

open Cert.OutProjRefIdeal Cert.OutProjRefIdeal.Gen Idealize.ShloMosaic Cert.FfnSpec

/-- The product. -/
def rProd (u : FVec Ideal S16x2048x2048 .f32) (w : FVec Ideal S1x2048x2048 .f32) : FVec Ideal S16x2048x2048 .f32 :=
  Host.dotGeneral dot_S16x2048x2048_S2048x2048_S16x2048x2048_2_0_01_1_n_n none u (shapeCast S2048x2048 w shapeCasts_S1x2048x2048_S2048x2048)

/-- A row's scale, on the whole array. -/
def rScale (y : FVec Ideal S16x2048x2048 .f32) : FVec Ideal S16x2048x2048 .f32 :=
  broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf y y) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32))))

/-- The norm's weights on every row. -/
def rGain (g : FVec Ideal S1x2048 .f32) : FVec Ideal S16x2048x2048 .f32 :=
  broadcastInDim S16x2048x2048 ![0, 1, 2] bcast_S1x1x2048_S16x2048x2048_0_1_2 (broadcastInDim S1x1x2048 ![2] bcast_S2048_S1x1x2048_2 (shapeCast _ g shapeCasts_S1x2048_S2048))

/-- The reference's result. -/
def rOut (u x : FVec Ideal S16x2048x2048 .f32) (w : FVec Ideal S1x2048x2048 .f32) (g : FVec Ideal S1x2048 .f32) : FVec Ideal S32768x2048 .f32 :=
  shapeCast S32768x2048 (addf x (mulf (mulf (rProd u w) (rScale (rProd u w))) (rGain g))) shapeCasts_S16x2048x2048_S32768x2048

theorem rProd_apply (u : FVec Ideal S16x2048x2048 .f32) (w : FVec Ideal S1x2048x2048 .f32) (b : Fin 16) (n e : Fin 2048) :
    rProd u w (ix3 b n e) = ∑ k : Fin 2048, u (ix3 b n k) * w (ix3 0 k e) := by
  unfold rProd
  pointwise []

theorem rScale_apply (y : FVec Ideal S16x2048x2048 .f32) (b : Fin 16) (n d : Fin 2048) : rScale y (ix3 b n d) = rowScale (fun d => y (ix3 b n d)) := by
  unfold rScale rowScale
  pointwise []

theorem rGain_apply (g : FVec Ideal S1x2048 .f32) (b : Fin 16) (n d : Fin 2048) : rGain g (ix3 b n d) = g (ix2 0 d) := by
  unfold rGain
  pointwise []

theorem rOut_apply (u x : FVec Ideal S16x2048x2048 .f32) (w : FVec Ideal S1x2048x2048 .f32) (g : FVec Ideal S1x2048 .f32) (r : Fin 32768) (e : Fin 2048) :
    rOut u x w g (ix2 r e) = Cert.OutProjIdeal.Gen.entry (fun k => u (ix3 ⟨r.val / 2048, by omega⟩ ⟨r.val % 2048, by omega⟩ k))
      (fun d => x (ix3 ⟨r.val / 2048, by omega⟩ ⟨r.val % 2048, by omega⟩ d)) (fun k d => w (ix3 0 k d)) (fun d => g (ix2 0 d)) e := by
  refine (shapeCast_apply _ _ _ (ix3 ⟨r.val / 2048, by omega⟩ ⟨r.val % 2048, by omega⟩ e) ?_).trans ?_
  · rw [Shape.rowMajor_val_three, Shape.rowMajor_val_two]
    simp [ix2, ix3]
    omega
  · generalize (⟨r.val / 2048, _⟩ : Fin 16) = b
    generalize (⟨r.val % 2048, _⟩ : Fin 2048) = n
    show x (ix3 b n e) + rProd u w (ix3 b n e) * rScale (rProd u w) (ix3 b n e) * rGain g (ix3 b n e) = _
    rw [rScale_apply, rGain_apply]
    simp only [rProd_apply]
    rfl

end Cert.OutProjRefIdeal.Value

end
-- ==== Proof.OutProjClaims.lean ====
/- The output projection's claims: the frames, and the result against the reference. -/
module

public import proofs.«01_k».proof.Defs
public import proofs.«01_k».proof.Proof.Gen.OutProj.Frame
public import proofs.«01_k».proof.Proof.Gen.OutProjIdeal.Frame
public import proofs.«01_k».proof.Proof.OutProjVal
public import proofs.«01_k».proof.Proof.OutProjRef
public import Idealize.ShloMosaic.Lib.Quiescent

@[expose] public section

set_option maxRecDepth 16384

noncomputable section

namespace Cert.Proof

open Idealize.ShloMosaic Idealize.SL.Sem

theorem out_frame : quiescent_OutProj (hOutProj := Cert.OutProj.Gen.facts) := fun m ρ _ => Cert.OutProj.Gen.frame (F := Bits) m ρ

theorem out_ideal_frame : quiescent_OutProjIdeal (hOutProjIdeal := Cert.OutProjIdeal.Gen.facts) := fun m ρ _ => Cert.OutProjIdeal.Gen.frame (F := Ideal) m ρ

theorem out_ref_frame : quiescent_OutProjRefIdeal (hOutProjRefIdeal := Cert.OutProjRefIdeal.Gen.facts) := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

theorem out_preserves : preserves_OutProj_OutProjIdeal := trivial

open Cert.OutProjIdeal Cert.OutProjIdeal.Gen in
/-- The kernel's array is the reference's. -/
theorem out_arr_eq (m : (ℓ : Loc nD τ sig) → Buf (Elt Ideal) ℓ) (c : Dev nD) :
    ((dats m 0 c).arrAt 4 cfg0.N : FVec Ideal S32768x2048 .f32)
      = Cert.OutProjRefIdeal.Value.rOut (m ((c.tc : Thread nD τ).loc main_arg0)) (m ((c.tc : Thread nD τ).loc main_arg1)) (m ((c.tc : Thread nD τ).loc main_arg2)) (m ((c.tc : Thread nD τ).loc main_arg3)) := by
  funext i
  rw [show i = ix2 (i 0) (i 1) from funext fun a => by fin_cases a <;> rfl]
  exact (kernel_apply m c (i 0) (i 1)).trans (Cert.OutProjRefIdeal.Value.rOut_apply _ _ _ _ (i 0) (i 1)).symm

theorem out_algebraic : algebraic_OutProjIdeal_OutProjRefIdeal (hOutProjIdeal := Cert.OutProjIdeal.Gen.facts) (hOutProjRefIdeal := Cert.OutProjRefIdeal.Gen.facts) := by
  intro m ρ m' ρ' _ hagree
  refine ⟨fun c => (Cert.OutProjIdeal.Gen.dats m 0 c).arrAt 4 Cert.OutProjIdeal.cfg0.N, Cert.OutProjIdeal.Value.run_blocks m ρ,
    (θ_run _ _ _).mono (fun r h c => ?_) (Cert.OutProjRefIdeal.Value.run (F := Ideal) m' ρ')⟩
  obtain ⟨ho, hk⟩ := h c
  obtain ⟨a0, a1, a2, a3⟩ := hagree c
  refine ⟨ho.trans ?_, hk⟩
  refine Eq.trans ?_ (out_arr_eq m c).symm
  rw [a0, a1, a2, a3]
  rfl

end Cert.Proof

end
-- ==== Proof.InProjGroupVal.lean ====
/- Head group 1's projection call block by block, and its result array at an index. -/
module

public import proofs.«01_k».proof.Proof.Gen.InProjGroupIdeal.Value
public import Idealize.ShloMosaic.Lib.Pointwise
public import Idealize.ShloMosaic.Lib.Pipeline.Value
public import Idealize.ShloMosaic.Lib.Pipeline.ValueKit
public import Idealize.ShloMosaic.Lib.Claim

@[expose] public section

set_option maxRecDepth 16384

noncomputable section

namespace Cert.InProjGroupIdeal.Gen

open Idealize.ShloMosaic
open Idealize.ShloMosaic.Pipeline Idealize.ShloMosaic.TcCoe

variable {F : FTy → Type} [FloatOps F]

theorem zero_off : (![0, 0] : Fin 2 → ℕ) = fun _ => 0 := funext fun a => by fin_cases a <;> rfl

theorem out_eq (x0 : Vec F S1024x2048 .bf16) (x1 : Vec F S2048x1536 .bf16) : out0_2 x0 x1 = k0_pay1 x0 x1 := by
  unfold out0_2
  refine (View.canon_cons_unit_zero (S := S1024x1536) zero_off _ _ _).trans ?_
  exact congr (congrArg k0_pay1 (View.ld_unit_zero (S := S1024x2048) zero_off _ x0)) (View.ld_unit_zero (S := S2048x1536) zero_off _ x1)

/-- Row block `i` of the activations. -/
def hBlk (X : Vec F S32768x2048 .bf16) (i : ℕ) : Vec F S1024x2048 .bf16 := fun y =>
  X (ix2 (Fin.ofNat 32768 (1024 * i + (y 0).val)) (y 1))

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

variable (m : (ℓ : Loc nD τ sig) → Buf (Elt F) ℓ)

theorem iblk_0 (c : Dev nD) (t : Fin cfg0.N) : iblk m c 0 t = hBlk (V m c main_v8) t.val := by
  have ht : t.val < 32 := t.isLt
  funext y
  have h0 : (y 0).val < 1024 := (y 0).isLt
  have h1 : (y 1).val < 2048 := (y 1).isLt
  blk_simp [iblk]
  unfold hBlk
  refine congrArg (V m c main_v8) (funext fun a => Fin.ext ?_)
  fin_cases a
  · blk_simp [index0 t]
    simp [Fin.ofNat]
    omega
  · blk_simp [index0 t]
    simp

theorem iblk_1 (c : Dev nD) (t : Fin cfg0.N) : iblk m c 1 t = V m c main_v9 := by
  funext y
  blk_simp [iblk]
  refine congrArg (V m c main_v9) (funext fun a => Fin.ext ?_)
  fin_cases a <;> blk_simp [index1 t] <;> simp

/-- The result array at the end. -/
def finalZ (X : Vec F S32768x2048 .bf16) (W : Vec F S2048x1536 .bf16) : Vec F S32768x1536 .bf16 := fun i =>
  k0_pay1 (hBlk X ((i 0).val / 1024)) W (ix2 (Fin.ofNat 1024 (i 0).val) (i 1))

theorem final2 (c : Dev nD) : (dats m 0 c).arrAt 2 cfg0.N = finalZ (V m c main_v8) (V m c main_v9) := by
  refine (dats m 0 c).arrAt_eq_of_covers 2 _ (by decide +kernel) fun t hf y => ?_
  have ht : t.val < 32 := t.isLt
  have h0 : (y 0).val < 1024 := (y 0).isLt
  have h1 : (y 1).val < 1536 := (y 1).isLt
  unfold finalZ
  blk_simp
  rw [after0_2]
  simp only [out_eq, iblk_0, iblk_1, index2 t]
  have e0 : ((![t.val, 0] : Fin 2 → ℕ) 0 * 1024 + (y 0).val) / 1024 = t.val := by simp; omega
  rw [e0]
  refine congrArg _ (funext fun a => Fin.ext ?_)
  fin_cases a
  · simp [Fin.ofNat]; omega
  · simp [index2 t]

/-- One entry of a product. -/
def dotAt (x w : Fin 2048 → EReal) : EReal := ∑ k, x k * w k

theorem final_apply (X : FVec Ideal S32768x2048 .bf16) (W : FVec Ideal S2048x1536 .bf16) (r : Fin 32768) (n : Fin 1536) :
    (finalZ (F := Ideal) X W (ix2 r n) : EReal) = dotAt (fun k => X (ix2 r k)) (fun k => W (ix2 k n)) := by
  have hr : Fin.ofNat 32768 (1024 * (r.val / 1024) + r.val % 1024) = r := Fin.ext (by simp [Fin.ofNat]; omega)
  have hp : ∀ (x : FVec Ideal S1024x2048 .bf16) (w : FVec Ideal S2048x1536 .bf16) (a : Fin 1024) (b : Fin 1536),
      k0_pay1 x w (ix2 a b) = ∑ k : Fin 2048, x (ix2 a k) * w (ix2 k b) := fun x w a b => by
    pointwise [k0_pay1]
  refine (hp _ _ _ _).trans (Finset.sum_congr rfl fun k _ => ?_)
  exact congrArg (· * W (ix2 k n)) (congrArg (fun r => X (ix2 r k)) hr)

/-! ## The host code -/

/-- The column of the layer's weights that column `n` of the packed weights holds. -/
def natCol (n : Fin 1536) : Fin 6656 :=
  ⟨if n.val < 512 then n.val + 512 else if n.val < 1024 then n.val + 1536 else n.val + 2560,
    by have := n.isLt; split_ifs <;> omega⟩

/-- The position within its sequence of row `r` of the regrouped rows: residue classes modulo 4, one after the other. -/
def natPos (r : Fin 32768) : Fin 2048 := ⟨4 * (r.val % 512) + r.val % 2048 / 512, by omega⟩

/-- The sequence of row `r`. -/
def natSeq (r : Fin 32768) : Fin 16 := ⟨r.val / 2048, by omega⟩

section Host

variable (σ : Valuation τ sig (Elt Ideal))

/-- The contents after the three slices. -/
def sliced : Valuation τ sig (Elt Ideal) := StableHlo.after (hostOps0.take 5) σ

/-- The weights, in the narrow format. -/
def wArr (w : FVec Ideal S1x2048x6656 .f32) : FVec Ideal S2048x6656 .bf16 :=
  truncf .bf16 (shapeCast S2048x6656 w shapeCasts_S1x2048x6656_S2048x6656) bitsLt_bf16_f32

theorem sliced_v2 : sliced σ (Proc.devRef .tc main_v2)
    = extractStridedSlice S2048x512 ![0, 512] (wArr (σ (Proc.devRef .tc main_arg1))) slices_S2048x6656_S2048x512_0_512 := by
  unfold sliced
  simp only [List.take_succ_cons, List.take_zero, StableHlo.after_cons, StableHlo.after_nil]
  after_results_simp
  rfl

theorem sliced_v3 : sliced σ (Proc.devRef .tc main_v3)
    = extractStridedSlice S2048x512 ![0, 2048] (wArr (σ (Proc.devRef .tc main_arg1))) slices_S2048x6656_S2048x512_0_2048 := by
  unfold sliced
  simp only [List.take_succ_cons, List.take_zero, StableHlo.after_cons, StableHlo.after_nil]
  after_results_simp
  rfl

theorem sliced_v4 : sliced σ (Proc.devRef .tc main_v4)
    = extractStridedSlice S2048x512 ![0, 3584] (wArr (σ (Proc.devRef .tc main_arg1))) slices_S2048x6656_S2048x512_0_3584 := by
  unfold sliced
  simp only [List.take_succ_cons, List.take_zero, StableHlo.after_cons, StableHlo.after_nil]
  after_results_simp
  rfl

/-- The three column ranges side by side. -/
def pack (a b d : FVec Ideal S2048x512 .bf16) : FVec Ideal S2048x1536 .bf16 :=
  concatenate S2048x1536 1 [⟨S2048x512, a⟩, ⟨S2048x512, b⟩, ⟨S2048x512, d⟩]
    concatenates_S2048x512_S2048x512_S2048x512_S2048x1536_d1

theorem after_v9 : StableHlo.after hostOps0 σ (Proc.devRef .tc main_v9)
    = pack (sliced σ (Proc.devRef .tc main_v2)) (sliced σ (Proc.devRef .tc main_v3)) (sliced σ (Proc.devRef .tc main_v4)) := by
  simp only [StableHlo.after_cons, StableHlo.after_nil]
  after_results_simp
  rfl

/-- The activations regrouped by residue class. -/
def regroup (x : FVec Ideal S16x2048x2048 .f32) : FVec Ideal S32768x2048 .bf16 :=
  shapeCast S32768x2048 (transpose S16x4x512x2048 [0, 2, 1, 3]
    (shapeCast S16x512x4x2048 (truncf (F := Ideal) .bf16 x bitsLt_bf16_f32 : FVec Ideal S16x2048x2048 .bf16) shapeCasts_S16x2048x2048_S16x512x4x2048)
    transposes_S16x512x4x2048_S16x4x512x2048_0_2_1_3) shapeCasts_S16x4x512x2048_S32768x2048

theorem after_v8 : StableHlo.after hostOps0 σ (Proc.devRef .tc main_v8) = regroup (σ (Proc.devRef .tc main_arg0)) := by
  simp only [StableHlo.after_cons, StableHlo.after_nil]
  after_results_simp
  rfl

end Host

theorem pack_apply (w : FVec Ideal S1x2048x6656 .f32) (k : Fin 2048) (n : Fin 1536) :
    pack (extractStridedSlice S2048x512 ![0, 512] (wArr w) slices_S2048x6656_S2048x512_0_512)
      (extractStridedSlice S2048x512 ![0, 2048] (wArr w) slices_S2048x6656_S2048x512_0_2048)
      (extractStridedSlice S2048x512 ![0, 3584] (wArr w) slices_S2048x6656_S2048x512_0_3584) (ix2 k n) = w (ix3 0 k (natCol n)) := by
  pointwise [pack, wArr]
  have hn := n.isLt
  split_ifs <;> refine congrArg (fun f => w (ix3 0 k f)) (Fin.ext ?_) <;> simp only [natCol] <;> split_ifs <;> omega

theorem rows_apply (x : FVec Ideal S16x2048x2048 .f32) (r : Fin 32768) (d : Fin 2048) :
    regroup x (ix2 r d) = x (ix3 (natSeq r) (natPos r) d) := by
  unfold regroup
  refine (shapeCast_apply _ _ _ (ix4 (natSeq r) ⟨r.val % 2048 / 512, by omega⟩ ⟨r.val % 512, by omega⟩ d) ?_).trans ?_
  · rw [Shape.rowMajor_val_four, Shape.rowMajor_val_two]
    simp [ix2, ix4, natSeq]
    omega
  · pointwise []
    exact congrArg (fun p => x (ix3 (natSeq r) p d)) (Fin.ext (by simp only [natPos]; omega))

/-- The kernel's array at a row and a column, from the arguments. -/
theorem kernel_apply (m : (ℓ : Loc nD τ sig) → Buf (Elt Ideal) ℓ) (c : Dev nD) (r : Fin 32768) (n : Fin 1536) :
    ((dats m 0 c).arrAt 2 cfg0.N : FVec Ideal S32768x1536 .bf16) (ix2 r n)
      = dotAt (fun k => (m ((c.tc : Thread nD τ).loc main_arg0) : FVec Ideal S16x2048x2048 .f32) (ix3 (natSeq r) (natPos r) k))
        (fun k => (m ((c.tc : Thread nD τ).loc main_arg1) : FVec Ideal S1x2048x6656 .f32) (ix3 0 k (natCol n))) := by
  have h0 := after_v8 (fun b => m (c, b))
  have h1 := after_v9 (fun b => m (c, b))
  rw [sliced_v2, sliced_v3, sliced_v4] at h1
  refine (congrFun (final2 m c) (ix2 r n)).trans ((final_apply _ _ r n).trans ?_)
  refine congr (congrArg dotAt (funext fun k => ?_)) (funext fun k => ?_)
  · exact (congrFun h0 (ix2 r k)).trans (rows_apply _ r k)
  · exact (congrFun h1 (ix2 k n)).trans (pack_apply _ k n)

end Cert.InProjGroupIdeal.Gen

end
-- ==== Proof.InProjGroupRef.lean ====
/- The reference's group 1 projection at an index. -/
module

public import proofs.«01_k».proof.Proof.Gen.InProjGroupRefIdeal.Run
public import proofs.«01_k».proof.Proof.InProjGroupVal
public import Idealize.ShloMosaic.Lib.Pipeline.Value

@[expose] public section

set_option maxRecDepth 16384

noncomputable section

namespace Cert.InProjGroupRefIdeal.Value

open Cert.InProjGroupRefIdeal Cert.InProjGroupRefIdeal.Gen Idealize.ShloMosaic

/-- The whole projection. -/
def rLin (h : FVec Ideal S16x2048x2048 .f32) (w : FVec Ideal S1x2048x6656 .f32) : FVec Ideal S16x2048x6656 .f32 :=
  Host.dotGeneral dot_S16x2048x2048_S2048x6656_S16x2048x6656_2_0_01_1_n_n none h (shapeCast S2048x6656 w shapeCasts_S1x2048x6656_S2048x6656)

/-- The three column ranges side by side. -/
def rPick (z : FVec Ideal S16x2048x6656 .f32) : FVec Ideal S16x2048x1536 .f32 :=
  concatenate S16x2048x1536 2 [⟨S16x2048x512, extractStridedSlice S16x2048x512 ![0, 0, 512] z slices_S16x2048x6656_S16x2048x512_0_0_512⟩,
    ⟨S16x2048x512, extractStridedSlice S16x2048x512 ![0, 0, 2048] z slices_S16x2048x6656_S16x2048x512_0_0_2048⟩,
    ⟨S16x2048x512, extractStridedSlice S16x2048x512 ![0, 0, 3584] z slices_S16x2048x6656_S16x2048x512_0_0_3584⟩]
    concatenates_S16x2048x512_S16x2048x512_S16x2048x512_S16x2048x1536_d2

/-- The rows regrouped by residue class. -/
def rGroup (z : FVec Ideal S16x2048x1536 .f32) : FVec Ideal S32768x1536 .f32 :=
  shapeCast S32768x1536 (transpose S16x4x512x1536 [0, 2, 1, 3] (shapeCast S16x512x4x1536 z shapeCasts_S16x2048x1536_S16x512x4x1536)
    transposes_S16x512x4x1536_S16x4x512x1536_0_2_1_3) shapeCasts_S16x4x512x1536_S32768x1536

/-- The reference's result. -/
def rOut (h : FVec Ideal S16x2048x2048 .f32) (w : FVec Ideal S1x2048x6656 .f32) : FVec Ideal S32768x1536 .bf16 :=
  truncf .bf16 (rGroup (rPick (rLin h w))) bitsLt_bf16_f32

theorem rLin_apply (h : FVec Ideal S16x2048x2048 .f32) (w : FVec Ideal S1x2048x6656 .f32) (b : Fin 16) (n : Fin 2048) (f : Fin 6656) :
    rLin h w (ix3 b n f) = ∑ k : Fin 2048, h (ix3 b n k) * w (ix3 0 k f) := by
  unfold rLin
  pointwise []

theorem rPick_apply (z : FVec Ideal S16x2048x6656 .f32) (b : Fin 16) (n : Fin 2048) (f : Fin 1536) :
    rPick z (ix3 b n f) = z (ix3 b n (Cert.InProjGroupIdeal.Gen.natCol f)) := by
  pointwise [rPick]
  have hf := f.isLt
  split_ifs <;> refine congrArg (fun f => z (ix3 b n f)) (Fin.ext ?_) <;> simp only [Cert.InProjGroupIdeal.Gen.natCol] <;> split_ifs <;> omega

open Cert.InProjGroupIdeal.Gen (dotAt natCol natSeq natPos) in
theorem rGroup_apply (z : FVec Ideal S16x2048x1536 .f32) (r : Fin 32768) (n : Fin 1536) :
    rGroup z (ix2 r n) = z (ix3 (natSeq r) (natPos r) n) := by
  unfold rGroup
  refine (shapeCast_apply _ _ _ (ix4 (natSeq r) ⟨r.val % 2048 / 512, by omega⟩ ⟨r.val % 512, by omega⟩ n) ?_).trans ?_
  · rw [Shape.rowMajor_val_four, Shape.rowMajor_val_two]
    simp [ix2, ix4, natSeq]
    omega
  · pointwise []
    exact congrArg (fun p => z (ix3 (natSeq r) p n)) (Fin.ext (by simp only [natPos]; omega))

/-- The last cast at an index. -/
theorem narrow_apply (z : FVec Ideal S32768x1536 .f32) (i : S32768x1536.Idx) : (truncf .bf16 z bitsLt_bf16_f32 i : EReal) = z i := rfl

open Cert.InProjGroupIdeal.Gen (dotAt natCol natSeq natPos) in
theorem rPickLin_apply (h : FVec Ideal S16x2048x2048 .f32) (w : FVec Ideal S1x2048x6656 .f32) (b : Fin 16) (p : Fin 2048) (n : Fin 1536) :
    rPick (rLin h w) (ix3 b p n) = dotAt (fun k => h (ix3 b p k)) (fun k => w (ix3 0 k (natCol n))) :=
  (rPick_apply (rLin h w) b p n).trans (rLin_apply h w b p (natCol n))

open Cert.InProjGroupIdeal.Gen (dotAt natCol natSeq natPos) in
theorem rOut_apply (h : FVec Ideal S16x2048x2048 .f32) (w : FVec Ideal S1x2048x6656 .f32) (r : Fin 32768) (n : Fin 1536) :
    (rOut h w (ix2 r n) : EReal) = dotAt (fun k => h (ix3 (natSeq r) (natPos r) k)) (fun k => w (ix3 0 k (natCol n))) := by
  unfold rOut
  refine (narrow_apply (rGroup (rPick (rLin h w))) (ix2 r n)).trans ?_
  refine (rGroup_apply (rPick (rLin h w)) r n).trans ?_
  exact rPickLin_apply h w (natSeq r) (natPos r) n

end Cert.InProjGroupRefIdeal.Value

end
-- ==== Proof.InProjGroupClaims.lean ====
/- Head group 1's projection call's claims: the frames, and the result against the reference. -/
module

public import proofs.«01_k».proof.Defs
public import proofs.«01_k».proof.Proof.Gen.InProjGroup.Frame
public import proofs.«01_k».proof.Proof.Gen.InProjGroupIdeal.Frame
public import proofs.«01_k».proof.Proof.InProjGroupVal
public import proofs.«01_k».proof.Proof.InProjGroupRef
public import Idealize.ShloMosaic.Lib.Quiescent

@[expose] public section

set_option maxRecDepth 16384

noncomputable section

namespace Cert.Proof

open Idealize.ShloMosaic Idealize.SL.Sem

theorem in_group_frame : quiescent_InProjGroup (hInProjGroup := Cert.InProjGroup.Gen.facts) := fun m ρ _ => Cert.InProjGroup.Gen.frame (F := Bits) m ρ

theorem in_group_ideal_frame : quiescent_InProjGroupIdeal (hInProjGroupIdeal := Cert.InProjGroupIdeal.Gen.facts) := fun m ρ _ => Cert.InProjGroupIdeal.Gen.frame (F := Ideal) m ρ

theorem in_group_ref_frame : quiescent_InProjGroupRefIdeal (hInProjGroupRefIdeal := Cert.InProjGroupRefIdeal.Gen.facts) := fun m ρ _ =>
  (θ_run Cert.InProjGroupRefIdeal.defs _ _).mono
    (fun r h => ⟨fun c => (h c).2, Idealize.ShloMosaic.sem_eq_zero_of_no_sems (by decide) r.2⟩)
    (Cert.InProjGroupRefIdeal.Value.run (F := Ideal) m ρ)

theorem in_group_preserves : preserves_InProjGroup_InProjGroupIdeal := trivial

open Cert.InProjGroupIdeal Cert.InProjGroupIdeal.Gen in
/-- The kernel's array is the reference's. -/
theorem in_group_out_eq (m : (ℓ : Loc nD τ sig) → Buf (Elt Ideal) ℓ) (c : Dev nD) :
    ((dats m 0 c).arrAt 2 cfg0.N : FVec Ideal S32768x1536 .bf16)
      = Cert.InProjGroupRefIdeal.Value.rOut (m ((c.tc : Thread nD τ).loc main_arg0)) (m ((c.tc : Thread nD τ).loc main_arg1)) := by
  funext i
  rw [show i = ix2 (i 0) (i 1) from funext fun a => by fin_cases a <;> rfl]
  exact (kernel_apply m c (i 0) (i 1)).trans (Cert.InProjGroupRefIdeal.Value.rOut_apply _ _ (i 0) (i 1)).symm

theorem in_group_algebraic : algebraic_InProjGroupIdeal_InProjGroupRefIdeal (hInProjGroupIdeal := Cert.InProjGroupIdeal.Gen.facts) (hInProjGroupRefIdeal := Cert.InProjGroupRefIdeal.Gen.facts) := by
  intro m ρ m' ρ' _ hagree
  refine ⟨fun c => (Cert.InProjGroupIdeal.Gen.dats m 0 c).arrAt 2 Cert.InProjGroupIdeal.cfg0.N, Cert.InProjGroupIdeal.Value.run_blocks m ρ,
    (θ_run _ _ _).mono (fun r h c => ?_) (Cert.InProjGroupRefIdeal.Value.run (F := Ideal) m' ρ')⟩
  obtain ⟨ho, hk⟩ := h c
  obtain ⟨a0, a1⟩ := hagree c
  refine ⟨ho.trans ?_, hk⟩
  refine Eq.trans ?_ (in_group_out_eq m c).symm
  rw [a0, a1]
  rfl

end Cert.Proof

end
-- ==== Proof.FfnSampleBlock.lean ====
/- What one grid point of the feed-forward call at the sample batch's shapes leaves in its scratch and in its output
   block: the same blocks as at the prompt batch's shapes. -/
module

public import proofs.«01_k».proof.Proof.FfnVal
public import proofs.«01_k».proof.Proof.Gen.FfnSampleIdeal.Value
public import Idealize.ShloMosaic.Lib.Pointwise
public import Idealize.ShloMosaic.Lib.Pipeline.CanonAppend
public import Idealize.ShloMosaic.Lib.WholeRead
public import Idealize.ShloMosaic.Lib.ValueIdxCore

@[expose] public section

set_option maxRecDepth 16384

noncomputable section

namespace Cert.FfnSampleIdeal.Gen

open Idealize.ShloMosaic Idealize.ShloMosaic.Pipeline
open Cert.FfnIdeal.Gen (rows16 preChunk postChunk blockH blockC rect_val emb_whole canon_whole emb_rows read_chunk IsPre Upto)

variable {F : FTy → Type} [FloatOps F]

/-- A load of the whole of a staged block. -/
theorem load_all {d0 d1 : ℕ} {e : EltTy} {arg : Memref sig .tc .vmem ⟨2, ![d0, d1]⟩ e} (harg : arg.IsWhole) (x : Vec F ⟨2, ![d0, d1]⟩ e)
    (inb : ∀ a, (![0, 0] : Fin 2 → ℕ) a + (![d0, d1] : Fin 2 → ℕ) a ≤ (⟨2, ![d0, d1]⟩ : Shape).size a) :
    View.readAt (Elt F) arg.view (Rect.unit (s := ⟨2, ![d0, d1]⟩) ![0, 0] ![d0, d1] inb).toLoadRect (harg.unread x) = x :=
  funext fun j => (harg.readAt_unread _ _ j).trans (congrArg x (emb_whole inb j))

theorem load_rows {arg : Memref sig .tc .vmem S1024x2048 .f32} (harg : arg.IsWhole) (x0 : Vec F S1024x2048 .f32) (n o : ℕ) (ho : o = 16 * n)
    (inb : ∀ a, (![o, 0] : Fin 2 → ℕ) a + S16x2048.size a ≤ S1024x2048.size a) :
    View.readAt (Elt F) arg.view (Rect.unit (s := S1024x2048) ![o, 0] S16x2048.size inb).toLoadRect (harg.unread x0) = rows16 x0 n :=
  funext fun j => (harg.readAt_unread _ _ j).trans (congrArg x0 (emb_rows n o ho inb j))

theorem isPre (arg2 : Memref sig .tc .vmem S1024x2048 .f32) (harg2 : arg2.IsWhole) (arg3 : Memref sig .tc .vmem S1x2048 .f32) (harg3 : arg3.IsWhole)
    (x0 : Vec F S1024x2048 .f32) (x1 : Vec F S1x2048 .f32) (o : ℕ) (ho : 16 * (o / 16) = o) (inb : ∀ a, (![o, 0] : Fin 2 → ℕ) a + S16x2048.size a ≤ S1024x2048.size a) :
    IsPre x0 x1 ⟨Rect.unit (s := S1024x2048) ![o, 0] S16x2048.size inb,
      preChunk (View.readAt (Elt F) arg3.view (Rect.unit (s := S1x2048) ![0, 0] S1x2048.size inb_S1x2048_S1x2048_0_0).toLoadRect (harg3.unread x1))
        (View.readAt (Elt F) arg2.view (Rect.unit (s := S1024x2048) ![o, 0] S16x2048.size inb).toLoadRect (harg2.unread x0))⟩ := by
  refine ⟨o, o / 16, ho.symm, inb, ?_⟩
  rw [load_rows harg2 x0 (o / 16) o ho.symm inb, show View.readAt (Elt F) arg3.view (Rect.unit (s := S1x2048) ![0, 0] S1x2048.size inb_S1x2048_S1x2048_0_0).toLoadRect (harg3.unread x1) = x1 from load_all harg3 x1 _]

theorem pre_pieces (c : Dev nD) (arg2 : Memref sig .tc .vmem S1024x2048 .f32) (harg2 : arg2.IsWhole) (arg3 : Memref sig .tc .vmem S1x2048 .f32) (harg3 : arg3.IsWhole)
    (x0 : Vec F S1024x2048 .f32) (x1 : Vec F S1x2048 .f32) : ∀ p ∈ kernelRun0_A.sl.HS0_64 c arg2 harg2 arg3 harg3 x0 x1, IsPre x0 x1 p := by
  unfold kernelRun0_A.sl.HS0_64
  iterate 64 refine List.forall_mem_cons.mpr ⟨isPre arg2 harg2 arg3 harg3 x0 x1 _ rfl _, ?_⟩
  exact List.forall_mem_nil _

theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    View.canon (kernelRun0_A.sl.HS0_64 c arg2 harg2 arg3 harg3 x0 x1) = blockH x0 x1 := by
  funext y
  have hc := scover0_A_0 c i arg2 harg2 arg3 harg3 arg4 harg4 arg5 harg5 arg6 harg6 arg7 harg7 arg8 harg8 arg9 harg9 hc0 hc1 hc2 x0 x1 x2 x3 x4 x5 y
  unfold kernelRun0_A at hc
  rw [← List.append_nil (kernelRun0_A.sl.HS0_64 c arg2 harg2 arg3 harg3 x0 x1)]
  refine View.canon_append_of_pieces _ [] _ (fun p hp x => ?_) y hc
  obtain ⟨o, n, ho, inb, rfl⟩ := pre_pieces c arg2 harg2 arg3 harg3 x0 x1 p hp
  exact read_chunk (fun n => preChunk x1 (rows16 x0 n)) n o ho inb x

theorem sout_A_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    sout0_A_0 c i arg2 harg2 arg3 harg3 arg4 harg4 arg5 harg5 arg6 harg6 arg7 harg7 arg8 harg8 arg9 harg9 hc0 hc1 hc2 x0 x1 x2 x3 x4 x5 = blockH x0 x1 := by
  have h := scratch_A c i arg2 harg2 arg3 harg3 arg4 harg4 arg5 harg5 arg6 harg6 arg7 harg7 arg8 harg8 arg9 harg9 hc0 hc1 hc2 x0 x1 x2 x3 x4 x5
  refine Eq.trans (View.read_writes_junk_eq_canon _ _) (Eq.trans ?_ h)
  unfold kernelRun0_A
  rfl

theorem out_A_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) :
    out0_A_6 c i arg2 harg2 arg3 harg3 arg4 harg4 arg5 harg5 arg6 harg6 arg7 harg7 arg8 harg8 arg9 harg9 hc0 hc1 hc2 x0 x1 x2 x3 x4 x5 = k0_pay1 (blockH x0 x1) (k0_pay108 (blockH x0 x1) x2) x3 x4 := by
  have hv : kernelRun0_A.sl.v1163 c arg2 harg2 arg3 harg3 arg9 x0 x1 = blockH x0 x1 := by
    refine Eq.trans (View.readCov_eq_canon' _ _ _) (funext fun j => ?_)
    exact (congrArg (View.canon _) (emb_whole _ j)).trans (congrFun (scratch_A c i arg2 harg2 arg3 harg3 arg4 harg4 arg5 harg5 arg6 harg6 arg7 harg7 arg8 harg8 arg9 harg9 hc0 hc1 hc2 x0 x1 x2 x3 x4 x5) j)
  refine Eq.trans (View.read_writes_junk_eq_canon _ _) ?_
  unfold kernelRun0_A kernelRun0_A.sl.r_38 kernelRun0_A.sl.r_39
  dsimp only
  rw [hv, show View.readAt (Elt F) arg4.view (Rect.unit (s := S2048x512) ![0, 0] S2048x512.size inb_S2048x512_S2048x512_0_0).toLoadRect (harg4.unread x2) = x2 from load_all harg4 x2 _,
    show View.readAt (Elt F) arg5.view (Rect.unit (s := S2048x512) ![0, 0] S2048x512.size inb_S2048x512_S2048x512_0_0).toLoadRect (harg5.unread x3) = x3 from load_all harg5 x3 _,
    show View.readAt (Elt F) arg6.view (Rect.unit (s := S512x2048) ![0, 0] S512x2048.size inb_S512x2048_S512x2048_0_0).toLoadRect (harg6.unread x4) = x4 from load_all harg6 x4 _]
  exact canon_whole (d0 := 1024) (d1 := 2048) _ _ _

theorem out_B_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (hc2 : ¬cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 hc2 x0 x1 x2 x3 x4 x5 xo6 xs0 = k0_pay2 xo6 xs0 x2 x3 x4 := by
  refine Eq.trans (View.read_writes_junk_eq_canon _ _) ?_
  unfold kernelRun0_B
  dsimp only
  rw [show View.readAt (Elt F) arg8.view (Rect.unit (s := S1024x2048) ![0, 0] S1024x2048.size inb_S1024x2048_S1024x2048_0_0).toLoadRect (harg8.unread xo6) = xo6 from load_all harg8 xo6 _,
    show View.readAt (Elt F) arg9.view (Rect.unit (s := S1024x2048) ![0, 0] S1024x2048.size inb_S1024x2048_S1024x2048_0_0).toLoadRect (harg9.unread xs0) = xs0 from load_all harg9 xs0 _,
    show View.readAt (Elt F) arg4.view (Rect.unit (s := S2048x512) ![0, 0] S2048x512.size inb_S2048x512_S2048x512_0_0).toLoadRect (harg4.unread x2) = x2 from load_all harg4 x2 _,
    show View.readAt (Elt F) arg5.view (Rect.unit (s := S2048x512) ![0, 0] S2048x512.size inb_S2048x512_S2048x512_0_0).toLoadRect (harg5.unread x3) = x3 from load_all harg5 x3 _,
    show View.readAt (Elt F) arg6.view (Rect.unit (s := S512x2048) ![0, 0] S512x2048.size inb_S512x2048_S512x2048_0_0).toLoadRect (harg6.unread x4) = x4 from load_all harg6 x4 _]
  exact canon_whole (d0 := 1024) (d1 := 2048) _ _ _

theorem upto_step (arg2 : Memref sig .tc .vmem S1024x2048 .f32) (harg2 : arg2.IsWhole) (arg7 : Memref sig .tc .vmem S1x2048 .f32) (harg7 : arg7.IsWhole)
    (arg8 : Memref sig .tc .vmem S1024x2048 .f32) (x0 : Vec F S1024x2048 .f32) (x5 : Vec F S1x2048 .f32) (u : Vec F S1024x2048 .f32) (L : List (View.Piece (Elt F) S1024x2048 .f32))
    (o n : ℕ) (ho : o = 16 * n) (inb : ∀ a, (![o, 0] : Fin 2 → ℕ) a + S16x2048.size a ≤ S1024x2048.size a) (hL : Upto (blockC x0 x5 u) u n L) :
    Upto (blockC x0 x5 u) u (n + 1) (⟨Rect.unit (s := S1024x2048) ![o, 0] S16x2048.size inb,
      postChunk (View.readAt (Elt F) arg7.view (Rect.unit (s := S1x2048) ![0, 0] S1x2048.size inb_S1x2048_S1x2048_0_0).toLoadRect (harg7.unread x5))
        (View.readAt (Elt F) arg2.view (Rect.unit (s := S1024x2048) ![o, 0] S16x2048.size inb).toLoadRect (harg2.unread x0))
        (arg8.view.readCov L (Rect.unit (s := S1024x2048) ![o, 0] S16x2048.size inb).toLoadRect)⟩ :: L) := by
  have hG : ∀ x : S16x2048.Idx, postChunk x5 (rows16 x0 n) (rows16 u n) x = blockC x0 x5 u ((Rect.unit (s := S1024x2048) ![o, 0] S16x2048.size inb).emb x) := fun x =>
    read_chunk (F := F) (e := .f32) (fun n => postChunk x5 (rows16 x0 n) (rows16 u n)) n o ho inb x
  have hb : 16 * n + 16 ≤ 1024 := by
    have h0 := inb 0
    simp [S1024x2048, S16x2048] at h0
    omega
  have hu : arg8.view.readCov L (Rect.unit (s := S1024x2048) ![o, 0] S16x2048.size inb).toLoadRect = rows16 u n := by
    refine Eq.trans (View.readCov_eq_canon' _ _ _) (funext fun (j : S16x2048.Idx) => ?_)
    refine (congrArg (View.canon L) (emb_rows n o ho inb j)).trans ((hL _).trans (if_neg ?_))
    have hj : (j 0).val < 16 := (j 0).isLt
    simp only [ix2, Fin.ofNat, Matrix.cons_val_zero]
    omega
  rw [hu, load_rows harg2 x0 n o ho inb, show View.readAt (Elt F) arg7.view (Rect.unit (s := S1x2048) ![0, 0] S1x2048.size inb_S1x2048_S1x2048_0_0).toLoadRect (harg7.unread x5) = x5 from load_all harg7 x5 _]
  intro y
  have hy1 : (y 0).val < 1024 := (y 0).isLt
  by_cases hm : y ∈ (Rect.unit (s := S1024x2048) ![o, 0] S16x2048.size inb).set
  · obtain ⟨x, rfl⟩ := (Rect.unit (s := S1024x2048) ![o, 0] S16x2048.size inb).exists_idx_of_mem hm
    refine (View.canon_cons_emb _ _ _ x).trans ?_
    have hx : (x 0).val < 16 := (x 0).isLt
    have h0 : ((Rect.unit (s := S1024x2048) ![o, 0] S16x2048.size inb).idx x 0).val = o + (x 0).val := rect_val (s := S1024x2048) _ _ inb x 0
    rw [if_pos (by omega)]
    exact hG x
  · refine (View.canon_cons_of_not_mem (⟨Rect.unit (s := S1024x2048) ![o, 0] S16x2048.size inb, postChunk x5 (rows16 x0 n) (rows16 u n)⟩ : View.Piece (Elt F) S1024x2048 .f32) L hm).trans ?_
    rw [hL y]
    have hno : ¬ (16 * n ≤ (y 0).val ∧ (y 0).val < 16 * n + 16) := by
      rintro ⟨h1, h2⟩
      refine hm ?_
      have hy : y = (Rect.unit (s := S1024x2048) ![o, 0] S16x2048.size inb).emb (ix2 (Fin.ofNat 16 ((y 0).val - 16 * n)) (y 1) : S16x2048.Idx) := by
        rw [emb_rows n o ho inb]
        funext a
        match a with
        | ⟨0, _⟩ => exact Fin.ext (by simp only [ix2, Fin.ofNat, Matrix.cons_val_zero]; show (y 0).val = _; omega)
        | ⟨1, _⟩ => rfl
      rw [hy]
      exact (Rect.unit (s := S1024x2048) ![o, 0] S16x2048.size inb).idx_mem _
    by_cases hlt : (y 0).val < 16 * n
    · rw [if_pos hlt, if_pos (by omega)]
    · rw [if_neg hlt, if_neg (by omega)]

theorem upto_0 (c : Dev nD) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg8 : Memref sig .tc .vmem S1024x2048 .f32) (harg8 : arg8.IsWhole) (arg9 : Memref sig .tc .vmem S1024x2048 .bf16) (harg9 : arg9.IsWhole) (x2 x3 : Vec F S2048x512 .bf16) (x4 : Vec F S512x2048 .bf16) (xo6 : Vec F S1024x2048 .f32) (xs0 : Vec F S1024x2048 .bf16) (G : Vec F S1024x2048 .f32) :
    Upto G (k0_pay2 xo6 xs0 x2 x3 x4) 0 (kernelRun0_C.sl.H6_1 c arg4 harg4 arg5 harg5 arg6 harg6 arg8 harg8 arg9 harg9 x2 x3 x4 xo6 xs0) := by
  intro y
  unfold kernelRun0_C.sl.H6_1
  rw [show View.readAt (Elt F) arg8.view (Rect.unit (s := S1024x2048) ![0, 0] S1024x2048.size inb_S1024x2048_S1024x2048_0_0).toLoadRect (harg8.unread xo6) = xo6 from load_all harg8 xo6 _,
    show View.readAt (Elt F) arg9.view (Rect.unit (s := S1024x2048) ![0, 0] S1024x2048.size inb_S1024x2048_S1024x2048_0_0).toLoadRect (harg9.unread xs0) = xs0 from load_all harg9 xs0 _,
    show View.readAt (Elt F) arg4.view (Rect.unit (s := S2048x512) ![0, 0] S2048x512.size inb_S2048x512_S2048x512_0_0).toLoadRect (harg4.unread x2) = x2 from load_all harg4 x2 _,
    show View.readAt (Elt F) arg5.view (Rect.unit (s := S2048x512) ![0, 0] S2048x512.size inb_S2048x512_S2048x512_0_0).toLoadRect (harg5.unread x3) = x3 from load_all harg5 x3 _,
    show View.readAt (Elt F) arg6.view (Rect.unit (s := S512x2048) ![0, 0] S512x2048.size inb_S512x2048_S512x2048_0_0).toLoadRect (harg6.unread x4) = x4 from load_all harg6 x4 _, if_neg (by omega)]
  exact congrFun (canon_whole (d0 := 1024) (d1 := 2048) _ _ _) y

theorem upto_all (c : Dev nD) (arg2 : Memref sig .tc .vmem S1024x2048 .f32) (harg2 : arg2.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (x0 : Vec F S1024x2048 .f32) (x2 x3 : Vec F S2048x512 .bf16) (x4 : Vec F S512x2048 .bf16) (x5 : Vec F S1x2048 .f32) (xo6 : Vec F S1024x2048 .f32) (xs0 : Vec F S1024x2048 .bf16) :
    Upto (blockC x0 x5 (k0_pay2 xo6 xs0 x2 x3 x4)) (k0_pay2 xo6 xs0 x2 x3 x4) 63 (kernelRun0_C.sl.H6_64 c arg2 harg2 arg4 harg4 arg5 harg5 arg6 harg6 arg7 harg7 arg8 harg8 arg9 harg9 x0 x2 x3 x4 x5 xo6 xs0) := by
  iterate 63 refine upto_step arg2 harg2 arg7 harg7 arg8 x0 x5 (k0_pay2 xo6 xs0 x2 x3 x4) _ _ _ rfl _ ?_
  exact upto_0 c arg4 harg4 arg5 harg5 arg6 harg6 arg8 harg8 arg9 harg9 x2 x3 x4 xo6 xs0 _

theorem out_C_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (hc2 : cond0_2 i)
    (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_C_6 c i arg2 harg2 arg3 harg3 arg4 harg4 arg5 harg5 arg6 harg6 arg7 harg7 arg8 harg8 arg9 harg9 hc0 hc1 hc2 x0 x1 x2 x3 x4 x5 xo6 xs0 = blockC x0 x5 (k0_pay2 xo6 xs0 x2 x3 x4) := by
  refine Eq.trans (View.read_writes_junk_eq_canon _ _) (funext fun y => ?_)
  have h := upto_step arg2 harg2 arg7 harg7 arg8 x0 x5 (k0_pay2 xo6 xs0 x2 x3 x4) _ 1008 63 rfl inb_S1024x2048_S16x2048_1008_0 (upto_all c arg2 harg2 arg4 harg4 arg5 harg5 arg6 harg6 arg7 harg7 arg8 harg8 arg9 harg9 x0 x2 x3 x4 x5 xo6 xs0) y
  have hy : (y 0).val < 1024 := (y 0).isLt
  rw [if_pos (by omega)] at h
  refine Eq.trans ?_ h
  unfold kernelRun0_C
  rfl

end Cert.FfnSampleIdeal.Gen

end
-- ==== Proof.FfnSampleVal.lean ====
/- The feed-forward call at the sample batch's shapes: its points one after the other, its result array, and the array at
   an index. The partial sums are the ones of the prompt batch's call, on the rows of an array twice as long. -/
module

public import proofs.«01_k».proof.Proof.FfnSampleBlock
public import proofs.«01_k».proof.Proof.FfnEntry
public import Idealize.ShloMosaic.Lib.Pipeline.Value
public import Idealize.ShloMosaic.Lib.Pipeline.ValueKit
public import Idealize.ShloMosaic.Lib.Claim

@[expose] public section

set_option maxRecDepth 16384

noncomputable section

namespace Cert.FfnSampleIdeal.Gen

open Idealize.ShloMosaic
open Idealize.ShloMosaic.Pipeline Idealize.ShloMosaic.TcCoe
open Idealize.SL.Sem
open Cert.FfnIdeal.Gen (blockH blockC xBlk wBlk oBlk partSum leftAt xRow gRow scale_apply wIn_apply wOut_apply)

variable {F : FTy → Type} [FloatOps F]

/-- The rows twice over: as many as the prompt batch has. -/
def twice (X : Vec F S16384x2048 .f32) : Vec F Cert.FfnIdeal.S32768x2048 .f32 := fun y =>
  X (ix2 (Fin.ofNat 16384 (y 0).val) (y 1))

theorem index0 : ∀ t : Fin grid0.N, win0_0.index t = ![t.val / 11, 0] := by decide +kernel
theorem index1 : ∀ t : Fin grid0.N, win0_1.index t = ![0, 0] := by decide +kernel
theorem index2 : ∀ t : Fin grid0.N, win0_2.index t = ![0, t.val % 11] := by decide +kernel
theorem index3 : ∀ t : Fin grid0.N, win0_3.index t = ![0, t.val % 11 + 11] := by decide +kernel
theorem index4 : ∀ t : Fin grid0.N, win0_4.index t = ![t.val % 11, 0] := by decide +kernel
theorem index5 : ∀ t : Fin grid0.N, win0_5.index t = ![0, 0] := by decide +kernel

variable (m : (ℓ : Loc nD τ sig) → Buf (Elt F) ℓ)

theorem iblk_0 (c : Dev nD) (t : Fin cfg0.N) : iblk m c 0 t = xBlk (twice (V m c main_v0)) (t.val / 11) := by
  have ht : t.val < 176 := t.isLt
  funext y
  have h0 : (y 0).val < 1024 := (y 0).isLt
  have h1 : (y 1).val < 2048 := (y 1).isLt
  blk_simp [iblk]
  unfold xBlk twice
  refine congrArg (V m c main_v0) (funext fun a => Fin.ext ?_)
  fin_cases a
  · blk_simp [index0 t]
    simp [Fin.ofNat]
    omega
  · blk_simp [index0 t]
    simp

theorem iblk_1 (c : Dev nD) (t : Fin cfg0.N) : iblk m c 1 t = V m c main_v2 := by
  funext y
  have h0 : (y 0).val < 1 := (y 0).isLt
  blk_simp [iblk]
  refine congrArg (V m c main_v2) (funext fun a => Fin.ext ?_)
  fin_cases a <;> blk_simp [index1 t] <;> simp

theorem iblk_2 (c : Dev nD) (t : Fin cfg0.N) : iblk m c 2 t = wBlk (V m c main_v4) (t.val % 11) := by
  have ht : t.val < 176 := t.isLt
  funext y
  have h0 : (y 0).val < 2048 := (y 0).isLt
  have h1 : (y 1).val < 512 := (y 1).isLt
  blk_simp [iblk]
  unfold wBlk
  refine congrArg (V m c main_v4) (funext fun a => Fin.ext ?_)
  fin_cases a
  · blk_simp [index2 t]
    simp
  · blk_simp [index2 t]
    simp [Fin.ofNat]
    omega

theorem iblk_3 (c : Dev nD) (t : Fin cfg0.N) : iblk m c 3 t = wBlk (V m c main_v4) (t.val % 11 + 11) := by
  have ht : t.val < 176 := t.isLt
  funext y
  have h0 : (y 0).val < 2048 := (y 0).isLt
  have h1 : (y 1).val < 512 := (y 1).isLt
  blk_simp [iblk]
  unfold wBlk
  refine congrArg (V m c main_v4) (funext fun a => Fin.ext ?_)
  fin_cases a
  · blk_simp [index3 t]
    simp
  · blk_simp [index3 t]
    simp [Fin.ofNat]
    omega

theorem iblk_4 (c : Dev nD) (t : Fin cfg0.N) : iblk m c 4 t = oBlk (V m c main_v6) (t.val % 11) := by
  have ht : t.val < 176 := t.isLt
  funext y
  have h0 : (y 0).val < 512 := (y 0).isLt
  have h1 : (y 1).val < 2048 := (y 1).isLt
  blk_simp [iblk]
  unfold oBlk
  refine congrArg (V m c main_v6) (funext fun a => Fin.ext ?_)
  fin_cases a
  · blk_simp [index4 t]
    simp [Fin.ofNat]
    omega
  · blk_simp [index4 t]
    simp

theorem iblk_5 (c : Dev nD) (t : Fin cfg0.N) : iblk m c 5 t = V m c main_v8 := by
  funext y
  have h0 : (y 0).val < 1 := (y 0).isLt
  blk_simp [iblk]
  refine congrArg (V m c main_v8) (funext fun a => Fin.ext ?_)
  fin_cases a <;> blk_simp [index5 t] <;> simp

theorem outs_congr (c : Dev nD) (n n' : ℕ) (h : n < cfg0.N) (h' : n' < cfg0.N) (e : n = n') : outsAt0 m c n h = outsAt0 m c n' h' := by
  subst e; rfl

theorem first_point (c : Dev nD) (t : Fin cfg0.N) (h0 : t.val % 11 = 0) :
    outsAt0 m c t.val t.isLt = (partSum (twice (V m c main_v0)) (V m c main_v2) (V m c main_v4) (V m c main_v6) (t.val / 11) 0, blockH (xBlk (twice (V m c main_v0)) (t.val / 11)) (V m c main_v2)) := by
  rw [outsAt0_A m c t h0 (by omega) (by omega), out_A_eq, sout_A_eq, iblk_0, iblk_1, iblk_2, iblk_3, iblk_4, h0]
  rfl

theorem outs_at (c : Dev nD) (i : ℕ) (hi : i < 16) : ∀ (j : ℕ) (_ : j < 11) (h : 11 * i + j < cfg0.N),
    outsAt0 m c (11 * i + j) h = (leftAt (twice (V m c main_v0)) (V m c main_v2) (V m c main_v4) (V m c main_v6) (V m c main_v8) i j, blockH (xBlk (twice (V m c main_v0)) i) (V m c main_v2)) := by
  intro j
  induction j with
  | zero =>
    intro _ h
    have e : (11 * i + 0) / 11 = i := by omega
    refine (first_point m c ⟨11 * i + 0, h⟩ (by show (11 * i + 0) % 11 = 0; omega)).trans ?_
    show (partSum _ _ _ _ ((11 * i + 0) / 11) 0, blockH (xBlk _ ((11 * i + 0) / 11)) _) = _
    rw [e]
    rfl
  | succ j ih =>
    intro hj h
    have hp := ih (by omega) (by omega)
    have e : (11 * i + (j + 1)) / 11 = i := by omega
    have em : (11 * i + (j + 1)) % 11 = j + 1 := by omega
    have e0 : leftAt (twice (V m c main_v0)) (V m c main_v2) (V m c main_v4) (V m c main_v6) (V m c main_v8) i j = partSum (twice (V m c main_v0)) (V m c main_v2) (V m c main_v4) (V m c main_v6) i j := if_neg (by omega)
    rw [e0] at hp
    have hp' := (outs_congr m c ((⟨11 * i + (j + 1), h⟩ : Fin cfg0.N).val - 1) (11 * i + j) (Nat.lt_of_le_of_lt (Nat.sub_le _ _) h) (by omega) (by show 11 * i + (j + 1) - 1 = _; omega)).trans hp
    by_cases h10 : j + 1 = 10
    · refine (outsAt0_C m c ⟨11 * i + (j + 1), h⟩ (by show ¬ (11 * i + (j + 1)) % 11 = 0; omega) (by show 1 ≤ (11 * i + (j + 1)) % 11; omega) (by show (11 * i + (j + 1)) % 11 = 10; omega)).trans ?_
      rw [out_C_eq, iblk_0, iblk_1, iblk_2, iblk_3, iblk_4, iblk_5, hp']
      unfold leftAt
      rw [if_pos h10]
      refine Prod.ext ?_ rfl
      dsimp only
      rw [e, em]
      have hj9 : j = 9 := by omega
      subst hj9
      rfl
    · refine (outsAt0_B m c ⟨11 * i + (j + 1), h⟩ (by show ¬ (11 * i + (j + 1)) % 11 = 0; omega) (by show 1 ≤ (11 * i + (j + 1)) % 11; omega) (by show ¬ (11 * i + (j + 1)) % 11 = 10; omega)).trans ?_
      rw [out_B_eq, iblk_0, iblk_1, iblk_2, iblk_3, iblk_4, iblk_5, hp']
      unfold leftAt
      rw [if_neg h10]
      refine Prod.ext ?_ rfl
      dsimp only
      rw [em]
      rfl

theorem final_eq (c : Dev nD) (y : S16384x2048.Idx) (Y : Cert.FfnIdeal.S32768x2048.Idx) (h0' : (Y 0).val = (y 0).val) (h1' : (Y 1).val = (y 1).val) :
    Value.G6 m c y = Cert.FfnIdeal.Gen.final (twice (V m c main_v0)) (V m c main_v2) (V m c main_v4) (V m c main_v6) (V m c main_v8) Y := by
  have h0 : (y 0).val < 16384 := (y 0).isLt
  have h1 : (y 1).val < 2048 := (y 1).isLt
  have hr : Value.run6Of y = (y 0).val / 1024 := by
    show 1 * ((y 0).val / 1024 - 0) + 1 * ((y 1).val / 2048 - 0) = _
    omega
  have hN : cfg0.N = 176 := N_0
  have hlt : Value.pt6Of y < cfg0.N := by
    show 11 * Value.run6Of y + 10 < _
    omega
  unfold Value.G6
  rw [dif_pos hlt, ← Value.outsAt0_sweep m c _ hlt]
  have ho := outs_at m c (Value.run6Of y) (by omega) 10 (by omega) hlt
  refine (congrFun (congrArg Prod.fst ho) _).trans ?_
  show leftAt _ _ _ _ _ (Value.run6Of y) 10 (Value.loc6Of y) = _
  unfold leftAt Cert.FfnIdeal.Gen.final
  rw [if_pos rfl, hr, h0']
  refine congrArg _ (funext fun a => Fin.ext ?_)
  match a with
  | ⟨0, _⟩ => rfl
  | ⟨1, _⟩ => exact (Nat.mod_eq_of_lt h1).trans h1'.symm

/-! ## The host code -/

section Host

open Cert.FfnSpec

variable (σ : Valuation τ sig (Elt Ideal))

theorem after_v0 : StableHlo.after hostOps0 σ (Proc.devRef .tc main_v0)
    = shapeCast S16384x2048 (σ (Proc.devRef .tc main_arg0) : FVec Ideal S4x4096x2048 .f32) shapeCasts_S4x4096x2048_S16384x2048 := by
  simp only [StableHlo.after_cons, StableHlo.after_nil]
  after_results_simp
  rfl

theorem after_v2 : StableHlo.after hostOps0 σ (Proc.devRef .tc main_v2)
    = broadcastInDim S1x2048 ![1] bcast_S2048_S1x2048_1 (shapeCast S2048 (σ (Proc.devRef .tc main_arg1) : FVec Ideal S1x2048 .f32) shapeCasts_S1x2048_S2048) := by
  simp only [StableHlo.after_cons, StableHlo.after_nil]
  after_results_simp
  rfl

theorem after_v4 : StableHlo.after hostOps0 σ (Proc.devRef .tc main_v4)
    = truncf (F := Ideal) .bf16 (shapeCast S2048x11264 (σ (Proc.devRef .tc main_arg2) : FVec Ideal S1x2048x11264 .f32) shapeCasts_S1x2048x11264_S2048x11264) bitsLt_bf16_f32 := by
  simp only [StableHlo.after_cons, StableHlo.after_nil]
  after_results_simp
  rfl

theorem after_v6 : StableHlo.after hostOps0 σ (Proc.devRef .tc main_v6)
    = truncf (F := Ideal) .bf16 (shapeCast S5632x2048 (σ (Proc.devRef .tc main_arg3) : FVec Ideal S1x5632x2048 .f32) shapeCasts_S1x5632x2048_S5632x2048) bitsLt_bf16_f32 := by
  simp only [StableHlo.after_cons, StableHlo.after_nil]
  after_results_simp
  rfl

theorem after_v8 : StableHlo.after hostOps0 σ (Proc.devRef .tc main_v8)
    = broadcastInDim S1x2048 ![1] bcast_S2048_S1x2048_1 (shapeCast S2048 (σ (Proc.devRef .tc main_arg4) : FVec Ideal S1x2048 .f32) shapeCasts_S1x2048_S2048) := by
  simp only [StableHlo.after_cons, StableHlo.after_nil]
  after_results_simp
  rfl

theorem rows_apply (x : FVec Ideal S4x4096x2048 .f32) (r : Fin 16384) (d : Fin 2048) :
    shapeCast S16384x2048 x shapeCasts_S4x4096x2048_S16384x2048 (ix2 r d) = x (ix3 ⟨r.val / 4096, by omega⟩ ⟨r.val % 4096, by omega⟩ d) := by
  refine shapeCast_apply _ _ _ (ix3 ⟨r.val / 4096, by omega⟩ ⟨r.val % 4096, by omega⟩ d) ?_
  rw [Shape.rowMajor_val_three, Shape.rowMajor_val_two]
  simp [ix2, ix3]
  omega

end Host

open Cert.FfnSpec in
/-- The kernel's array at a row and a column, from the arguments. -/
theorem kernel_apply (m : (ℓ : Loc nD τ sig) → Buf (Elt Ideal) ℓ) (c : Dev nD) (r : Fin 16384) (e : Fin 2048) :
    (Value.G6 m c : FVec Ideal S16384x2048 .f32) (ix2 r e)
      = row (fun d => (m ((c.tc : Thread nD τ).loc main_arg0) : FVec Ideal S4x4096x2048 .f32) (ix3 ⟨r.val / 4096, by omega⟩ ⟨r.val % 4096, by omega⟩ d))
        (fun d => (m ((c.tc : Thread nD τ).loc main_arg1) : FVec Ideal S1x2048 .f32) (ix2 0 d))
        (fun k f => (m ((c.tc : Thread nD τ).loc main_arg2) : FVec Ideal S1x2048x11264 .f32) (ix3 0 k f))
        (fun f e => (m ((c.tc : Thread nD τ).loc main_arg3) : FVec Ideal S1x5632x2048 .f32) (ix3 0 f e))
        (fun d => (m ((c.tc : Thread nD τ).loc main_arg4) : FVec Ideal S1x2048 .f32) (ix2 0 d)) e := by
  have h0 := after_v0 (fun b => m (c, b))
  have h1 := after_v2 (fun b => m (c, b))
  have h2 := after_v4 (fun b => m (c, b))
  have h3 := after_v6 (fun b => m (c, b))
  have h4 := after_v8 (fun b => m (c, b))
  let R : Fin 32768 := ⟨r.val, by omega⟩
  have hr : Fin.ofNat 16384 (Fin.ofNat 32768 r.val).val = r := Fin.ext (by simp only [Fin.ofNat]; omega)
  refine (final_eq m c (ix2 r e) (ix2 R e) rfl rfl).trans ((Cert.FfnIdeal.Gen.final_apply _ _ _ _ _ R e).trans ?_)
  unfold xRow gRow
  refine congrFun (congr (congr (congr (congr (congrArg row (funext fun d => ?_)) (funext fun d => ?_)) (funext fun k => funext fun f => ?_)) (funext fun f => funext fun e => ?_)) (funext fun d => ?_)) e
  · exact (congrArg (fun r => (V m c main_v0 : FVec Ideal S16384x2048 .f32) (ix2 r d)) hr).trans ((congrFun h0 (ix2 r d)).trans (rows_apply _ r d))
  · exact (congrFun h1 (ix2 0 d)).trans (scale_apply _ d)
  · exact (congrFun h2 (ix2 k f)).trans (wIn_apply _ k f)
  · exact (congrFun h3 (ix2 f e)).trans (wOut_apply _ f e)
  · exact (congrFun h4 (ix2 0 d)).trans (scale_apply _ d)

end Cert.FfnSampleIdeal.Gen

end
-- ==== Proof.FfnSampleRef.lean ====
/- The stages of the reference's feed-forward layer at the sample batch's shapes, and each read at an index over the extended reals. -/
module

public import proofs.«01_k».proof.Proof.Gen.FfnSampleRefIdeal.Run
public import proofs.«01_k».proof.Proof.FfnSpec
public import Idealize.ShloMosaic.Lib.Pipeline.Value

@[expose] public section

set_option maxRecDepth 16384

noncomputable section

namespace Cert.FfnSampleRefIdeal.Value

open Cert.FfnSampleRefIdeal Cert.FfnSampleRefIdeal.Gen Idealize.ShloMosaic Cert.FfnSpec

/-- A row's scale, on the whole array. -/
def rNorm (x : FVec Ideal S4x4096x2048 .f32) : FVec Ideal S4x4096x2048 .f32 :=
  broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))

/-- A vector of weights on every row. -/
def rWt (g : FVec Ideal S1x2048 .f32) : FVec Ideal S4x4096x2048 .f32 :=
  broadcastInDim S4x4096x2048 ![0, 1, 2] bcast_S1x1x2048_S4x4096x2048_0_1_2 (broadcastInDim S1x1x2048 ![2] bcast_S2048_S1x1x2048_2 (shapeCast _ g shapeCasts_S1x2048_S2048))

/-- The normalised array. -/
def rHid (x : FVec Ideal S4x4096x2048 .f32) (g : FVec Ideal S1x2048 .f32) : FVec Ideal S4x4096x2048 .f32 := mulf (mulf x (rNorm x)) (rWt g)

/-- The first projection. -/
def rLin (h : FVec Ideal S4x4096x2048 .f32) (w : FVec Ideal S1x2048x11264 .f32) : FVec Ideal S4x4096x11264 .f32 :=
  Host.dotGeneral dot_S4x4096x2048_S2048x11264_S4x4096x11264_2_0_01_1_n_n none h (shapeCast S2048x11264 w shapeCasts_S1x2048x11264_S2048x11264)

/-- The gated columns. -/
def rGated (p : FVec Ideal S4x4096x11264 .f32) : FVec Ideal S4x4096x5632 .f32 :=
  mulf (mulf (extractStridedSlice S4x4096x5632 ![0, 0, 0] p slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] p slices_S4x4096x11264_S4x4096x5632_0_0_0)))))) (extractStridedSlice S4x4096x5632 ![0, 0, 5632] p slices_S4x4096x11264_S4x4096x5632_0_0_5632)

/-- The second projection. -/
def rProj (q : FVec Ideal S4x4096x5632 .f32) (o : FVec Ideal S1x5632x2048 .f32) : FVec Ideal S4x4096x2048 .f32 :=
  Host.dotGeneral dot_S4x4096x5632_S5632x2048_S4x4096x2048_2_0_01_1_n_n none q (shapeCast S5632x2048 o shapeCasts_S1x5632x2048_S5632x2048)

/-- Half of the scaled second projection added to the array. -/
def rOut (x u : FVec Ideal S4x4096x2048 .f32) (g : FVec Ideal S1x2048 .f32) : FVec Ideal S4x4096x2048 .f32 :=
  addf x (mulf (broadcastInDim S4x4096x2048 ![] bcast_S_S4x4096x2048 (constant S_ .f32 0x3F000000#32)) (mulf (mulf u (rNorm u)) (rWt g)))

theorem res_v39_eq (m : (ℓ : Loc nD τ sig) → Buf (Elt Ideal) ℓ) (c : Dev nD) : res_main_v39 m c
    = shapeCast S16384x2048 (rOut (m ((c.tc : Thread nD τ).loc main_arg0)) (rProj (rGated (rLin (rHid (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) shapeCasts_S4x4096x2048_S16384x2048 := rfl

theorem rNorm_apply (x : FVec Ideal S4x4096x2048 .f32) (b : Fin 4) (n : Fin 4096) (d : Fin 2048) : rNorm x (ix3 b n d) = rowScale (fun d => x (ix3 b n d)) := by
  unfold rNorm rowScale
  pointwise []

theorem rWt_apply (g : FVec Ideal S1x2048 .f32) (b : Fin 4) (n : Fin 4096) (d : Fin 2048) : rWt g (ix3 b n d) = g (ix2 0 d) := by
  unfold rWt
  pointwise []

theorem rHid_apply (x : FVec Ideal S4x4096x2048 .f32) (g : FVec Ideal S1x2048 .f32) (b : Fin 4) (n : Fin 4096) (d : Fin 2048) :
    rHid x g (ix3 b n d) = hid (fun d => x (ix3 b n d)) (fun d => g (ix2 0 d)) d := by
  show x (ix3 b n d) * rNorm x (ix3 b n d) * rWt g (ix3 b n d) = _
  rw [rNorm_apply, rWt_apply]
  rfl

theorem rLin_apply (h : FVec Ideal S4x4096x2048 .f32) (w : FVec Ideal S1x2048x11264 .f32) (b : Fin 4) (n : Fin 4096) (f : Fin 11264) :
    rLin h w (ix3 b n f) = ∑ k : Fin 2048, h (ix3 b n k) * w (ix3 0 k f) := by
  unfold rLin
  pointwise []

theorem rGated_apply (p : FVec Ideal S4x4096x11264 .f32) (b : Fin 4) (n : Fin 4096) (f : Fin 5632) :
    rGated p (ix3 b n f) = p (ix3 b n (Fin.ofNat 11264 f.val)) * Ideal.logistic (p (ix3 b n (Fin.ofNat 11264 f.val))) * p (ix3 b n (Fin.ofNat 11264 (f.val + 5632))) := by
  have hf := f.isLt
  have h1 : Fin.ofNat 11264 f.val = ⟨f.val, by omega⟩ := Fin.ext (Nat.mod_eq_of_lt (by omega))
  have h2 : Fin.ofNat 11264 (f.val + 5632) = ⟨5632 + f.val, by omega⟩ :=
    Fin.ext ((Nat.mod_eq_of_lt (by omega : f.val + 5632 < 11264)).trans (Nat.add_comm _ _))
  rw [h1, h2, show Ideal.logistic (p (ix3 b n ⟨f.val, by omega⟩)) = Ideal.div 1 (1 + Ideal.exp (-p (ix3 b n ⟨f.val, by omega⟩))) from rfl]
  unfold rGated
  pointwise []

theorem rProj_apply (q : FVec Ideal S4x4096x5632 .f32) (o : FVec Ideal S1x5632x2048 .f32) (b : Fin 4) (n : Fin 4096) (e : Fin 2048) :
    rProj q o (ix3 b n e) = ∑ f : Fin 5632, q (ix3 b n f) * o (ix3 0 f e) := by
  unfold rProj
  pointwise []

theorem rOut_apply (x u : FVec Ideal S4x4096x2048 .f32) (g : FVec Ideal S1x2048 .f32) (b : Fin 4) (n : Fin 4096) (d : Fin 2048) :
    rOut x u g (ix3 b n d) = x (ix3 b n d) + Ideal.ofBits .f32 0x3F000000#32 * (u (ix3 b n d) * rowScale (fun d => u (ix3 b n d)) * g (ix2 0 d)) := by
  show x (ix3 b n d) + Ideal.ofBits .f32 0x3F000000#32 * (u (ix3 b n d) * rNorm u (ix3 b n d) * rWt g (ix3 b n d)) = _
  rw [rNorm_apply, rWt_apply]

/-- The reference's array at a row and a column. -/
theorem ref_apply (x : FVec Ideal S4x4096x2048 .f32) (g g' : FVec Ideal S1x2048 .f32) (w : FVec Ideal S1x2048x11264 .f32) (o : FVec Ideal S1x5632x2048 .f32)
    (b : Fin 4) (n : Fin 4096) (e : Fin 2048) : rOut x (rProj (rGated (rLin (rHid x g) w)) o) g' (ix3 b n e)
      = row (fun d => x (ix3 b n d)) (fun d => g (ix2 0 d)) (fun k f => w (ix3 0 k f)) (fun f e => o (ix3 0 f e)) (fun d => g' (ix2 0 d)) e := by
  have hu : ∀ e, rProj (rGated (rLin (rHid x g) w)) o (ix3 b n e)
      = proj (hid (fun d => x (ix3 b n d)) (fun d => g (ix2 0 d))) (fun k f => w (ix3 0 k f)) (fun f e => o (ix3 0 f e)) e := fun e => by
    rw [rProj_apply]
    unfold proj gated lin
    simp only [rGated_apply, rLin_apply, rHid_apply]
  rw [rOut_apply]
  simp only [hu]
  rfl

end Cert.FfnSampleRefIdeal.Value

end
-- ==== Proof.FfnSampleClaims.lean ====
/- The sample batch's feed-forward claims: the frames, and the result against the reference. -/
module

public import proofs.«01_k».proof.Defs
public import proofs.«01_k».proof.Proof.Gen.FfnSample.Frame
public import proofs.«01_k».proof.Proof.Gen.FfnSampleIdeal.Frame
public import proofs.«01_k».proof.Proof.FfnSampleVal
public import proofs.«01_k».proof.Proof.FfnSampleRef
public import Idealize.ShloMosaic.Lib.Quiescent

@[expose] public section

set_option maxRecDepth 16384

noncomputable section

namespace Cert.Proof

open Idealize.ShloMosaic Idealize.SL.Sem

theorem ffn_sample_frame : quiescent_FfnSample (hFfnSample := Cert.FfnSample.Gen.facts) := fun m ρ _ => Cert.FfnSample.Gen.frame (F := Bits) m ρ

theorem ffn_sample_ideal_frame : quiescent_FfnSampleIdeal (hFfnSampleIdeal := Cert.FfnSampleIdeal.Gen.facts) := fun m ρ _ => Cert.FfnSampleIdeal.Gen.frame (F := Ideal) m ρ

theorem ffn_sample_ref_frame : quiescent_FfnSampleRefIdeal (hFfnSampleRefIdeal := Cert.FfnSampleRefIdeal.Gen.facts) := fun m ρ _ =>
  (θ_run Cert.FfnSampleRefIdeal.defs _ _).mono
    (fun r h => ⟨fun c => (h c).2, Idealize.ShloMosaic.sem_eq_zero_of_no_sems (by decide) r.2⟩)
    (Cert.FfnSampleRefIdeal.Value.run (F := Ideal) m ρ)

theorem ffn_sample_preserves : preserves_FfnSample_FfnSampleIdeal := trivial

section Values

variable (m : (ℓ : Loc Cert.FfnSampleIdeal.nD Cert.FfnSampleIdeal.τ Cert.FfnSampleIdeal.sig) → Buf (Elt Ideal) ℓ)

open Cert.FfnSampleIdeal Cert.FfnSampleIdeal.Gen in
/-- The kernel's array is the reference's. -/
theorem ffn_sample_out_eq (c : Dev nD) : Value.G6 m c = shapeCast S16384x2048
    (Cert.FfnSampleRefIdeal.Value.rOut (m ((c.tc : Thread nD τ).loc main_arg0)) (Cert.FfnSampleRefIdeal.Value.rProj (Cert.FfnSampleRefIdeal.Value.rGated (Cert.FfnSampleRefIdeal.Value.rLin
      (Cert.FfnSampleRefIdeal.Value.rHid (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) shapeCasts_S4x4096x2048_S16384x2048 := by
  have h : ∀ (r : Fin 16384) (e : Fin 2048), (Value.G6 m c : FVec Ideal S16384x2048 .f32) (ix2 r e) = shapeCast S16384x2048
    (Cert.FfnSampleRefIdeal.Value.rOut (m ((c.tc : Thread nD τ).loc main_arg0)) (Cert.FfnSampleRefIdeal.Value.rProj (Cert.FfnSampleRefIdeal.Value.rGated (Cert.FfnSampleRefIdeal.Value.rLin
      (Cert.FfnSampleRefIdeal.Value.rHid (m ((c.tc : Thread nD τ).loc main_arg0)) (m ((c.tc : Thread nD τ).loc main_arg1)))
      (m ((c.tc : Thread nD τ).loc main_arg2)))) (m ((c.tc : Thread nD τ).loc main_arg3))) (m ((c.tc : Thread nD τ).loc main_arg4))) shapeCasts_S4x4096x2048_S16384x2048 (ix2 r e) := fun r e =>
    (kernel_apply m c r e).trans ((rows_apply _ r e).trans (Cert.FfnSampleRefIdeal.Value.ref_apply _ _ _ _ _ _ _ e)).symm
  funext i
  rw [show i = ix2 (i 0) (i 1) from funext fun a => by fin_cases a <;> rfl]
  exact h (i 0) (i 1)

end Values

theorem ffn_sample_algebraic : algebraic_FfnSampleIdeal_FfnSampleRefIdeal (hFfnSampleIdeal := Cert.FfnSampleIdeal.Gen.facts) (hFfnSampleRefIdeal := Cert.FfnSampleRefIdeal.Gen.facts) := by
  intro m ρ m' ρ' _ hagree
  refine ⟨fun c => Cert.FfnSampleIdeal.Value.G6 m c, Cert.FfnSampleIdeal.Value.run m ρ, (θ_run _ _ _).mono (fun r h c => ?_) (Cert.FfnSampleRefIdeal.Value.run (F := Ideal) m' ρ')⟩
  obtain ⟨ho, hk⟩ := h c
  obtain ⟨a0, a1, a2, a3, a4⟩ := hagree c
  refine ⟨ho.trans ?_, hk⟩
  refine Eq.trans ?_ (ffn_sample_out_eq m c).symm
  rw [Cert.FfnSampleRefIdeal.Value.res_v39_eq, a0, a1, a2, a3, a4]

end Cert.Proof

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedIdeal.Value
public import proofs.«01_k».proof.Proof.Gen.GatedRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjGroup
public import proofs.«01_k».proof.Proof.Gen.InProjGroup.Skeleton
public import proofs.«01_k».proof.Proof.Gen.InProjGroup.Launch
public import proofs.«01_k».proof.Proof.Gen.InProjGroup.Points
public import proofs.«01_k».proof.Proof.Gen.InProjGroup.Frame
public import proofs.«01_k».proof.Proof.Gen.InProjGroupIdeal
public import proofs.«01_k».proof.Proof.Gen.InProjGroupIdeal.Skeleton
public import proofs.«01_k».proof.Proof.Gen.InProjGroupIdeal.Launch
public import proofs.«01_k».proof.Proof.Gen.InProjGroupIdeal.Points
public import proofs.«01_k».proof.Proof.Gen.InProjGroupIdeal.Frame
public import proofs.«01_k».proof.Proof.Gen.InProjGroupIdeal.Value
public import proofs.«01_k».proof.Proof.Gen.InProjGroupRefIdeal.Run
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleRefIdeal.Run
public import proofs.«01_k».proof.Proof.AttnClaims
public import proofs.«01_k».proof.Proof.FfnClaims
public import proofs.«01_k».proof.Proof.GatedClaims
public import proofs.«01_k».proof.Proof.InProjClaims
public import proofs.«01_k».proof.Proof.OutProjClaims
public import proofs.«01_k».proof.Proof.InProjGroupClaims
public import proofs.«01_k».proof.Proof.FfnSampleClaims
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts,
    Cert.Gated.Gen.facts, Cert.GatedIdeal.Gen.facts, Cert.GatedRefIdeal.Gen.facts,
    Cert.OutProj.Gen.facts, Cert.OutProjIdeal.Gen.facts, Cert.OutProjRefIdeal.Gen.facts, Cert.InProj.Gen.facts, Cert.InProjIdeal.Gen.facts, Cert.InProjRefIdeal.Gen.facts,
    Cert.InProjGroup.Gen.facts, Cert.InProjGroupIdeal.Gen.facts, Cert.InProjGroupRefIdeal.Gen.facts,
    Cert.FfnSample.Gen.facts, Cert.FfnSampleIdeal.Gen.facts, Cert.FfnSampleRefIdeal.Gen.facts,
    Cert.Pre_finite_logits.facts,
    attn_frame, attn_ideal_frame, fun m ρ _ => attn_ideal_frame m ρ trivial, attn_ref_frame, fun m ρ _ => attn_ref_frame m ρ trivial,
    ffn_frame, ffn_ideal_frame, ffn_ref_frame, gated_frame, gated_ideal_frame, gated_ref_frame,
    out_frame, out_ideal_frame, out_ref_frame, in_frame, in_ideal_frame, in_ref_frame,
    in_group_frame, in_group_ideal_frame, in_group_ref_frame, ffn_sample_frame, ffn_sample_ideal_frame, ffn_sample_ref_frame,
    attn_preserves, attn_algebraic, ffn_preserves, ffn_algebraic, gated_preserves, gated_algebraic, out_preserves, out_algebraic, in_preserves, in_algebraic,
    in_group_preserves, in_group_algebraic, ffn_sample_preserves, ffn_sample_algebraic⟩

end Cert.Proof

end
